-- ==== Defs.lean ====
def Pre_Gateup (m : (ℓ : Loc Cert.Gateup.nD Cert.Gateup.τ Cert.Gateup.sig) → Buf (Elt Bits) ℓ) : Prop :=
  True

def Pre_GateupIdeal (m : (ℓ : Loc Cert.GateupIdeal.nD Cert.GateupIdeal.τ Cert.GateupIdeal.sig) → Buf (Elt Ideal) ℓ) : Prop :=
  True

def Pre_GateupRefIdeal (m : (ℓ : Loc Cert.GateupRefIdeal.nD Cert.GateupRefIdeal.τ Cert.GateupRefIdeal.sig) → Buf (Elt Ideal) ℓ) : Prop :=
  True

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadRefIdeal (m : (ℓ : Loc Cert.HeadRefIdeal.nD Cert.HeadRefIdeal.τ Cert.HeadRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def Pre_OprojRefIdeal (m : (ℓ : Loc Cert.OprojRefIdeal.nD Cert.OprojRefIdeal.τ Cert.OprojRefIdeal.sig) → Buf (Elt Ideal) ℓ) : Prop :=
  True

def quiescent_Gateup [hGateup : Cert.Gateup.Facts] : Prop :=
  ∀ (m : (ℓ : Loc Cert.Gateup.nD Cert.Gateup.τ Cert.Gateup.sig) → Buf (Elt Bits) ℓ) (g : Dev Cert.Gateup.nD → PrngReg), Pre_Gateup m →
    θ_run (Cert.Gateup.defs (F := Bits)) (onTc (τ := Cert.Gateup.τ) (Cert.Gateup.main (F := Bits))) ⟨m, fun _ => 0, g⟩ (fun r => (∀ c : Dev Cert.Gateup.nD,
      r.2.mem ((c.tc : Thread Cert.Gateup.nD Cert.Gateup.τ).loc Cert.Gateup.main_arg0) = m ((c.tc : Thread Cert.Gateup.nD Cert.Gateup.τ).loc Cert.Gateup.main_arg0)
      ∧ r.2.mem ((c.tc : Thread Cert.Gateup.nD Cert.Gateup.τ).loc Cert.Gateup.main_arg1) = m ((c.tc : Thread Cert.Gateup.nD Cert.Gateup.τ).loc Cert.Gateup.main_arg1)
      ∧ r.2.mem ((c.tc : Thread Cert.Gateup.nD Cert.Gateup.τ).loc Cert.Gateup.main_arg2) = m ((c.tc : Thread Cert.Gateup.nD Cert.Gateup.τ).loc Cert.Gateup.main_arg2)
      ∧ r.2.mem ((c.tc : Thread Cert.Gateup.nD Cert.Gateup.τ).loc Cert.Gateup.main_arg3) = m ((c.tc : Thread Cert.Gateup.nD Cert.Gateup.τ).loc Cert.Gateup.main_arg3)
      ∧ r.2.mem ((c.tc : Thread Cert.Gateup.nD Cert.Gateup.τ).loc Cert.Gateup.main_arg4) = m ((c.tc : Thread Cert.Gateup.nD Cert.Gateup.τ).loc Cert.Gateup.main_arg4)
      ∧ r.2.mem ((c.tc : Thread Cert.Gateup.nD Cert.Gateup.τ).loc Cert.Gateup.main_arg5) = m ((c.tc : Thread Cert.Gateup.nD Cert.Gateup.τ).loc Cert.Gateup.main_arg5)
      ∧ r.2.mem ((c.tc : Thread Cert.Gateup.nD Cert.Gateup.τ).loc Cert.Gateup.main_arg6) = m ((c.tc : Thread Cert.Gateup.nD Cert.Gateup.τ).loc Cert.Gateup.main_arg6))
      ∧ r.2.sem = fun _ => 0)

def quiescent_GateupIdeal [hGateupIdeal : Cert.GateupIdeal.Facts] : Prop :=
  ∀ (m : (ℓ : Loc Cert.GateupIdeal.nD Cert.GateupIdeal.τ Cert.GateupIdeal.sig) → Buf (Elt Ideal) ℓ) (g : Dev Cert.GateupIdeal.nD → PrngReg), Pre_GateupIdeal m →
    θ_run (Cert.GateupIdeal.defs (F := Ideal)) (onTc (τ := Cert.GateupIdeal.τ) (Cert.GateupIdeal.main (F := Ideal))) ⟨m, fun _ => 0, g⟩ (fun r => (∀ c : Dev Cert.GateupIdeal.nD,
      r.2.mem ((c.tc : Thread Cert.GateupIdeal.nD Cert.GateupIdeal.τ).loc Cert.GateupIdeal.main_arg0) = m ((c.tc : Thread Cert.GateupIdeal.nD Cert.GateupIdeal.τ).loc Cert.GateupIdeal.main_arg0)
      ∧ r.2.mem ((c.tc : Thread Cert.GateupIdeal.nD Cert.GateupIdeal.τ).loc Cert.GateupIdeal.main_arg1) = m ((c.tc : Thread Cert.GateupIdeal.nD Cert.GateupIdeal.τ).loc Cert.GateupIdeal.main_arg1)
      ∧ r.2.mem ((c.tc : Thread Cert.GateupIdeal.nD Cert.GateupIdeal.τ).loc Cert.GateupIdeal.main_arg2) = m ((c.tc : Thread Cert.GateupIdeal.nD Cert.GateupIdeal.τ).loc Cert.GateupIdeal.main_arg2)
      ∧ r.2.mem ((c.tc : Thread Cert.GateupIdeal.nD Cert.GateupIdeal.τ).loc Cert.GateupIdeal.main_arg3) = m ((c.tc : Thread Cert.GateupIdeal.nD Cert.GateupIdeal.τ).loc Cert.GateupIdeal.main_arg3)
      ∧ r.2.mem ((c.tc : Thread Cert.GateupIdeal.nD Cert.GateupIdeal.τ).loc Cert.GateupIdeal.main_arg4) = m ((c.tc : Thread Cert.GateupIdeal.nD Cert.GateupIdeal.τ).loc Cert.GateupIdeal.main_arg4)
      ∧ r.2.mem ((c.tc : Thread Cert.GateupIdeal.nD Cert.GateupIdeal.τ).loc Cert.GateupIdeal.main_arg5) = m ((c.tc : Thread Cert.GateupIdeal.nD Cert.GateupIdeal.τ).loc Cert.GateupIdeal.main_arg5)
      ∧ r.2.mem ((c.tc : Thread Cert.GateupIdeal.nD Cert.GateupIdeal.τ).loc Cert.GateupIdeal.main_arg6) = m ((c.tc : Thread Cert.GateupIdeal.nD Cert.GateupIdeal.τ).loc Cert.GateupIdeal.main_arg6))
      ∧ r.2.sem = fun _ => 0)

def quiescent_GateupRefIdeal [hGateupRefIdeal : Cert.GateupRefIdeal.Facts] : Prop :=
  ∀ (m : (ℓ : Loc Cert.GateupRefIdeal.nD Cert.GateupRefIdeal.τ Cert.GateupRefIdeal.sig) → Buf (Elt Ideal) ℓ) (g : Dev Cert.GateupRefIdeal.nD → PrngReg), Pre_GateupRefIdeal m →
    θ_run (Cert.GateupRefIdeal.defs (F := Ideal)) (onTc (τ := Cert.GateupRefIdeal.τ) (Cert.GateupRefIdeal.main (F := Ideal))) ⟨m, fun _ => 0, g⟩ (fun r => (∀ c : Dev Cert.GateupRefIdeal.nD,
      r.2.mem ((c.tc : Thread Cert.GateupRefIdeal.nD Cert.GateupRefIdeal.τ).loc Cert.GateupRefIdeal.main_arg0) = m ((c.tc : Thread Cert.GateupRefIdeal.nD Cert.GateupRefIdeal.τ).loc Cert.GateupRefIdeal.main_arg0)
      ∧ r.2.mem ((c.tc : Thread Cert.GateupRefIdeal.nD Cert.GateupRefIdeal.τ).loc Cert.GateupRefIdeal.main_arg1) = m ((c.tc : Thread Cert.GateupRefIdeal.nD Cert.GateupRefIdeal.τ).loc Cert.GateupRefIdeal.main_arg1)
      ∧ r.2.mem ((c.tc : Thread Cert.GateupRefIdeal.nD Cert.GateupRefIdeal.τ).loc Cert.GateupRefIdeal.main_arg2) = m ((c.tc : Thread Cert.GateupRefIdeal.nD Cert.GateupRefIdeal.τ).loc Cert.GateupRefIdeal.main_arg2)
      ∧ r.2.mem ((c.tc : Thread Cert.GateupRefIdeal.nD Cert.GateupRefIdeal.τ).loc Cert.GateupRefIdeal.main_arg3) = m ((c.tc : Thread Cert.GateupRefIdeal.nD Cert.GateupRefIdeal.τ).loc Cert.GateupRefIdeal.main_arg3)
      ∧ r.2.mem ((c.tc : Thread Cert.GateupRefIdeal.nD Cert.GateupRefIdeal.τ).loc Cert.GateupRefIdeal.main_arg4) = m ((c.tc : Thread Cert.GateupRefIdeal.nD Cert.GateupRefIdeal.τ).loc Cert.GateupRefIdeal.main_arg4)
      ∧ r.2.mem ((c.tc : Thread Cert.GateupRefIdeal.nD Cert.GateupRefIdeal.τ).loc Cert.GateupRefIdeal.main_arg5) = m ((c.tc : Thread Cert.GateupRefIdeal.nD Cert.GateupRefIdeal.τ).loc Cert.GateupRefIdeal.main_arg5)
      ∧ r.2.mem ((c.tc : Thread Cert.GateupRefIdeal.nD Cert.GateupRefIdeal.τ).loc Cert.GateupRefIdeal.main_arg6) = m ((c.tc : Thread Cert.GateupRefIdeal.nD Cert.GateupRefIdeal.τ).loc Cert.GateupRefIdeal.main_arg6))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4)
      ∧ r.2.mem ((c.tc : Thread Cert.Head.nD Cert.Head.τ).loc Cert.Head.main_arg5) = m ((c.tc : Thread Cert.Head.nD Cert.Head.τ).loc Cert.Head.main_arg5))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7))
      ∧ r.2.sem = fun _ => 0)

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2)
      ∧ r.2.mem ((c.tc : Thread Cert.Oproj.nD Cert.Oproj.τ).loc Cert.Oproj.main_arg3) = m ((c.tc : Thread Cert.Oproj.nD Cert.Oproj.τ).loc Cert.Oproj.main_arg3)
      ∧ r.2.mem ((c.tc : Thread Cert.Oproj.nD Cert.Oproj.τ).loc Cert.Oproj.main_arg4) = m ((c.tc : Thread Cert.Oproj.nD Cert.Oproj.τ).loc Cert.Oproj.main_arg4)
      ∧ r.2.mem ((c.tc : Thread Cert.Oproj.nD Cert.Oproj.τ).loc Cert.Oproj.main_arg5) = m ((c.tc : Thread Cert.Oproj.nD Cert.Oproj.τ).loc Cert.Oproj.main_arg5))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
      ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
      ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5))
      ∧ r.2.sem = fun _ => 0)

def quiescent_OprojRefIdeal [hOprojRefIdeal : Cert.OprojRefIdeal.Facts] : Prop :=
  ∀ (m : (ℓ : Loc Cert.OprojRefIdeal.nD Cert.OprojRefIdeal.τ Cert.OprojRefIdeal.sig) → Buf (Elt Ideal) ℓ) (g : Dev Cert.OprojRefIdeal.nD → PrngReg), Pre_OprojRefIdeal m →
    θ_run (Cert.OprojRefIdeal.defs (F := Ideal)) (onTc (τ := Cert.OprojRefIdeal.τ) (Cert.OprojRefIdeal.main (F := Ideal))) ⟨m, fun _ => 0, g⟩ (fun r => (∀ c : Dev Cert.OprojRefIdeal.nD,
      r.2.mem ((c.tc : Thread Cert.OprojRefIdeal.nD Cert.OprojRefIdeal.τ).loc Cert.OprojRefIdeal.main_arg0) = m ((c.tc : Thread Cert.OprojRefIdeal.nD Cert.OprojRefIdeal.τ).loc Cert.OprojRefIdeal.main_arg0)
      ∧ r.2.mem ((c.tc : Thread Cert.OprojRefIdeal.nD Cert.OprojRefIdeal.τ).loc Cert.OprojRefIdeal.main_arg1) = m ((c.tc : Thread Cert.OprojRefIdeal.nD Cert.OprojRefIdeal.τ).loc Cert.OprojRefIdeal.main_arg1)
      ∧ r.2.mem ((c.tc : Thread Cert.OprojRefIdeal.nD Cert.OprojRefIdeal.τ).loc Cert.OprojRefIdeal.main_arg2) = m ((c.tc : Thread Cert.OprojRefIdeal.nD Cert.OprojRefIdeal.τ).loc Cert.OprojRefIdeal.main_arg2)
      ∧ r.2.mem ((c.tc : Thread Cert.OprojRefIdeal.nD Cert.OprojRefIdeal.τ).loc Cert.OprojRefIdeal.main_arg3) = m ((c.tc : Thread Cert.OprojRefIdeal.nD Cert.OprojRefIdeal.τ).loc Cert.OprojRefIdeal.main_arg3)
      ∧ r.2.mem ((c.tc : Thread Cert.OprojRefIdeal.nD Cert.OprojRefIdeal.τ).loc Cert.OprojRefIdeal.main_arg4) = m ((c.tc : Thread Cert.OprojRefIdeal.nD Cert.OprojRefIdeal.τ).loc Cert.OprojRefIdeal.main_arg4)
      ∧ r.2.mem ((c.tc : Thread Cert.OprojRefIdeal.nD Cert.OprojRefIdeal.τ).loc Cert.OprojRefIdeal.main_arg5) = m ((c.tc : Thread Cert.OprojRefIdeal.nD Cert.OprojRefIdeal.τ).loc Cert.OprojRefIdeal.main_arg5))
      ∧ r.2.sem = fun _ => 0)

def preserves_Gateup_GateupIdeal : Prop :=
  True

def algebraic_GateupIdeal_GateupRefIdeal [hGateupIdeal : Cert.GateupIdeal.Facts] [hGateupRefIdeal : Cert.GateupRefIdeal.Facts] : Prop :=
  ∀ (m : (ℓ : Loc Cert.GateupIdeal.nD Cert.GateupIdeal.τ Cert.GateupIdeal.sig) → Buf (Elt Ideal) ℓ) (g : Dev Cert.GateupIdeal.nD → PrngReg)
    (m' : (ℓ : Loc Cert.GateupRefIdeal.nD Cert.GateupRefIdeal.τ Cert.GateupRefIdeal.sig) → Buf (Elt Ideal) ℓ) (g' : Dev Cert.GateupRefIdeal.nD → PrngReg), Pre_GateupIdeal m →
    (∀ c : Dev Cert.GateupIdeal.nD,
      m' ((c.tc : Thread Cert.GateupRefIdeal.nD Cert.GateupRefIdeal.τ).loc Cert.GateupRefIdeal.main_arg0) = m ((c.tc : Thread Cert.GateupIdeal.nD Cert.GateupIdeal.τ).loc Cert.GateupIdeal.main_arg0)
      ∧ m' ((c.tc : Thread Cert.GateupRefIdeal.nD Cert.GateupRefIdeal.τ).loc Cert.GateupRefIdeal.main_arg1) = m ((c.tc : Thread Cert.GateupIdeal.nD Cert.GateupIdeal.τ).loc Cert.GateupIdeal.main_arg1)
      ∧ m' ((c.tc : Thread Cert.GateupRefIdeal.nD Cert.GateupRefIdeal.τ).loc Cert.GateupRefIdeal.main_arg2) = m ((c.tc : Thread Cert.GateupIdeal.nD Cert.GateupIdeal.τ).loc Cert.GateupIdeal.main_arg2)
      ∧ m' ((c.tc : Thread Cert.GateupRefIdeal.nD Cert.GateupRefIdeal.τ).loc Cert.GateupRefIdeal.main_arg3) = m ((c.tc : Thread Cert.GateupIdeal.nD Cert.GateupIdeal.τ).loc Cert.GateupIdeal.main_arg3)
      ∧ m' ((c.tc : Thread Cert.GateupRefIdeal.nD Cert.GateupRefIdeal.τ).loc Cert.GateupRefIdeal.main_arg4) = m ((c.tc : Thread Cert.GateupIdeal.nD Cert.GateupIdeal.τ).loc Cert.GateupIdeal.main_arg4)
      ∧ m' ((c.tc : Thread Cert.GateupRefIdeal.nD Cert.GateupRefIdeal.τ).loc Cert.GateupRefIdeal.main_arg5) = m ((c.tc : Thread Cert.GateupIdeal.nD Cert.GateupIdeal.τ).loc Cert.GateupIdeal.main_arg5)
      ∧ m' ((c.tc : Thread Cert.GateupRefIdeal.nD Cert.GateupRefIdeal.τ).loc Cert.GateupRefIdeal.main_arg6) = m ((c.tc : Thread Cert.GateupIdeal.nD Cert.GateupIdeal.τ).loc Cert.GateupIdeal.main_arg6)) →
    ∃ (v0 : (c : Dev Cert.GateupIdeal.nD) → Buf (Elt Ideal) ((c.tc : Thread Cert.GateupIdeal.nD Cert.GateupIdeal.τ).loc Cert.GateupIdeal.main_v0)),
      θ_run (Cert.GateupIdeal.defs (F := Ideal)) (onTc (τ := Cert.GateupIdeal.τ) (Cert.GateupIdeal.main (F := Ideal))) ⟨m, fun _ => 0, g⟩ (fun r => ∀ c : Dev Cert.GateupIdeal.nD,
          r.2.mem ((c.tc : Thread Cert.GateupIdeal.nD Cert.GateupIdeal.τ).loc Cert.GateupIdeal.main_v0) = v0 c
          ∧ r.2.mem ((c.tc : Thread Cert.GateupIdeal.nD Cert.GateupIdeal.τ).loc Cert.GateupIdeal.main_arg0) = m ((c.tc : Thread Cert.GateupIdeal.nD Cert.GateupIdeal.τ).loc Cert.GateupIdeal.main_arg0)
          ∧ r.2.mem ((c.tc : Thread Cert.GateupIdeal.nD Cert.GateupIdeal.τ).loc Cert.GateupIdeal.main_arg1) = m ((c.tc : Thread Cert.GateupIdeal.nD Cert.GateupIdeal.τ).loc Cert.GateupIdeal.main_arg1)
          ∧ r.2.mem ((c.tc : Thread Cert.GateupIdeal.nD Cert.GateupIdeal.τ).loc Cert.GateupIdeal.main_arg2) = m ((c.tc : Thread Cert.GateupIdeal.nD Cert.GateupIdeal.τ).loc Cert.GateupIdeal.main_arg2)
          ∧ r.2.mem ((c.tc : Thread Cert.GateupIdeal.nD Cert.GateupIdeal.τ).loc Cert.GateupIdeal.main_arg3) = m ((c.tc : Thread Cert.GateupIdeal.nD Cert.GateupIdeal.τ).loc Cert.GateupIdeal.main_arg3)
          ∧ r.2.mem ((c.tc : Thread Cert.GateupIdeal.nD Cert.GateupIdeal.τ).loc Cert.GateupIdeal.main_arg4) = m ((c.tc : Thread Cert.GateupIdeal.nD Cert.GateupIdeal.τ).loc Cert.GateupIdeal.main_arg4)
          ∧ r.2.mem ((c.tc : Thread Cert.GateupIdeal.nD Cert.GateupIdeal.τ).loc Cert.GateupIdeal.main_arg5) = m ((c.tc : Thread Cert.GateupIdeal.nD Cert.GateupIdeal.τ).loc Cert.GateupIdeal.main_arg5)
          ∧ r.2.mem ((c.tc : Thread Cert.GateupIdeal.nD Cert.GateupIdeal.τ).loc Cert.GateupIdeal.main_arg6) = m ((c.tc : Thread Cert.GateupIdeal.nD Cert.GateupIdeal.τ).loc Cert.GateupIdeal.main_arg6))
      ∧ θ_run (Cert.GateupRefIdeal.defs (F := Ideal)) (onTc (τ := Cert.GateupRefIdeal.τ) (Cert.GateupRefIdeal.main (F := Ideal))) ⟨m', fun _ => 0, g'⟩ (fun r => ∀ c : Dev Cert.GateupRefIdeal.nD,
          r.2.mem ((c.tc : Thread Cert.GateupRefIdeal.nD Cert.GateupRefIdeal.τ).loc Cert.GateupRefIdeal.main_v58) = v0 c
          ∧ r.2.mem ((c.tc : Thread Cert.GateupRefIdeal.nD Cert.GateupRefIdeal.τ).loc Cert.GateupRefIdeal.main_arg0) = m' ((c.tc : Thread Cert.GateupRefIdeal.nD Cert.GateupRefIdeal.τ).loc Cert.GateupRefIdeal.main_arg0)
          ∧ r.2.mem ((c.tc : Thread Cert.GateupRefIdeal.nD Cert.GateupRefIdeal.τ).loc Cert.GateupRefIdeal.main_arg1) = m' ((c.tc : Thread Cert.GateupRefIdeal.nD Cert.GateupRefIdeal.τ).loc Cert.GateupRefIdeal.main_arg1)
          ∧ r.2.mem ((c.tc : Thread Cert.GateupRefIdeal.nD Cert.GateupRefIdeal.τ).loc Cert.GateupRefIdeal.main_arg2) = m' ((c.tc : Thread Cert.GateupRefIdeal.nD Cert.GateupRefIdeal.τ).loc Cert.GateupRefIdeal.main_arg2)
          ∧ r.2.mem ((c.tc : Thread Cert.GateupRefIdeal.nD Cert.GateupRefIdeal.τ).loc Cert.GateupRefIdeal.main_arg3) = m' ((c.tc : Thread Cert.GateupRefIdeal.nD Cert.GateupRefIdeal.τ).loc Cert.GateupRefIdeal.main_arg3)
          ∧ r.2.mem ((c.tc : Thread Cert.GateupRefIdeal.nD Cert.GateupRefIdeal.τ).loc Cert.GateupRefIdeal.main_arg4) = m' ((c.tc : Thread Cert.GateupRefIdeal.nD Cert.GateupRefIdeal.τ).loc Cert.GateupRefIdeal.main_arg4)
          ∧ r.2.mem ((c.tc : Thread Cert.GateupRefIdeal.nD Cert.GateupRefIdeal.τ).loc Cert.GateupRefIdeal.main_arg5) = m' ((c.tc : Thread Cert.GateupRefIdeal.nD Cert.GateupRefIdeal.τ).loc Cert.GateupRefIdeal.main_arg5)
          ∧ r.2.mem ((c.tc : Thread Cert.GateupRefIdeal.nD Cert.GateupRefIdeal.τ).loc Cert.GateupRefIdeal.main_arg6) = m' ((c.tc : Thread Cert.GateupRefIdeal.nD Cert.GateupRefIdeal.τ).loc Cert.GateupRefIdeal.main_arg6))

def preserves_Head_HeadIdeal : Prop :=
  True

def algebraic_HeadIdeal_HeadRefIdeal_on_mask_head [hHeadIdeal : Cert.HeadIdeal.Facts] [hHeadRefIdeal : Cert.HeadRefIdeal.Facts] [hOn_mask_head : Cert.On_mask_head.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)
      ∧ m' ((c.tc : Thread Cert.HeadRefIdeal.nD Cert.HeadRefIdeal.τ).loc Cert.HeadRefIdeal.main_arg4) = m ((c.tc : Thread Cert.HeadIdeal.nD Cert.HeadIdeal.τ).loc Cert.HeadIdeal.main_arg4)
      ∧ m' ((c.tc : Thread Cert.HeadRefIdeal.nD Cert.HeadRefIdeal.τ).loc Cert.HeadRefIdeal.main_arg5) = m ((c.tc : Thread Cert.HeadIdeal.nD Cert.HeadIdeal.τ).loc Cert.HeadIdeal.main_arg5)) →
    ∃ (v0 : (c : Dev Cert.HeadIdeal.nD) → Buf (Elt Ideal) ((c.tc : Thread Cert.HeadIdeal.nD Cert.HeadIdeal.τ).loc Cert.HeadIdeal.main_v7_0)) (v1 : (c : Dev Cert.HeadIdeal.nD) → Buf (Elt Ideal) ((c.tc : Thread Cert.HeadIdeal.nD Cert.HeadIdeal.τ).loc Cert.HeadIdeal.main_v7_1)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          (∀ i : (⟨2, ![128, 256]⟩ : Shape).Idx, (Cert.On_mask_head.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5))).1 i = 1#1 → r.2.mem ((c.tc : Thread Cert.HeadIdeal.nD Cert.HeadIdeal.τ).loc Cert.HeadIdeal.main_v7_0) i = v0 c i)
          ∧ (∀ i : (⟨2, ![128, 128]⟩ : Shape).Idx, (Cert.On_mask_head.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5))).2 i = 1#1 → r.2.mem ((c.tc : Thread Cert.HeadIdeal.nD Cert.HeadIdeal.τ).loc Cert.HeadIdeal.main_v7_1) i = v1 c i)
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
          ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          (∀ i : (⟨2, ![128, 256]⟩ : Shape).Idx, (Cert.On_mask_head.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5))).1 i = 1#1 → r.2.mem ((c.tc : Thread Cert.HeadRefIdeal.nD Cert.HeadRefIdeal.τ).loc Cert.HeadRefIdeal.main_v41) i = v0 c i)
          ∧ (∀ i : (⟨2, ![128, 128]⟩ : Shape).Idx, (Cert.On_mask_head.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5))).2 i = 1#1 → r.2.mem ((c.tc : Thread Cert.HeadRefIdeal.nD Cert.HeadRefIdeal.τ).loc Cert.HeadRefIdeal.main_v43) i = v1 c i)
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3)
          ∧ r.2.mem ((c.tc : Thread Cert.HeadRefIdeal.nD Cert.HeadRefIdeal.τ).loc Cert.HeadRefIdeal.main_arg4) = m' ((c.tc : Thread Cert.HeadRefIdeal.nD Cert.HeadRefIdeal.τ).loc Cert.HeadRefIdeal.main_arg4)
          ∧ r.2.mem ((c.tc : Thread Cert.HeadRefIdeal.nD Cert.HeadRefIdeal.τ).loc Cert.HeadRefIdeal.main_arg5) = m' ((c.tc : Thread Cert.HeadRefIdeal.nD Cert.HeadRefIdeal.τ).loc Cert.HeadRefIdeal.main_arg5))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)) →
    ∃ (v0 : (c : Dev Cert.DownIdeal.nD) → Buf (Elt Ideal) ((c.tc : Thread Cert.DownIdeal.nD Cert.DownIdeal.τ).loc Cert.DownIdeal.main_v1_0)) (v1 : (c : Dev Cert.DownIdeal.nD) → Buf (Elt Ideal) ((c.tc : Thread Cert.DownIdeal.nD Cert.DownIdeal.τ).loc Cert.DownIdeal.main_v1_1)) (v2 : (c : Dev Cert.DownIdeal.nD) → Buf (Elt Ideal) ((c.tc : Thread Cert.DownIdeal.nD Cert.DownIdeal.τ).loc Cert.DownIdeal.main_v1_2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1_0) = v0 c
          ∧ r.2.mem ((c.tc : Thread Cert.DownIdeal.nD Cert.DownIdeal.τ).loc Cert.DownIdeal.main_v1_1) = v1 c
          ∧ r.2.mem ((c.tc : Thread Cert.DownIdeal.nD Cert.DownIdeal.τ).loc Cert.DownIdeal.main_v1_2) = v2 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v56) = v0 c
          ∧ r.2.mem ((c.tc : Thread Cert.DownRefIdeal.nD Cert.DownRefIdeal.τ).loc Cert.DownRefIdeal.main_v55) = v1 c
          ∧ r.2.mem ((c.tc : Thread Cert.DownRefIdeal.nD Cert.DownRefIdeal.τ).loc Cert.DownRefIdeal.main_v58) = v2 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)) →
    ∃ (v0 : (c : Dev Cert.QkvIdeal.nD) → Buf (Elt Ideal) ((c.tc : Thread Cert.QkvIdeal.nD Cert.QkvIdeal.τ).loc Cert.QkvIdeal.main_v3_0)) (v1 : (c : Dev Cert.QkvIdeal.nD) → Buf (Elt Ideal) ((c.tc : Thread Cert.QkvIdeal.nD Cert.QkvIdeal.τ).loc Cert.QkvIdeal.main_v3_1)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v3_0) = v0 c
          ∧ r.2.mem ((c.tc : Thread Cert.QkvIdeal.nD Cert.QkvIdeal.τ).loc Cert.QkvIdeal.main_v3_1) = v1 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v77) = v0 c
          ∧ r.2.mem ((c.tc : Thread Cert.QkvRefIdeal.nD Cert.QkvRefIdeal.τ).loc Cert.QkvRefIdeal.main_v80) = v1 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7))

def preserves_Oproj_OprojIdeal : Prop :=
  True

def algebraic_OprojIdeal_OprojRefIdeal [hOprojIdeal : Cert.OprojIdeal.Facts] [hOprojRefIdeal : Cert.OprojRefIdeal.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.OprojRefIdeal.nD Cert.OprojRefIdeal.τ Cert.OprojRefIdeal.sig) → Buf (Elt Ideal) ℓ) (g' : Dev Cert.OprojRefIdeal.nD → PrngReg), Pre_OprojIdeal m →
    (∀ c : Dev Cert.OprojIdeal.nD,
      m' ((c.tc : Thread Cert.OprojRefIdeal.nD Cert.OprojRefIdeal.τ).loc Cert.OprojRefIdeal.main_arg0) = m ((c.tc : Thread Cert.OprojIdeal.nD Cert.OprojIdeal.τ).loc Cert.OprojIdeal.main_arg0)
      ∧ m' ((c.tc : Thread Cert.OprojRefIdeal.nD Cert.OprojRefIdeal.τ).loc Cert.OprojRefIdeal.main_arg1) = m ((c.tc : Thread Cert.OprojIdeal.nD Cert.OprojIdeal.τ).loc Cert.OprojIdeal.main_arg1)
      ∧ m' ((c.tc : Thread Cert.OprojRefIdeal.nD Cert.OprojRefIdeal.τ).loc Cert.OprojRefIdeal.main_arg2) = m ((c.tc : Thread Cert.OprojIdeal.nD Cert.OprojIdeal.τ).loc Cert.OprojIdeal.main_arg2)
      ∧ m' ((c.tc : Thread Cert.OprojRefIdeal.nD Cert.OprojRefIdeal.τ).loc Cert.OprojRefIdeal.main_arg3) = m ((c.tc : Thread Cert.OprojIdeal.nD Cert.OprojIdeal.τ).loc Cert.OprojIdeal.main_arg3)
      ∧ m' ((c.tc : Thread Cert.OprojRefIdeal.nD Cert.OprojRefIdeal.τ).loc Cert.OprojRefIdeal.main_arg4) = m ((c.tc : Thread Cert.OprojIdeal.nD Cert.OprojIdeal.τ).loc Cert.OprojIdeal.main_arg4)
      ∧ m' ((c.tc : Thread Cert.OprojRefIdeal.nD Cert.OprojRefIdeal.τ).loc Cert.OprojRefIdeal.main_arg5) = m ((c.tc : Thread Cert.OprojIdeal.nD Cert.OprojIdeal.τ).loc Cert.OprojIdeal.main_arg5)) →
    ∃ (v0 : (c : Dev Cert.OprojIdeal.nD) → Buf (Elt Ideal) ((c.tc : Thread Cert.OprojIdeal.nD Cert.OprojIdeal.τ).loc Cert.OprojIdeal.main_v1_0)) (v1 : (c : Dev Cert.OprojIdeal.nD) → Buf (Elt Ideal) ((c.tc : Thread Cert.OprojIdeal.nD Cert.OprojIdeal.τ).loc Cert.OprojIdeal.main_v1_1)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v1_0) = v0 c
          ∧ r.2.mem ((c.tc : Thread Cert.OprojIdeal.nD Cert.OprojIdeal.τ).loc Cert.OprojIdeal.main_v1_1) = v1 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
          ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
          ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
          ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
          ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5))
      ∧ θ_run (Cert.OprojRefIdeal.defs (F := Ideal)) (onTc (τ := Cert.OprojRefIdeal.τ) (Cert.OprojRefIdeal.main (F := Ideal))) ⟨m', fun _ => 0, g'⟩ (fun r => ∀ c : Dev Cert.OprojRefIdeal.nD,
          r.2.mem ((c.tc : Thread Cert.OprojRefIdeal.nD Cert.OprojRefIdeal.τ).loc Cert.OprojRefIdeal.main_v29) = v0 c
          ∧ r.2.mem ((c.tc : Thread Cert.OprojRefIdeal.nD Cert.OprojRefIdeal.τ).loc Cert.OprojRefIdeal.main_v43) = v1 c
          ∧ r.2.mem ((c.tc : Thread Cert.OprojRefIdeal.nD Cert.OprojRefIdeal.τ).loc Cert.OprojRefIdeal.main_arg0) = m' ((c.tc : Thread Cert.OprojRefIdeal.nD Cert.OprojRefIdeal.τ).loc Cert.OprojRefIdeal.main_arg0)
          ∧ r.2.mem ((c.tc : Thread Cert.OprojRefIdeal.nD Cert.OprojRefIdeal.τ).loc Cert.OprojRefIdeal.main_arg1) = m' ((c.tc : Thread Cert.OprojRefIdeal.nD Cert.OprojRefIdeal.τ).loc Cert.OprojRefIdeal.main_arg1)
          ∧ r.2.mem ((c.tc : Thread Cert.OprojRefIdeal.nD Cert.OprojRefIdeal.τ).loc Cert.OprojRefIdeal.main_arg2) = m' ((c.tc : Thread Cert.OprojRefIdeal.nD Cert.OprojRefIdeal.τ).loc Cert.OprojRefIdeal.main_arg2)
          ∧ r.2.mem ((c.tc : Thread Cert.OprojRefIdeal.nD Cert.OprojRefIdeal.τ).loc Cert.OprojRefIdeal.main_arg3) = m' ((c.tc : Thread Cert.OprojRefIdeal.nD Cert.OprojRefIdeal.τ).loc Cert.OprojRefIdeal.main_arg3)
          ∧ r.2.mem ((c.tc : Thread Cert.OprojRefIdeal.nD Cert.OprojRefIdeal.τ).loc Cert.OprojRefIdeal.main_arg4) = m' ((c.tc : Thread Cert.OprojRefIdeal.nD Cert.OprojRefIdeal.τ).loc Cert.OprojRefIdeal.main_arg4)
          ∧ r.2.mem ((c.tc : Thread Cert.OprojRefIdeal.nD Cert.OprojRefIdeal.τ).loc Cert.OprojRefIdeal.main_arg5) = m' ((c.tc : Thread Cert.OprojRefIdeal.nD Cert.OprojRefIdeal.τ).loc Cert.OprojRefIdeal.main_arg5))

def Claim : Prop :=
  ∃ (hGateup : Cert.Gateup.Facts) (hGateupIdeal : Cert.GateupIdeal.Facts) (hGateupRefIdeal : Cert.GateupRefIdeal.Facts) (hHead : Cert.Head.Facts) (hHeadIdeal : Cert.HeadIdeal.Facts) (hHeadRefIdeal : Cert.HeadRefIdeal.Facts) (hDown : Cert.Down.Facts) (hDownIdeal : Cert.DownIdeal.Facts) (hDownRefIdeal : Cert.DownRefIdeal.Facts) (hQkv : Cert.Qkv.Facts) (hQkvIdeal : Cert.QkvIdeal.Facts) (hQkvRefIdeal : Cert.QkvRefIdeal.Facts) (hOproj : Cert.Oproj.Facts) (hOprojIdeal : Cert.OprojIdeal.Facts) (hOprojRefIdeal : Cert.OprojRefIdeal.Facts) (hOn_mask_head : Cert.On_mask_head.Facts),
    quiescent_Gateup (hGateup := hGateup)
    ∧ quiescent_GateupIdeal (hGateupIdeal := hGateupIdeal)
    ∧ quiescent_GateupRefIdeal (hGateupRefIdeal := hGateupRefIdeal)
    ∧ quiescent_Head (hHead := hHead)
    ∧ quiescent_HeadIdeal (hHeadIdeal := hHeadIdeal)
    ∧ quiescent_HeadRefIdeal (hHeadRefIdeal := hHeadRefIdeal)
    ∧ quiescent_Down (hDown := hDown)
    ∧ quiescent_DownIdeal (hDownIdeal := hDownIdeal)
    ∧ quiescent_DownRefIdeal (hDownRefIdeal := hDownRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Oproj (hOproj := hOproj)
    ∧ quiescent_OprojIdeal (hOprojIdeal := hOprojIdeal)
    ∧ quiescent_OprojRefIdeal (hOprojRefIdeal := hOprojRefIdeal)
    ∧ preserves_Gateup_GateupIdeal
    ∧ algebraic_GateupIdeal_GateupRefIdeal (hGateupIdeal := hGateupIdeal) (hGateupRefIdeal := hGateupRefIdeal)
    ∧ preserves_Head_HeadIdeal
    ∧ algebraic_HeadIdeal_HeadRefIdeal_on_mask_head (hHeadIdeal := hHeadIdeal) (hHeadRefIdeal := hHeadRefIdeal) (hOn_mask_head := hOn_mask_head)
    ∧ preserves_Down_DownIdeal
    ∧ algebraic_DownIdeal_DownRefIdeal (hDownIdeal := hDownIdeal) (hDownRefIdeal := hDownRefIdeal)
    ∧ preserves_Qkv_QkvIdeal
    ∧ algebraic_QkvIdeal_QkvRefIdeal (hQkvIdeal := hQkvIdeal) (hQkvRefIdeal := hQkvRefIdeal)
    ∧ preserves_Oproj_OprojIdeal
    ∧ algebraic_OprojIdeal_OprojRefIdeal (hOprojIdeal := hOprojIdeal) (hOprojRefIdeal := hOprojRefIdeal)
-- ==== On_mask_head.lean ====
abbrev S128x4096 : Shape := ⟨2, ![128, 4096]⟩
abbrev S32000x4096 : Shape := ⟨2, ![32000, 4096]⟩
abbrev S32000 : Shape := ⟨1, ![32000]⟩
abbrev S128 : Shape := ⟨1, ![128]⟩
abbrev S256 : Shape := ⟨1, ![256]⟩
abbrev S_ : Shape := ⟨0, ![]⟩
abbrev S1x256 : Shape := ⟨2, ![1, 256]⟩
abbrev S128x256 : Shape := ⟨2, ![128, 256]⟩
abbrev S128x128 : Shape := ⟨2, ![128, 128]⟩

class Facts : Prop where
  bcast_S_S256 : S_.BroadcastsInDim S256 (![] : Fin 0 → Fin S256.rank)
  bcast_S256_S1x256_1 : S256.BroadcastsInDim S1x256 (![1] : Fin 1 → Fin S1x256.rank)
  bcast_S1x256_S128x256_0_1 : S1x256.BroadcastsInDim S128x256 (![0, 1] : Fin 2 → Fin S128x256.rank)
  bcast_S_S128x128 : S_.BroadcastsInDim S128x128 (![] : Fin 0 → Fin S128x128.rank)

variable [Facts]

def fn {F : FTy → Type} [FloatOps F] (main_arg0 : IVec S128x4096 8) (main_arg1 : IVec S32000x4096 8) (main_arg2 : FVec F S32000 .f32) (main_arg3 : FVec F S128 .f32) (main_arg4 : FVec F S128 .f32) (main_arg5 : FVec F S128 .f32) : IVec S128x256 1 × IVec S128x128 1 :=
  let main_v0 : IVec S256 32 := iotaInDim S256 32 0
  let main_c : IVec S_ 32 := constantI S_ 32 250#32
  let main_v1 : IVec S256 32 := broadcastInDim S256 ![] bcast_S_S256 main_c
  let main_v2 : IVec S256 1 := cmpi .slt main_v0 main_v1
  let main_v3 : IVec S1x256 1 := broadcastInDim S1x256 ![1] bcast_S256_S1x256_1 main_v2
  let main_v4 : IVec S128x256 1 := broadcastInDim S128x256 ![0, 1] bcast_S1x256_S128x256_0_1 main_v3
  let main_c_0 : IVec S_ 1 := constantI S_ 1 1#1
  let main_v5 : IVec S128x128 1 := broadcastInDim S128x128 ![] bcast_S_S128x128 main_c_0
  (main_v4, main_v5)
-- ==== Gateup.lean ====
abbrev S128x4096 : Shape := ⟨2, ![128, 4096]⟩
abbrev S2048x14336 : Shape := ⟨2, ![2048, 14336]⟩
abbrev S32x14336 : Shape := ⟨2, ![32, 14336]⟩
abbrev S128x14336 : Shape := ⟨2, ![128, 14336]⟩
abbrev S2048x512 : Shape := ⟨2, ![2048, 512]⟩
abbrev S32x512 : Shape := ⟨2, ![32, 512]⟩
abbrev S128x512 : Shape := ⟨2, ![128, 512]⟩
abbrev S128x1x512 : Shape := ⟨3, ![128, 1, 512]⟩
abbrev S128x2x512 : Shape := ⟨3, ![128, 2, 512]⟩
abbrev S256x512 : Shape := ⟨2, ![256, 512]⟩
abbrev S2x8x16x512 : Shape := ⟨4, ![2, 8, 16, 512]⟩
abbrev S1x512 : Shape := ⟨2, ![1, 512]⟩
abbrev S16x512 : Shape := ⟨2, ![16, 512]⟩
abbrev S1x8x16x512 : Shape := ⟨4, ![1, 8, 16, 512]⟩
abbrev S8x16x512 : Shape := ⟨3, ![8, 16, 512]⟩
abbrev S1x16x512 : Shape := ⟨3, ![1, 16, 512]⟩
abbrev S128x256 : Shape := ⟨2, ![128, 256]⟩

abbrev nBuf : Space → Nat
  | .hbm => 8
  | .vmem => 19
  | .smem => 0
  | _ => 0

abbrev bufTy : (tb : Table) → Fin (tcTables nBuf tb) → BufTy
  | .hbm, ⟨0, _⟩ => ⟨S128x4096, .bf16⟩
  | .hbm, ⟨1, _⟩ => ⟨S2048x14336, .i8⟩
  | .hbm, ⟨2, _⟩ => ⟨S32x14336, .bf16⟩
  | .hbm, ⟨3, _⟩ => ⟨S32x14336, .i8⟩
  | .hbm, ⟨4, _⟩ => ⟨S2048x14336, .i8⟩
  | .hbm, ⟨5, _⟩ => ⟨S32x14336, .bf16⟩
  | .hbm, ⟨6, _⟩ => ⟨S32x14336, .i8⟩
  | .hbm, ⟨7, _⟩ => ⟨S128x14336, .bf16⟩
  | .local _ .vmem, ⟨0, _⟩ => ⟨S128x4096, .bf16⟩
  | .local _ .vmem, ⟨1, _⟩ => ⟨S2048x512, .i8⟩
  | .local _ .vmem, ⟨2, _⟩ => ⟨S2048x512, .i8⟩
  | .local _ .vmem, ⟨3, _⟩ => ⟨S32x512, .bf16⟩
  | .local _ .vmem, ⟨4, _⟩ => ⟨S32x512, .bf16⟩
  | .local _ .vmem, ⟨5, _⟩ => ⟨S32x512, .i8⟩
  | .local _ .vmem, ⟨6, _⟩ => ⟨S32x512, .i8⟩
  | .local _ .vmem, ⟨7, _⟩ => ⟨S2048x512, .i8⟩
  | .local _ .vmem, ⟨8, _⟩ => ⟨S2048x512, .i8⟩
  | .local _ .vmem, ⟨9, _⟩ => ⟨S32x512, .bf16⟩
  | .local _ .vmem, ⟨10, _⟩ => ⟨S32x512, .bf16⟩
  | .local _ .vmem, ⟨11, _⟩ => ⟨S32x512, .i8⟩
  | .local _ .vmem, ⟨12, _⟩ => ⟨S32x512, .i8⟩
  | .local _ .vmem, ⟨13, _⟩ => ⟨S128x512, .bf16⟩
  | .local _ .vmem, ⟨14, _⟩ => ⟨S128x512, .bf16⟩
  | .local _ .vmem, ⟨15, _⟩ => ⟨S32x512, .f32⟩
  | .local _ .vmem, ⟨16, _⟩ => ⟨S32x512, .f32⟩
  | .local _ .vmem, ⟨17, _⟩ => ⟨S32x512, .f32⟩
  | .local _ .vmem, ⟨18, _⟩ => ⟨S32x512, .f32⟩
  | _, _ => ⟨S128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![28], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x512 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GateupRefIdeal.lean ====
abbrev S128x4096 : Shape := ⟨2, ![128, 4096]⟩
abbrev S2048x14336 : Shape := ⟨2, ![2048, 14336]⟩
abbrev S32x14336 : Shape := ⟨2, ![32, 14336]⟩
abbrev S32x1x14336 : Shape := ⟨3, ![32, 1, 14336]⟩
abbrev S_ : Shape := ⟨0, ![]⟩
abbrev S32x64x14336 : Shape := ⟨3, ![32, 64, 14336]⟩
abbrev S128x2048 : Shape := ⟨2, ![128, 2048]⟩
abbrev S128x14336 : Shape := ⟨2, ![128, 14336]⟩

abbrev nBuf : Space → Nat
  | .hbm => 78
  | .vmem => 0
  | .smem => 0
  | _ => 0

abbrev bufTy : (tb : Table) → Fin (tcTables nBuf tb) → BufTy
  | .hbm, ⟨0, _⟩ => ⟨S128x4096, .bf16⟩
  | .hbm, ⟨1, _⟩ => ⟨S2048x14336, .i8⟩
  | .hbm, ⟨2, _⟩ => ⟨S32x14336, .bf16⟩
  | .hbm, ⟨3, _⟩ => ⟨S32x14336, .i8⟩
  | .hbm, ⟨4, _⟩ => ⟨S2048x14336, .i8⟩
  | .hbm, ⟨5, _⟩ => ⟨S32x14336, .bf16⟩
  | .hbm, ⟨6, _⟩ => ⟨S32x14336, .i8⟩
  | .hbm, ⟨7, _⟩ => ⟨S32x14336, .i32⟩
  | .hbm, ⟨8, _⟩ => ⟨S32x14336, .bf16⟩
  | .hbm, ⟨9, _⟩ => ⟨S32x1x14336, .bf16⟩
  | .hbm, ⟨10, _⟩ => ⟨S32x1x14336, .bf16⟩
  | .hbm, ⟨11, _⟩ => ⟨S2048x14336, .i32⟩
  | .hbm, ⟨12, _⟩ => ⟨S_, .i32⟩
  | .hbm, ⟨13, _⟩ => ⟨S2048x14336, .i32⟩
  | .hbm, ⟨14, _⟩ => ⟨S2048x14336, .i32⟩
  | .hbm, ⟨15, _⟩ => ⟨S2048x14336, .bf16⟩
  | .hbm, ⟨16, _⟩ => ⟨S32x64x14336, .bf16⟩
  | .hbm, ⟨17, _⟩ => ⟨S32x64x14336, .bf16⟩
  | .hbm, ⟨18, _⟩ => ⟨S32x64x14336, .bf16⟩
  | .hbm, ⟨19, _⟩ => ⟨S32x64x14336, .bf16⟩
  | .hbm, ⟨20, _⟩ => ⟨S32x64x14336, .bf16⟩
  | .hbm, ⟨21, _⟩ => ⟨S2048x14336, .bf16⟩
  | .hbm, ⟨22, _⟩ => ⟨S_, .i32⟩
  | .hbm, ⟨23, _⟩ => ⟨S2048x14336, .i32⟩
  | .hbm, ⟨24, _⟩ => ⟨S2048x14336, .i32⟩
  | .hbm, ⟨25, _⟩ => ⟨S2048x14336, .bf16⟩
  | .hbm, ⟨26, _⟩ => ⟨S32x64x14336, .bf16⟩
  | .hbm, ⟨27, _⟩ => ⟨S32x64x14336, .bf16⟩
  | .hbm, ⟨28, _⟩ => ⟨S32x64x14336, .bf16⟩
  | .hbm, ⟨29, _⟩ => ⟨S32x64x14336, .bf16⟩
  | .hbm, ⟨30, _⟩ => ⟨S32x64x14336, .bf16⟩
  | .hbm, ⟨31, _⟩ => ⟨S2048x14336, .bf16⟩
  | .hbm, ⟨32, _⟩ => ⟨S128x2048, .bf16⟩
  | .hbm, ⟨33, _⟩ => ⟨S128x14336, .f32⟩
  | .hbm, ⟨34, _⟩ => ⟨S128x2048, .bf16⟩
  | .hbm, ⟨35, _⟩ => ⟨S128x14336, .f32⟩
  | .hbm, ⟨36, _⟩ => ⟨S128x14336, .f32⟩
  | .hbm, ⟨37, _⟩ => ⟨S128x14336, .f32⟩
  | .hbm, ⟨38, _⟩ => ⟨S128x14336, .f32⟩
  | .hbm, ⟨39, _⟩ => ⟨S_, .f32⟩
  | .hbm, ⟨40, _⟩ => ⟨S128x14336, .f32⟩
  | .hbm, ⟨41, _⟩ => ⟨S128x14336, .f32⟩
  | .hbm, ⟨42, _⟩ => ⟨S_, .f32⟩
  | .hbm, ⟨43, _⟩ => ⟨S128x14336, .f32⟩
  | .hbm, ⟨44, _⟩ => ⟨S128x14336, .f32⟩
  | .hbm, ⟨45, _⟩ => ⟨S128x14336, .f32⟩
  | .hbm, ⟨46, _⟩ => ⟨S32x14336, .i32⟩
  | .hbm, ⟨47, _⟩ => ⟨S32x14336, .bf16⟩
  | .hbm, ⟨48, _⟩ => ⟨S32x1x14336, .bf16⟩
  | .hbm, ⟨49, _⟩ => ⟨S32x1x14336, .bf16⟩
  | .hbm, ⟨50, _⟩ => ⟨S2048x14336, .i32⟩
  | .hbm, ⟨51, _⟩ => ⟨S_, .i32⟩
  | .hbm, ⟨52, _⟩ => ⟨S2048x14336, .i32⟩
  | .hbm, ⟨53, _⟩ => ⟨S2048x14336, .i32⟩
  | .hbm, ⟨54, _⟩ => ⟨S2048x14336, .bf16⟩
  | .hbm, ⟨55, _⟩ => ⟨S32x64x14336, .bf16⟩
  | .hbm, ⟨56, _⟩ => ⟨S32x64x14336, .bf16⟩
  | .hbm, ⟨57, _⟩ => ⟨S32x64x14336, .bf16⟩
  | .hbm, ⟨58, _⟩ => ⟨S32x64x14336, .bf16⟩
  | .hbm, ⟨59, _⟩ => ⟨S32x64x14336, .bf16⟩
  | .hbm, ⟨60, _⟩ => ⟨S2048x14336, .bf16⟩
  | .hbm, ⟨61, _⟩ => ⟨S_, .i32⟩
  | .hbm, ⟨62, _⟩ => ⟨S2048x14336, .i32⟩
  | .hbm, ⟨63, _⟩ => ⟨S2048x14336, .i32⟩
  | .hbm, ⟨64, _⟩ => ⟨S2048x14336, .bf16⟩
  | .hbm, ⟨65, _⟩ => ⟨S32x64x14336, .bf16⟩
  | .hbm, ⟨66, _⟩ => ⟨S32x64x14336, .bf16⟩
  | .hbm, ⟨67, _⟩ => ⟨S32x64x14336, .bf16⟩
  | .hbm, ⟨68, _⟩ => ⟨S32x64x14336, .bf16⟩
  | .hbm, ⟨69, _⟩ => ⟨S32x64x14336, .bf16⟩
  | .hbm, ⟨70, _⟩ => ⟨S2048x14336, .bf16⟩
  | .hbm, ⟨71, _⟩ => ⟨S128x2048, .bf16⟩
  | .hbm, ⟨72, _⟩ => ⟨S128x14336, .f32⟩
  | .hbm, ⟨73, _⟩ => ⟨S128x2048, .bf16⟩
  | .hbm, ⟨74, _⟩ => ⟨S128x14336, .f32⟩
  | .hbm, ⟨75, _⟩ => ⟨S128x14336, .f32⟩
  | .hbm, ⟨76, _⟩ => ⟨S128x14336, .f32⟩
  | .hbm, ⟨77, _⟩ => ⟨S128x14336, .bf16⟩
  | _, _ => ⟨S128x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_1 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_c_2 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩

abbrev nD : Nat := 1
abbrev τ : Topo := Topo.v7x

variable {F : FTy → Type} [FloatOps F]
-- ==== Head.lean ====
abbrev S128x4096 : Shape := ⟨2, ![128, 4096]⟩
abbrev S32000x4096 : Shape := ⟨2, ![32000, 4096]⟩
abbrev S32000 : Shape := ⟨1, ![32000]⟩
abbrev S128 : Shape := ⟨1, ![128]⟩
abbrev S25x1x1280 : Shape := ⟨3, ![25, 1, 1280]⟩
abbrev S128x1 : Shape := ⟨2, ![128, 1]⟩
abbrev S128x128 : Shape := ⟨2, ![128, 128]⟩
abbrev S128x256 : Shape := ⟨2, ![128, 256]⟩
abbrev S1280x4096 : Shape := ⟨2, ![1280, 4096]⟩
abbrev S1x1x1280 : Shape := ⟨3, ![1, 1, 1280]⟩
abbrev S2x128x128 : Shape := ⟨3, ![2, 128, 128]⟩
abbrev S128x1280 : Shape := ⟨2, ![128, 1280]⟩
abbrev S1x1x128 : Shape := ⟨3, ![1, 1, 128]⟩
abbrev S1x128 : Shape := ⟨2, ![1, 128]⟩
abbrev S1x128x128 : Shape := ⟨3, ![1, 128, 128]⟩

abbrev nBuf : Space → Nat
  | .hbm => 15
  | .vmem => 13
  | .smem => 0
  | _ => 0

abbrev bufTy : (tb : Table) → Fin (tcTables nBuf tb) → BufTy
  | .hbm, ⟨0, _⟩ => ⟨S128x4096, .i8⟩
  | .hbm, ⟨1, _⟩ => ⟨S32000x4096, .i8⟩
  | .hbm, ⟨2, _⟩ => ⟨S32000, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S25x1x1280, .f32⟩
  | .hbm, ⟨7, _⟩ => ⟨S128x1, .f32⟩
  | .hbm, ⟨8, _⟩ => ⟨S128x128, .f32⟩
  | .hbm, ⟨9, _⟩ => ⟨S128x1, .f32⟩
  | .hbm, ⟨10, _⟩ => ⟨S128x128, .f32⟩
  | .hbm, ⟨11, _⟩ => ⟨S128x1, .f32⟩
  | .hbm, ⟨12, _⟩ => ⟨S128x128, .f32⟩
  | .hbm, ⟨13, _⟩ => ⟨S128x256, .f32⟩
  | .hbm, ⟨14, _⟩ => ⟨S128x128, .f32⟩
  | .local _ .vmem, ⟨0, _⟩ => ⟨S128x4096, .i8⟩
  | .local _ .vmem, ⟨1, _⟩ => ⟨S1280x4096, .i8⟩
  | .local _ .vmem, ⟨2, _⟩ => ⟨S1280x4096, .i8⟩
  | .local _ .vmem, ⟨3, _⟩ => ⟨S1x1x1280, .f32⟩
  | .local _ .vmem, ⟨4, _⟩ => ⟨S1x1x1280, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x256, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S2x128x128, .f32⟩
  | _, _ => ⟨S128x4096, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9

abbrev nD : Nat := 1
abbrev τ : Topo := Topo.v7x

variable {F : FTy → Type} [FloatOps F]

abbrev grid0 : Pipeline.Grid := ⟨1, ![25], ![false]⟩

def k0_off1 (i : grid0.Coords) (c0_i32_11 : BitVec 32) : Fin 3 → Nat :=
  let arg0 : BitVec 32 := BitVec.ofNat 32 (i 0).val
  let c10_i32 : BitVec 32 := 10#32
  let v20 : BitVec 32 := Scalar.muli arg0 c10_i32
  let v21 : BitVec 32 := Scalar.addi v20 c0_i32_11
  let c7_i32 : BitVec 32 := 7#32
  let v22 : BitVec 32 := Scalar.shrsi v21 c7_i32
  let v28 : Index := Scalar.indexCast v22
  let c0_13 : Index := 0#32
  let c0_14 : Index := 0#32
  ![v28.toNat, 0, 0]
def k0_cond2 (i : grid0.Coords) : BitVec 1 :=
  let arg0 : BitVec 32 := BitVec.ofNat 32 (i 0).val
  let c24_i32 : BitVec 32 := 24#32
  let v371 : BitVec 1 := Scalar.cmpi .eq arg0 c24_i32
  let v372 : BitVec 32 := Scalar.extui v371
  let c0_i32_162 : BitVec 32 := 0#32
  let v373 : BitVec 1 := Scalar.cmpi .ne v372 c0_i32_162
  v373

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x4096 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1280x4096 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== HeadRefIdeal.lean ====
abbrev S128x4096 : Shape := ⟨2, ![128, 4096]⟩
abbrev S32000x4096 : Shape := ⟨2, ![32000, 4096]⟩
abbrev S32000 : Shape := ⟨1, ![32000]⟩
abbrev S128 : Shape := ⟨1, ![128]⟩
abbrev S128x32000 : Shape := ⟨2, ![128, 32000]⟩
abbrev S128x1 : Shape := ⟨2, ![128, 1]⟩
abbrev S1x32000 : Shape := ⟨2, ![1, 32000]⟩
abbrev S_ : Shape := ⟨0, ![]⟩
abbrev S128x250x128 : Shape := ⟨3, ![128, 250, 128]⟩
abbrev S128x250 : Shape := ⟨2, ![128, 250]⟩
abbrev S128x256 : Shape := ⟨2, ![128, 256]⟩
abbrev S128x128 : Shape := ⟨2, ![128, 128]⟩

abbrev nBuf : Space → Nat
  | .hbm => 60
  | .vmem => 0
  | .smem => 0
  | _ => 0

abbrev bufTy : (tb : Table) → Fin (tcTables nBuf tb) → BufTy
  | .hbm, ⟨0, _⟩ => ⟨S128x4096, .i8⟩
  | .hbm, ⟨1, _⟩ => ⟨S32000x4096, .i8⟩
  | .hbm, ⟨2, _⟩ => ⟨S32000, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x4096, .i32⟩
  | .hbm, ⟨7, _⟩ => ⟨S128x4096, .bf16⟩
  | .hbm, ⟨8, _⟩ => ⟨S32000x4096, .i32⟩
  | .hbm, ⟨9, _⟩ => ⟨S32000x4096, .bf16⟩
  | .hbm, ⟨10, _⟩ => ⟨S128x32000, .f32⟩
  | .hbm, ⟨11, _⟩ => ⟨S128x1, .f32⟩
  | .hbm, ⟨12, _⟩ => ⟨S128x32000, .f32⟩
  | .hbm, ⟨13, _⟩ => ⟨S128x32000, .f32⟩
  | .hbm, ⟨14, _⟩ => ⟨S1x32000, .f32⟩
  | .hbm, ⟨15, _⟩ => ⟨S128x32000, .f32⟩
  | .hbm, ⟨16, _⟩ => ⟨S128x32000, .f32⟩
  | .hbm, ⟨17, _⟩ => ⟨S128x1, .f32⟩
  | .hbm, ⟨18, _⟩ => ⟨S128x32000, .f32⟩
  | .hbm, ⟨19, _⟩ => ⟨S128x32000, .f32⟩
  | .hbm, ⟨20, _⟩ => ⟨S_, .f32⟩
  | .hbm, ⟨21, _⟩ => ⟨S128x32000, .f32⟩
  | .hbm, ⟨22, _⟩ => ⟨S128x32000, .f32⟩
  | .hbm, ⟨23, _⟩ => ⟨S_, .f32⟩
  | .hbm, ⟨24, _⟩ => ⟨S128, .f32⟩
  | .hbm, ⟨25, _⟩ => ⟨S128, .f32⟩
  | .hbm, ⟨26, _⟩ => ⟨S128x1, .f32⟩
  | .hbm, ⟨27, _⟩ => ⟨S128x32000, .f32⟩
  | .hbm, ⟨28, _⟩ => ⟨S128x32000, .f32⟩
  | .hbm, ⟨29, _⟩ => ⟨S_, .f32⟩
  | .hbm, ⟨30, _⟩ => ⟨S128x32000, .f32⟩
  | .hbm, ⟨31, _⟩ => ⟨S128x32000, .f32⟩
  | .hbm, ⟨32, _⟩ => ⟨S_, .f32⟩
  | .hbm, ⟨33, _⟩ => ⟨S128, .f32⟩
  | .hbm, ⟨34, _⟩ => ⟨S128, .f32⟩
  | .hbm, ⟨35, _⟩ => ⟨S_, .f32⟩
  | .hbm, ⟨36, _⟩ => ⟨S_, .f32⟩
  | .hbm, ⟨37, _⟩ => ⟨S128, .f32⟩
  | .hbm, ⟨38, _⟩ => ⟨S128, .f32⟩
  | .hbm, ⟨39, _⟩ => ⟨S128, .f32⟩
  | .hbm, ⟨40, _⟩ => ⟨S_, .f32⟩
  | .hbm, ⟨41, _⟩ => ⟨S128, .f32⟩
  | .hbm, ⟨42, _⟩ => ⟨S128, .f32⟩
  | .hbm, ⟨43, _⟩ => ⟨S_, .f32⟩
  | .hbm, ⟨44, _⟩ => ⟨S128, .f32⟩
  | .hbm, ⟨45, _⟩ => ⟨S128, .f32⟩
  | .hbm, ⟨46, _⟩ => ⟨S128x1, .f32⟩
  | .hbm, ⟨47, _⟩ => ⟨S128x32000, .f32⟩
  | .hbm, ⟨48, _⟩ => ⟨S128x32000, .f32⟩
  | .hbm, ⟨49, _⟩ => ⟨S128x1, .f32⟩
  | .hbm, ⟨50, _⟩ => ⟨S128x32000, .f32⟩
  | .hbm, ⟨51, _⟩ => ⟨S128x32000, .f32⟩
  | .hbm, ⟨52, _⟩ => ⟨S128x250x128, .f32⟩
  | .hbm, ⟨53, _⟩ => ⟨S_, .f32⟩
  | .hbm, ⟨54, _⟩ => ⟨S128x250, .f32⟩
  | .hbm, ⟨55, _⟩ => ⟨S_, .i32⟩
  | .hbm, ⟨56, _⟩ => ⟨S_, .f32⟩
  | .hbm, ⟨57, _⟩ => ⟨S128x256, .f32⟩
  | .hbm, ⟨58, _⟩ => ⟨S128x1, .f32⟩
  | .hbm, ⟨59, _⟩ => ⟨S128x128, .f32⟩
  | _, _ => ⟨S128x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_c : Ref sig .tc := ⟨.hbm, 55, rfl⟩
abbrev main_call0_v0 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== Down.lean ====
abbrev S128x14336 : Shape := ⟨2, ![128, 14336]⟩
abbrev S7168x4096 : Shape := ⟨2, ![7168, 4096]⟩
abbrev S112x4096 : Shape := ⟨2, ![112, 4096]⟩
abbrev S128x4096 : Shape := ⟨2, ![128, 4096]⟩
abbrev S4096 : Shape := ⟨1, ![4096]⟩
abbrev S1x4096 : Shape := ⟨2, ![1, 4096]⟩
abbrev S128x128 : Shape := ⟨2, ![128, 128]⟩
abbrev S7168x512 : Shape := ⟨2, ![7168, 512]⟩
abbrev S112x512 : Shape := ⟨2, ![112, 512]⟩
abbrev S128x512 : Shape := ⟨2, ![128, 512]⟩
abbrev S128x1x512 : Shape := ⟨3, ![128, 1, 512]⟩
abbrev S128x2x512 : Shape := ⟨3, ![128, 2, 512]⟩
abbrev S256x512 : Shape := ⟨2, ![256, 512]⟩
abbrev S2x8x16x512 : Shape := ⟨4, ![2, 8, 16, 512]⟩
abbrev S1x512 : Shape := ⟨2, ![1, 512]⟩
abbrev S16x512 : Shape := ⟨2, ![16, 512]⟩
abbrev S1x8x16x512 : Shape := ⟨4, ![1, 8, 16, 512]⟩
abbrev S8x16x512 : Shape := ⟨3, ![8, 16, 512]⟩
abbrev S1x16x512 : Shape := ⟨3, ![1, 16, 512]⟩
abbrev S128x256 : Shape := ⟨2, ![128, 256]⟩
abbrev S32x4096 : Shape := ⟨2, ![32, 4096]⟩
abbrev S32 : Shape := ⟨1, ![32]⟩
abbrev S32x1 : Shape := ⟨2, ![32, 1]⟩
abbrev S32x128 : Shape := ⟨2, ![32, 128]⟩

abbrev nBuf : Space → Nat
  | .hbm => 10
  | .vmem => 15
  | .smem => 0
  | _ => 0

abbrev bufTy : (tb : Table) → Fin (tcTables nBuf tb) → BufTy
  | .hbm, ⟨0, _⟩ => ⟨S128x14336, .bf16⟩
  | .hbm, ⟨1, _⟩ => ⟨S7168x4096, .i8⟩
  | .hbm, ⟨2, _⟩ => ⟨S112x4096, .bf16⟩
  | .hbm, ⟨3, _⟩ => ⟨S112x4096, .i8⟩
  | .hbm, ⟨4, _⟩ => ⟨S128x4096, .f32⟩
  | .hbm, ⟨5, _⟩ => ⟨S4096, .f32⟩
  | .hbm, ⟨6, _⟩ => ⟨S1x4096, .f32⟩
  | .hbm, ⟨7, _⟩ => ⟨S128x4096, .bf16⟩
  | .hbm, ⟨8, _⟩ => ⟨S128x4096, .i8⟩
  | .hbm, ⟨9, _⟩ => ⟨S128x128, .f32⟩
  | .local _ .vmem, ⟨0, _⟩ => ⟨S128x14336, .bf16⟩
  | .local _ .vmem, ⟨1, _⟩ => ⟨S7168x512, .i8⟩
  | .local _ .vmem, ⟨2, _⟩ => ⟨S7168x512, .i8⟩
  | .local _ .vmem, ⟨3, _⟩ => ⟨S112x512, .bf16⟩
  | .local _ .vmem, ⟨4, _⟩ => ⟨S112x512, .bf16⟩
  | .local _ .vmem, ⟨5, _⟩ => ⟨S112x512, .i8⟩
  | .local _ .vmem, ⟨6, _⟩ => ⟨S112x512, .i8⟩
  | .local _ .vmem, ⟨7, _⟩ => ⟨S128x4096, .f32⟩
  | .local _ .vmem, ⟨8, _⟩ => ⟨S1x4096, .f32⟩
  | .local _ .vmem, ⟨9, _⟩ => ⟨S128x4096, .bf16⟩
  | .local _ .vmem, ⟨10, _⟩ => ⟨S128x4096, .i8⟩
  | .local _ .vmem, ⟨11, _⟩ => ⟨S128x128, .f32⟩
  | .local _ .vmem, ⟨12, _⟩ => ⟨S112x512, .f32⟩
  | .local _ .vmem, ⟨13, _⟩ => ⟨S112x512, .f32⟩
  | .local _ .vmem, ⟨14, _⟩ => ⟨S128x4096, .f32⟩
  | _, _ => ⟨S128x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![8], ![false]⟩

def k0_mult1 (i : grid0.Coords) : BitVec 32 :=
  let arg0 : BitVec 32 := BitVec.ofNat 32 (i 0).val
  let c512_i32 : BitVec 32 := 512#32
  let v11 : BitVec 32 := Scalar.muli arg0 c512_i32
  v11
def k0_off1 (i : grid0.Coords) : Fin 2 → Nat :=
  let c0_7 : Index := 0#32
  let arg0 : BitVec 32 := BitVec.ofNat 32 (i 0).val
  let c512_i32 : BitVec 32 := 512#32
  let v11 : BitVec 32 := Scalar.muli arg0 c512_i32
  let v12 : BitVec 32 := v11
  let v13 : Index := Scalar.indexCast v12
  ![0, v13.toNat]
def k0_cond1 (i : grid0.Coords) : BitVec 1 :=
  let arg0 : BitVec 32 := BitVec.ofNat 32 (i 0).val
  let c7_i32 : BitVec 32 := 7#32
  let v2819 : BitVec 1 := Scalar.cmpi .eq arg0 c7_i32
  let v2820 : BitVec 32 := Scalar.extui v2819
  let c0_i32 : BitVec 32 := 0#32
  let v2821 : BitVec 1 := Scalar.cmpi .ne v2820 c0_i32
  v2821

@[reducible] def k0_t1_loop : Scf.Loop 32 :=
  let c0_i32_652 : BitVec 32 := 0#32
  let c4_i32_653 : BitVec 32 := 4#32
  let v2822 : BitVec 32 := Scalar.addi c0_i32_652 c4_i32_653
  let c1_i32 : BitVec 32 := 1#32
  ⟨c0_i32_652, v2822, c1_i32⟩
def k0_mult2 (k0_t1 : Fin k0_t1_loop.trips) : BitVec 32 :=
  let c0_i32_652 : BitVec 32 := 0#32
  let c1_i32 : BitVec 32 := 1#32
  let arg13 : BitVec 32 := Scf.iv c0_i32_652 c1_i32 k0_t1
  let c32_i32 : BitVec 32 := 32#32
  let v2823 : BitVec 32 := Scalar.muli arg13 c32_i32
  v2823
def k0_off2 (k0_t1 : Fin k0_t1_loop.trips) : Fin 2 → Nat :=
  let c0_i32_652 : BitVec 32 := 0#32
  let c1_i32 : BitVec 32 := 1#32
  let arg13 : BitVec 32 := Scf.iv c0_i32_652 c1_i32 k0_t1
  let c32_i32 : BitVec 32 := 32#32
  let v2823 : BitVec 32 := Scalar.muli arg13 c32_i32
  let v2824 : BitVec 32 := v2823
  let v2825 : Index := Scalar.indexCast v2824
  let c0_655 : Index := 0#32
  ![v2825.toNat, 0]
def k0_off3 (k0_t1 : Fin k0_t1_loop.trips) : Fin 2 → Nat :=
  let c0_i32_652 : BitVec 32 := 0#32
  let c1_i32 : BitVec 32 := 1#32
  let arg13 : BitVec 32 := Scf.iv c0_i32_652 c1_i32 k0_t1
  let c32_i32 : BitVec 32 := 32#32
  let v2823 : BitVec 32 := Scalar.muli arg13 c32_i32
  let v2824 : BitVec 32 := v2823
  let v2867 : Index := Scalar.indexCast v2824
  let c0_667 : Index := 0#32
  ![v2867.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x14336 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S7168x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S112x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S112x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x4096 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== DownRefIdeal.lean ====
abbrev S128x14336 : Shape := ⟨2, ![128, 14336]⟩
abbrev S7168x4096 : Shape := ⟨2, ![7168, 4096]⟩
abbrev S112x4096 : Shape := ⟨2, ![112, 4096]⟩
abbrev S128x4096 : Shape := ⟨2, ![128, 4096]⟩
abbrev S4096 : Shape := ⟨1, ![4096]⟩
abbrev S112x1x4096 : Shape := ⟨3, ![112, 1, 4096]⟩
abbrev S_ : Shape := ⟨0, ![]⟩
abbrev S112x64x4096 : Shape := ⟨3, ![112, 64, 4096]⟩
abbrev S128x7168 : Shape := ⟨2, ![128, 7168]⟩
abbrev S128 : Shape := ⟨1, ![128]⟩
abbrev S128x1 : Shape := ⟨2, ![128, 1]⟩
abbrev S1x4096 : Shape := ⟨2, ![1, 4096]⟩
abbrev S128x128 : Shape := ⟨2, ![128, 128]⟩

abbrev nBuf : Space → Nat
  | .hbm => 83
  | .vmem => 0
  | .smem => 0
  | _ => 0

abbrev bufTy : (tb : Table) → Fin (tcTables nBuf tb) → BufTy
  | .hbm, ⟨0, _⟩ => ⟨S128x14336, .bf16⟩
  | .hbm, ⟨1, _⟩ => ⟨S7168x4096, .i8⟩
  | .hbm, ⟨2, _⟩ => ⟨S112x4096, .bf16⟩
  | .hbm, ⟨3, _⟩ => ⟨S112x4096, .i8⟩
  | .hbm, ⟨4, _⟩ => ⟨S128x4096, .f32⟩
  | .hbm, ⟨5, _⟩ => ⟨S4096, .f32⟩
  | .hbm, ⟨6, _⟩ => ⟨S112x4096, .i32⟩
  | .hbm, ⟨7, _⟩ => ⟨S112x4096, .bf16⟩
  | .hbm, ⟨8, _⟩ => ⟨S112x1x4096, .bf16⟩
  | .hbm, ⟨9, _⟩ => ⟨S112x1x4096, .bf16⟩
  | .hbm, ⟨10, _⟩ => ⟨S7168x4096, .i32⟩
  | .hbm, ⟨11, _⟩ => ⟨S_, .i32⟩
  | .hbm, ⟨12, _⟩ => ⟨S7168x4096, .i32⟩
  | .hbm, ⟨13, _⟩ => ⟨S7168x4096, .i32⟩
  | .hbm, ⟨14, _⟩ => ⟨S7168x4096, .bf16⟩
  | .hbm, ⟨15, _⟩ => ⟨S112x64x4096, .bf16⟩
  | .hbm, ⟨16, _⟩ => ⟨S112x64x4096, .bf16⟩
  | .hbm, ⟨17, _⟩ => ⟨S112x64x4096, .bf16⟩
  | .hbm, ⟨18, _⟩ => ⟨S112x64x4096, .bf16⟩
  | .hbm, ⟨19, _⟩ => ⟨S112x64x4096, .bf16⟩
  | .hbm, ⟨20, _⟩ => ⟨S7168x4096, .bf16⟩
  | .hbm, ⟨21, _⟩ => ⟨S_, .i32⟩
  | .hbm, ⟨22, _⟩ => ⟨S7168x4096, .i32⟩
  | .hbm, ⟨23, _⟩ => ⟨S7168x4096, .i32⟩
  | .hbm, ⟨24, _⟩ => ⟨S7168x4096, .bf16⟩
  | .hbm, ⟨25, _⟩ => ⟨S112x64x4096, .bf16⟩
  | .hbm, ⟨26, _⟩ => ⟨S112x64x4096, .bf16⟩
  | .hbm, ⟨27, _⟩ => ⟨S112x64x4096, .bf16⟩
  | .hbm, ⟨28, _⟩ => ⟨S112x64x4096, .bf16⟩
  | .hbm, ⟨29, _⟩ => ⟨S112x64x4096, .bf16⟩
  | .hbm, ⟨30, _⟩ => ⟨S7168x4096, .bf16⟩
  | .hbm, ⟨31, _⟩ => ⟨S128x7168, .bf16⟩
  | .hbm, ⟨32, _⟩ => ⟨S128x4096, .f32⟩
  | .hbm, ⟨33, _⟩ => ⟨S128x7168, .bf16⟩
  | .hbm, ⟨34, _⟩ => ⟨S128x4096, .f32⟩
  | .hbm, ⟨35, _⟩ => ⟨S128x4096, .f32⟩
  | .hbm, ⟨36, _⟩ => ⟨S128x4096, .f32⟩
  | .hbm, ⟨37, _⟩ => ⟨S128x4096, .f32⟩
  | .hbm, ⟨38, _⟩ => ⟨S_, .f32⟩
  | .hbm, ⟨39, _⟩ => ⟨S128, .f32⟩
  | .hbm, ⟨40, _⟩ => ⟨S128x1, .f32⟩
  | .hbm, ⟨41, _⟩ => ⟨S_, .f32⟩
  | .hbm, ⟨42, _⟩ => ⟨S128x1, .f32⟩
  | .hbm, ⟨43, _⟩ => ⟨S128x1, .f32⟩
  | .hbm, ⟨44, _⟩ => ⟨S_, .f32⟩
  | .hbm, ⟨45, _⟩ => ⟨S128x1, .f32⟩
  | .hbm, ⟨46, _⟩ => ⟨S128x1, .f32⟩
  | .hbm, ⟨47, _⟩ => ⟨S128x1, .f32⟩
  | .hbm, ⟨48, _⟩ => ⟨S128x4096, .f32⟩
  | .hbm, ⟨49, _⟩ => ⟨S128x4096, .f32⟩
  | .hbm, ⟨50, _⟩ => ⟨S1x4096, .f32⟩
  | .hbm, ⟨51, _⟩ => ⟨S128x4096, .f32⟩
  | .hbm, ⟨52, _⟩ => ⟨S128x4096, .f32⟩
  | .hbm, ⟨53, _⟩ => ⟨S128x4096, .f32⟩
  | .hbm, ⟨54, _⟩ => ⟨S_, .f32⟩
  | .hbm, ⟨55, _⟩ => ⟨S128, .f32⟩
  | .hbm, ⟨56, _⟩ => ⟨S_, .f32⟩
  | .hbm, ⟨57, _⟩ => ⟨S128, .f32⟩
  | .hbm, ⟨58, _⟩ => ⟨S128, .i1⟩
  | .hbm, ⟨59, _⟩ => ⟨S_, .f32⟩
  | .hbm, ⟨60, _⟩ => ⟨S128, .f32⟩
  | .hbm, ⟨61, _⟩ => ⟨S128, .f32⟩
  | .hbm, ⟨62, _⟩ => ⟨S_, .f32⟩
  | .hbm, ⟨63, _⟩ => ⟨S_, .f32⟩
  | .hbm, ⟨64, _⟩ => ⟨S128, .f32⟩
  | .hbm, ⟨65, _⟩ => ⟨S128, .f32⟩
  | .hbm, ⟨66, _⟩ => ⟨S128x1, .f32⟩
  | .hbm, ⟨67, _⟩ => ⟨S128x4096, .f32⟩
  | .hbm, ⟨68, _⟩ => ⟨S128x4096, .f32⟩
  | .hbm, ⟨69, _⟩ => ⟨S128x4096, .f32⟩
  | .hbm, ⟨70, _⟩ => ⟨S_, .i32⟩
  | .hbm, ⟨71, _⟩ => ⟨S_, .i32⟩
  | .hbm, ⟨72, _⟩ => ⟨S_, .f32⟩
  | .hbm, ⟨73, _⟩ => ⟨S128x4096, .f32⟩
  | .hbm, ⟨74, _⟩ => ⟨S128x4096, .f32⟩
  | .hbm, ⟨75, _⟩ => ⟨S_, .f32⟩
  | .hbm, ⟨76, _⟩ => ⟨S128x4096, .f32⟩
  | .hbm, ⟨77, _⟩ => ⟨S128x4096, .f32⟩
  | .hbm, ⟨78, _⟩ => ⟨S128x4096, .i32⟩
  | .hbm, ⟨79, _⟩ => ⟨S128x4096, .i8⟩
  | .hbm, ⟨80, _⟩ => ⟨S128x4096, .bf16⟩
  | .hbm, ⟨81, _⟩ => ⟨S128x1, .f32⟩
  | .hbm, ⟨82, _⟩ => ⟨S128x128, .f32⟩
  | _, _ => ⟨S128x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst : Ref sig .tc := ⟨.hbm, 38, rfl⟩
abbrev main_v30 : Ref sig .tc := ⟨.hbm, 39, rfl⟩
abbrev main_v31 : Ref sig .tc := ⟨.hbm, 40, rfl⟩
abbrev main_cst_1 : Ref sig .tc := ⟨.hbm, 41, rfl⟩
abbrev main_v32 : Ref sig .tc := ⟨.hbm, 42, rfl⟩
abbrev main_v33 : Ref sig .tc := ⟨.hbm, 43, rfl⟩
abbrev main_cst_2 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_3 : Ref sig .tc := ⟨.hbm, 54, rfl⟩
abbrev main_v43 : Ref sig .tc := ⟨.hbm, 55, rfl⟩
abbrev main_cst_4 : Ref sig .tc := ⟨.hbm, 56, rfl⟩
abbrev main_v44 : Ref sig .tc := ⟨.hbm, 57, rfl⟩
abbrev main_v45 : Ref sig .tc := ⟨.hbm, 58, rfl⟩
abbrev main_cst_5 : Ref sig .tc := ⟨.hbm, 59, rfl⟩
abbrev main_v46 : Ref sig .tc := ⟨.hbm, 60, rfl⟩
abbrev main_v47 : Ref sig .tc := ⟨.hbm, 61, rfl⟩
abbrev main_cst_6 : Ref sig .tc := ⟨.hbm, 62, rfl⟩
abbrev main_call0_v0 : Ref sig .tc := ⟨.hbm, 63, rfl⟩
abbrev main_call0_v1 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_c_7 : Ref sig .tc := ⟨.hbm, 70, rfl⟩
abbrev main_c_8 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩

abbrev nD : Nat := 1
abbrev τ : Topo := Topo.v7x

variable {F : FTy → Type} [FloatOps F]
-- ==== Qkv.lean ====
abbrev S8 : Shape := ⟨1, ![8]⟩
abbrev S128x8192 : Shape := ⟨2, ![128, 8192]⟩
abbrev S4096x6144 : Shape := ⟨2, ![4096, 6144]⟩
abbrev S64x6144 : Shape := ⟨2, ![64, 6144]⟩
abbrev S128x64 : Shape := ⟨2, ![128, 64]⟩
abbrev S128x128 : Shape := ⟨2, ![128, 128]⟩
abbrev S128x4096 : Shape := ⟨2, ![128, 4096]⟩
abbrev S128x2048 : Shape := ⟨2, ![128, 2048]⟩
abbrev S4096x512 : Shape := ⟨2, ![4096, 512]⟩
abbrev S64x512 : Shape := ⟨2, ![64, 512]⟩
abbrev S128x512 : Shape := ⟨2, ![128, 512]⟩
abbrev S128x1x512 : Shape := ⟨3, ![128, 1, 512]⟩
abbrev S128x2x512 : Shape := ⟨3, ![128, 2, 512]⟩
abbrev S256x512 : Shape := ⟨2, ![256, 512]⟩
abbrev S2x8x16x512 : Shape := ⟨4, ![2, 8, 16, 512]⟩
abbrev S1x512 : Shape := ⟨2, ![1, 512]⟩
abbrev S16x512 : Shape := ⟨2, ![16, 512]⟩
abbrev S1x8x16x512 : Shape := ⟨4, ![1, 8, 16, 512]⟩
abbrev S8x16x512 : Shape := ⟨3, ![8, 16, 512]⟩
abbrev S1x16x512 : Shape := ⟨3, ![1, 16, 512]⟩
abbrev S128x256 : Shape := ⟨2, ![128, 256]⟩
abbrev S1 : Shape := ⟨1, ![1]⟩

abbrev nBuf : Space → Nat
  | .hbm => 13
  | .vmem => 15
  | .smem => 2
  | _ => 0

abbrev bufTy : (tb : Table) → Fin (tcTables nBuf tb) → BufTy
  | .hbm, ⟨0, _⟩ => ⟨S8, .f32⟩
  | .hbm, ⟨1, _⟩ => ⟨S8, .f32⟩
  | .hbm, ⟨2, _⟩ => ⟨S128x8192, .bf16⟩
  | .hbm, ⟨3, _⟩ => ⟨S4096x6144, .i8⟩
  | .hbm, ⟨4, _⟩ => ⟨S64x6144, .bf16⟩
  | .hbm, ⟨5, _⟩ => ⟨S64x6144, .i8⟩
  | .hbm, ⟨6, _⟩ => ⟨S128x64, .f32⟩
  | .hbm, ⟨7, _⟩ => ⟨S128x64, .f32⟩
  | .hbm, ⟨8, _⟩ => ⟨S128x128, .f32⟩
  | .hbm, ⟨9, _⟩ => ⟨S128x64, .f32⟩
  | .hbm, ⟨10, _⟩ => ⟨S128x128, .f32⟩
  | .hbm, ⟨11, _⟩ => ⟨S128x4096, .bf16⟩
  | .hbm, ⟨12, _⟩ => ⟨S128x2048, .fp8e4m3⟩
  | .local _ .vmem, ⟨0, _⟩ => ⟨S128x8192, .bf16⟩
  | .local _ .vmem, ⟨1, _⟩ => ⟨S4096x512, .i8⟩
  | .local _ .vmem, ⟨2, _⟩ => ⟨S4096x512, .i8⟩
  | .local _ .vmem, ⟨3, _⟩ => ⟨S64x512, .bf16⟩
  | .local _ .vmem, ⟨4, _⟩ => ⟨S64x512, .bf16⟩
  | .local _ .vmem, ⟨5, _⟩ => ⟨S64x512, .i8⟩
  | .local _ .vmem, ⟨6, _⟩ => ⟨S64x512, .i8⟩
  | .local _ .vmem, ⟨7, _⟩ => ⟨S128x128, .f32⟩
  | .local _ .vmem, ⟨8, _⟩ => ⟨S128x128, .f32⟩
  | .local _ .vmem, ⟨9, _⟩ => ⟨S128x512, .bf16⟩
  | .local _ .vmem, ⟨10, _⟩ => ⟨S128x512, .bf16⟩
  | .local _ .vmem, ⟨11, _⟩ => ⟨S128x512, .fp8e4m3⟩
  | .local _ .vmem, ⟨12, _⟩ => ⟨S128x512, .fp8e4m3⟩
  | .local _ .vmem, ⟨13, _⟩ => ⟨S64x512, .f32⟩
  | .local _ .vmem, ⟨14, _⟩ => ⟨S64x512, .f32⟩
  | .local _ .smem, ⟨0, _⟩ => ⟨S8, .f32⟩
  | .local _ .smem, ⟨1, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![12], ![false]⟩

def k0_cond2 (i : grid0.Coords) : BitVec 1 :=
  let arg0 : BitVec 32 := BitVec.ofNat 32 (i 0).val
  let c8_i32_374 : BitVec 32 := 8#32
  let v1613 : BitVec 1 := Scalar.cmpi .sge arg0 c8_i32_374
  let c10_i32 : BitVec 32 := 10#32
  let v1614 : BitVec 1 := Scalar.cmpi .slt arg0 c10_i32
  let v1615 : BitVec 1 := Scalar.andi v1613 v1614
  let v1616 : BitVec 32 := Scalar.extui v1615
  let c0_i32_375 : BitVec 32 := 0#32
  let v1617 : BitVec 1 := Scalar.cmpi .ne v1616 c0_i32_375
  v1617

def k0_off1 (i : grid0.Coords) (c0_i32_380 : BitVec 32) : Fin 1 → Nat :=
  let arg0 : BitVec 32 := BitVec.ofNat 32 (i 0).val
  let c8_i32_378 : BitVec 32 := 8#32
  let v1621 : BitVec 32 := Scalar.subi arg0 c8_i32_378
  let c4_i32_379 : BitVec 32 := 4#32
  let v1622 : BitVec 32 := Scalar.muli v1621 c4_i32_379
  let v1623 : BitVec 32 := Scalar.addi v1622 c0_i32_380
  let v1624 : Index := Scalar.indexCast v1623
  ![v1624.toNat]
def k0_cond3 (i : grid0.Coords) : BitVec 1 :=
  let arg0 : BitVec 32 := BitVec.ofNat 32 (i 0).val
  let c10_i32_376 : BitVec 32 := 10#32
  let v1618 : BitVec 1 := Scalar.cmpi .sge arg0 c10_i32_376
  let v1619 : BitVec 32 := Scalar.extui v1618
  let c0_i32_377 : BitVec 32 := 0#32
  let v1620 : BitVec 1 := Scalar.cmpi .ne v1619 c0_i32_377
  v1620

def k0_off2 (i : grid0.Coords) (c0_i32_380 : BitVec 32) : Fin 1 → Nat :=
  let arg0 : BitVec 32 := BitVec.ofNat 32 (i 0).val
  let c10_i32_378 : BitVec 32 := 10#32
  let v1621 : BitVec 32 := Scalar.subi arg0 c10_i32_378
  let c4_i32_379 : BitVec 32 := 4#32
  let v1622 : BitVec 32 := Scalar.muli v1621 c4_i32_379
  let v1623 : BitVec 32 := Scalar.addi v1622 c0_i32_380
  let v1624 : Index := Scalar.indexCast v1623
  ![v1624.toNat]
def k0_cond1 (i : grid0.Coords) : BitVec 1 :=
  let arg0 : BitVec 32 := BitVec.ofNat 32 (i 0).val
  let c8_i32 : BitVec 32 := 8#32
  let v1610 : BitVec 1 := Scalar.cmpi .slt arg0 c8_i32
  let v1611 : BitVec 32 := Scalar.extui v1610
  let c0_i32 : BitVec 32 := 0#32
  let v1612 : BitVec 1 := Scalar.cmpi .ne v1611 c0_i32
  v1612

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x512 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x512 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== QkvRefIdeal.lean ====
abbrev S8 : Shape := ⟨1, ![8]⟩
abbrev S128x8192 : Shape := ⟨2, ![128, 8192]⟩
abbrev S4096x6144 : Shape := ⟨2, ![4096, 6144]⟩
abbrev S64x6144 : Shape := ⟨2, ![64, 6144]⟩
abbrev S128x64 : Shape := ⟨2, ![128, 64]⟩
abbrev S64x1x6144 : Shape := ⟨3, ![64, 1, 6144]⟩
abbrev S_ : Shape := ⟨0, ![]⟩
abbrev S64x64x6144 : Shape := ⟨3, ![64, 64, 6144]⟩
abbrev S128x4096 : Shape := ⟨2, ![128, 4096]⟩
abbrev S128x6144 : Shape := ⟨2, ![128, 6144]⟩
abbrev S128x32x128 : Shape := ⟨3, ![128, 32, 128]⟩
abbrev S128x1024 : Shape := ⟨2, ![128, 1024]⟩
abbrev S128x8x128 : Shape := ⟨3, ![128, 8, 128]⟩
abbrev S128x1x64 : Shape := ⟨3, ![128, 1, 64]⟩
abbrev S128x32x64 : Shape := ⟨3, ![128, 32, 64]⟩
abbrev S128x8x64 : Shape := ⟨3, ![128, 8, 64]⟩
abbrev S8x1 : Shape := ⟨2, ![8, 1]⟩
abbrev S1x8x1 : Shape := ⟨3, ![1, 8, 1]⟩
abbrev S128x2048 : Shape := ⟨2, ![128, 2048]⟩

abbrev nBuf : Space → Nat
  | .hbm => 105
  | .vmem => 0
  | .smem => 0
  | _ => 0

abbrev bufTy : (tb : Table) → Fin (tcTables nBuf tb) → BufTy
  | .hbm, ⟨0, _⟩ => ⟨S8, .f32⟩
  | .hbm, ⟨1, _⟩ => ⟨S8, .f32⟩
  | .hbm, ⟨2, _⟩ => ⟨S128x8192, .bf16⟩
  | .hbm, ⟨3, _⟩ => ⟨S4096x6144, .i8⟩
  | .hbm, ⟨4, _⟩ => ⟨S64x6144, .bf16⟩
  | .hbm, ⟨5, _⟩ => ⟨S64x6144, .i8⟩
  | .hbm, ⟨6, _⟩ => ⟨S128x64, .f32⟩
  | .hbm, ⟨7, _⟩ => ⟨S128x64, .f32⟩
  | .hbm, ⟨8, _⟩ => ⟨S64x6144, .i32⟩
  | .hbm, ⟨9, _⟩ => ⟨S64x6144, .bf16⟩
  | .hbm, ⟨10, _⟩ => ⟨S64x1x6144, .bf16⟩
  | .hbm, ⟨11, _⟩ => ⟨S64x1x6144, .bf16⟩
  | .hbm, ⟨12, _⟩ => ⟨S4096x6144, .i32⟩
  | .hbm, ⟨13, _⟩ => ⟨S_, .i32⟩
  | .hbm, ⟨14, _⟩ => ⟨S4096x6144, .i32⟩
  | .hbm, ⟨15, _⟩ => ⟨S4096x6144, .i32⟩
  | .hbm, ⟨16, _⟩ => ⟨S4096x6144, .bf16⟩
  | .hbm, ⟨17, _⟩ => ⟨S64x64x6144, .bf16⟩
  | .hbm, ⟨18, _⟩ => ⟨S64x64x6144, .bf16⟩
  | .hbm, ⟨19, _⟩ => ⟨S64x64x6144, .bf16⟩
  | .hbm, ⟨20, _⟩ => ⟨S64x64x6144, .bf16⟩
  | .hbm, ⟨21, _⟩ => ⟨S64x64x6144, .bf16⟩
  | .hbm, ⟨22, _⟩ => ⟨S4096x6144, .bf16⟩
  | .hbm, ⟨23, _⟩ => ⟨S_, .i32⟩
  | .hbm, ⟨24, _⟩ => ⟨S4096x6144, .i32⟩
  | .hbm, ⟨25, _⟩ => ⟨S4096x6144, .i32⟩
  | .hbm, ⟨26, _⟩ => ⟨S4096x6144, .bf16⟩
  | .hbm, ⟨27, _⟩ => ⟨S64x64x6144, .bf16⟩
  | .hbm, ⟨28, _⟩ => ⟨S64x64x6144, .bf16⟩
  | .hbm, ⟨29, _⟩ => ⟨S64x64x6144, .bf16⟩
  | .hbm, ⟨30, _⟩ => ⟨S64x64x6144, .bf16⟩
  | .hbm, ⟨31, _⟩ => ⟨S64x64x6144, .bf16⟩
  | .hbm, ⟨32, _⟩ => ⟨S4096x6144, .bf16⟩
  | .hbm, ⟨33, _⟩ => ⟨S128x4096, .bf16⟩
  | .hbm, ⟨34, _⟩ => ⟨S128x6144, .f32⟩
  | .hbm, ⟨35, _⟩ => ⟨S128x4096, .bf16⟩
  | .hbm, ⟨36, _⟩ => ⟨S128x6144, .f32⟩
  | .hbm, ⟨37, _⟩ => ⟨S128x6144, .f32⟩
  | .hbm, ⟨38, _⟩ => ⟨S128x4096, .f32⟩
  | .hbm, ⟨39, _⟩ => ⟨S128x32x128, .f32⟩
  | .hbm, ⟨40, _⟩ => ⟨S128x1024, .f32⟩
  | .hbm, ⟨41, _⟩ => ⟨S128x8x128, .f32⟩
  | .hbm, ⟨42, _⟩ => ⟨S128x1024, .f32⟩
  | .hbm, ⟨43, _⟩ => ⟨S128x8x128, .f32⟩
  | .hbm, ⟨44, _⟩ => ⟨S128x1x64, .f32⟩
  | .hbm, ⟨45, _⟩ => ⟨S128x1x64, .f32⟩
  | .hbm, ⟨46, _⟩ => ⟨S128x32x64, .f32⟩
  | .hbm, ⟨47, _⟩ => ⟨S128x32x64, .f32⟩
  | .hbm, ⟨48, _⟩ => ⟨S128x32x64, .f32⟩
  | .hbm, ⟨49, _⟩ => ⟨S128x32x64, .f32⟩
  | .hbm, ⟨50, _⟩ => ⟨S128x32x64, .f32⟩
  | .hbm, ⟨51, _⟩ => ⟨S128x32x64, .f32⟩
  | .hbm, ⟨52, _⟩ => ⟨S128x32x64, .f32⟩
  | .hbm, ⟨53, _⟩ => ⟨S128x32x64, .f32⟩
  | .hbm, ⟨54, _⟩ => ⟨S128x32x64, .f32⟩
  | .hbm, ⟨55, _⟩ => ⟨S128x32x64, .f32⟩
  | .hbm, ⟨56, _⟩ => ⟨S128x32x64, .f32⟩
  | .hbm, ⟨57, _⟩ => ⟨S128x32x64, .f32⟩
  | .hbm, ⟨58, _⟩ => ⟨S128x32x128, .f32⟩
  | .hbm, ⟨59, _⟩ => ⟨S128x1x64, .f32⟩
  | .hbm, ⟨60, _⟩ => ⟨S128x1x64, .f32⟩
  | .hbm, ⟨61, _⟩ => ⟨S128x8x64, .f32⟩
  | .hbm, ⟨62, _⟩ => ⟨S128x8x64, .f32⟩
  | .hbm, ⟨63, _⟩ => ⟨S128x8x64, .f32⟩
  | .hbm, ⟨64, _⟩ => ⟨S128x8x64, .f32⟩
  | .hbm, ⟨65, _⟩ => ⟨S128x8x64, .f32⟩
  | .hbm, ⟨66, _⟩ => ⟨S128x8x64, .f32⟩
  | .hbm, ⟨67, _⟩ => ⟨S128x8x64, .f32⟩
  | .hbm, ⟨68, _⟩ => ⟨S128x8x64, .f32⟩
  | .hbm, ⟨69, _⟩ => ⟨S128x8x64, .f32⟩
  | .hbm, ⟨70, _⟩ => ⟨S128x8x64, .f32⟩
  | .hbm, ⟨71, _⟩ => ⟨S128x8x64, .f32⟩
  | .hbm, ⟨72, _⟩ => ⟨S128x8x64, .f32⟩
  | .hbm, ⟨73, _⟩ => ⟨S128x8x128, .f32⟩
  | .hbm, ⟨74, _⟩ => ⟨S8x1, .f32⟩
  | .hbm, ⟨75, _⟩ => ⟨S1x8x1, .f32⟩
  | .hbm, ⟨76, _⟩ => ⟨S128x8x128, .f32⟩
  | .hbm, ⟨77, _⟩ => ⟨S128x8x128, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S128x8x128, .f32⟩
  | .hbm, ⟨82, _⟩ => ⟨S128x8x128, .f32⟩
  | .hbm, ⟨83, _⟩ => ⟨S_, .f32⟩
  | .hbm, ⟨84, _⟩ => ⟨S128x8x128, .f32⟩
  | .hbm, ⟨85, _⟩ => ⟨S128x8x128, .f32⟩
  | .hbm, ⟨86, _⟩ => ⟨S128x8x128, .fp8e4m3⟩
  | .hbm, ⟨87, _⟩ => ⟨S8x1, .f32⟩
  | .hbm, ⟨88, _⟩ => ⟨S1x8x1, .f32⟩
  | .hbm, ⟨89, _⟩ => ⟨S128x8x128, .f32⟩
  | .hbm, ⟨90, _⟩ => ⟨S128x8x128, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S128x8x128, .f32⟩
  | .hbm, ⟨95, _⟩ => ⟨S128x8x128, .f32⟩
  | .hbm, ⟨96, _⟩ => ⟨S_, .f32⟩
  | .hbm, ⟨97, _⟩ => ⟨S128x8x128, .f32⟩
  | .hbm, ⟨98, _⟩ => ⟨S128x8x128, .f32⟩
  | .hbm, ⟨99, _⟩ => ⟨S128x8x128, .fp8e4m3⟩
  | .hbm, ⟨100, _⟩ => ⟨S128x32x128, .bf16⟩
  | .hbm, ⟨101, _⟩ => ⟨S128x4096, .bf16⟩
  | .hbm, ⟨102, _⟩ => ⟨S128x1024, .fp8e4m3⟩
  | .hbm, ⟨103, _⟩ => ⟨S128x1024, .fp8e4m3⟩
  | .hbm, ⟨104, _⟩ => ⟨S128x2048, .fp8e4m3⟩
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_cst : Ref sig .tc := ⟨.hbm, 78, rfl⟩
abbrev main_cst_1 : Ref sig .tc := ⟨.hbm, 79, rfl⟩
abbrev main_call0_v0 : Ref sig .tc := ⟨.hbm, 80, rfl⟩
abbrev main_call0_v1 : Ref sig .tc := ⟨.hbm, 81, rfl⟩
abbrev main_call0_v2 : Ref sig .tc := ⟨.hbm, 82, rfl⟩
abbrev main_call0_v3 : Ref sig .tc := ⟨.hbm, 83, rfl⟩
abbrev main_call0_v4 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_cst_2 : Ref sig .tc := ⟨.hbm, 91, rfl⟩
abbrev main_cst_3 : Ref sig .tc := ⟨.hbm, 92, rfl⟩
abbrev main_call1_v0 : Ref sig .tc := ⟨.hbm, 93, rfl⟩
abbrev main_call1_v1 : Ref sig .tc := ⟨.hbm, 94, rfl⟩
abbrev main_call1_v2 : Ref sig .tc := ⟨.hbm, 95, rfl⟩
abbrev main_call1_v3 : Ref sig .tc := ⟨.hbm, 96, rfl⟩
abbrev main_call1_v4 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩

abbrev nD : Nat := 1
abbrev τ : Topo := Topo.v7x

variable {F : FTy → Type} [FloatOps F]
-- ==== Oproj.lean ====
abbrev S128x4096 : Shape := ⟨2, ![128, 4096]⟩
abbrev S2048x4096 : Shape := ⟨2, ![2048, 4096]⟩
abbrev S32x4096 : Shape := ⟨2, ![32, 4096]⟩
abbrev S4096 : Shape := ⟨1, ![4096]⟩
abbrev S1x4096 : Shape := ⟨2, ![1, 4096]⟩
abbrev S2048x512 : Shape := ⟨2, ![2048, 512]⟩
abbrev S32x512 : Shape := ⟨2, ![32, 512]⟩
abbrev S128x512 : Shape := ⟨2, ![128, 512]⟩
abbrev S128x1x512 : Shape := ⟨3, ![128, 1, 512]⟩
abbrev S128x2x512 : Shape := ⟨3, ![128, 2, 512]⟩
abbrev S256x512 : Shape := ⟨2, ![256, 512]⟩
abbrev S2x8x16x512 : Shape := ⟨4, ![2, 8, 16, 512]⟩
abbrev S1x512 : Shape := ⟨2, ![1, 512]⟩
abbrev S16x512 : Shape := ⟨2, ![16, 512]⟩
abbrev S1x8x16x512 : Shape := ⟨4, ![1, 8, 16, 512]⟩
abbrev S8x16x512 : Shape := ⟨3, ![8, 16, 512]⟩
abbrev S1x16x512 : Shape := ⟨3, ![1, 16, 512]⟩
abbrev S128x256 : Shape := ⟨2, ![128, 256]⟩
abbrev S16x4096 : Shape := ⟨2, ![16, 4096]⟩
abbrev S16 : Shape := ⟨1, ![16]⟩
abbrev S16x1 : Shape := ⟨2, ![16, 1]⟩

abbrev nBuf : Space → Nat
  | .hbm => 9
  | .vmem => 13
  | .smem => 0
  | _ => 0

abbrev bufTy : (tb : Table) → Fin (tcTables nBuf tb) → BufTy
  | .hbm, ⟨0, _⟩ => ⟨S128x4096, .bf16⟩
  | .hbm, ⟨1, _⟩ => ⟨S2048x4096, .i8⟩
  | .hbm, ⟨2, _⟩ => ⟨S32x4096, .bf16⟩
  | .hbm, ⟨3, _⟩ => ⟨S32x4096, .i8⟩
  | .hbm, ⟨4, _⟩ => ⟨S128x4096, .bf16⟩
  | .hbm, ⟨5, _⟩ => ⟨S4096, .f32⟩
  | .hbm, ⟨6, _⟩ => ⟨S1x4096, .f32⟩
  | .hbm, ⟨7, _⟩ => ⟨S128x4096, .f32⟩
  | .hbm, ⟨8, _⟩ => ⟨S128x4096, .bf16⟩
  | .local _ .vmem, ⟨0, _⟩ => ⟨S128x4096, .bf16⟩
  | .local _ .vmem, ⟨1, _⟩ => ⟨S2048x512, .i8⟩
  | .local _ .vmem, ⟨2, _⟩ => ⟨S2048x512, .i8⟩
  | .local _ .vmem, ⟨3, _⟩ => ⟨S32x512, .bf16⟩
  | .local _ .vmem, ⟨4, _⟩ => ⟨S32x512, .bf16⟩
  | .local _ .vmem, ⟨5, _⟩ => ⟨S32x512, .i8⟩
  | .local _ .vmem, ⟨6, _⟩ => ⟨S32x512, .i8⟩
  | .local _ .vmem, ⟨7, _⟩ => ⟨S128x4096, .bf16⟩
  | .local _ .vmem, ⟨8, _⟩ => ⟨S1x4096, .f32⟩
  | .local _ .vmem, ⟨9, _⟩ => ⟨S128x4096, .f32⟩
  | .local _ .vmem, ⟨10, _⟩ => ⟨S128x4096, .bf16⟩
  | .local _ .vmem, ⟨11, _⟩ => ⟨S32x512, .f32⟩
  | .local _ .vmem, ⟨12, _⟩ => ⟨S32x512, .f32⟩
  | _, _ => ⟨S128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![8], ![false]⟩

def k0_mult1 (i : grid0.Coords) : BitVec 32 :=
  let arg0 : BitVec 32 := BitVec.ofNat 32 (i 0).val
  let c512_i32 : BitVec 32 := 512#32
  let v11 : BitVec 32 := Scalar.muli arg0 c512_i32
  v11
def k0_off1 (i : grid0.Coords) : Fin 2 → Nat :=
  let c0_7 : Index := 0#32
  let arg0 : BitVec 32 := BitVec.ofNat 32 (i 0).val
  let c512_i32 : BitVec 32 := 512#32
  let v11 : BitVec 32 := Scalar.muli arg0 c512_i32
  let v12 : BitVec 32 := v11
  let v13 : Index := Scalar.indexCast v12
  ![0, v13.toNat]
def k0_cond1 (i : grid0.Coords) : BitVec 1 :=
  let arg0 : BitVec 32 := BitVec.ofNat 32 (i 0).val
  let c7_i32 : BitVec 32 := 7#32
  let v818 : BitVec 1 := Scalar.cmpi .eq arg0 c7_i32
  let v819 : BitVec 32 := Scalar.extui v818
  let c0_i32 : BitVec 32 := 0#32
  let v820 : BitVec 1 := Scalar.cmpi .ne v819 c0_i32
  v820

@[reducible] def k0_t1_loop : Scf.Loop 32 :=
  let c0_i32_192 : BitVec 32 := 0#32
  let c8_i32 : BitVec 32 := 8#32
  let v821 : BitVec 32 := Scalar.addi c0_i32_192 c8_i32
  let c1_i32 : BitVec 32 := 1#32
  ⟨c0_i32_192, v821, c1_i32⟩
def k0_mult2 (k0_t1 : Fin k0_t1_loop.trips) : BitVec 32 :=
  let c0_i32_192 : BitVec 32 := 0#32
  let c1_i32 : BitVec 32 := 1#32
  let arg11 : BitVec 32 := Scf.iv c0_i32_192 c1_i32 k0_t1
  let c16_i32 : BitVec 32 := 16#32
  let v822 : BitVec 32 := Scalar.muli arg11 c16_i32
  v822
def k0_off2 (k0_t1 : Fin k0_t1_loop.trips) : Fin 2 → Nat :=
  let c0_i32_192 : BitVec 32 := 0#32
  let c1_i32 : BitVec 32 := 1#32
  let arg11 : BitVec 32 := Scf.iv c0_i32_192 c1_i32 k0_t1
  let c16_i32 : BitVec 32 := 16#32
  let v822 : BitVec 32 := Scalar.muli arg11 c16_i32
  let v823 : BitVec 32 := v822
  let v824 : Index := Scalar.indexCast v823
  let c0_194 : Index := 0#32
  ![v824.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== OprojRefIdeal.lean ====
abbrev S128x4096 : Shape := ⟨2, ![128, 4096]⟩
abbrev S2048x4096 : Shape := ⟨2, ![2048, 4096]⟩
abbrev S32x4096 : Shape := ⟨2, ![32, 4096]⟩
abbrev S4096 : Shape := ⟨1, ![4096]⟩
abbrev S32x1x4096 : Shape := ⟨3, ![32, 1, 4096]⟩
abbrev S_ : Shape := ⟨0, ![]⟩
abbrev S32x64x4096 : Shape := ⟨3, ![32, 64, 4096]⟩
abbrev S128x2048 : Shape := ⟨2, ![128, 2048]⟩
abbrev S128 : Shape := ⟨1, ![128]⟩
abbrev S128x1 : Shape := ⟨2, ![128, 1]⟩
abbrev S1x4096 : Shape := ⟨2, ![1, 4096]⟩

abbrev nBuf : Space → Nat
  | .hbm => 55
  | .vmem => 0
  | .smem => 0
  | _ => 0

abbrev bufTy : (tb : Table) → Fin (tcTables nBuf tb) → BufTy
  | .hbm, ⟨0, _⟩ => ⟨S128x4096, .bf16⟩
  | .hbm, ⟨1, _⟩ => ⟨S2048x4096, .i8⟩
  | .hbm, ⟨2, _⟩ => ⟨S32x4096, .bf16⟩
  | .hbm, ⟨3, _⟩ => ⟨S32x4096, .i8⟩
  | .hbm, ⟨4, _⟩ => ⟨S128x4096, .bf16⟩
  | .hbm, ⟨5, _⟩ => ⟨S4096, .f32⟩
  | .hbm, ⟨6, _⟩ => ⟨S128x4096, .f32⟩
  | .hbm, ⟨7, _⟩ => ⟨S32x4096, .i32⟩
  | .hbm, ⟨8, _⟩ => ⟨S32x4096, .bf16⟩
  | .hbm, ⟨9, _⟩ => ⟨S32x1x4096, .bf16⟩
  | .hbm, ⟨10, _⟩ => ⟨S32x1x4096, .bf16⟩
  | .hbm, ⟨11, _⟩ => ⟨S2048x4096, .i32⟩
  | .hbm, ⟨12, _⟩ => ⟨S_, .i32⟩
  | .hbm, ⟨13, _⟩ => ⟨S2048x4096, .i32⟩
  | .hbm, ⟨14, _⟩ => ⟨S2048x4096, .i32⟩
  | .hbm, ⟨15, _⟩ => ⟨S2048x4096, .bf16⟩
  | .hbm, ⟨16, _⟩ => ⟨S32x64x4096, .bf16⟩
  | .hbm, ⟨17, _⟩ => ⟨S32x64x4096, .bf16⟩
  | .hbm, ⟨18, _⟩ => ⟨S32x64x4096, .bf16⟩
  | .hbm, ⟨19, _⟩ => ⟨S32x64x4096, .bf16⟩
  | .hbm, ⟨20, _⟩ => ⟨S32x64x4096, .bf16⟩
  | .hbm, ⟨21, _⟩ => ⟨S2048x4096, .bf16⟩
  | .hbm, ⟨22, _⟩ => ⟨S_, .i32⟩
  | .hbm, ⟨23, _⟩ => ⟨S2048x4096, .i32⟩
  | .hbm, ⟨24, _⟩ => ⟨S2048x4096, .i32⟩
  | .hbm, ⟨25, _⟩ => ⟨S2048x4096, .bf16⟩
  | .hbm, ⟨26, _⟩ => ⟨S32x64x4096, .bf16⟩
  | .hbm, ⟨27, _⟩ => ⟨S32x64x4096, .bf16⟩
  | .hbm, ⟨28, _⟩ => ⟨S32x64x4096, .bf16⟩
  | .hbm, ⟨29, _⟩ => ⟨S32x64x4096, .bf16⟩
  | .hbm, ⟨30, _⟩ => ⟨S32x64x4096, .bf16⟩
  | .hbm, ⟨31, _⟩ => ⟨S2048x4096, .bf16⟩
  | .hbm, ⟨32, _⟩ => ⟨S128x2048, .bf16⟩
  | .hbm, ⟨33, _⟩ => ⟨S128x4096, .f32⟩
  | .hbm, ⟨34, _⟩ => ⟨S128x2048, .bf16⟩
  | .hbm, ⟨35, _⟩ => ⟨S128x4096, .f32⟩
  | .hbm, ⟨36, _⟩ => ⟨S128x4096, .f32⟩
  | .hbm, ⟨37, _⟩ => ⟨S128x4096, .f32⟩
  | .hbm, ⟨38, _⟩ => ⟨S128x4096, .f32⟩
  | .hbm, ⟨39, _⟩ => ⟨S_, .f32⟩
  | .hbm, ⟨40, _⟩ => ⟨S128, .f32⟩
  | .hbm, ⟨41, _⟩ => ⟨S128x1, .f32⟩
  | .hbm, ⟨42, _⟩ => ⟨S_, .f32⟩
  | .hbm, ⟨43, _⟩ => ⟨S128x1, .f32⟩
  | .hbm, ⟨44, _⟩ => ⟨S128x1, .f32⟩
  | .hbm, ⟨45, _⟩ => ⟨S_, .f32⟩
  | .hbm, ⟨46, _⟩ => ⟨S128x1, .f32⟩
  | .hbm, ⟨47, _⟩ => ⟨S128x1, .f32⟩
  | .hbm, ⟨48, _⟩ => ⟨S128x1, .f32⟩
  | .hbm, ⟨49, _⟩ => ⟨S128x4096, .f32⟩
  | .hbm, ⟨50, _⟩ => ⟨S128x4096, .f32⟩
  | .hbm, ⟨51, _⟩ => ⟨S1x4096, .f32⟩
  | .hbm, ⟨52, _⟩ => ⟨S128x4096, .f32⟩
  | .hbm, ⟨53, _⟩ => ⟨S128x4096, .f32⟩
  | .hbm, ⟨54, _⟩ => ⟨S128x4096, .bf16⟩
  | _, _ => ⟨S128x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst : Ref sig .tc := ⟨.hbm, 39, rfl⟩
abbrev main_v31 : Ref sig .tc := ⟨.hbm, 40, rfl⟩
abbrev main_v32 : Ref sig .tc := ⟨.hbm, 41, rfl⟩
abbrev main_cst_1 : Ref sig .tc := ⟨.hbm, 42, rfl⟩
abbrev main_v33 : Ref sig .tc := ⟨.hbm, 43, rfl⟩
abbrev main_v34 : Ref sig .tc := ⟨.hbm, 44, rfl⟩
abbrev main_cst_2 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩

abbrev nD : Nat := 1
abbrev τ : Topo := Topo.v7x

variable {F : FTy → Type} [FloatOps F]
-- ==== Proof.Awq.lean ====
/- The arithmetic shared by the calls whose weights are packed four-bit integers: one block of 128 packed rows, taken apart,
   shifted, scaled and multiplied from the left, read at an index of the result; and the sum of the blocks as two sums over
   all packed rows, the low nibbles' and the high nibbles'. -/
module

public import Idealize.ShloMosaic.Lib.Pointwise
public import Idealize.ShloMosaic.Lib.Pipeline.Value

@[expose] public section

noncomputable section

namespace Awq

open Idealize.ShloMosaic

abbrev S1x512 : Shape := ⟨2, ![1, 512]⟩
abbrev S16x512 : Shape := ⟨2, ![16, 512]⟩
abbrev S1x16x512 : Shape := ⟨3, ![1, 16, 512]⟩
abbrev S8x16x512 : Shape := ⟨3, ![8, 16, 512]⟩
abbrev S1x8x16x512 : Shape := ⟨4, ![1, 8, 16, 512]⟩
abbrev S2x8x16x512 : Shape := ⟨4, ![2, 8, 16, 512]⟩
abbrev S128x512 : Shape := ⟨2, ![128, 512]⟩
abbrev S128x1x512 : Shape := ⟨3, ![128, 1, 512]⟩
abbrev S128x2x512 : Shape := ⟨3, ![128, 2, 512]⟩
abbrev S256x512 : Shape := ⟨2, ![256, 512]⟩
abbrev S128x256 : Shape := ⟨2, ![128, 256]⟩

/-! The side conditions of the operations below. -/

theorem lt_8_32 : 8 < 32 := by decide
theorem c1 : S128x512.ShapeCasts S128x1x512 := by decide
theorem k1 : Shape.Concatenates [S128x1x512, S128x1x512] S128x2x512 1 := by decide
theorem c2 : S128x2x512.ShapeCasts S256x512 := by decide
theorem c3 : S256x512.ShapeCasts S2x8x16x512 := by decide
theorem c4 : S1x512.ShapeCasts S1x512 := by decide
theorem b1 : S1x512.Broadcasts S16x512 := by decide
theorem lt_bf16 : FTy.bits .bf16 < FTy.bits .f32 := by decide
theorem c5 : S1x8x16x512.ShapeCasts S8x16x512 := by decide
theorem c6 : S16x512.ShapeCasts S1x16x512 := by decide
theorem b2 : S1x16x512.Broadcasts S8x16x512 := by decide
theorem c7 : S8x16x512.ShapeCasts S128x512 := by decide
theorem k2 : Shape.Concatenates [S128x512, S128x512] S256x512 0 := by decide
theorem sl0 : S2x8x16x512.Slices ![0, 0, 0, 0] S1x8x16x512 := by decide
theorem sl1 : S2x8x16x512.Slices ![1, 0, 0, 0] S1x8x16x512 := by decide
theorem dot_wf : DotDims.WF S128x256 S256x512 S128x512 [1] [0] [0] [1] [] [] := by decide

/-- The contraction of a 128 × 256 block with a 256 × 512 block. -/
def dot : DotDims S128x256 S256x512 S128x512 where
  lhsContracting := [1]
  rhsContracting := [0]
  lhsNonContracting := [0]
  rhsNonContracting := [1]
  lhsBatch := []
  rhsBatch := []
  wf := dot_wf

/-- The 128 packed rows as 256 rows of nibbles, the low one before the high one. -/
def nibbles {F : FTy → Type} [FloatOps F] (w : IVec S128x512 8) : FVec F S2x8x16x512 .bf16 :=
  have a : IVec S128x512 32 := extui 32 w lt_8_32
  have lo : IVec S128x512 32 := andi a (broadcast S128x512 15#32)
  have hi : IVec S128x512 32 := shrsi a (broadcast S128x512 4#32)
  have lo1 : IVec S128x1x512 32 := shapeCast S128x1x512 lo c1
  have hi1 : IVec S128x1x512 32 := shapeCast S128x1x512 hi c1
  have both : IVec S128x2x512 32 := concatenate S128x2x512 1 [⟨S128x1x512, lo1⟩, ⟨S128x1x512, hi1⟩] k1
  have flat : IVec S256x512 32 := shapeCast S256x512 both c2
  have fl : FVec F S256x512 .bf16 := sitofp .bf16 flat
  shapeCast S2x8x16x512 fl c3

/-- A row of scales, repeated over the sixteen rows of a tile. -/
def row16 {F : FTy → Type} [FloatOps F] (v : FVec F S1x512 .f32) : FVec F S16x512 .bf16 :=
  have v1 : FVec F S1x512 .f32 := shapeCast S1x512 v c4
  have v2 : FVec F S16x512 .f32 := broadcastTo S16x512 v1 b1
  truncf .bf16 v2 lt_bf16

/-- One group of 128 rows, shifted by its row `z` and scaled by its row `s`. -/
def group {F : FTy → Type} [FloatOps F] (q : FVec F S1x8x16x512 .bf16) (s z : FVec F S1x512 .f32) : FVec F S128x512 .bf16 :=
  have sb : FVec F S16x512 .bf16 := row16 s
  have zb : FVec F S16x512 .bf16 := row16 z
  have q3 : FVec F S8x16x512 .bf16 := shapeCast S8x16x512 q c5
  have z1 : FVec F S1x16x512 .bf16 := shapeCast S1x16x512 zb c6
  have z3 : FVec F S8x16x512 .bf16 := broadcastTo S8x16x512 z1 b2
  have d : FVec F S8x16x512 .bf16 := subf q3 z3
  have s1 : FVec F S1x16x512 .bf16 := shapeCast S1x16x512 sb c6
  have s3 : FVec F S8x16x512 .bf16 := broadcastTo S8x16x512 s1 b2
  have e : FVec F S8x16x512 .bf16 := mulf d s3
  shapeCast S128x512 e c7

/-- One block: 256 columns of the left operand times the 256 rows that 128 packed rows hold. -/
def block {F : FTy → Type} [FloatOps F] (x : FVec F S128x256 .bf16) (w : IVec S128x512 8) (s0 z0 s1 z1 : FVec F S1x512 .f32) :
    FVec F S128x512 .f32 :=
  have q : FVec F S2x8x16x512 .bf16 := nibbles w
  have a : FVec F S128x512 .bf16 := group (extractStridedSlice S1x8x16x512 ![0, 0, 0, 0] q sl0) s0 z0
  have b : FVec F S128x512 .bf16 := group (extractStridedSlice S1x8x16x512 ![1, 0, 0, 0] q sl1) s1 z1
  have wd : FVec F S256x512 .bf16 := concatenate S256x512 0 [⟨S128x512, a⟩, ⟨S128x512, b⟩] k2
  matmul dot none x wd (constant S128x512 .f32 0x00000000#32)

/-- The low nibble of a packed byte. -/
def lo (b : BitVec 8) : EReal := (((IntOp.andi (b.setWidth 32) 15#32).toInt : ℝ) : EReal)
/-- The high nibble of a packed byte. -/
def hi (b : BitVec 8) : EReal := (((IntOp.shrsi .vector (b.setWidth 32) 4#32).toInt : ℝ) : EReal)

/-- A nibble at its place: packed row `16·(8·a + b)/2 + c/2`, the low half where `c` is even. -/
theorem nibbles_apply (w : IVec S128x512 8) (a : Fin 2) (b : Fin 8) (c : Fin 16) (l : Fin 512) :
    nibbles (F := Ideal) w (ix4 a b c l)
      = if (a.val * 128 + b.val * 16 + c.val) % 2 < 1
        then lo (w (ix2 ⟨(a.val * 128 + b.val * 16 + c.val) / 2, by omega⟩ l))
        else hi (w (ix2 ⟨(a.val * 128 + b.val * 16 + c.val) / 2, by omega⟩ l)) := by
  pointwise [nibbles]
  split <;> rfl

/-- A group's element: the nibble less the zero point, times the scale. -/
theorem group_apply (q : FVec Ideal S1x8x16x512 .bf16) (s z : FVec Ideal S1x512 .f32) (r : Fin 128) (l : Fin 512) :
    group q s z (ix2 r l) = (q (ix4 0 ⟨r / 16, by omega⟩ ⟨r % 16, by omega⟩ l) - z (ix2 0 l)) * s (ix2 0 l) := by
  pointwise [group, row16]

/-- A sum over `n * m` indices, as a sum over `n` runs of `m`. -/
theorem sum_runs {M : Type} [AddCommMonoid M] {N : ℕ} (n m : ℕ) (h : N = n * m) (f : Fin N → M) :
    ∑ k, f k = ∑ t : Fin n, ∑ r : Fin m, f ⟨m * t.val + r.val, by
      subst h; have := t.isLt; have := r.isLt
      calc m * t.val + r.val < m * t.val + m := by omega
        _ = m * (t.val + 1) := by ring
        _ ≤ m * n := Nat.mul_le_mul_left _ (by omega)
        _ = n * m := Nat.mul_comm _ _⟩ := by
  subst h
  rw [← Equiv.sum_comp finProdFinEquiv, Fintype.sum_prod_type]
  refine Finset.sum_congr rfl fun t _ => Finset.sum_congr rfl fun r _ => ?_
  congr 1
  ext
  simp [finProdFinEquiv, Nat.add_comm]

/-- One half of a block: 64 packed rows under one row of scales, both nibbles of each row side by side. -/
theorem half_apply (x : Fin 128 → EReal) (w : IVec S128x512 8) (o : ℕ) (ho : o < 2) (s z : FVec Ideal S1x512 .f32)
    (q : FVec Ideal S1x8x16x512 .bf16) (hq : ∀ b c l, q (ix4 0 b c l) = nibbles (F := Ideal) w (ix4 ⟨o, ho⟩ b c l)) (l : Fin 512) :
    ∑ k : Fin 128, x k * group q s z (ix2 k l)
      = ∑ r : Fin 64, (x ⟨2 * r, by omega⟩ * ((lo (w (ix2 ⟨64 * o + r, by omega⟩ l)) - z (ix2 0 l)) * s (ix2 0 l))
          + x ⟨2 * r + 1, by omega⟩ * ((hi (w (ix2 ⟨64 * o + r, by omega⟩ l)) - z (ix2 0 l)) * s (ix2 0 l))) := by
  rw [sum_runs 64 2 rfl]
  refine Finset.sum_congr rfl fun r _ => ?_
  rw [Fin.sum_univ_two]
  simp only [group_apply, hq, nibbles_apply]
  have e0 : (o * 128 + (2 * r.val) / 16 * 16 + (2 * r.val) % 16) % 2 < 1 := by omega
  have e1 : ¬ (o * 128 + (2 * r.val + 1) / 16 * 16 + (2 * r.val + 1) % 16) % 2 < 1 := by omega
  have d0 : (o * 128 + (2 * r.val) / 16 * 16 + (2 * r.val) % 16) / 2 = 64 * o + r := by omega
  have d1 : (o * 128 + (2 * r.val + 1) / 16 * 16 + (2 * r.val + 1) % 16) / 2 = 64 * o + r := by omega
  simp only [Fin.val_zero, Fin.val_one, Nat.add_zero, if_pos e0, if_neg e1, d0, d1]

/-- The two halves of the nibbles, each read where it stands. -/
theorem slice0_apply (q : FVec Ideal S2x8x16x512 .bf16) (b : Fin 8) (c : Fin 16) (l : Fin 512) :
    extractStridedSlice S1x8x16x512 ![0, 0, 0, 0] q sl0 (ix4 0 b c l) = q (ix4 0 b c l) := by
  pointwise

theorem slice1_apply (q : FVec Ideal S2x8x16x512 .bf16) (b : Fin 8) (c : Fin 16) (l : Fin 512) :
    extractStridedSlice S1x8x16x512 ![1, 0, 0, 0] q sl1 (ix4 0 b c l) = q (ix4 1 b c l) := by
  pointwise

/-- A product whose right operand is two groups, one above the other, is the sum of the two groups' products. -/
theorem dot_concat_apply (x : FVec Ideal S128x256 .bf16) (a b : FVec Ideal S128x512 .bf16) (i : Fin 128) (l : Fin 512) :
    matmul dot none x (concatenate S256x512 0 [⟨S128x512, a⟩, ⟨S128x512, b⟩] k2) (constant (F := Ideal) S128x512 .f32 0x00000000#32) (ix2 i l)
      = (∑ k : Fin 128, x (ix2 i ⟨k, by omega⟩) * a (ix2 k l))
        + ∑ k : Fin 128, x (ix2 i ⟨128 + k, by omega⟩) * b (ix2 k l) := by
  pointwise

/-- A block at an index: over its 128 packed rows, the low nibbles with the even columns of the left operand and the
    high nibbles with the odd ones. -/
theorem block_apply (x : FVec Ideal S128x256 .bf16) (w : IVec S128x512 8) (s0 z0 s1 z1 : FVec Ideal S1x512 .f32)
    (i : Fin 128) (l : Fin 512) :
    block x w s0 z0 s1 z1 (ix2 i l)
      = ∑ r : Fin 64, (x (ix2 i ⟨2 * r, by omega⟩) * ((lo (w (ix2 ⟨64 * 0 + r, by omega⟩ l)) - z0 (ix2 0 l)) * s0 (ix2 0 l))
          + x (ix2 i ⟨2 * r + 1, by omega⟩) * ((hi (w (ix2 ⟨64 * 0 + r, by omega⟩ l)) - z0 (ix2 0 l)) * s0 (ix2 0 l)))
        + ∑ r : Fin 64, (x (ix2 i ⟨128 + 2 * r, by omega⟩) * ((lo (w (ix2 ⟨64 * 1 + r, by omega⟩ l)) - z1 (ix2 0 l)) * s1 (ix2 0 l))
          + x (ix2 i ⟨128 + (2 * r + 1), by omega⟩) * ((hi (w (ix2 ⟨64 * 1 + r, by omega⟩ l)) - z1 (ix2 0 l)) * s1 (ix2 0 l))) := by
  have h := dot_concat_apply x (group (extractStridedSlice S1x8x16x512 ![0, 0, 0, 0] (nibbles w) sl0) s0 z0)
    (group (extractStridedSlice S1x8x16x512 ![1, 0, 0, 0] (nibbles w) sl1) s1 z1) i l
  rw [half_apply (fun k => x (ix2 i ⟨k, by omega⟩)) w 0 (by omega) s0 z0 _ (fun b c l => slice0_apply _ b c l) l,
    half_apply (fun k => x (ix2 i ⟨128 + k, by omega⟩)) w 1 (by omega) s1 z1 _ (fun b c l => slice1_apply _ b c l) l] at h
  exact h

/-- A load of whole rows, or of whole columns, at an index. -/
theorem ld_rows {α : EltTy} {R m c o : ℕ} (X : (⟨2, ![R, c]⟩ : Shape).Idx → Elt Ideal α) (inb) (r : Fin m) (l : Fin c)
    (h : o + r.val < R) :
    View.ld (Val := Elt Ideal) X (Rect.unit (s := ⟨2, ![R, c]⟩) ![o, 0] ![m, c] inb) (ix2 r l) = X (ix2 ⟨o + r.val, h⟩ l) := by
  unfold View.ld
  congr 1
  funext a
  match a with
  | ⟨0, _⟩ => exact Fin.ext (show o + 1 * r.val = o + r.val by omega)
  | ⟨1, _⟩ => exact Fin.ext (show 0 + 1 * l.val = l.val by omega)

theorem ld_cols {α : EltTy} {K m c o : ℕ} (X : (⟨2, ![c, K]⟩ : Shape).Idx → Elt Ideal α) (inb) (i : Fin c) (r : Fin m)
    (h : o + r.val < K) :
    View.ld (Val := Elt Ideal) X (Rect.unit (s := ⟨2, ![c, K]⟩) ![0, o] ![c, m] inb) (ix2 i r) = X (ix2 i ⟨o + r.val, h⟩) := by
  unfold View.ld
  congr 1
  funext a
  match a with
  | ⟨0, _⟩ => exact Fin.ext (show 0 + 1 * i.val = i.val by omega)
  | ⟨1, _⟩ => exact Fin.ext (show o + 1 * r.val = o + r.val by omega)

/-- The blocks' products added up from the left. -/
def accum {F : FTy → Type} [FloatOps F] {n : ℕ} (d : (k : ℕ) → k < n → FVec F S128x512 .f32) : (k : ℕ) → k < n → FVec F S128x512 .f32
  | 0, h => d 0 h
  | k + 1, h => addf (accum d k (Nat.lt_of_succ_lt h)) (d (k + 1) h)

theorem accum_apply {n : ℕ} (d : (k : ℕ) → k < n → FVec Ideal S128x512 .f32) (k : ℕ) (h : k < n) (y : S128x512.Idx) :
    accum d k h y = ∑ t : Fin (k + 1), d t.val (by omega) y := by
  induction k with
  | zero => simp [accum]
  | succ k ih => rw [Fin.sum_univ_castSucc]; exact congrArg (· + _) (ih _)

/-- The `t`-th run of `m` rows of an array of rows. -/
theorem rows_inb {R m t : ℕ} {c : ℕ} (h : m * t + m ≤ R) :
    ∀ a, (![m * t, 0] : Fin 2 → ℕ) a + (![m, c] : Fin 2 → ℕ) a ≤ (⟨2, ![R, c]⟩ : Shape).size a := by
  intro a; match a with
  | ⟨0, _⟩ => exact h
  | ⟨1, _⟩ => exact (Nat.zero_add c).le

theorem row_inb {R t : ℕ} {c : ℕ} (h : t < R) :
    ∀ a, (![t, 0] : Fin 2 → ℕ) a + (![1, c] : Fin 2 → ℕ) a ≤ (⟨2, ![R, c]⟩ : Shape).size a := by
  intro a; match a with
  | ⟨0, _⟩ => exact h
  | ⟨1, _⟩ => exact (Nat.zero_add c).le

theorem cols_inb {K m t : ℕ} {c : ℕ} (h : m * t + m ≤ K) :
    ∀ a, (![0, m * t] : Fin 2 → ℕ) a + (![c, m] : Fin 2 → ℕ) a ≤ (⟨2, ![c, K]⟩ : Shape).size a := by
  intro a; match a with
  | ⟨0, _⟩ => exact (Nat.zero_add c).le
  | ⟨1, _⟩ => exact h

/-- The `t`-th block of the four operands. -/
def blockAt {F : FTy → Type} [FloatOps F] {K R G : ℕ} (n : ℕ) (hK : K = 256 * n) (hR : R = 128 * n) (hG : G = 2 * n)
    (x : FVec F ⟨2, ![128, K]⟩ .bf16) (w : IVec ⟨2, ![R, 512]⟩ 8) (s z : FVec F ⟨2, ![G, 512]⟩ .f32)
    (t : ℕ) (ht : t < n) : FVec F S128x512 .f32 :=
  block (View.ld (Val := Elt F) (e' := .bf16) x (Rect.unit ![0, 256 * t] ![128, 256] (cols_inb (by omega))))
    (View.ld (Val := Elt F) (e' := .i8) w (Rect.unit ![128 * t, 0] ![128, 512] (rows_inb (by omega))))
    (View.ld (Val := Elt F) (e' := .f32) s (Rect.unit ![2 * t, 0] ![1, 512] (row_inb (by omega))))
    (View.ld (Val := Elt F) (e' := .f32) z (Rect.unit ![2 * t, 0] ![1, 512] (row_inb (by omega))))
    (View.ld (Val := Elt F) (e' := .f32) s (Rect.unit ![2 * t + 1, 0] ![1, 512] (row_inb (by omega))))
    (View.ld (Val := Elt F) (e' := .f32) z (Rect.unit ![2 * t + 1, 0] ![1, 512] (row_inb (by omega))))

/-- The whole product: all `k + 1` blocks, added up from the left. -/
def mul {F : FTy → Type} [FloatOps F] {K R G : ℕ} (n : ℕ) (hK : K = 256 * n) (hR : R = 128 * n) (hG : G = 2 * n)
    (x : FVec F ⟨2, ![128, K]⟩ .bf16) (w : IVec ⟨2, ![R, 512]⟩ 8) (s z : FVec F ⟨2, ![G, 512]⟩ .f32)
    (k : ℕ) (hk : k < n) : FVec F S128x512 .f32 :=
  accum (blockAt n hK hR hG x w s z) k hk

/-- The whole product at an index: the low nibbles of all packed rows with the even columns of the left operand, plus
    the high nibbles with the odd columns; 64 packed rows share a row of scales. -/
theorem mul_apply {K R G : ℕ} (n : ℕ) (hK : K = 256 * n) (hR : R = 128 * n) (hG : G = 2 * n)
    (x : FVec Ideal ⟨2, ![128, K]⟩ .bf16) (w : IVec ⟨2, ![R, 512]⟩ 8) (s z : FVec Ideal ⟨2, ![G, 512]⟩ .f32)
    (k : ℕ) (hk : k < n) (hkn : n = k + 1) (i : Fin 128) (l : Fin 512) :
    mul n hK hR hG x w s z k hk (ix2 i l)
      = ∑ r : Fin R, x (ix2 i ⟨2 * r, by omega⟩)
          * ((lo (w (ix2 r l)) - z (ix2 ⟨r / 64, by omega⟩ l)) * s (ix2 ⟨r / 64, by omega⟩ l))
        + ∑ r : Fin R, x (ix2 i ⟨2 * r + 1, by omega⟩)
          * ((hi (w (ix2 r l)) - z (ix2 ⟨r / 64, by omega⟩ l)) * s (ix2 ⟨r / 64, by omega⟩ l)) := by
  rw [← Finset.sum_add_distrib, sum_runs n 128 (by omega)]
  subst hkn
  rw [mul, accum_apply]
  refine Finset.sum_congr rfl fun t _ => ?_
  rw [blockAt, block_apply, sum_runs 2 64 rfl, Fin.sum_univ_two]
  have ht := t.isLt
  have hx : ∀ (j : ℕ) (hj : j < 256), View.ld (Val := Elt Ideal) (e' := .bf16) x
      (Rect.unit ![0, 256 * t.val] ![128, 256] (cols_inb (by omega))) (ix2 i ⟨j, hj⟩) = x (ix2 i ⟨256 * t.val + j, by omega⟩) :=
    fun j hj => ld_cols (α := .bf16) x _ i ⟨j, hj⟩ _
  have hw : ∀ (j : ℕ) (hj : j < 128), View.ld (Val := Elt Ideal) (e' := .i8) w
      (Rect.unit ![128 * t.val, 0] ![128, 512] (rows_inb (by omega))) (ix2 ⟨j, hj⟩ l) = w (ix2 ⟨128 * t.val + j, by omega⟩ l) :=
    fun j hj => ld_rows (α := .i8) w _ ⟨j, hj⟩ l _
  have hg : ∀ (v : FVec Ideal ⟨2, ![G, 512]⟩ .f32) (j : ℕ) (hj : j < G), View.ld (Val := Elt Ideal) (e' := .f32) v
      (Rect.unit ![j, 0] ![1, 512] (row_inb hj)) (ix2 0 l) = v (ix2 ⟨j, hj⟩ l) :=
    fun v j hj => ld_rows (α := .f32) v _ (0 : Fin 1) l (by simpa using hj)
  refine congrArg₂ HAdd.hAdd (Finset.sum_congr rfl fun r _ => ?_) (Finset.sum_congr rfl fun r _ => ?_)
  · have hr := r.isLt
    have e1 : 256 * t.val + (2 * r.val) = 2 * (128 * t.val + (64 * (0 : Fin 2).val + r.val)) := by simp; omega
    have e2 : 256 * t.val + (2 * r.val + 1) = 2 * (128 * t.val + (64 * (0 : Fin 2).val + r.val)) + 1 := by simp; omega
    have e3 : 2 * t.val = (128 * t.val + (64 * (0 : Fin 2).val + r.val)) / 64 := by simp; omega
    have e4 : 128 * t.val + (64 * 0 + r.val) = 128 * t.val + (64 * (0 : Fin 2).val + r.val) := by simp
    rw [hx (2 * r.val) (by omega), hx (2 * r.val + 1) (by omega), hw (64 * 0 + r.val) (by omega), hg s (2 * t.val) (by omega), hg z (2 * t.val) (by omega)]
    simp only [e1, e2, e3, e4]
  · have hr := r.isLt
    have e1 : 256 * t.val + (128 + 2 * r.val) = 2 * (128 * t.val + (64 * (1 : Fin 2).val + r.val)) := by simp; omega
    have e2 : 256 * t.val + (128 + (2 * r.val + 1)) = 2 * (128 * t.val + (64 * (1 : Fin 2).val + r.val)) + 1 := by simp; omega
    have e3 : 2 * t.val + 1 = (128 * t.val + (64 * (1 : Fin 2).val + r.val)) / 64 := by simp; omega
    have e4 : 128 * t.val + (64 * 1 + r.val) = 128 * t.val + (64 * (1 : Fin 2).val + r.val) := by simp
    rw [hx (128 + 2 * r.val) (by omega), hx (128 + (2 * r.val + 1)) (by omega), hw (64 * 1 + r.val) (by omega), hg s (2 * t.val + 1) (by omega), hg z (2 * t.val + 1) (by omega)]
    simp only [e1, e2, e3, e4]

/-- A load through any rectangle of a buffer whose one write covered it reads the written contents. -/
theorem readCov_whole {sig : RefSig} {κ : Kind} {sp : Space} {S : Shape} {e : EltTy} (v : View sig κ sp S e)
    {off : Fin S.rank → Nat} (h : off = fun _ => 0) (inb : ∀ a, off a + S.size a ≤ S.size a) (w : S.Idx → Elt Ideal e)
    (r : Rect S) :
    v.readCov [(⟨Rect.unit off (no_index S.size) inb, w⟩ : View.Piece (Elt Ideal) S e)] r.toLoadRect
      = View.ld (Val := Elt Ideal) w r := by
  subst h
  rw [View.readCov_eq_canon_ld _ _ _ (fun y => ⟨_, List.mem_singleton_self _, View.mem_set_unit_zero rfl inb y⟩),
    View.canon_unit_zero rfl]

/-- A load through any rectangle of a buffer whose one write covered it reads the written contents, in either arithmetic. -/
theorem readCov_all {F : FTy → Type} [FloatOps F] {sig : RefSig} {κ : Kind} {sp : Space} {S : Shape} {e : EltTy} (v : View sig κ sp S e)
    {off : Fin S.rank → Nat} (h : off = fun _ => 0) (inb : ∀ a, off a + S.size a ≤ S.size a) (w : S.Idx → Elt F e)
    (r : Rect S) :
    v.readCov [(⟨Rect.unit off (no_index S.size) inb, w⟩ : View.Piece (Elt F) S e)] r.toLoadRect
      = View.ld (Val := Elt F) w r := by
  subst h
  rw [View.readCov_eq_canon_ld _ _ _ (fun y => ⟨_, List.mem_singleton_self _, View.mem_set_unit_zero rfl inb y⟩),
    View.canon_unit_zero rfl]

end Awq

end
-- ==== Proof.AwqHost.lean ====
/- The same product as the reference writes it: the nibbles of all packed rows at once, 64 rows under one row of scales, the
   low nibbles with the even columns of the left operand and the high nibbles with the odd ones; read at an index. -/
module

public import proofs.«01_k».proof.Proof.Awq
public import Idealize.ShloMosaic.Lib.StableHlo.Run

@[expose] public section

noncomputable section

namespace Awq

open Idealize.ShloMosaic

/-- The shapes of a matrix, of its rows in groups, and of a number. -/
abbrev Mat (a b : ℕ) : Shape := ⟨2, ![a, b]⟩
abbrev Grp (a b c : ℕ) : Shape := ⟨3, ![a, b, c]⟩
abbrev Num : Shape := ⟨0, ![]⟩

/-- A zero point: the byte's value. -/
def zp (b : BitVec 8) : EReal := (((b.setWidth 32).toInt : ℝ) : EReal)

/-- One half of the weights: the codes less the zero points, times the scales, in groups of 64 rows. -/
def hostHalf {R G N : ℕ} (q : IVec (Mat R N) 32) (s : FVec Ideal (Mat G N) .bf16) (z : IVec (Mat G N) 8)
    (h1 : (Mat R N).ShapeCasts (Grp G 64 N)) (h2 : (Grp G 64 N).ShapeCasts (Mat R N))
    (h3 : (Mat G N).BroadcastsInDim (Grp G 1 N) ![0, 2]) (h4 : (Grp G 1 N).BroadcastsInDim (Grp G 64 N) ![0, 1, 2]) :
    FVec Ideal (Mat R N) .bf16 :=
  have zs : FVec Ideal (Mat G N) .bf16 := sitofp .bf16 (extui 32 z lt_8_32)
  have qs : FVec Ideal (Mat R N) .bf16 := sitofp .bf16 q
  shapeCast (Mat R N)
    (mulf (subf (shapeCast (Grp G 64 N) qs h1)
        (broadcastInDim (Grp G 64 N) ![0, 1, 2] h4 (broadcastInDim (Grp G 1 N) ![0, 2] h3 zs)))
      (broadcastInDim (Grp G 64 N) ![0, 1, 2] h4 (broadcastInDim (Grp G 1 N) ![0, 2] h3 s))) h2

theorem up_apply {α : Type} {G N : ℕ} (v : (Mat G N).Idx → α)
    (h3 : (Mat G N).BroadcastsInDim (Grp G 1 N) ![0, 2]) (h4 : (Grp G 1 N).BroadcastsInDim (Grp G 64 N) ![0, 1, 2])
    (g : Fin G) (r : Fin 64) (l : Fin N) :
    broadcastInDim (Grp G 64 N) ![0, 1, 2] h4 (broadcastInDim (Grp G 1 N) ![0, 2] h3 v) (ix3 g r l) = v (ix2 g l) := by
  have hg := g.isLt
  have hl := l.isLt
  rw [broadcastInDim_apply _ h4 _ (ix3 g r l) (ix3 g 0 l) (fun a => match a with
    | ⟨0, _⟩ => by show g.val = if G = 1 then 0 else g.val; split <;> omega
    | ⟨1, _⟩ => by show 0 = if (1 : ℕ) = 1 then 0 else r.val; simp
    | ⟨2, _⟩ => by show l.val = if N = 1 then 0 else l.val; split <;> omega)]
  exact broadcastInDim_apply _ h3 _ (ix3 g 0 l) (ix2 g l) (fun a => match a with
    | ⟨0, _⟩ => by show g.val = if G = 1 then 0 else g.val; split <;> omega
    | ⟨1, _⟩ => by show l.val = if N = 1 then 0 else l.val; split <;> omega)

/-- One half of the weights at an index. -/
theorem hostHalf_apply {R G N : ℕ} (hR : R = G * 64) (q : IVec (Mat R N) 32) (s : FVec Ideal (Mat G N) .bf16) (z : IVec (Mat G N) 8)
    (h1 h2 h3 h4) (r : Fin R) (l : Fin N) :
    hostHalf q s z h1 h2 h3 h4 (ix2 r l)
      = ((((q (ix2 r l)).toInt : ℝ) : EReal) - zp (z (ix2 ⟨r / 64, by omega⟩ l))) * s (ix2 ⟨r / 64, by omega⟩ l) := by
  have hr := r.isLt
  have e : (Shape.rowMajor (Grp G 64 N) (ix3 (⟨r / 64, by omega⟩ : Fin G) (⟨r % 64, by omega⟩ : Fin 64) l)).val
      = ((Mat R N).rowMajor (ix2 r l)).val := by
    rw [Shape.rowMajor_val_two, Shape.rowMajor_val_three]
    show (r.val / 64 * 64 + r.val % 64) * N + l.val = r.val * N + l.val
    rw [Nat.div_add_mod' r.val 64]
  unfold hostHalf
  dsimp only
  rw [shapeCast_apply _ h2 _ _ e]
  rw [mulf_apply, subf_apply, shapeCast_apply _ h1 _ _ e.symm, up_apply, up_apply]
  rfl

/-- Every second column of the left operand, from column `o` on. -/
theorem cols2_apply {K R o : ℕ} (x : FVec Ideal (Mat 128 K) .bf16) (h : (Mat 128 K).SlicesBy ![0, o] ![1, 2] (Mat 128 R))
    (i : Fin 128) (r : Fin R) (hr : o + 2 * r.val < K) :
    Host.slice (Mat 128 R) ![0, o] ![1, 2] x h (ix2 i r) = x (ix2 i ⟨o + 2 * r.val, hr⟩) := by
  unfold Host.slice
  congr 1
  funext a
  match a with
  | ⟨0, _⟩ => exact Fin.ext (show 0 + 1 * i.val = i.val by omega)
  | ⟨1, _⟩ => exact Fin.ext (show o + 2 * r.val = o + 2 * r.val by omega)

/-- A matrix product's dimension numbers: the left operand's columns with the right operand's rows. -/
abbrev mm {R N : ℕ} (wf : DotDims.WF (Mat 128 R) (Mat R N) (Mat 128 N) [1] [0] [0] [1] [] []) :
    DotDims (Mat 128 R) (Mat R N) (Mat 128 N) := ⟨[1], [0], [0], [1], [], [], wf⟩

/-- A matrix product at an index. -/
theorem hostDot_apply {R N : ℕ} (wf : DotDims.WF (Mat 128 R) (Mat R N) (Mat 128 N) [1] [0] [0] [1] [] [])
    (x : FVec Ideal (Mat 128 R) .bf16) (w : FVec Ideal (Mat R N) .bf16) (i : Fin 128) (l : Fin N) :
    Host.dotGeneral (mm wf) none x w (ix2 i l) = ∑ r : Fin R, x (ix2 i r) * w (ix2 r l) := by
  simp only [Host.dotGeneral]
  rw [Ideal.dotGeneral_apply, ← Equiv.sum_comp (ValueIdx.contrEquiv1 (mm wf) R rfl rfl).symm]
  refine Finset.sum_congr rfl fun k _ => ?_
  have hk := ValueIdx.contrEquiv1_symm_val (mm wf) R rfl rfl k
  generalize (ValueIdx.contrEquiv1 (mm wf) R rfl rfl).symm k = q at hk ⊢
  have el : (mm wf).lhsIdx (ix2 i l) q = ix2 i k := funext fun a => Fin.ext (by
    match a with
    | ⟨0, _⟩ =>
      show ((mm wf).lhsIdx (ix2 i l) q 0).val = i.val
      unfold DotDims.lhsIdx
      rw [dif_neg (show ¬(0 : Fin 2) ∈ ([] : List (Fin 2)) by decide), dif_pos (show (0 : Fin 2) ∈ [(0 : Fin 2)] by decide)]
      rfl
    | ⟨1, _⟩ => exact ((mm wf).lhsIdx_val_of_single rfl _ q).trans hk)
  have er : (mm wf).rhsIdx (ix2 i l) q = ix2 k l := funext fun a => Fin.ext (by
    match a with
    | ⟨0, _⟩ => exact ((mm wf).rhsIdx_val_of_single rfl _ q).trans hk
    | ⟨1, _⟩ =>
      show ((mm wf).rhsIdx (ix2 i l) q 1).val = l.val
      unfold DotDims.rhsIdx
      rw [dif_neg (show ¬(1 : Fin 2) ∈ ([] : List (Fin 2)) by decide), dif_pos (show (1 : Fin 2) ∈ [(1 : Fin 2)] by decide)]
      rfl)
  rw [el, er]

/-- The product of a left operand with packed weights: over all packed rows, the low nibbles with the even columns of the left
    operand plus the high nibbles with the odd columns, each nibble less its zero point and times its scale. -/
def val {K R G N : ℕ} (hK : K = 2 * R) (hR : R = G * 64) (x : FVec Ideal (Mat 128 K) .bf16) (w : IVec (Mat R N) 8)
    (s : FVec Ideal (Mat G N) .bf16) (z : IVec (Mat G N) 8) (i : Fin 128) (j : Fin N) : EReal :=
  ∑ r : Fin R, x (ix2 i ⟨2 * r, by omega⟩)
      * ((lo (w (ix2 r j)) - zp (z (ix2 ⟨r / 64, by omega⟩ j))) * s (ix2 ⟨r / 64, by omega⟩ j))
    + ∑ r : Fin R, x (ix2 i ⟨2 * r + 1, by omega⟩)
      * ((hi (w (ix2 r j)) - zp (z (ix2 ⟨r / 64, by omega⟩ j))) * s (ix2 ⟨r / 64, by omega⟩ j))

/-- The reference's product. -/
def host {K R G N : ℕ} (x : FVec Ideal (Mat 128 K) .bf16) (w : IVec (Mat R N) 8) (s : FVec Ideal (Mat G N) .bf16) (z : IVec (Mat G N) 8)
    (h1 : (Mat R N).ShapeCasts (Grp G 64 N)) (h2 : (Grp G 64 N).ShapeCasts (Mat R N))
    (h3 : (Mat G N).BroadcastsInDim (Grp G 1 N) ![0, 2]) (h4 : (Grp G 1 N).BroadcastsInDim (Grp G 64 N) ![0, 1, 2])
    (h5 : (⟨0, ![]⟩ : Shape).BroadcastsInDim (Mat R N) ![])
    (h6 : (Mat 128 K).SlicesBy ![0, 0] ![1, 2] (Mat 128 R)) (h7 : (Mat 128 K).SlicesBy ![0, 1] ![1, 2] (Mat 128 R))
    (wf : DotDims.WF (Mat 128 R) (Mat R N) (Mat 128 N) [1] [0] [0] [1] [] []) : FVec Ideal (Mat 128 N) .f32 :=
  have q : IVec (Mat R N) 32 := extui 32 w lt_8_32
  addf
    (Host.dotGeneral (mm wf) none (Host.slice (Mat 128 R) ![0, 0] ![1, 2] x h6)
      (hostHalf (andi q (broadcastInDim (Mat R N) ![] h5 (constantI (⟨0, ![]⟩ : Shape) 32 15#32))) s z h1 h2 h3 h4))
    (Host.dotGeneral (mm wf) none (Host.slice (Mat 128 R) ![0, 1] ![1, 2] x h7)
      (hostHalf (Host.shrsi q (broadcastInDim (Mat R N) ![] h5 (constantI (⟨0, ![]⟩ : Shape) 32 4#32))) s z h1 h2 h3 h4))

theorem host_apply {K R G N : ℕ} (hK : K = 2 * R) (hR : R = G * 64) (x : FVec Ideal (Mat 128 K) .bf16) (w : IVec (Mat R N) 8)
    (s : FVec Ideal (Mat G N) .bf16) (z : IVec (Mat G N) 8) (h1 h2 h3 h4 h5 h6 h7 wf) (i : Fin 128) (j : Fin N) :
    host x w s z h1 h2 h3 h4 h5 h6 h7 wf (ix2 i j) = val hK hR x w s z i j := by
  unfold host val
  dsimp only
  rw [addf_apply, hostDot_apply, hostDot_apply]
  refine congrArg₂ HAdd.hAdd (Finset.sum_congr rfl fun r _ => ?_) (Finset.sum_congr rfl fun r _ => ?_)
  · rw [hostHalf_apply hR, cols2_apply x h6 i r (by omega)]
    simp only [Nat.zero_add]
    rfl
  · rw [hostHalf_apply hR, cols2_apply x h7 i r (by omega)]
    simp only [Nat.add_comm 1]
    rfl

/-- A zero point read as an unsigned byte. -/
theorem uitofp_zp (b : BitVec 8) : (FloatOps.uitofp .bf16 b : Ideal .bf16) = zp b := by
  show (((b.toNat : ℝ)) : EReal) = (((b.setWidth 32).toInt : ℝ) : EReal)
  have h := b.isLt
  rw [BitVec.toInt_eq_toNat_cond, BitVec.toNat_setWidth, if_pos (by omega), Nat.mod_eq_of_lt (by omega)]
  simp

/-- The kernel's product over one block of columns is the product over the array's columns at which the block stands. -/
theorem mul_val {K R G N : ℕ} (n : ℕ) (hK' : K = 256 * n) (hR' : R = 128 * n) (hG' : G = 2 * n) (hK : K = 2 * R) (hR : R = G * 64)
    (x : FVec Ideal (Mat 128 K) .bf16) (w : IVec (Mat R N) 8) (s : FVec Ideal (Mat G N) .bf16) (z : IVec (Mat G N) 8)
    (xb : FVec Ideal (Mat 128 K) .bf16) (wb : IVec (Mat R 512) 8) (sb zb : FVec Ideal (Mat G 512) .f32)
    (k : ℕ) (hk : k < n) (hkn : n = k + 1) (i : Fin 128) (l : Fin 512) (j : Fin N) (hx : ∀ q, xb (ix2 i q) = x (ix2 i q))
    (hw : ∀ r, wb (ix2 r l) = w (ix2 r j)) (hs : ∀ g, sb (ix2 g l) = s (ix2 g j)) (hz : ∀ g, zb (ix2 g l) = zp (z (ix2 g j))) :
    mul n hK' hR' hG' xb wb sb zb k hk (ix2 i l) = val hK hR x w s z i j := by
  rw [mul_apply n hK' hR' hG' xb wb sb zb k hk hkn]
  simp only [hx, hw, hs, hz]
  rfl

end Awq
end
-- ==== Proof.Gateup.lean ====
/- The gate-and-up call: its result array is `silu (u · gate) * (u · up)`, the function that the reference computes. -/
module
public import proofs.«01_k».proof.Proof.Gen.GateupIdeal.Value
public import proofs.«01_k».proof.Proof.Gen.GateupRefIdeal.Read
public import proofs.«01_k».proof.Proof.AwqHost
public import proofs.«01_k».proof.Proof.Gen.Gateup.Frame
public import Idealize.ShloMosaic.Lib.Quiescent
public import proofs.«01_k».proof.Defs
public import Idealize.ShloMosaic.Lib.Pipeline.ValueKit
@[expose] public section
noncomputable section
namespace Cert.GateupIdeal.RefValue
open Cert.GateupIdeal Cert.GateupIdeal.Gen Idealize.ShloMosaic Idealize.ShloMosaic.TcCoe Idealize.SL.Sem

theorem hz : (![0, 0] : Fin 2 → Nat) = fun _ => 0 := funext fun a => by fin_cases a <;> rfl

/-- The product of the left operand with one block of packed weights. -/
def gate (x : Vec Ideal S128x4096 .bf16) (w : Vec Ideal S2048x512 .i8) (s : FVec Ideal S32x512 .f32) (z : FVec Ideal S32x512 .f32) : FVec Ideal S128x512 .f32 :=
  Awq.mul 16 (by decide) (by decide) (by decide) x w s z 15 (by decide)

/-- What one grid point writes: the gate's product times its logistic times the up projection's product. -/
theorem out_eq (c : Dev nD) (i : grid0.Coords) (arg1 : Memref sig .tc .vmem S128x4096 .bf16) (harg1 : arg1.IsWhole) (arg2 : Memref sig .tc .vmem S2048x512 .i8) (harg2 : arg2.IsWhole) (arg3 : Memref sig .tc .vmem S32x512 .bf16) (harg3 : arg3.IsWhole) (arg4 : Memref sig .tc .vmem S32x512 .i8) (harg4 : arg4.IsWhole) (arg5 : Memref sig .tc .vmem S2048x512 .i8) (harg5 : arg5.IsWhole) (arg6 : Memref sig .tc .vmem S32x512 .bf16) (harg6 : arg6.IsWhole) (arg7 : Memref sig .tc .vmem S32x512 .i8) (harg7 : arg7.IsWhole) (arg8 : Memref sig .tc .vmem S128x512 .bf16) (harg8 : arg8.IsWhole) (arg9 : Memref sig .tc .vmem S32x512 .f32) (harg9 : arg9.IsWhole) (arg10 : Memref sig .tc .vmem S32x512 .f32) (harg10 : arg10.IsWhole) (arg11 : Memref sig .tc .vmem S32x512 .f32) (harg11 : arg11.IsWhole) (arg12 : Memref sig .tc .vmem S32x512 .f32) (harg12 : arg12.IsWhole)
    (x0 : Vec Ideal S128x4096 .bf16) (x1 : Vec Ideal S2048x512 .i8) (x2 : Vec Ideal S32x512 .bf16) (x3 : Vec Ideal S32x512 .i8) (x4 : Vec Ideal S2048x512 .i8) (x5 : Vec Ideal S32x512 .bf16) (x6 : Vec Ideal S32x512 .i8) :
   out0_A_7 c i arg1 harg1 arg2 harg2 arg3 harg3 arg4 harg4 arg5 harg5 arg6 harg6 arg7 harg7 arg8 harg8 arg9 harg9 arg10 harg10 arg11 harg11 arg12 harg12 x0 x1 x2 x3 x4 x5 x6
    = truncf .bf16 (mulf (mulf (gate x0 x1 (k0_pay1 x2) (k0_pay2 x3)) (logistic (gate x0 x1 (k0_pay1 x2) (k0_pay2 x3)))) (gate x0 x4 (k0_pay3 x5) (k0_pay4 x6))) Awq.lt_bf16 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 x0 x1 x2 x3 x4 x5 x6)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread]
  simp only [Awq.readCov_whole (S := S32x512) _ hz, View.ld_unit_zero (S := S32x512) hz]
  unfold gate Awq.mul
  simp only [Awq.accum, Awq.blockAt]
  rfl

/-- The four kinds of prepared scales at an index. -/
theorem pay1_apply (v : Vec Ideal S32x512 .bf16) (y : S32x512.Idx) : k0_pay1 v y = v y := by pointwise [k0_pay1]
theorem pay3_apply (v : Vec Ideal S32x512 .bf16) (y : S32x512.Idx) : k0_pay3 v y = v y := by pointwise [k0_pay3]
theorem pay2_apply (v : Vec Ideal S32x512 .i8) (y : S32x512.Idx) : k0_pay2 v y = Awq.zp (v y) :=
  Eq.trans (by pointwise [k0_pay2]) (Awq.uitofp_zp (v y))
theorem pay4_apply (v : Vec Ideal S32x512 .i8) (y : S32x512.Idx) : k0_pay4 v y = Awq.zp (v y) :=
  Eq.trans (by pointwise [k0_pay4]) (Awq.uitofp_zp (v y))

/-- The call's function at an index: `g · logistic g · u`, `g` and `u` the two products. -/
def fn (x : FVec Ideal S128x4096 .bf16) (w1 : IVec S2048x14336 8) (s1 : FVec Ideal S32x14336 .bf16) (z1 : IVec S32x14336 8)
    (w2 : IVec S2048x14336 8) (s2 : FVec Ideal S32x14336 .bf16) (z2 : IVec S32x14336 8) (i : Fin 128) (j : Fin 14336) : EReal :=
  Awq.val rfl rfl x w1 s1 z1 i j * Ideal.logistic (Awq.val rfl rfl x w1 s1 z1 i j) * Awq.val rfl rfl x w2 s2 z2 i j

variable (m : (ℓ : Loc nD τ sig) → Buf (Elt Ideal) ℓ) (ρ : Dev nD → PrngReg)

/-- The result array as the call's function of the argument arrays. -/
abbrev G (c : Dev nD) : Buf (Elt Ideal) ((c : Thread nD τ).loc main_v0) := fun y : S128x14336.Idx =>
  fn (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (y 0) (y 1)

theorem idx : ∀ t : Fin cfg0.N, win0_0.index t = ![0, 0] ∧ win0_1.index t = ![0, t.val] ∧ win0_2.index t = ![0, t.val]
    ∧ win0_3.index t = ![0, t.val] ∧ win0_4.index t = ![0, t.val] ∧ win0_5.index t = ![0, t.val]
    ∧ win0_6.index t = ![0, t.val] ∧ win0_7.index t = ![0, t.val] := by decide +kernel

/-- A block's element is the array's element at the place where the block stands. -/
theorem blk0 (c : Dev nD) (t : Fin cfg0.N) (i : Fin 128) (q : Fin 4096) :
    iblk m c 0 t (ix2 i q) = m ((c : Thread nD τ).loc main_arg0) (ix2 i q) := by
  blk_ext [iblk, V, idx t]
theorem colbound (t : Fin cfg0.N) (l : Fin 512) : 512 * t.val + l.val < 14336 := by
  have h : t.val < 28 := t.isLt
  omega
theorem blk1 (c : Dev nD) (t : Fin cfg0.N) (r : Fin 2048) (l : Fin 512) :
    iblk m c 1 t (ix2 r l) = m ((c : Thread nD τ).loc main_arg1) (ix2 r ⟨512 * t.val + l.val, colbound t l⟩) := by
  blk_ext [iblk, V, idx t]
theorem blk2 (c : Dev nD) (t : Fin cfg0.N) (r : Fin 32) (l : Fin 512) :
    iblk m c 2 t (ix2 r l) = m ((c : Thread nD τ).loc main_arg2) (ix2 r ⟨512 * t.val + l.val, colbound t l⟩) := by
  blk_ext [iblk, V, idx t]
theorem blk3 (c : Dev nD) (t : Fin cfg0.N) (r : Fin 32) (l : Fin 512) :
    iblk m c 3 t (ix2 r l) = m ((c : Thread nD τ).loc main_arg3) (ix2 r ⟨512 * t.val + l.val, colbound t l⟩) := by
  blk_ext [iblk, V, idx t]
theorem blk4 (c : Dev nD) (t : Fin cfg0.N) (r : Fin 2048) (l : Fin 512) :
    iblk m c 4 t (ix2 r l) = m ((c : Thread nD τ).loc main_arg4) (ix2 r ⟨512 * t.val + l.val, colbound t l⟩) := by
  blk_ext [iblk, V, idx t]
theorem blk5 (c : Dev nD) (t : Fin cfg0.N) (r : Fin 32) (l : Fin 512) :
    iblk m c 5 t (ix2 r l) = m ((c : Thread nD τ).loc main_arg5) (ix2 r ⟨512 * t.val + l.val, colbound t l⟩) := by
  blk_ext [iblk, V, idx t]
theorem blk6 (c : Dev nD) (t : Fin cfg0.N) (r : Fin 32) (l : Fin 512) :
    iblk m c 6 t (ix2 r l) = m ((c : Thread nD τ).loc main_arg6) (ix2 r ⟨512 * t.val + l.val, colbound t l⟩) := by
  blk_ext [iblk, V, idx t]

/-- The two products of grid point `t`, in the argument arrays. -/
theorem gate_val (c : Dev nD) (t : Fin cfg0.N) (i : Fin 128) (l : Fin 512) :
    gate (iblk m c 0 t) (iblk m c 1 t) (k0_pay1 (iblk m c 2 t)) (k0_pay2 (iblk m c 3 t)) (ix2 i l)
      = Awq.val (G := 32) rfl rfl (m ((c : Thread nD τ).loc main_arg0)) (m ((c : Thread nD τ).loc main_arg1)) (m ((c : Thread nD τ).loc main_arg2))
          (m ((c : Thread nD τ).loc main_arg3)) i (⟨512 * t.val + l.val, colbound t l⟩ : Fin 14336) :=
  Awq.mul_val (N := 14336) 16 _ _ _ rfl rfl _ _ _ _ _ _ _ _ 15 _ rfl i l _ (fun q => blk0 m c t i q) (fun r => blk1 m c t r l)
    (fun g => (pay1_apply _ _).trans (blk2 m c t g l)) (fun g => (pay2_apply _ _).trans (congrArg Awq.zp (blk3 m c t g l)))

theorem up_val (c : Dev nD) (t : Fin cfg0.N) (i : Fin 128) (l : Fin 512) :
    gate (iblk m c 0 t) (iblk m c 4 t) (k0_pay3 (iblk m c 5 t)) (k0_pay4 (iblk m c 6 t)) (ix2 i l)
      = Awq.val (G := 32) rfl rfl (m ((c : Thread nD τ).loc main_arg0)) (m ((c : Thread nD τ).loc main_arg4)) (m ((c : Thread nD τ).loc main_arg5))
          (m ((c : Thread nD τ).loc main_arg6)) i (⟨512 * t.val + l.val, colbound t l⟩ : Fin 14336) :=
  Awq.mul_val (N := 14336) 16 _ _ _ rfl rfl _ _ _ _ _ _ _ _ 15 _ rfl i l _ (fun q => blk0 m c t i q) (fun r => blk4 m c t r l)
    (fun g => (pay3_apply _ _).trans (blk5 m c t g l)) (fun g => (pay4_apply _ _).trans (congrArg Awq.zp (blk6 m c t g l)))

/-- What point `t` leaves in its staging buffer, at an index. -/
theorem outs_apply (c : Dev nD) (t : Fin cfg0.N) (i : Fin 128) (l : Fin 512) :
    outsAt0 m c t (ix2 i l) = G m c (ix2 i (⟨512 * t.val + l.val, colbound t l⟩ : Fin 14336)) := by
  rw [outsAt0, out_eq]
  show gate _ _ _ _ _ * Ideal.logistic (gate _ _ _ _ _) * gate _ _ _ _ _ = _
  rw [gate_val, up_val]
  rfl

/-- The result array after the run is the call's function of the arguments. -/
theorem final (c : Dev nD) : (dats m 0 c).arrAt 7 cfg0.N = G m c := by
  refine (dats m 0 c).arrAt_eq_of_covers 7 _ (by decide +kernel) fun t hf y => ?_
  blk_simp
  rw [after0_7]
  have hy : y = ix2 (y 0) (y 1) := funext fun a => by match a with
    | ⟨0, _⟩ => rfl
    | ⟨1, _⟩ => rfl
  refine ((congrArg _ hy).trans (outs_apply m c t (y 0) (y 1))).trans (congrArg (G m c) ?_)
  blk_ext [iblk, V, idx t]

end Cert.GateupIdeal.RefValue

namespace Cert.GateupRefIdeal.RefValue

open Cert.GateupRefIdeal Cert.GateupRefIdeal.Gen Cert.GateupRefIdeal.Read Idealize.ShloMosaic Idealize.ShloMosaic.TcCoe Idealize.SL.Sem

/-- The reference's result at an index is the same function of the arguments. -/
theorem val_eq (x0 : FVec Ideal S128x4096 .bf16) (x1 : IVec S2048x14336 8) (x2 : FVec Ideal S32x14336 .bf16) (x3 : IVec S32x14336 8)
    (x4 : IVec S2048x14336 8) (x5 : FVec Ideal S32x14336 .bf16) (x6 : IVec S32x14336 8) (i : Fin 128) (j : Fin 14336) :
    val_main_v58 (F := Ideal) x0 x1 x2 x3 x4 x5 x6 (ix2 i j) = Cert.GateupIdeal.RefValue.fn x0 x1 x2 x3 x4 x5 x6 i j := by
  have g : val_main_v27 (F := Ideal) x0 x1 x2 x3 (ix2 i j) = Awq.val (G := 32) rfl rfl x0 x1 x2 x3 i j :=
    Awq.host_apply (G := 32) rfl rfl x0 x1 x2 x3 _ _ _ _ _ _ _ _ i j
  have u : val_main_v56 (F := Ideal) x0 x4 x5 x6 (ix2 i j) = Awq.val (G := 32) rfl rfl x0 x4 x5 x6 i j :=
    Awq.host_apply (G := 32) rfl rfl x0 x4 x5 x6 _ _ _ _ _ _ _ _ i j
  have one : (FloatOps.ofBits .f32 0x3F800000#32 : Ideal .f32) = (1 : EReal) := by pointwise
  rw [val_main_v58_apply, val_main_v57_apply, val_main_v28_apply, val_main_call0_v5_apply, val_main_call0_v4_apply, val_main_call0_v3_apply,
    val_main_call0_v2_apply, val_main_call0_v1_apply, val_main_call0_v0_apply, val_main_call0_cst_apply, val_main_call0_cst_0_apply, g, u, one]
  rfl

end Cert.GateupRefIdeal.RefValue

namespace Cert.GateupProof

open Idealize.ShloMosaic Idealize.ShloMosaic.TcCoe Idealize.SL.Sem

/-- The reference leaves its arguments and every semaphore as they were. -/
theorem ref_frame : quiescent_GateupRefIdeal :=
  fun m ρ _ => (θ_run Cert.GateupRefIdeal.defs _ _).mono (fun r h =>
    ⟨fun c => (h c).2, sem_eq_zero_of_no_sems (by decide) r.2⟩) (Cert.GateupRefIdeal.Value.run (F := Ideal) m ρ)

/-- The kernel and the reference, from the same arguments, end with the same result. -/
theorem algebraic : algebraic_GateupIdeal_GateupRefIdeal := by
  intro m ρ m' ρ' _ hagree
  refine ⟨fun c => Cert.GateupIdeal.RefValue.G m c, ?_, ?_⟩
  · exact (θ_run Cert.GateupIdeal.defs _ _).mono (fun _ h c => ⟨(h c).1.trans (Cert.GateupIdeal.RefValue.final m c), (h c).2⟩)
      (Cert.GateupIdeal.Value.run_blocks (F := Ideal) m ρ)
  · refine (θ_run Cert.GateupRefIdeal.defs _ _).mono (fun _ h c => ⟨(h c).1.trans ?_, (h c).2⟩) (Cert.GateupRefIdeal.Value.run (F := Ideal) m' ρ')
    obtain ⟨a0, a1, a2, a3, a4, a5, a6⟩ := hagree c
    rw [Cert.GateupRefIdeal.Read.val_main_v58_eq, a0, a1, a2, a3, a4, a5, a6]
    funext y
    have hy : y = ix2 (y 0) (y 1) := funext fun a => by match a with
      | ⟨0, _⟩ => rfl
      | ⟨1, _⟩ => rfl
    exact (congrArg _ hy).trans (Cert.GateupRefIdeal.RefValue.val_eq _ _ _ _ _ _ _ (y 0) (y 1))

/-- All five claims about the call. -/
theorem all : quiescent_Gateup ∧ quiescent_GateupIdeal ∧ quiescent_GateupRefIdeal ∧ preserves_Gateup_GateupIdeal
    ∧ algebraic_GateupIdeal_GateupRefIdeal :=
  ⟨fun m ρ _ => Cert.Gateup.Gen.frame m ρ, fun m ρ _ => Cert.GateupIdeal.Gen.frame m ρ, ref_frame, trivial, algebraic⟩

end Cert.GateupProof

end
-- ==== Proof.HeadRun.lean ====
/- Head call: what the runs of its kernel body share — the branch conditions over the grid points, where the
   output windows are idle, the staging and scratch memrefs. -/
module

public import proofs.«01_k».proof.Proof.Gen.HeadIdeal.Frame
public import proofs.«01_k».proof.Proof.Gen.HeadIdeal.Points
public import proofs.«01_k».proof.Proof.Gen.HeadIdeal.Skeleton
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.HeadIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 25 = 0 :=
  (fun t => by
    have ht : t.val < 25 := Nat.lt_of_lt_of_eq t.isLt N_0
    have e0 : (grid0.coords t 0).val = t.val / 1 % 25 := Pipeline.Grid.coords_val t 0 (by decide) rfl
    simp only [cond0_0, e0]
    word_cmp
   : ∀ t : Fin grid0.N, cond0_0 (grid0.coords t) ↔ t.val % 25 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 25 = 24 :=
  (fun t => by
    have ht : t.val < 25 := Nat.lt_of_lt_of_eq t.isLt N_0
    have e0 : (grid0.coords t 0).val = t.val / 1 % 25 := Pipeline.Grid.coords_val t 0 (by decide) rfl
    simp only [cond0_1, k0_cond2, e0]
    word_cmp
   : ∀ t : Fin grid0.N, cond0_1 (grid0.coords t) ↔ t.val % 25 = 24)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- At the points of case A the printed configuration (`Cfg.idle`) calls output 6 idle: the case stores nothing into it. -/
theorem idleAt0_6_A : ∀ t : Fin cfg0.N, cond0_0 (grid0.coords t) → ¬cond0_1 (grid0.coords t) → cfg0.idle 6 (grid0.coords t) = true := by decide +kernel
/-- At the points of case A the pipeline does not write output 6's block back. -/
theorem noFlush0_6_A : ∀ t : Fin cfg0.N, cond0_0 (grid0.coords t) → ¬cond0_1 (grid0.coords t) → (cfg0.win 6).flush t = false := by decide +kernel
/-- At the points of case B the printed configuration (`Cfg.idle`) calls output 6 idle: the case stores nothing into it. -/
theorem idleAt0_6_B : ∀ t : Fin cfg0.N, ¬cond0_0 (grid0.coords t) → ¬cond0_1 (grid0.coords t) → cfg0.idle 6 (grid0.coords t) = true := by decide +kernel
/-- At the points of case B the pipeline does not write output 6's block back. -/
theorem noFlush0_6_B : ∀ t : Fin cfg0.N, ¬cond0_0 (grid0.coords t) → ¬cond0_1 (grid0.coords t) → (cfg0.win 6).flush t = false := by decide +kernel
/-- At the points of case C the printed configuration (`Cfg.idle`) calls output 6 live: the case stores into it. -/
theorem liveAt0_6_C : ∀ t : Fin cfg0.N, ¬cond0_0 (grid0.coords t) → cond0_1 (grid0.coords t) → cfg0.idle 6 (grid0.coords t) = false := by decide +kernel
/-- At the points of case A the printed configuration (`Cfg.idle`) calls output 7 idle: the case stores nothing into it. -/
theorem idleAt0_7_A : ∀ t : Fin cfg0.N, cond0_0 (grid0.coords t) → ¬cond0_1 (grid0.coords t) → cfg0.idle 7 (grid0.coords t) = true := by decide +kernel
/-- At the points of case A the pipeline does not write output 7's block back. -/
theorem noFlush0_7_A : ∀ t : Fin cfg0.N, cond0_0 (grid0.coords t) → ¬cond0_1 (grid0.coords t) → (cfg0.win 7).flush t = false := by decide +kernel
/-- At the points of case B the printed configuration (`Cfg.idle`) calls output 7 idle: the case stores nothing into it. -/
theorem idleAt0_7_B : ∀ t : Fin cfg0.N, ¬cond0_0 (grid0.coords t) → ¬cond0_1 (grid0.coords t) → cfg0.idle 7 (grid0.coords t) = true := by decide +kernel
/-- At the points of case B the pipeline does not write output 7's block back. -/
theorem noFlush0_7_B : ∀ t : Fin cfg0.N, ¬cond0_0 (grid0.coords t) → ¬cond0_1 (grid0.coords t) → (cfg0.win 7).flush t = false := by decide +kernel
/-- At the points of case C the printed configuration (`Cfg.idle`) calls output 7 live: the case stores into it. -/
theorem liveAt0_7_C : ∀ t : Fin cfg0.N, ¬cond0_0 (grid0.coords t) → cond0_1 (grid0.coords t) → cfg0.idle 7 (grid0.coords t) = false := by decide +kernel

/-! ## Where a logit tile's maximum goes -/

/-- Tile `10 i + r`'s maximum goes to slab `(10 i + r) / 128` of the group maxima. -/
theorem off1_eq (i : grid0.Coords) (r : ℕ) (hr : r < 10) : k0_off1 i (BitVec.ofNat 32 r) = ![(10 * (i 0).val + r) / 128, 0, 0] := by
  have hi : (i 0).val < 25 := (i 0).isLt
  have key : ∀ (a : Fin 25) (r : Fin 10), (Scalar.indexCast (Scalar.shrsi (Scalar.addi (Scalar.muli (BitVec.ofNat 32 a.val) 10#32) (BitVec.ofNat 32 r.val)) 7#32) : Index).toNat = (10 * a.val + r.val) / 128 := by decide +kernel
  simp only [k0_off1]
  rw [key ⟨(i 0).val, hi⟩ ⟨r, hr⟩]

instance (i : grid0.Coords) : ClosedOff (k0_off1 i 0#32) := ⟨![(10 * (i 0).val + 0) / 128, 0, 0], off1_eq i 0 (by decide)⟩
instance (i : grid0.Coords) : ClosedOff (k0_off1 i 1#32) := ⟨![(10 * (i 0).val + 1) / 128, 0, 0], off1_eq i 1 (by decide)⟩
instance (i : grid0.Coords) : ClosedOff (k0_off1 i 2#32) := ⟨![(10 * (i 0).val + 2) / 128, 0, 0], off1_eq i 2 (by decide)⟩
instance (i : grid0.Coords) : ClosedOff (k0_off1 i 3#32) := ⟨![(10 * (i 0).val + 3) / 128, 0, 0], off1_eq i 3 (by decide)⟩
instance (i : grid0.Coords) : ClosedOff (k0_off1 i 4#32) := ⟨![(10 * (i 0).val + 4) / 128, 0, 0], off1_eq i 4 (by decide)⟩
instance (i : grid0.Coords) : ClosedOff (k0_off1 i 5#32) := ⟨![(10 * (i 0).val + 5) / 128, 0, 0], off1_eq i 5 (by decide)⟩
instance (i : grid0.Coords) : ClosedOff (k0_off1 i 6#32) := ⟨![(10 * (i 0).val + 6) / 128, 0, 0], off1_eq i 6 (by decide)⟩
instance (i : grid0.Coords) : ClosedOff (k0_off1 i 7#32) := ⟨![(10 * (i 0).val + 7) / 128, 0, 0], off1_eq i 7 (by decide)⟩
instance (i : grid0.Coords) : ClosedOff (k0_off1 i 8#32) := ⟨![(10 * (i 0).val + 8) / 128, 0, 0], off1_eq i 8 (by decide)⟩
instance (i : grid0.Coords) : ClosedOff (k0_off1 i 9#32) := ⟨![(10 * (i 0).val + 9) / 128, 0, 0], off1_eq i 9 (by decide)⟩

/-! ## The kernel body on any staging memrefs: a subtype the run finds -/

/-- One staging buffer of output window 6, through which its contents are stated (`View.read_writes_of_cover`: the
    choice does not matter). -/
abbrev VO0_6 : View sig .tc .vmem S128x256 .f32 := (Memref.whole cc0_stg6_0 : Memref sig .tc .vmem S128x256 .f32).view
/-- One staging buffer of output window 7, through which its contents are stated (`View.read_writes_of_cover`: the
    choice does not matter). -/
abbrev VO0_7 : View sig .tc .vmem S128x128 .f32 := (Memref.whole cc0_stg7_0 : Memref sig .tc .vmem S128x128 .f32).view
/-- Each window's current staging memref at point `t`, spelled as the pipeline passes it (`bodyAt0`), and its wholeness. -/
abbrev ms0_0 (t : Fin cfg0.N) : Memref sig .tc .vmem S128x4096 .i8 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1280x4096 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1280 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x128 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S128x128 .f32 := Memref.whole cc0_scratch0
abbrev scM0_1 : Memref sig .tc .vmem S128x128 .f32 := Memref.whole cc0_scratch1
abbrev scM0_2 : Memref sig .tc .vmem S2x128x128 .f32 := Memref.whole cc0_scratch2
/-- The scratch `arg9` the kernel carries between points, as a view: what it holds is stated through it. -/
abbrev VS0_0 : View sig .tc .vmem S128x128 .f32 := scM0_0.view
/-- The scratch `arg10` the kernel carries between points, as a view: what it holds is stated through it. -/
abbrev VS0_1 : View sig .tc .vmem S128x128 .f32 := scM0_1.view
/-- The scratch `arg11` the kernel carries between points, as a view: what it holds is stated through it. -/
abbrev VS0_2 : View sig .tc .vmem S2x128x128 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.HeadIdeal.Gen

end
-- ==== Proof.HeadRunA.lean ====
/- Head call: the run of the kernel body in case A. -/
module

public import proofs.«01_k».proof.Proof.HeadRun

@[expose] public section

-- membership in a rectangle of production extents (`View.cover_of_tiled`): the elaborator's structural look
-- recurses once per coordinate of the long axes
set_option maxRecDepth 16384

noncomputable section

namespace Cert.HeadIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the outputs it leaves idle (6, 7: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S128x4096 .i8) (harg1 : arg1.IsWhole) (arg2 : Memref sig .tc .vmem S1280x4096 .i8) (harg2 : arg2.IsWhole) (arg3 : Memref sig .tc .vmem S1x1x1280 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x256 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S2x128x128 .f32) (harg11 : arg11.IsWhole) (hc0 : cond0_0 i) (hc1 : ¬cond0_1 i)
    (x0 : Vec F S128x4096 .i8) (x1 : Vec F S1280x4096 .i8) (x2 : Vec F S1x1x1280 .f32) (x3 : Vec F S128x128 .f32) (x4 : Vec F S128x128 .f32) (x5 : Vec F S128x128 .f32) :
    Σ' (L6 : List (View.Piece (Elt F) S128x256 .f32)), Σ' (L7 : List (View.Piece (Elt F) S128x128 .f32)), Σ' (LS0 : List (View.Piece (Elt F) S128x128 .f32)), Σ' (LS1 : List (View.Piece (Elt F) S128x128 .f32)), { LS2 : List (View.Piece (Elt F) S2x128x128 .f32) //
      ∀ (xi6 : Vec F S128x256 .f32) (xi7 : Vec F S128x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xi7 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0_head i arg1 harg1 arg2 harg2 arg3 harg3 arg4 harg4 arg5 harg5 arg6 harg6 arg7 harg7 arg8 harg8 arg9 harg9 arg10 harg10 arg11 harg11) K } := by
  refine ⟨[], [], ?_, ?_, ?_, fun xi6 xi7 E K => ?run⟩
  case run =>
    simp only [cc0_head_eq_skeleton]; unfold cc0_head_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    isplitl [HS1]; · iexists _; iexact HS1
    iexists _; iexact HS2

end Cert.HeadIdeal.Gen

end
-- ==== Proof.HeadRunB.lean ====
/- Head call: the run of the kernel body in case B. -/
module

public import proofs.«01_k».proof.Proof.HeadRun

@[expose] public section

-- membership in a rectangle of production extents (`View.cover_of_tiled`): the elaborator's structural look
-- recurses once per coordinate of the long axes
set_option maxRecDepth 16384

noncomputable section

namespace Cert.HeadIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1200000 in
/-- What the body's stores leave in each output's staging memref, as pieces (last first) IN CASE B (`scf.if` 0 not taken, `scf.if` 1 not taken: points 1, 2, … 23: 23 of 25), WITH the
    proof that on whole staging memrefs — the inputs' at their contents, the outputs it leaves idle (6, 7: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S128x4096 .i8) (harg1 : arg1.IsWhole) (arg2 : Memref sig .tc .vmem S1280x4096 .i8) (harg2 : arg2.IsWhole) (arg3 : Memref sig .tc .vmem S1x1x1280 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x256 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S2x128x128 .f32) (harg11 : arg11.IsWhole) (hc0 : ¬cond0_0 i) (hc1 : ¬cond0_1 i)
    (x0 : Vec F S128x4096 .i8) (x1 : Vec F S1280x4096 .i8) (x2 : Vec F S1x1x1280 .f32) (x3 : Vec F S128x128 .f32) (x4 : Vec F S128x128 .f32) (x5 : Vec F S128x128 .f32) (xs0 : Vec F S128x128 .f32) (xs1 : Vec F S128x128 .f32) (xs2 : Vec F S2x128x128 .f32) :
    Σ' (L6 : List (View.Piece (Elt F) S128x256 .f32)), Σ' (L7 : List (View.Piece (Elt F) S128x128 .f32)), Σ' (LS0 : List (View.Piece (Elt F) S128x128 .f32)), Σ' (LS1 : List (View.Piece (Elt F) S128x128 .f32)), { LS2 : List (View.Piece (Elt F) S2x128x128 .f32) //
      ∀ (xi6 : Vec F S128x256 .f32) (xi7 : Vec F S128x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xi7 ∗ owns (c : Thread nD τ) arg9 fullShare xs0 ∗ owns (c : Thread nD τ) arg10 fullShare xs1 ∗ owns (c : Thread nD τ) arg11 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (arg11.view.loc (c : Thread nD τ) ↦[arg11.view.set]{fullShare} arg11.view.writes (Elt F) (harg11.unread xs2) LS2)) -∗ K ⟨⟩))
          ⊢ wp frame (wpE (defs₀ (F := F)) Variants.none c none) E (cc0_head i arg1 harg1 arg2 harg2 arg3 harg3 arg4 harg4 arg5 harg5 arg6 harg6 arg7 harg7 arg8 harg8 arg9 harg9 arg10 harg10 arg11 harg11) K } := by
  refine ⟨[], [], ?_, ?_, ?_, fun xi6 xi7 E K => ?run⟩
  case run =>
    simp only [cc0_head_eq_skeleton]; unfold cc0_head_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0; obtain rfl := harg10.eq_unread hfs1; obtain rfl := harg11.eq_unread hfs2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    isplitl [HS1]; · iexists _; iexact HS1
    iexact HS2

end Cert.HeadIdeal.Gen

end
-- ==== Proof.HeadRunC.lean ====
/- Head call: the run of the kernel body in case C. -/
module

public import proofs.«01_k».proof.Proof.HeadRun

@[expose] public section

-- membership in a rectangle of production extents (`View.cover_of_tiled`): the elaborator's structural look
-- recurses once per coordinate of the long axes
set_option maxRecDepth 16384

noncomputable section

namespace Cert.HeadIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1200000 in
/-- What the body's stores leave in each output's staging memref, as pieces (last first) IN CASE C (`scf.if` 0 not taken, `scf.if` 1 taken: points 24), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S128x4096 .i8) (harg1 : arg1.IsWhole) (arg2 : Memref sig .tc .vmem S1280x4096 .i8) (harg2 : arg2.IsWhole) (arg3 : Memref sig .tc .vmem S1x1x1280 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x256 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S2x128x128 .f32) (harg11 : arg11.IsWhole) (hc0 : ¬cond0_0 i) (hc1 : cond0_1 i)
    (x0 : Vec F S128x4096 .i8) (x1 : Vec F S1280x4096 .i8) (x2 : Vec F S1x1x1280 .f32) (x3 : Vec F S128x128 .f32) (x4 : Vec F S128x128 .f32) (x5 : Vec F S128x128 .f32) (xs0 : Vec F S128x128 .f32) (xs1 : Vec F S128x128 .f32) (xs2 : Vec F S2x128x128 .f32) :
    Σ' (L6 : List (View.Piece (Elt F) S128x256 .f32)), Σ' (L7 : List (View.Piece (Elt F) S128x128 .f32)), Σ' (LS0 : List (View.Piece (Elt F) S128x128 .f32)), Σ' (LS1 : List (View.Piece (Elt F) S128x128 .f32)), { LS2 : List (View.Piece (Elt F) S2x128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (arg11.view.loc (c : Thread nD τ) ↦[arg11.view.set]{fullShare} arg11.view.writes (Elt F) (harg11.unread xs2) LS2)) -∗ K ⟨⟩))
          ⊢ wp frame (wpE (defs₀ (F := F)) Variants.none c none) E (cc0_head i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0_head_eq_skeleton]; unfold cc0_head_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs0; obtain rfl := harg10.eq_unread hfs1; obtain rfl := harg11.eq_unread hfs2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [HS0]; · iexists _; iexact HS0
    isplitl [HS1]; · iexists _; iexact HS1
    iexact HS2

end Cert.HeadIdeal.Gen

end
-- ==== Proof.HeadFrame.lean ====
/- Head call: what the outputs and the carried scratch hold after each grid point, the proof data, the body
   obligation, the run of the program and its frame. -/
module

public import proofs.«01_k».proof.Proof.HeadRunA
public import proofs.«01_k».proof.Proof.HeadRunB
public import proofs.«01_k».proof.Proof.HeadRunC
public import Idealize.ShloMosaic.Lib.Claim

@[expose] public section

-- membership in a rectangle of production extents (`View.cover_of_tiled`): the elaborator's structural look
-- recurses once per coordinate of the long axes
set_option maxRecDepth 16384

noncomputable section

namespace Cert.HeadIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Cases
variable (c : Dev nD) (i : grid0.Coords) (arg1 : Memref sig .tc .vmem S128x4096 .i8) (harg1 : arg1.IsWhole) (arg2 : Memref sig .tc .vmem S1280x4096 .i8) (harg2 : arg2.IsWhole) (arg3 : Memref sig .tc .vmem S1x1x1280 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x256 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S2x128x128 .f32) (harg11 : arg11.IsWhole)

/-- Case A stores nothing into output 6 (the window is idle at its points and not written back there):
    no pieces — a placeholder (junk read back) that nothing consults, since at these points the window is neither
    written back nor read at the next point (Lib/Pipeline.lean "Idle points"). -/
def out0_A_6 (hc0 : cond0_0 i) (hc1 : ¬cond0_1 i)
    (x0 : Vec F S128x4096 .i8) (x1 : Vec F S1280x4096 .i8) (x2 : Vec F S1x1x1280 .f32) (x3 : Vec F S128x128 .f32) (x4 : Vec F S128x128 .f32) (x5 : Vec F S128x128 .f32) : Vec F S128x256 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1)

/-- Case A stores nothing into output 7 (the window is idle at its points and not written back there):
    no pieces — a placeholder (junk read back) that nothing consults, since at these points the window is neither
    written back nor read at the next point (Lib/Pipeline.lean "Idle points"). -/
def out0_A_7 (hc0 : cond0_0 i) (hc1 : ¬cond0_1 i)
    (x0 : Vec F S128x4096 .i8) (x1 : Vec F S1280x4096 .i8) (x2 : Vec F S1x1x1280 .f32) (x3 : Vec F S128x128 .f32) (x4 : Vec F S128x128 .f32) (x5 : Vec F S128x128 .f32) : Vec F S128x128 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.1)

/-- Case A's pieces for scratch `arg9`, which the kernel carries between points, cover it: 2 pieces of `S128x128` tiling it (Lib/Ring.lean `Piece.tiledL`). -/
theorem scover0_A_0 (hc0 : cond0_0 i) (hc1 : ¬cond0_1 i)
    (x0 : Vec F S128x4096 .i8) (x1 : Vec F S1280x4096 .i8) (x2 : Vec F S1x1x1280 .f32) (x3 : Vec F S128x128 .f32) (x4 : Vec F S128x128 .f32) (x5 : Vec F S128x128 .f32) (y : S128x128.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.1 S128x128.size (by sl_kernel_rfl) y

/-- What case A leaves in scratch `arg9`: its pieces read back over junk. -/
def sout0_A_0 (hc0 : cond0_0 i) (hc1 : ¬cond0_1 i)
    (x0 : Vec F S128x4096 .i8) (x1 : Vec F S1280x4096 .i8) (x2 : Vec F S1x1x1280 .f32) (x3 : Vec F S128x128 .f32) (x4 : Vec F S128x128 .f32) (x5 : Vec F S128x128 .f32) : Vec F S128x128 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.1)

/-- Case A's pieces for scratch `arg10`, which the kernel carries between points, cover it: 2 pieces of `S128x128` tiling it (Lib/Ring.lean `Piece.tiledL`). -/
theorem scover0_A_1 (hc0 : cond0_0 i) (hc1 : ¬cond0_1 i)
    (x0 : Vec F S128x4096 .i8) (x1 : Vec F S1280x4096 .i8) (x2 : Vec F S1x1x1280 .f32) (x3 : Vec F S128x128 .f32) (x4 : Vec F S128x128 .f32) (x5 : Vec F S128x128 .f32) (y : S128x128.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1 S128x128.size (by sl_kernel_rfl) y

/-- What case A leaves in scratch `arg10`: its pieces read back over junk. -/
def sout0_A_1 (hc0 : cond0_0 i) (hc1 : ¬cond0_1 i)
    (x0 : Vec F S128x4096 .i8) (x1 : Vec F S1280x4096 .i8) (x2 : Vec F S1x1x1280 .f32) (x3 : Vec F S128x128 .f32) (x4 : Vec F S128x128 .f32) (x5 : Vec F S128x128 .f32) : Vec F S128x128 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1)

/-- Case A's pieces for scratch `arg11`, which the kernel carries between points, cover it: one of them a store of the WHOLE buffer (Lib/Ring.lean `sl_whole_mem`). -/
theorem scover0_A_2 (hc0 : cond0_0 i) (hc1 : ¬cond0_1 i)
    (x0 : Vec F S128x4096 .i8) (x1 : Vec F S1280x4096 .i8) (x2 : Vec F S1x1x1280 .f32) (x3 : Vec F S128x128 .f32) (x4 : Vec F S128x128 .f32) (x5 : Vec F S128x128 .f32) (y : S2x128x128.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1 (by sl_whole_mem) y

/-- What case A leaves in scratch `arg11`: its pieces read back over junk. -/
def sout0_A_2 (hc0 : cond0_0 i) (hc1 : ¬cond0_1 i)
    (x0 : Vec F S128x4096 .i8) (x1 : Vec F S1280x4096 .i8) (x2 : Vec F S1x1x1280 .f32) (x3 : Vec F S128x128 .f32) (x4 : Vec F S128x128 .f32) (x5 : Vec F S128x128 .f32) : Vec F S2x128x128 .f32 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1)

/-- Case B stores nothing into output 6 (the window is idle at its points and not written back there):
    no pieces — a placeholder (junk read back) that nothing consults, since at these points the window is neither
    written back nor read at the next point (Lib/Pipeline.lean "Idle points"). -/
def out0_B_6 (hc0 : ¬cond0_0 i) (hc1 : ¬cond0_1 i)
    (x0 : Vec F S128x4096 .i8) (x1 : Vec F S1280x4096 .i8) (x2 : Vec F S1x1x1280 .f32) (x3 : Vec F S128x128 .f32) (x4 : Vec F S128x128 .f32) (x5 : Vec F S128x128 .f32) (xs0 : Vec F S128x128 .f32) (xs1 : Vec F S128x128 .f32) (xs2 : Vec F S2x128x128 .f32) : Vec F S128x256 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2).1)

/-- Case B stores nothing into output 7 (the window is idle at its points and not written back there):
    no pieces — a placeholder (junk read back) that nothing consults, since at these points the window is neither
    written back nor read at the next point (Lib/Pipeline.lean "Idle points"). -/
def out0_B_7 (hc0 : ¬cond0_0 i) (hc1 : ¬cond0_1 i)
    (x0 : Vec F S128x4096 .i8) (x1 : Vec F S1280x4096 .i8) (x2 : Vec F S1x1x1280 .f32) (x3 : Vec F S128x128 .f32) (x4 : Vec F S128x128 .f32) (x5 : Vec F S128x128 .f32) (xs0 : Vec F S128x128 .f32) (xs1 : Vec F S128x128 .f32) (xs2 : Vec F S2x128x128 .f32) : Vec F S128x128 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2).2.1)

/-- Case B's pieces for scratch `arg9`, which the kernel carries between points, cover it: 1 piece of `S128x128` tiling it (Lib/Ring.lean `Piece.tiledL`). -/
theorem scover0_B_0 (hc0 : ¬cond0_0 i) (hc1 : ¬cond0_1 i)
    (x0 : Vec F S128x4096 .i8) (x1 : Vec F S1280x4096 .i8) (x2 : Vec F S1x1x1280 .f32) (x3 : Vec F S128x128 .f32) (x4 : Vec F S128x128 .f32) (x5 : Vec F S128x128 .f32) (xs0 : Vec F S128x128 .f32) (xs1 : Vec F S128x128 .f32) (xs2 : Vec F S2x128x128 .f32) (y : S128x128.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2).2.2.1 S128x128.size (by sl_kernel_rfl) y

/-- What case B leaves in scratch `arg9`: its pieces read back over junk. -/
def sout0_B_0 (hc0 : ¬cond0_0 i) (hc1 : ¬cond0_1 i)
    (x0 : Vec F S128x4096 .i8) (x1 : Vec F S1280x4096 .i8) (x2 : Vec F S1x1x1280 .f32) (x3 : Vec F S128x128 .f32) (x4 : Vec F S128x128 .f32) (x5 : Vec F S128x128 .f32) (xs0 : Vec F S128x128 .f32) (xs1 : Vec F S128x128 .f32) (xs2 : Vec F S2x128x128 .f32) : Vec F S128x128 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2).2.2.1)

/-- Case B's pieces for scratch `arg10`, which the kernel carries between points, cover it: 1 piece of `S128x128` tiling it (Lib/Ring.lean `Piece.tiledL`). -/
theorem scover0_B_1 (hc0 : ¬cond0_0 i) (hc1 : ¬cond0_1 i)
    (x0 : Vec F S128x4096 .i8) (x1 : Vec F S1280x4096 .i8) (x2 : Vec F S1x1x1280 .f32) (x3 : Vec F S128x128 .f32) (x4 : Vec F S128x128 .f32) (x5 : Vec F S128x128 .f32) (xs0 : Vec F S128x128 .f32) (xs1 : Vec F S128x128 .f32) (xs2 : Vec F S2x128x128 .f32) (y : S128x128.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1 S128x128.size (by sl_kernel_rfl) y

/-- What case B leaves in scratch `arg10`: its pieces read back over junk. -/
def sout0_B_1 (hc0 : ¬cond0_0 i) (hc1 : ¬cond0_1 i)
    (x0 : Vec F S128x4096 .i8) (x1 : Vec F S1280x4096 .i8) (x2 : Vec F S1x1x1280 .f32) (x3 : Vec F S128x128 .f32) (x4 : Vec F S128x128 .f32) (x5 : Vec F S128x128 .f32) (xs0 : Vec F S128x128 .f32) (xs1 : Vec F S128x128 .f32) (xs2 : Vec F S2x128x128 .f32) : Vec F S128x128 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1)

/-- What case B leaves in scratch `arg11`: its pieces (stores, a counted loop's segment) read back over what the point before left there, which it read first. -/
def sout0_B_2 (hc0 : ¬cond0_0 i) (hc1 : ¬cond0_1 i)
    (x0 : Vec F S128x4096 .i8) (x1 : Vec F S1280x4096 .i8) (x2 : Vec F S1x1x1280 .f32) (x3 : Vec F S128x128 .f32) (x4 : Vec F S128x128 .f32) (x5 : Vec F S128x128 .f32) (xs0 : Vec F S128x128 .f32) (xs1 : Vec F S128x128 .f32) (xs2 : Vec F S2x128x128 .f32) : Vec F S2x128x128 .f32 :=
  arg11.view.read (Elt F) (arg11.view.writes (Elt F) (harg11.unread xs2) (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2).2.2.2.2.1)

/-- Case C's pieces for output 6 tile its block (2 stores of `S128x128`, checked by the kernel's evaluation: Lib/Ring.lean `Piece.tiledL`, linear in the pieces, through a loop's `@[irreducible]` trip theorem too), so they cover it. -/
theorem cover0_C_6 (hc0 : ¬cond0_0 i) (hc1 : cond0_1 i)
    (x0 : Vec F S128x4096 .i8) (x1 : Vec F S1280x4096 .i8) (x2 : Vec F S1x1x1280 .f32) (x3 : Vec F S128x128 .f32) (x4 : Vec F S128x128 .f32) (x5 : Vec F S128x128 .f32) (xs0 : Vec F S128x128 .f32) (xs1 : Vec F S128x128 .f32) (xs2 : Vec F S2x128x128 .f32) (y : S128x256.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2).1 S128x128.size (by sl_kernel_rfl) y

/-- What case C leaves in output 6's staging buffer: its pieces read back over junk. -/
def out0_C_6 (hc0 : ¬cond0_0 i) (hc1 : cond0_1 i)
    (x0 : Vec F S128x4096 .i8) (x1 : Vec F S1280x4096 .i8) (x2 : Vec F S1x1x1280 .f32) (x3 : Vec F S128x128 .f32) (x4 : Vec F S128x128 .f32) (x5 : Vec F S128x128 .f32) (xs0 : Vec F S128x128 .f32) (xs1 : Vec F S128x128 .f32) (xs2 : Vec F S2x128x128 .f32) : Vec F S128x256 .f32 :=
  VO0_6.read (Elt F) (VO0_6.writes (Elt F) VO0_6.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2).1)

/-- Case C's pieces for output 7 tile its block (1 store of `S128x128`, checked by the kernel's evaluation: Lib/Ring.lean `Piece.tiledL`, linear in the pieces, through a loop's `@[irreducible]` trip theorem too), so they cover it. -/
theorem cover0_C_7 (hc0 : ¬cond0_0 i) (hc1 : cond0_1 i)
    (x0 : Vec F S128x4096 .i8) (x1 : Vec F S1280x4096 .i8) (x2 : Vec F S1x1x1280 .f32) (x3 : Vec F S128x128 .f32) (x4 : Vec F S128x128 .f32) (x5 : Vec F S128x128 .f32) (xs0 : Vec F S128x128 .f32) (xs1 : Vec F S128x128 .f32) (xs2 : Vec F S2x128x128 .f32) (y : S128x128.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2).2.1 S128x128.size (by sl_kernel_rfl) y

/-- What case C leaves in output 7's staging buffer: its pieces read back over junk. -/
def out0_C_7 (hc0 : ¬cond0_0 i) (hc1 : cond0_1 i)
    (x0 : Vec F S128x4096 .i8) (x1 : Vec F S1280x4096 .i8) (x2 : Vec F S1x1x1280 .f32) (x3 : Vec F S128x128 .f32) (x4 : Vec F S128x128 .f32) (x5 : Vec F S128x128 .f32) (xs0 : Vec F S128x128 .f32) (xs1 : Vec F S128x128 .f32) (xs2 : Vec F S2x128x128 .f32) : Vec F S128x128 .f32 :=
  VO0_7.read (Elt F) (VO0_7.writes (Elt F) VO0_7.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2).2.1)

/-- Case C's pieces for scratch `arg9`, which the kernel carries between points, cover it: 1 piece of `S128x128` tiling it (Lib/Ring.lean `Piece.tiledL`). -/
theorem scover0_C_0 (hc0 : ¬cond0_0 i) (hc1 : cond0_1 i)
    (x0 : Vec F S128x4096 .i8) (x1 : Vec F S1280x4096 .i8) (x2 : Vec F S1x1x1280 .f32) (x3 : Vec F S128x128 .f32) (x4 : Vec F S128x128 .f32) (x5 : Vec F S128x128 .f32) (xs0 : Vec F S128x128 .f32) (xs1 : Vec F S128x128 .f32) (xs2 : Vec F S2x128x128 .f32) (y : S128x128.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2).2.2.1 S128x128.size (by sl_kernel_rfl) y

/-- What case C leaves in scratch `arg9`: its pieces read back over junk. -/
def sout0_C_0 (hc0 : ¬cond0_0 i) (hc1 : cond0_1 i)
    (x0 : Vec F S128x4096 .i8) (x1 : Vec F S1280x4096 .i8) (x2 : Vec F S1x1x1280 .f32) (x3 : Vec F S128x128 .f32) (x4 : Vec F S128x128 .f32) (x5 : Vec F S128x128 .f32) (xs0 : Vec F S128x128 .f32) (xs1 : Vec F S128x128 .f32) (xs2 : Vec F S2x128x128 .f32) : Vec F S128x128 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2).2.2.1)

/-- Case C's pieces for scratch `arg10`, which the kernel carries between points, cover it: 1 piece of `S128x128` tiling it (Lib/Ring.lean `Piece.tiledL`). -/
theorem scover0_C_1 (hc0 : ¬cond0_0 i) (hc1 : cond0_1 i)
    (x0 : Vec F S128x4096 .i8) (x1 : Vec F S1280x4096 .i8) (x2 : Vec F S1x1x1280 .f32) (x3 : Vec F S128x128 .f32) (x4 : Vec F S128x128 .f32) (x5 : Vec F S128x128 .f32) (xs0 : Vec F S128x128 .f32) (xs1 : Vec F S128x128 .f32) (xs2 : Vec F S2x128x128 .f32) (y : S128x128.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1 S128x128.size (by sl_kernel_rfl) y

/-- What case C leaves in scratch `arg10`: its pieces read back over junk. -/
def sout0_C_1 (hc0 : ¬cond0_0 i) (hc1 : cond0_1 i)
    (x0 : Vec F S128x4096 .i8) (x1 : Vec F S1280x4096 .i8) (x2 : Vec F S1x1x1280 .f32) (x3 : Vec F S128x128 .f32) (x4 : Vec F S128x128 .f32) (x5 : Vec F S128x128 .f32) (xs0 : Vec F S128x128 .f32) (xs1 : Vec F S128x128 .f32) (xs2 : Vec F S2x128x128 .f32) : Vec F S128x128 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1)

/-- What case C leaves in scratch `arg11`: its pieces (stores, a counted loop's segment) read back over what the point before left there, which it read first. -/
def sout0_C_2 (hc0 : ¬cond0_0 i) (hc1 : cond0_1 i)
    (x0 : Vec F S128x4096 .i8) (x1 : Vec F S1280x4096 .i8) (x2 : Vec F S1x1x1280 .f32) (x3 : Vec F S128x128 .f32) (x4 : Vec F S128x128 .f32) (x5 : Vec F S128x128 .f32) (xs0 : Vec F S128x128 .f32) (xs1 : Vec F S128x128 .f32) (xs2 : Vec F S2x128x128 .f32) : Vec F S2x128x128 .f32 :=
  arg11.view.read (Elt F) (arg11.view.writes (Elt F) (harg11.unread xs2) (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2).2.2.2.2.1)

/-! ## What the outputs hold after each point -/

end Cases

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S128x256 .f32 × Vec F S128x128 .f32 × Vec F S128x128 .f32 × Vec F S128x128 .f32 × Vec F S2x128x128 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 25 = 0 then
      if h1 : (n + 1) % 25 = 24 then
        False.elim (by have hN : n + 1 < 25 := lt_of_lt_of_eq hn (show cfg0.N = 25 from N_0); omega)
      else
        (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      if h1 : (n + 1) % 25 = 24 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2.1 (outsAt0 c n (Nat.lt_of_succ_lt hn)).2.2.2.2, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2.1 (outsAt0 c n (Nat.lt_of_succ_lt hn)).2.2.2.2)
      else
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2.1 (outsAt0 c n (Nat.lt_of_succ_lt hn)).2.2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2.1 (outsAt0 c n (Nat.lt_of_succ_lt hn)).2.2.2.2)

/-- `outsAt0` at a point of case A: that case's contents. -/
theorem outsAt0_A (c : Dev nD) (t : Fin cfg0.N) (h0 : t.val % 25 = 0) (h1 : ¬t.val % 25 = 24) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 25 = 0) (h1 : ¬t.val % 25 = 24) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 25 = 0) (h1 : t.val % 25 = 24) :
    outsAt0 m c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2.1) ∗ owns (c : Thread nD τ) scM0_2 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2.1) ∗ owns (c : Thread nD τ) scM0_2 fullShare ((outsAt0 m c n hn).2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2.1) ∗ owns (c : Thread nD τ) scM0_2 fullShare ((outsAt0 m c (n - 1) (by omega)).2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 25 := lt_of_lt_of_eq t.isLt (show cfg0.N = 25 from N_0)
  by_cases h0 : t.val % 25 = 0
  · by_cases h1 : t.val % 25 = 24
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [Dat.leavesExact_idle (dats m 0 c) 6 t (idleAt0_6_A t ((hcond0_0 t).mpr h0) (fun h => h1 ((hcond0_1 t).mp h))) (noFlush0_6_A t ((hcond0_0 t).mpr h0) (fun h => h1 ((hcond0_1 t).mp h)))]
      rw [Dat.leavesExact_idle (dats m 0 c) 7 t (idleAt0_7_A t ((hcond0_0 t).mpr h0) (fun h => h1 ((hcond0_1 t).mp h))) (noFlush0_7_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold sout0_A_0 sout0_A_1 sout0_A_2; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        isplitl [HS2]; · iexact HS2
        iintro ⟨H0, H1, H2, H3, H4, H5, H6, H7, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7
      · exfalso; have hN : t.val < 25 := lt_of_lt_of_eq t.isLt (show cfg0.N = 25 from N_0); omega
  · by_cases h1 : t.val % 25 = 24
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6_C t (fun h => h0 ((hcond0_0 t).mp h)) ((hcond0_1 t).mpr h1)], after0_6]
      rw [show (dats m 0 c).leavesExact 7 t = owns (c : Thread nD τ) (ms0_7 t) fullShare ((dats m 0 c).after 7 t) from by
      unfold Dat.leavesExact; rw [liveAt0_7_C t (fun h => h0 ((hcond0_0 t).mp h)) ((hcond0_1 t).mpr h1)], after0_7]
      by_cases hz : t.val = 0
      · exfalso; have hN : t.val < 25 := lt_of_lt_of_eq t.isLt (show cfg0.N = 25 from N_0); omega
      · rw [PhiS_castSucc m c t, PhiS_pos m c _ _ hz]
        rw [outsAt0_C m c t h0 h1]
        unfold out0_C_6 out0_C_7 sout0_C_0 sout0_C_1 sout0_C_2; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _ _ _).2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        isplitl [HS1]; · iexact HS1
        isplitl [HS2]; · iexact HS2
        iintro ⟨H0, H1, H2, H3, H4, H5, ⟨%e6, H6⟩, ⟨%e7, H7⟩, ⟨%es0, HS0⟩, ⟨%es1, HS1⟩, HS2⟩
        isplitl [HS0 HS1 HS2 Hg]
        · isplitl [HS0 HS1 HS2]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _ _ _)
            unfold owns; iexists _; isplitr
            swap; · iexact HS2
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_C_6 c _ _ _ _ _ _ _ _ _ _ _ _ _ _ _ _ _ _ _ _ _ _ _ _ _ _ _ _ _ _ _ _ _ _)
        unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [Dat.leavesExact_idle (dats m 0 c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [Dat.leavesExact_idle (dats m 0 c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      by_cases hz : t.val = 0
      · exfalso; have hN : t.val < 25 := lt_of_lt_of_eq t.isLt (show cfg0.N = 25 from N_0); omega
      · rw [PhiS_castSucc m c t, PhiS_pos m c _ _ hz]
        rw [outsAt0_B m c t h0 h1]
        unfold sout0_B_0 sout0_B_1 sout0_B_2; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _ _ _).2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        isplitl [HS2]; · iexact HS2
        iintro ⟨H0, H1, H2, H3, H4, H5, H6, H7, ⟨%es0, HS0⟩, ⟨%es1, HS1⟩, HS2⟩
        isplitl [HS0 HS1 HS2 Hg]
        · isplitl [HS0 HS1 HS2]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _ _)
            unfold owns; iexists _; isplitr
            swap; · iexact HS2
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 25 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: `Cert.quiescent_HeadIdeal`'s statement (Defs.lean) at any `F` — Proof.lean cites it at `Bits`:
    `theorem Cert.Proof.claim : Cert.Claim := ⟨Cert.HeadIdeal.Gen.facts, fun m ρ _ => Cert.HeadIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.HeadIdeal.Gen

end
-- ==== Proof.HeadMath.lean ====
/- Head call: the arithmetic of a running maximum and a running sum of powers of two over the extended reals, by
   which a log-sum-exp taken lane by lane and tile by tile is the log-sum-exp of the whole row. -/
module

public import Idealize.ShloMosaic.PureOps.Ideal
public import Mathlib.Data.EReal.Operations
public import Mathlib.Analysis.SpecialFunctions.Pow.Real

@[expose] public section

noncomputable section

namespace Cert.HeadMath

open Idealize.ShloMosaic

/-- The least integer not below an extended real; an infinity is its own. -/
abbrev ceil (x : EReal) : EReal := Ideal.liftRound Int.ceil x

theorem le_ceil (x : EReal) : x ≤ ceil x := by
  induction x using EReal.rec with
  | bot => exact bot_le
  | top => exact le_rfl
  | coe r => exact EReal.coe_le_coe_iff.mpr (Int.le_ceil r)

theorem ceil_mono {x y : EReal} (h : x ≤ y) : ceil x ≤ ceil y := by
  induction x using EReal.rec with
  | bot => exact bot_le
  | top => rw [top_le_iff.mp h]
  | coe r =>
    induction y using EReal.rec with
    | bot => exact absurd h (by simp)
    | top => exact le_top
    | coe s => exact EReal.coe_le_coe_iff.mpr (Int.cast_le.mpr (Int.ceil_le_ceil (EReal.coe_le_coe_iff.mp h)))

theorem ceil_max (x y : EReal) : ceil (max x y) = max (ceil x) (ceil y) := by
  rcases le_total x y with h | h
  · rw [max_eq_right h, max_eq_right (ceil_mono h)]
  · rw [max_eq_left h, max_eq_left (ceil_mono h)]

/-- The ceiling of a maximum over a set is the maximum of the ceilings. -/
theorem ceil_sup {ι : Type*} (s : Finset ι) (f : ι → EReal) : ceil (s.sup f) = s.sup fun i => ceil (f i) :=
  Finset.comp_sup_eq_sup_comp ceil ceil_max rfl

theorem exp2_nonneg (x : EReal) : 0 ≤ Ideal.exp2 x := by
  induction x using EReal.rec with
  | bot => exact le_rfl
  | top => exact le_top
  | coe r => exact EReal.coe_nonneg.mpr (Real.rpow_nonneg (by norm_num) r)

/-- Rescaling a power of two from the maximum `b` to a later maximum `a`. -/
theorem exp2_mul {l b a : EReal} (hl : l ≤ b) (hb : b ≤ a) : Ideal.exp2 (l - b) * Ideal.exp2 (b - a) = Ideal.exp2 (l - a) := by
  induction a using EReal.rec with
  | bot => obtain rfl := le_bot_iff.mp hb; obtain rfl := le_bot_iff.mp hl; simp
  | top => simp
  | coe a =>
    induction b using EReal.rec with
    | bot => obtain rfl := le_bot_iff.mp hl; simp
    | top => exact absurd hb (by simp)
    | coe b =>
      induction l using EReal.rec with
      | bot => simp
      | top => exact absurd hl (by simp)
      | coe l =>
        rw [← EReal.coe_sub, ← EReal.coe_sub, ← EReal.coe_sub, Ideal.exp2_coe, Ideal.exp2_coe, Ideal.exp2_coe, ← EReal.coe_mul]
        refine congrArg _ ((Real.rpow_add (by norm_num) _ _).symm.trans ?_)
        congr 1; ring

/-- A sum of nonnegative terms times a nonnegative factor, term by term. -/
theorem sum_mul {ι : Type*} (s : Finset ι) (f : ι → EReal) (hf : ∀ i, 0 ≤ f i) (c : EReal) :
    (∑ i ∈ s, f i) * c = ∑ i ∈ s, f i * c := by
  classical
  induction s using Finset.induction_on with
  | empty => simp
  | insert a s ha ih =>
    rw [Finset.sum_insert ha, Finset.sum_insert ha, EReal.right_distrib_of_nonneg (hf a) (Finset.sum_nonneg fun i _ => hf i), ih]

/-- A sum of powers of two relative to the maximum `b`, rescaled to a later maximum `a`. -/
theorem rescale {ι : Type*} (s : Finset ι) (f : ι → EReal) {b a : EReal} (hf : ∀ i ∈ s, f i ≤ b) (hb : b ≤ a) :
    (∑ i ∈ s, Ideal.exp2 (f i - b)) * Ideal.exp2 (b - a) = ∑ i ∈ s, Ideal.exp2 (f i - a) := by
  rw [sum_mul s _ fun i => exp2_nonneg _]
  exact Finset.sum_congr rfl fun i hi => exp2_mul (hf i hi) hb

/-- The running maximum of the ceilings of the first `n` values. -/
def mx (f : ℕ → EReal) (n : ℕ) : EReal := (Finset.range n).sup fun g => ceil (f g)

/-- The running sum of powers of two relative to the running maximum. -/
def sm (f : ℕ → EReal) (n : ℕ) : EReal := ∑ g ∈ Finset.range n, Ideal.exp2 (f g - mx f n)

theorem mx_succ (f : ℕ → EReal) (n : ℕ) : mx f (n + 1) = max (mx f n) (ceil (f n)) := by
  unfold mx; rw [Finset.range_add_one, Finset.sup_insert, max_comm]

theorem mx_add (f : ℕ → EReal) (n k : ℕ) : mx f (n + k) = max (mx f n) ((Finset.range k).sup fun j => ceil (f (n + j))) := by
  induction k with
  | zero => simp
  | succ k ih => rw [← Nat.add_assoc, mx_succ, ih, Finset.range_add_one, Finset.sup_insert, max_assoc, max_comm (ceil (f (n + k)))]

theorem le_mx (f : ℕ → EReal) {g n : ℕ} (h : g < n) : f g ≤ mx f n :=
  (le_ceil _).trans (Finset.le_sup (f := fun g => ceil (f g)) (Finset.mem_range.mpr h))

/-- One step of the running maximum over ten more values. -/
theorem mx_step (f : ℕ → EReal) (n : ℕ) :
    max (mx f n) (ceil (max (max (max (max (max (max (max (max (max (f n) (f (n + 1))) (f (n + 2))) (f (n + 3))) (f (n + 4))) (f (n + 5))) (f (n + 6))) (f (n + 7))) (f (n + 8))) (f (n + 9))))
      = mx f (n + 10) := by
  rw [mx_add]
  simp only [ceil_max]
  congr 1
  simp only [Finset.range_add_one, Finset.sup_insert, Finset.range_zero, Finset.sup_empty, Nat.add_zero]
  simp only [sup_bot_eq]
  ac_rfl

/-- One step of the running sum over ten more values. -/
theorem sm_step (f : ℕ → EReal) (n : ℕ) {m : EReal} (hm : m = mx f (n + 10)) :
    sm f n * Ideal.exp2 (mx f n - m) + Ideal.exp2 (f n - m) + Ideal.exp2 (f (n + 1) - m) + Ideal.exp2 (f (n + 2) - m) + Ideal.exp2 (f (n + 3) - m)
      + Ideal.exp2 (f (n + 4) - m) + Ideal.exp2 (f (n + 5) - m) + Ideal.exp2 (f (n + 6) - m) + Ideal.exp2 (f (n + 7) - m) + Ideal.exp2 (f (n + 8) - m)
      + Ideal.exp2 (f (n + 9) - m) = sm f (n + 10) := by
  subst hm
  rw [sm, rescale _ _ (fun i hi => le_mx f (Finset.mem_range.mp hi)) (by rw [mx_add]; exact le_max_left _ _), sm]
  simp only [Finset.sum_range_succ]

/-- The lanes' sums, rescaled to the maximum over the lanes, add up to the sum over the whole row. -/
theorem lanes {ι : Type*} (s : Finset ι) (f : ι → ℕ → EReal) (n : ℕ) {M : EReal} (hM : M = s.sup fun l => mx (f l) n) :
    (∑ l ∈ s, sm (f l) n * Ideal.exp2 (mx (f l) n - M)) = ∑ l ∈ s, ∑ g ∈ Finset.range n, Ideal.exp2 (f l g - M) := by
  subst hM
  exact Finset.sum_congr rfl fun l hl =>
    rescale _ _ (fun i hi => le_mx (f l) (Finset.mem_range.mp hi)) (Finset.le_sup (f := fun l => mx (f l) n) hl)

/-- Adding on the left and subtracting on the right commute with a maximum over a nonempty set. -/
theorem sup_affine {ι : Type*} (s : Finset ι) (hs : s.Nonempty) (f : ι → EReal) (a c : EReal) :
    a + s.sup f - c = s.sup fun i => a + f i - c := by
  have mono : Monotone fun x : EReal => a + x - c := fun x y h => EReal.sub_le_sub (add_le_add le_rfl h) le_rfl
  rw [← Finset.sup'_eq_sup hs, ← Finset.sup'_eq_sup hs]
  exact Finset.comp_sup'_eq_sup'_comp hs (fun x : EReal => a + x - c) fun x y => mono.map_sup x y

end Cert.HeadMath

end
-- ==== Proof.HeadStep.lean ====
/- Head call: what one run of the kernel body writes, as functions of the tiles of logits. -/
module
public import proofs.«01_k».proof.Proof.HeadFrame
public import proofs.«01_k».proof.Proof.HeadMath
public import proofs.«01_k».proof.Proof.Awq
public import Idealize.ShloMosaic.Lib.Pipeline.ValueKit
@[expose] public section
set_option maxRecDepth 16384
noncomputable section
namespace Cert.HeadIdeal.RefValue
open Cert.HeadIdeal Cert.HeadIdeal.Gen Idealize.ShloMosaic Idealize.ShloMosaic.TcCoe Idealize.SL.Sem

theorem hz : (![0, 0] : Fin 2 → Nat) = fun _ => 0 := funext fun a => by fin_cases a <;> rfl

/-- A tile of 128 columns lies within the 1280 columns of a block. -/
theorem slices (j : ℕ) (h : j < 10) : S128x1280.Slices ![0, 128 * j] S128x128 := by
  interval_cases j <;> decide

/-- Tile `j` of a block's logits: the products, times the row's scale, times the column's scale, times the row's
    inverse temperature. -/
def tl (y : FVec Ideal S128x1280 .f32) (asc : Vec Ideal S128x128 .f32) (hs : ∀ j, j < 10 → Vec Ideal S1x1x128 .f32)
    (it : Vec Ideal S128x128 .f32) (j : ℕ) (h : j < 10) : FVec Ideal S128x128 .f32 :=
  mulf (mulf (mulf (extractStridedSlice S128x128 ![0, 128 * j] y (slices j h)) (shapeCast S128x128 asc shapeCasts_S128x128_S128x128))
    (broadcastTo S128x128 (shapeCast S1x128 (hs j h) shapeCasts_S1x1x128_S1x128) broadcasts_S1x128_S128x128))
    (shapeCast S128x128 it shapeCasts_S128x128_S128x128)

/-- A tile in units of the binary logarithm. -/
def l2 (t : FVec Ideal S128x128 .f32) : FVec Ideal S128x128 .f32 := mulf t (broadcast S128x128 (Scalar.ofBits .f32 0x3FB8AA3B#32))

/-- The lanes' running maxima after ten more tiles. -/
def nmx (T : ∀ j, j < 10 → FVec Ideal S128x128 .f32) (mx : FVec Ideal S128x128 .f32) : FVec Ideal S128x128 .f32 :=
  maximumf mx (ceil (maximumf (maximumf (maximumf (maximumf (maximumf (maximumf (maximumf (maximumf (maximumf (l2 (T 0 (by decide))) (l2 (T 1 (by decide)))) (l2 (T 2 (by decide)))) (l2 (T 3 (by decide))))
    (l2 (T 4 (by decide)))) (l2 (T 5 (by decide)))) (l2 (T 6 (by decide)))) (l2 (T 7 (by decide)))) (l2 (T 8 (by decide)))) (l2 (T 9 (by decide)))))

/-- The lanes' running sums after ten more tiles, relative to the new maxima. -/
def nsm (T : ∀ j, j < 10 → FVec Ideal S128x128 .f32) (mx sm : FVec Ideal S128x128 .f32) : FVec Ideal S128x128 .f32 :=
  addf (addf (addf (addf (addf (addf (addf (addf (addf (addf (mulf sm (exp2 (subf mx (nmx T mx))))
    (exp2 (subf (l2 (T 0 (by decide))) (nmx T mx)))) (exp2 (subf (l2 (T 1 (by decide))) (nmx T mx)))) (exp2 (subf (l2 (T 2 (by decide))) (nmx T mx))))
    (exp2 (subf (l2 (T 3 (by decide))) (nmx T mx)))) (exp2 (subf (l2 (T 4 (by decide))) (nmx T mx)))) (exp2 (subf (l2 (T 5 (by decide))) (nmx T mx))))
    (exp2 (subf (l2 (T 6 (by decide))) (nmx T mx)))) (exp2 (subf (l2 (T 7 (by decide))) (nmx T mx)))) (exp2 (subf (l2 (T 8 (by decide))) (nmx T mx))))
    (exp2 (subf (l2 (T 9 (by decide))) (nmx T mx)))

/-- The update of a slab of the group maxima by tile `j`: the lane of that tile's group takes the tile's row maximum. -/
def upd (i : grid0.Coords) (j : ℕ) (tile : FVec Ideal S128x128 .f32) (old : Vec Ideal S1x128x128 .f32) : FVec Ideal S1x128x128 .f32 :=
  shapeCast S1x128x128 (select (cmpi .eq (iota .tc S128x128 32 [1] iota_S128x128_d1_w32)
      (broadcast S128x128 (Scalar.andi (Scalar.addi (Scalar.muli (BitVec.ofNat 32 (i 0).val) 10#32) (BitVec.ofNat 32 j)) 127#32)))
    (broadcastTo S128x128 (shapeCast S128x1 (shapeCast S128x1 (multiReduction .maximumf [1] S128 tile 0xFF800000#32 reduces_S128x128_S128 (.inl rfl) rfl)
      shapeCasts_S128_S128x1) shapeCasts_S128x1_S128x1) broadcasts_S128x1_S128x128)
    (shapeCast S128x128 old shapeCasts_S1x128x128_S128x128)) shapeCasts_S128x128_S1x128x128

theorem inb (i : grid0.Coords) (j : ℕ) (h : j < 10) : ∀ a, k0_off1 i (BitVec.ofNat 32 j) a + S1x128x128.size a ≤ S2x128x128.size a := by
  rw [off1_eq i j h]
  have hi : (i 0).val < 25 := (i 0).isLt
  intro a
  fin_cases a
  · show (10 * (i 0).val + j) / 128 + 1 ≤ 2
    omega
  · show 0 + 128 ≤ 128
    omega
  · show 0 + 128 ≤ 128
    omega

/-- The slab that tile `j`'s group lies in. -/
def slab (i : grid0.Coords) (j : ℕ) (h : j < 10) : Rect S2x128x128 := Rect.unit (k0_off1 i (BitVec.ofNat 32 j)) S1x128x128.size (inb i j h)

/-- The pieces of the group maxima after the first `n` tiles, over pieces `L0` and contents `f`. -/
def Lp {κ : Kind} {sp : Space} (v : View sig κ sp S2x128x128 .f32) (f : v.ty.Contents (Elt Ideal)) (i : grid0.Coords) (L0 : List (View.Piece (Elt Ideal) S2x128x128 .f32))
    (T : ∀ j, j < 10 → FVec Ideal S128x128 .f32) : (n : ℕ) → n ≤ 10 → List (View.Piece (Elt Ideal) S2x128x128 .f32)
  | 0, _ => L0
  | n + 1, h => ⟨slab i n h, upd i n (T n h) (v.readAt (Elt Ideal) (slab i n h).toLoadRect (v.writes (Elt Ideal) f (Lp v f i L0 T n (Nat.le_of_succ_le h))))⟩
      :: Lp v f i L0 T n (Nat.le_of_succ_le h)

theorem hsb (j : ℕ) (h : j < 10) : ∀ a, (![0, 0, 128 * j] : Fin 3 → Nat) a + S1x1x128.size a ≤ S1x1x1280.size a := by
  intro a
  fin_cases a
  · show 0 + 1 ≤ 1
    omega
  · show 0 + 1 ≤ 1
    omega
  · show 128 * j + 128 ≤ 1280
    omega

/-- The tiles of a block, from the blocks that the body reads. -/
def tiles (x0 : Vec Ideal S128x4096 .i8) (x1 : Vec Ideal S1280x4096 .i8) (x2 : Vec Ideal S1x1x1280 .f32) (x3 x4 : Vec Ideal S128x128 .f32) :
    ∀ j, j < 10 → FVec Ideal S128x128 .f32 :=
  tl (k0_pay11 x0 x1) x3 (fun j h => View.ld (Val := Elt Ideal) x2 (Rect.unit (s := S1x1x1280) ![0, 0, 128 * j] S1x1x128.size (hsb j h))) x4

/-- The whole of the slabs, written with the initial contents. -/
def L0 : List (View.Piece (Elt Ideal) S2x128x128 .f32) :=
  [⟨Rect.unit (s := S2x128x128) ![0, 0, 0] S2x128x128.size inb_S2x128x128_S2x128x128_0_0_0, k0_pay10 (F := Ideal)⟩]

/-- Case A: the lanes' maxima that the body leaves. -/
theorem mx_A (c : Dev nD) (i : grid0.Coords) (arg1 : Memref sig .tc .vmem S128x4096 .i8) (harg1 : arg1.IsWhole) (arg2 : Memref sig .tc .vmem S1280x4096 .i8) (harg2 : arg2.IsWhole) (arg3 : Memref sig .tc .vmem S1x1x1280 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x256 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S2x128x128 .f32) (harg11 : arg11.IsWhole) (hc0 : cond0_0 i) (hc1 : ¬cond0_1 i) (x0 : Vec Ideal S128x4096 .i8) (x1 : Vec Ideal S1280x4096 .i8) (x2 : Vec Ideal S1x1x1280 .f32) (x3 : Vec Ideal S128x128 .f32) (x4 : Vec Ideal S128x128 .f32) (x5 : Vec Ideal S128x128 .f32) :
    sout0_A_0 c i arg1 harg1 arg2 harg2 arg3 harg3 arg4 harg4 arg5 harg5 arg6 harg6 arg7 harg7 arg8 harg8 arg9 harg9 arg10 harg10 arg11 harg11 hc0 hc1 x0 x1 x2 x3 x4 x5 = nmx (tiles x0 x1 x2 x3 x4) k0_pay8 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (Val := Elt Ideal) hz]
  simp only [View.readAt_eq_ld, harg1.read_unread, harg2.read_unread, harg3.read_unread, harg4.read_unread, harg5.read_unread, harg6.read_unread]
  simp only [Awq.readCov_whole (S := S128x128) _ hz, View.ld_unit_zero (S := S128x128) hz, View.ld_unit_zero (S := S128x4096) hz, View.ld_unit_zero (S := S1280x4096) hz]
  exact shapeCast_self _ _

/-- Case A: the lanes' sums that the body leaves. -/
theorem sm_A (c : Dev nD) (i : grid0.Coords) (arg1 : Memref sig .tc .vmem S128x4096 .i8) (harg1 : arg1.IsWhole) (arg2 : Memref sig .tc .vmem S1280x4096 .i8) (harg2 : arg2.IsWhole) (arg3 : Memref sig .tc .vmem S1x1x1280 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x256 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S2x128x128 .f32) (harg11 : arg11.IsWhole) (hc0 : cond0_0 i) (hc1 : ¬cond0_1 i) (x0 : Vec Ideal S128x4096 .i8) (x1 : Vec Ideal S1280x4096 .i8) (x2 : Vec Ideal S1x1x1280 .f32) (x3 : Vec Ideal S128x128 .f32) (x4 : Vec Ideal S128x128 .f32) (x5 : Vec Ideal S128x128 .f32) :
    sout0_A_1 c i arg1 harg1 arg2 harg2 arg3 harg3 arg4 harg4 arg5 harg5 arg6 harg6 arg7 harg7 arg8 harg8 arg9 harg9 arg10 harg10 arg11 harg11 hc0 hc1 x0 x1 x2 x3 x4 x5 = nsm (tiles x0 x1 x2 x3 x4) k0_pay8 k0_pay9 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (Val := Elt Ideal) hz]
  simp only [View.readAt_eq_ld, harg1.read_unread, harg2.read_unread, harg3.read_unread, harg4.read_unread, harg5.read_unread, harg6.read_unread]
  simp only [Awq.readCov_whole (S := S128x128) _ hz, View.ld_unit_zero (S := S128x128) hz, View.ld_unit_zero (S := S128x4096) hz, View.ld_unit_zero (S := S1280x4096) hz]
  exact shapeCast_self _ _

/-- Case B: the lanes' maxima that the body leaves. -/
theorem mx_B (c : Dev nD) (i : grid0.Coords) (arg1 : Memref sig .tc .vmem S128x4096 .i8) (harg1 : arg1.IsWhole) (arg2 : Memref sig .tc .vmem S1280x4096 .i8) (harg2 : arg2.IsWhole) (arg3 : Memref sig .tc .vmem S1x1x1280 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x256 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S2x128x128 .f32) (harg11 : arg11.IsWhole) (hc0 : ¬cond0_0 i) (hc1 : ¬cond0_1 i) (x0 : Vec Ideal S128x4096 .i8) (x1 : Vec Ideal S1280x4096 .i8) (x2 : Vec Ideal S1x1x1280 .f32) (x3 : Vec Ideal S128x128 .f32) (x4 : Vec Ideal S128x128 .f32) (x5 : Vec Ideal S128x128 .f32) (xs0 : Vec Ideal S128x128 .f32) (xs1 : Vec Ideal S128x128 .f32) (xs2 : Vec Ideal S2x128x128 .f32) :
    sout0_B_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 = nmx (tiles x0 x1 x2 x3 x4) xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_B
  dsimp only
  sl_unfold_words
  rw [View.canon_unit_zero hz]
  simp only [View.readAt_eq_ld, harg1.read_unread, harg2.read_unread, harg3.read_unread, harg4.read_unread, harg5.read_unread, harg6.read_unread, harg9.read_unread, harg10.read_unread]
  simp only [View.ld_unit_zero (S := S128x128) hz, View.ld_unit_zero (S := S128x4096) hz, View.ld_unit_zero (S := S1280x4096) hz]
  exact shapeCast_self _ _

/-- Case B: the lanes' sums that the body leaves. -/
theorem sm_B (c : Dev nD) (i : grid0.Coords) (arg1 : Memref sig .tc .vmem S128x4096 .i8) (harg1 : arg1.IsWhole) (arg2 : Memref sig .tc .vmem S1280x4096 .i8) (harg2 : arg2.IsWhole) (arg3 : Memref sig .tc .vmem S1x1x1280 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x256 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S2x128x128 .f32) (harg11 : arg11.IsWhole) (hc0 : ¬cond0_0 i) (hc1 : ¬cond0_1 i) (x0 : Vec Ideal S128x4096 .i8) (x1 : Vec Ideal S1280x4096 .i8) (x2 : Vec Ideal S1x1x1280 .f32) (x3 : Vec Ideal S128x128 .f32) (x4 : Vec Ideal S128x128 .f32) (x5 : Vec Ideal S128x128 .f32) (xs0 : Vec Ideal S128x128 .f32) (xs1 : Vec Ideal S128x128 .f32) (xs2 : Vec Ideal S2x128x128 .f32) :
    sout0_B_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 = nsm (tiles x0 x1 x2 x3 x4) xs0 xs1 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_B
  dsimp only
  sl_unfold_words
  rw [View.canon_unit_zero hz]
  simp only [View.readAt_eq_ld, harg1.read_unread, harg2.read_unread, harg3.read_unread, harg4.read_unread, harg5.read_unread, harg6.read_unread, harg9.read_unread, harg10.read_unread]
  simp only [View.ld_unit_zero (S := S128x128) hz, View.ld_unit_zero (S := S128x4096) hz, View.ld_unit_zero (S := S1280x4096) hz]
  exact shapeCast_self _ _

/-- Case C: the lanes' maxima that the body leaves. -/
theorem mx_C (c : Dev nD) (i : grid0.Coords) (arg1 : Memref sig .tc .vmem S128x4096 .i8) (harg1 : arg1.IsWhole) (arg2 : Memref sig .tc .vmem S1280x4096 .i8) (harg2 : arg2.IsWhole) (arg3 : Memref sig .tc .vmem S1x1x1280 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x256 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S2x128x128 .f32) (harg11 : arg11.IsWhole) (hc0 : ¬cond0_0 i) (hc1 : cond0_1 i) (x0 : Vec Ideal S128x4096 .i8) (x1 : Vec Ideal S1280x4096 .i8) (x2 : Vec Ideal S1x1x1280 .f32) (x3 : Vec Ideal S128x128 .f32) (x4 : Vec Ideal S128x128 .f32) (x5 : Vec Ideal S128x128 .f32) (xs0 : Vec Ideal S128x128 .f32) (xs1 : Vec Ideal S128x128 .f32) (xs2 : Vec Ideal S2x128x128 .f32) :
    sout0_C_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 = nmx (tiles x0 x1 x2 x3 x4) xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_C
  dsimp only
  sl_unfold_words
  rw [View.canon_unit_zero hz]
  simp only [View.readAt_eq_ld, harg1.read_unread, harg2.read_unread, harg3.read_unread, harg4.read_unread, harg5.read_unread, harg6.read_unread, harg9.read_unread, harg10.read_unread]
  simp only [View.ld_unit_zero (S := S128x128) hz, View.ld_unit_zero (S := S128x4096) hz, View.ld_unit_zero (S := S1280x4096) hz]
  exact shapeCast_self _ _

/-- Case C: the lanes' sums that the body leaves. -/
theorem sm_C (c : Dev nD) (i : grid0.Coords) (arg1 : Memref sig .tc .vmem S128x4096 .i8) (harg1 : arg1.IsWhole) (arg2 : Memref sig .tc .vmem S1280x4096 .i8) (harg2 : arg2.IsWhole) (arg3 : Memref sig .tc .vmem S1x1x1280 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x256 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S2x128x128 .f32) (harg11 : arg11.IsWhole) (hc0 : ¬cond0_0 i) (hc1 : cond0_1 i) (x0 : Vec Ideal S128x4096 .i8) (x1 : Vec Ideal S1280x4096 .i8) (x2 : Vec Ideal S1x1x1280 .f32) (x3 : Vec Ideal S128x128 .f32) (x4 : Vec Ideal S128x128 .f32) (x5 : Vec Ideal S128x128 .f32) (xs0 : Vec Ideal S128x128 .f32) (xs1 : Vec Ideal S128x128 .f32) (xs2 : Vec Ideal S2x128x128 .f32) :
    sout0_C_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 = nsm (tiles x0 x1 x2 x3 x4) xs0 xs1 := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_C
  dsimp only
  sl_unfold_words
  rw [View.canon_unit_zero hz]
  simp only [View.readAt_eq_ld, harg1.read_unread, harg2.read_unread, harg3.read_unread, harg4.read_unread, harg5.read_unread, harg6.read_unread, harg9.read_unread, harg10.read_unread]
  simp only [View.ld_unit_zero (S := S128x128) hz, View.ld_unit_zero (S := S128x4096) hz, View.ld_unit_zero (S := S1280x4096) hz]
  exact shapeCast_self _ _

end Cert.HeadIdeal.RefValue

end
-- ==== Proof.HeadPieces.lean ====
/- Head call: the pieces of the group maxima that one run of the kernel body writes. -/
module
public import proofs.«01_k».proof.Proof.HeadStep
@[expose] public section
set_option maxRecDepth 16384
noncomputable section
namespace Cert.HeadIdeal.RefValue
open Cert.HeadIdeal Cert.HeadIdeal.Gen Idealize.ShloMosaic Idealize.ShloMosaic.TcCoe Idealize.SL.Sem

set_option maxHeartbeats 2000000 in
/-- Case A: the pieces of the group maxima. -/
theorem gp_A (c : Dev nD) (i : grid0.Coords) (arg1 : Memref sig .tc .vmem S128x4096 .i8) (harg1 : arg1.IsWhole) (arg2 : Memref sig .tc .vmem S1280x4096 .i8) (harg2 : arg2.IsWhole) (arg3 : Memref sig .tc .vmem S1x1x1280 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x256 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S2x128x128 .f32) (harg11 : arg11.IsWhole) (hc0 : cond0_0 i) (hc1 : ¬cond0_1 i) (x0 : Vec Ideal S128x4096 .i8) (x1 : Vec Ideal S1280x4096 .i8) (x2 : Vec Ideal S1x1x1280 .f32) (x3 : Vec Ideal S128x128 .f32) (x4 : Vec Ideal S128x128 .f32) (x5 : Vec Ideal S128x128 .f32) :
    (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1 = Lp arg11.view arg11.view.junk i L0 (tiles x0 x1 x2 x3 x4) 10 le_rfl := by
  have e : (tl (k0_pay11 (View.readAt (Elt Ideal) arg1.view (Rect.unit (s := S128x4096) ![0, 0] S128x4096.size inb_S128x4096_S128x4096_0_0).toLoadRect (harg1.unread x0)) (View.readAt (Elt Ideal) arg2.view (Rect.unit (s := S1280x4096) ![0, 0] S1280x4096.size inb_S1280x4096_S1280x4096_0_0).toLoadRect (harg2.unread x1))) (View.readAt (Elt Ideal) arg4.view (Rect.unit (s := S128x128) ![0, 0] S128x128.size inb_S128x128_S128x128_0_0).toLoadRect (harg4.unread x3)) (fun j h => View.readAt (Elt Ideal) arg3.view (Rect.unit (s := S1x1x1280) ![0, 0, 128 * j] S1x1x128.size (hsb j h)).toLoadRect (harg3.unread x2)) (View.readAt (Elt Ideal) arg5.view (Rect.unit (s := S128x128) ![0, 0] S128x128.size inb_S128x128_S128x128_0_0).toLoadRect (harg5.unread x4))) = (tiles x0 x1 x2 x3 x4) := by
    simp only [View.readAt_eq_ld, harg1.read_unread, harg2.read_unread, harg3.read_unread, harg4.read_unread, harg5.read_unread, harg6.read_unread]
    simp only [View.ld_unit_zero (S := S128x128) hz, View.ld_unit_zero (S := S128x4096) hz, View.ld_unit_zero (S := S1280x4096) hz]
    rfl
  rw [← e]
  have h1 : kernelRun0_A.sl.HS2_2 (F := Ideal) c i arg1 harg1 arg2 harg2 arg3 harg3 arg4 harg4 arg5 harg5 arg11 x0 x1 x2 x3 x4 = Lp arg11.view arg11.view.junk i L0 (tl (k0_pay11 (View.readAt (Elt Ideal) arg1.view (Rect.unit (s := S128x4096) ![0, 0] S128x4096.size inb_S128x4096_S128x4096_0_0).toLoadRect (harg1.unread x0)) (View.readAt (Elt Ideal) arg2.view (Rect.unit (s := S1280x4096) ![0, 0] S1280x4096.size inb_S1280x4096_S1280x4096_0_0).toLoadRect (harg2.unread x1))) (View.readAt (Elt Ideal) arg4.view (Rect.unit (s := S128x128) ![0, 0] S128x128.size inb_S128x128_S128x128_0_0).toLoadRect (harg4.unread x3)) (fun j h => View.readAt (Elt Ideal) arg3.view (Rect.unit (s := S1x1x1280) ![0, 0, 128 * j] S1x1x128.size (hsb j h)).toLoadRect (harg3.unread x2)) (View.readAt (Elt Ideal) arg5.view (Rect.unit (s := S128x128) ![0, 0] S128x128.size inb_S128x128_S128x128_0_0).toLoadRect (harg5.unread x4))) 1 (by decide) := by
    unfold kernelRun0_A.sl.HS2_2
    rfl
  have h2 : kernelRun0_A.sl.HS2_3 (F := Ideal) c i arg1 harg1 arg2 harg2 arg3 harg3 arg4 harg4 arg5 harg5 arg11 x0 x1 x2 x3 x4 = Lp arg11.view arg11.view.junk i L0 (tl (k0_pay11 (View.readAt (Elt Ideal) arg1.view (Rect.unit (s := S128x4096) ![0, 0] S128x4096.size inb_S128x4096_S128x4096_0_0).toLoadRect (harg1.unread x0)) (View.readAt (Elt Ideal) arg2.view (Rect.unit (s := S1280x4096) ![0, 0] S1280x4096.size inb_S1280x4096_S1280x4096_0_0).toLoadRect (harg2.unread x1))) (View.readAt (Elt Ideal) arg4.view (Rect.unit (s := S128x128) ![0, 0] S128x128.size inb_S128x128_S128x128_0_0).toLoadRect (harg4.unread x3)) (fun j h => View.readAt (Elt Ideal) arg3.view (Rect.unit (s := S1x1x1280) ![0, 0, 128 * j] S1x1x128.size (hsb j h)).toLoadRect (harg3.unread x2)) (View.readAt (Elt Ideal) arg5.view (Rect.unit (s := S128x128) ![0, 0] S128x128.size inb_S128x128_S128x128_0_0).toLoadRect (harg5.unread x4))) 2 (by decide) := by
    unfold kernelRun0_A.sl.HS2_3
    rw [h1]
    rfl
  have h3 : kernelRun0_A.sl.HS2_4 (F := Ideal) c i arg1 harg1 arg2 harg2 arg3 harg3 arg4 harg4 arg5 harg5 arg11 x0 x1 x2 x3 x4 = Lp arg11.view arg11.view.junk i L0 (tl (k0_pay11 (View.readAt (Elt Ideal) arg1.view (Rect.unit (s := S128x4096) ![0, 0] S128x4096.size inb_S128x4096_S128x4096_0_0).toLoadRect (harg1.unread x0)) (View.readAt (Elt Ideal) arg2.view (Rect.unit (s := S1280x4096) ![0, 0] S1280x4096.size inb_S1280x4096_S1280x4096_0_0).toLoadRect (harg2.unread x1))) (View.readAt (Elt Ideal) arg4.view (Rect.unit (s := S128x128) ![0, 0] S128x128.size inb_S128x128_S128x128_0_0).toLoadRect (harg4.unread x3)) (fun j h => View.readAt (Elt Ideal) arg3.view (Rect.unit (s := S1x1x1280) ![0, 0, 128 * j] S1x1x128.size (hsb j h)).toLoadRect (harg3.unread x2)) (View.readAt (Elt Ideal) arg5.view (Rect.unit (s := S128x128) ![0, 0] S128x128.size inb_S128x128_S128x128_0_0).toLoadRect (harg5.unread x4))) 3 (by decide) := by
    unfold kernelRun0_A.sl.HS2_4
    rw [h2]
    rfl
  have h4 : kernelRun0_A.sl.HS2_5 (F := Ideal) c i arg1 harg1 arg2 harg2 arg3 harg3 arg4 harg4 arg5 harg5 arg11 x0 x1 x2 x3 x4 = Lp arg11.view arg11.view.junk i L0 (tl (k0_pay11 (View.readAt (Elt Ideal) arg1.view (Rect.unit (s := S128x4096) ![0, 0] S128x4096.size inb_S128x4096_S128x4096_0_0).toLoadRect (harg1.unread x0)) (View.readAt (Elt Ideal) arg2.view (Rect.unit (s := S1280x4096) ![0, 0] S1280x4096.size inb_S1280x4096_S1280x4096_0_0).toLoadRect (harg2.unread x1))) (View.readAt (Elt Ideal) arg4.view (Rect.unit (s := S128x128) ![0, 0] S128x128.size inb_S128x128_S128x128_0_0).toLoadRect (harg4.unread x3)) (fun j h => View.readAt (Elt Ideal) arg3.view (Rect.unit (s := S1x1x1280) ![0, 0, 128 * j] S1x1x128.size (hsb j h)).toLoadRect (harg3.unread x2)) (View.readAt (Elt Ideal) arg5.view (Rect.unit (s := S128x128) ![0, 0] S128x128.size inb_S128x128_S128x128_0_0).toLoadRect (harg5.unread x4))) 4 (by decide) := by
    unfold kernelRun0_A.sl.HS2_5
    rw [h3]
    rfl
  have h5 : kernelRun0_A.sl.HS2_6 (F := Ideal) c i arg1 harg1 arg2 harg2 arg3 harg3 arg4 harg4 arg5 harg5 arg11 x0 x1 x2 x3 x4 = Lp arg11.view arg11.view.junk i L0 (tl (k0_pay11 (View.readAt (Elt Ideal) arg1.view (Rect.unit (s := S128x4096) ![0, 0] S128x4096.size inb_S128x4096_S128x4096_0_0).toLoadRect (harg1.unread x0)) (View.readAt (Elt Ideal) arg2.view (Rect.unit (s := S1280x4096) ![0, 0] S1280x4096.size inb_S1280x4096_S1280x4096_0_0).toLoadRect (harg2.unread x1))) (View.readAt (Elt Ideal) arg4.view (Rect.unit (s := S128x128) ![0, 0] S128x128.size inb_S128x128_S128x128_0_0).toLoadRect (harg4.unread x3)) (fun j h => View.readAt (Elt Ideal) arg3.view (Rect.unit (s := S1x1x1280) ![0, 0, 128 * j] S1x1x128.size (hsb j h)).toLoadRect (harg3.unread x2)) (View.readAt (Elt Ideal) arg5.view (Rect.unit (s := S128x128) ![0, 0] S128x128.size inb_S128x128_S128x128_0_0).toLoadRect (harg5.unread x4))) 5 (by decide) := by
    unfold kernelRun0_A.sl.HS2_6
    rw [h4]
    rfl
  have h6 : kernelRun0_A.sl.HS2_7 (F := Ideal) c i arg1 harg1 arg2 harg2 arg3 harg3 arg4 harg4 arg5 harg5 arg11 x0 x1 x2 x3 x4 = Lp arg11.view arg11.view.junk i L0 (tl (k0_pay11 (View.readAt (Elt Ideal) arg1.view (Rect.unit (s := S128x4096) ![0, 0] S128x4096.size inb_S128x4096_S128x4096_0_0).toLoadRect (harg1.unread x0)) (View.readAt (Elt Ideal) arg2.view (Rect.unit (s := S1280x4096) ![0, 0] S1280x4096.size inb_S1280x4096_S1280x4096_0_0).toLoadRect (harg2.unread x1))) (View.readAt (Elt Ideal) arg4.view (Rect.unit (s := S128x128) ![0, 0] S128x128.size inb_S128x128_S128x128_0_0).toLoadRect (harg4.unread x3)) (fun j h => View.readAt (Elt Ideal) arg3.view (Rect.unit (s := S1x1x1280) ![0, 0, 128 * j] S1x1x128.size (hsb j h)).toLoadRect (harg3.unread x2)) (View.readAt (Elt Ideal) arg5.view (Rect.unit (s := S128x128) ![0, 0] S128x128.size inb_S128x128_S128x128_0_0).toLoadRect (harg5.unread x4))) 6 (by decide) := by
    unfold kernelRun0_A.sl.HS2_7
    rw [h5]
    rfl
  have h7 : kernelRun0_A.sl.HS2_8 (F := Ideal) c i arg1 harg1 arg2 harg2 arg3 harg3 arg4 harg4 arg5 harg5 arg11 x0 x1 x2 x3 x4 = Lp arg11.view arg11.view.junk i L0 (tl (k0_pay11 (View.readAt (Elt Ideal) arg1.view (Rect.unit (s := S128x4096) ![0, 0] S128x4096.size inb_S128x4096_S128x4096_0_0).toLoadRect (harg1.unread x0)) (View.readAt (Elt Ideal) arg2.view (Rect.unit (s := S1280x4096) ![0, 0] S1280x4096.size inb_S1280x4096_S1280x4096_0_0).toLoadRect (harg2.unread x1))) (View.readAt (Elt Ideal) arg4.view (Rect.unit (s := S128x128) ![0, 0] S128x128.size inb_S128x128_S128x128_0_0).toLoadRect (harg4.unread x3)) (fun j h => View.readAt (Elt Ideal) arg3.view (Rect.unit (s := S1x1x1280) ![0, 0, 128 * j] S1x1x128.size (hsb j h)).toLoadRect (harg3.unread x2)) (View.readAt (Elt Ideal) arg5.view (Rect.unit (s := S128x128) ![0, 0] S128x128.size inb_S128x128_S128x128_0_0).toLoadRect (harg5.unread x4))) 7 (by decide) := by
    unfold kernelRun0_A.sl.HS2_8
    rw [h6]
    rfl
  have h8 : kernelRun0_A.sl.HS2_9 (F := Ideal) c i arg1 harg1 arg2 harg2 arg3 harg3 arg4 harg4 arg5 harg5 arg11 x0 x1 x2 x3 x4 = Lp arg11.view arg11.view.junk i L0 (tl (k0_pay11 (View.readAt (Elt Ideal) arg1.view (Rect.unit (s := S128x4096) ![0, 0] S128x4096.size inb_S128x4096_S128x4096_0_0).toLoadRect (harg1.unread x0)) (View.readAt (Elt Ideal) arg2.view (Rect.unit (s := S1280x4096) ![0, 0] S1280x4096.size inb_S1280x4096_S1280x4096_0_0).toLoadRect (harg2.unread x1))) (View.readAt (Elt Ideal) arg4.view (Rect.unit (s := S128x128) ![0, 0] S128x128.size inb_S128x128_S128x128_0_0).toLoadRect (harg4.unread x3)) (fun j h => View.readAt (Elt Ideal) arg3.view (Rect.unit (s := S1x1x1280) ![0, 0, 128 * j] S1x1x128.size (hsb j h)).toLoadRect (harg3.unread x2)) (View.readAt (Elt Ideal) arg5.view (Rect.unit (s := S128x128) ![0, 0] S128x128.size inb_S128x128_S128x128_0_0).toLoadRect (harg5.unread x4))) 8 (by decide) := by
    unfold kernelRun0_A.sl.HS2_9
    rw [h7]
    rfl
  have h9 : kernelRun0_A.sl.HS2_10 (F := Ideal) c i arg1 harg1 arg2 harg2 arg3 harg3 arg4 harg4 arg5 harg5 arg11 x0 x1 x2 x3 x4 = Lp arg11.view arg11.view.junk i L0 (tl (k0_pay11 (View.readAt (Elt Ideal) arg1.view (Rect.unit (s := S128x4096) ![0, 0] S128x4096.size inb_S128x4096_S128x4096_0_0).toLoadRect (harg1.unread x0)) (View.readAt (Elt Ideal) arg2.view (Rect.unit (s := S1280x4096) ![0, 0] S1280x4096.size inb_S1280x4096_S1280x4096_0_0).toLoadRect (harg2.unread x1))) (View.readAt (Elt Ideal) arg4.view (Rect.unit (s := S128x128) ![0, 0] S128x128.size inb_S128x128_S128x128_0_0).toLoadRect (harg4.unread x3)) (fun j h => View.readAt (Elt Ideal) arg3.view (Rect.unit (s := S1x1x1280) ![0, 0, 128 * j] S1x1x128.size (hsb j h)).toLoadRect (harg3.unread x2)) (View.readAt (Elt Ideal) arg5.view (Rect.unit (s := S128x128) ![0, 0] S128x128.size inb_S128x128_S128x128_0_0).toLoadRect (harg5.unread x4))) 9 (by decide) := by
    unfold kernelRun0_A.sl.HS2_10
    rw [h8]
    rfl
  unfold kernelRun0_A
  dsimp only
  rw [h9]
  rfl

set_option maxHeartbeats 2000000 in
/-- Case B: the pieces of the group maxima. -/
theorem gp_B (c : Dev nD) (i : grid0.Coords) (arg1 : Memref sig .tc .vmem S128x4096 .i8) (harg1 : arg1.IsWhole) (arg2 : Memref sig .tc .vmem S1280x4096 .i8) (harg2 : arg2.IsWhole) (arg3 : Memref sig .tc .vmem S1x1x1280 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x256 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S2x128x128 .f32) (harg11 : arg11.IsWhole) (hc0 : ¬cond0_0 i) (hc1 : ¬cond0_1 i) (x0 : Vec Ideal S128x4096 .i8) (x1 : Vec Ideal S1280x4096 .i8) (x2 : Vec Ideal S1x1x1280 .f32) (x3 : Vec Ideal S128x128 .f32) (x4 : Vec Ideal S128x128 .f32) (x5 : Vec Ideal S128x128 .f32) (xs0 : Vec Ideal S128x128 .f32) (xs1 : Vec Ideal S128x128 .f32) (xs2 : Vec Ideal S2x128x128 .f32) :
    (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2).2.2.2.2.1 = Lp arg11.view (harg11.unread xs2) i [] (tiles x0 x1 x2 x3 x4) 10 le_rfl := by
  have e : (tl (k0_pay11 (View.readAt (Elt Ideal) arg1.view (Rect.unit (s := S128x4096) ![0, 0] S128x4096.size inb_S128x4096_S128x4096_0_0).toLoadRect (harg1.unread x0)) (View.readAt (Elt Ideal) arg2.view (Rect.unit (s := S1280x4096) ![0, 0] S1280x4096.size inb_S1280x4096_S1280x4096_0_0).toLoadRect (harg2.unread x1))) (View.readAt (Elt Ideal) arg4.view (Rect.unit (s := S128x128) ![0, 0] S128x128.size inb_S128x128_S128x128_0_0).toLoadRect (harg4.unread x3)) (fun j h => View.readAt (Elt Ideal) arg3.view (Rect.unit (s := S1x1x1280) ![0, 0, 128 * j] S1x1x128.size (hsb j h)).toLoadRect (harg3.unread x2)) (View.readAt (Elt Ideal) arg5.view (Rect.unit (s := S128x128) ![0, 0] S128x128.size inb_S128x128_S128x128_0_0).toLoadRect (harg5.unread x4))) = (tiles x0 x1 x2 x3 x4) := by
    simp only [View.readAt_eq_ld, harg1.read_unread, harg2.read_unread, harg3.read_unread, harg4.read_unread, harg5.read_unread, harg6.read_unread]
    simp only [View.ld_unit_zero (S := S128x128) hz, View.ld_unit_zero (S := S128x4096) hz, View.ld_unit_zero (S := S1280x4096) hz]
    rfl
  rw [← e]
  have h1 : kernelRun0_B.sl.HS2_1 (F := Ideal) c i arg1 harg1 arg2 harg2 arg3 harg3 arg4 harg4 arg5 harg5 arg11 harg11 x0 x1 x2 x3 x4 xs2 = Lp arg11.view (harg11.unread xs2) i [] (tl (k0_pay11 (View.readAt (Elt Ideal) arg1.view (Rect.unit (s := S128x4096) ![0, 0] S128x4096.size inb_S128x4096_S128x4096_0_0).toLoadRect (harg1.unread x0)) (View.readAt (Elt Ideal) arg2.view (Rect.unit (s := S1280x4096) ![0, 0] S1280x4096.size inb_S1280x4096_S1280x4096_0_0).toLoadRect (harg2.unread x1))) (View.readAt (Elt Ideal) arg4.view (Rect.unit (s := S128x128) ![0, 0] S128x128.size inb_S128x128_S128x128_0_0).toLoadRect (harg4.unread x3)) (fun j h => View.readAt (Elt Ideal) arg3.view (Rect.unit (s := S1x1x1280) ![0, 0, 128 * j] S1x1x128.size (hsb j h)).toLoadRect (harg3.unread x2)) (View.readAt (Elt Ideal) arg5.view (Rect.unit (s := S128x128) ![0, 0] S128x128.size inb_S128x128_S128x128_0_0).toLoadRect (harg5.unread x4))) 1 (by decide) := by
    unfold kernelRun0_B.sl.HS2_1
    rfl
  have h2 : kernelRun0_B.sl.HS2_2 (F := Ideal) c i arg1 harg1 arg2 harg2 arg3 harg3 arg4 harg4 arg5 harg5 arg11 harg11 x0 x1 x2 x3 x4 xs2 = Lp arg11.view (harg11.unread xs2) i [] (tl (k0_pay11 (View.readAt (Elt Ideal) arg1.view (Rect.unit (s := S128x4096) ![0, 0] S128x4096.size inb_S128x4096_S128x4096_0_0).toLoadRect (harg1.unread x0)) (View.readAt (Elt Ideal) arg2.view (Rect.unit (s := S1280x4096) ![0, 0] S1280x4096.size inb_S1280x4096_S1280x4096_0_0).toLoadRect (harg2.unread x1))) (View.readAt (Elt Ideal) arg4.view (Rect.unit (s := S128x128) ![0, 0] S128x128.size inb_S128x128_S128x128_0_0).toLoadRect (harg4.unread x3)) (fun j h => View.readAt (Elt Ideal) arg3.view (Rect.unit (s := S1x1x1280) ![0, 0, 128 * j] S1x1x128.size (hsb j h)).toLoadRect (harg3.unread x2)) (View.readAt (Elt Ideal) arg5.view (Rect.unit (s := S128x128) ![0, 0] S128x128.size inb_S128x128_S128x128_0_0).toLoadRect (harg5.unread x4))) 2 (by decide) := by
    unfold kernelRun0_B.sl.HS2_2
    rw [h1]
    rfl
  have h3 : kernelRun0_B.sl.HS2_3 (F := Ideal) c i arg1 harg1 arg2 harg2 arg3 harg3 arg4 harg4 arg5 harg5 arg11 harg11 x0 x1 x2 x3 x4 xs2 = Lp arg11.view (harg11.unread xs2) i [] (tl (k0_pay11 (View.readAt (Elt Ideal) arg1.view (Rect.unit (s := S128x4096) ![0, 0] S128x4096.size inb_S128x4096_S128x4096_0_0).toLoadRect (harg1.unread x0)) (View.readAt (Elt Ideal) arg2.view (Rect.unit (s := S1280x4096) ![0, 0] S1280x4096.size inb_S1280x4096_S1280x4096_0_0).toLoadRect (harg2.unread x1))) (View.readAt (Elt Ideal) arg4.view (Rect.unit (s := S128x128) ![0, 0] S128x128.size inb_S128x128_S128x128_0_0).toLoadRect (harg4.unread x3)) (fun j h => View.readAt (Elt Ideal) arg3.view (Rect.unit (s := S1x1x1280) ![0, 0, 128 * j] S1x1x128.size (hsb j h)).toLoadRect (harg3.unread x2)) (View.readAt (Elt Ideal) arg5.view (Rect.unit (s := S128x128) ![0, 0] S128x128.size inb_S128x128_S128x128_0_0).toLoadRect (harg5.unread x4))) 3 (by decide) := by
    unfold kernelRun0_B.sl.HS2_3
    rw [h2]
    rfl
  have h4 : kernelRun0_B.sl.HS2_4 (F := Ideal) c i arg1 harg1 arg2 harg2 arg3 harg3 arg4 harg4 arg5 harg5 arg11 harg11 x0 x1 x2 x3 x4 xs2 = Lp arg11.view (harg11.unread xs2) i [] (tl (k0_pay11 (View.readAt (Elt Ideal) arg1.view (Rect.unit (s := S128x4096) ![0, 0] S128x4096.size inb_S128x4096_S128x4096_0_0).toLoadRect (harg1.unread x0)) (View.readAt (Elt Ideal) arg2.view (Rect.unit (s := S1280x4096) ![0, 0] S1280x4096.size inb_S1280x4096_S1280x4096_0_0).toLoadRect (harg2.unread x1))) (View.readAt (Elt Ideal) arg4.view (Rect.unit (s := S128x128) ![0, 0] S128x128.size inb_S128x128_S128x128_0_0).toLoadRect (harg4.unread x3)) (fun j h => View.readAt (Elt Ideal) arg3.view (Rect.unit (s := S1x1x1280) ![0, 0, 128 * j] S1x1x128.size (hsb j h)).toLoadRect (harg3.unread x2)) (View.readAt (Elt Ideal) arg5.view (Rect.unit (s := S128x128) ![0, 0] S128x128.size inb_S128x128_S128x128_0_0).toLoadRect (harg5.unread x4))) 4 (by decide) := by
    unfold kernelRun0_B.sl.HS2_4
    rw [h3]
    rfl
  have h5 : kernelRun0_B.sl.HS2_5 (F := Ideal) c i arg1 harg1 arg2 harg2 arg3 harg3 arg4 harg4 arg5 harg5 arg11 harg11 x0 x1 x2 x3 x4 xs2 = Lp arg11.view (harg11.unread xs2) i [] (tl (k0_pay11 (View.readAt (Elt Ideal) arg1.view (Rect.unit (s := S128x4096) ![0, 0] S128x4096.size inb_S128x4096_S128x4096_0_0).toLoadRect (harg1.unread x0)) (View.readAt (Elt Ideal) arg2.view (Rect.unit (s := S1280x4096) ![0, 0] S1280x4096.size inb_S1280x4096_S1280x4096_0_0).toLoadRect (harg2.unread x1))) (View.readAt (Elt Ideal) arg4.view (Rect.unit (s := S128x128) ![0, 0] S128x128.size inb_S128x128_S128x128_0_0).toLoadRect (harg4.unread x3)) (fun j h => View.readAt (Elt Ideal) arg3.view (Rect.unit (s := S1x1x1280) ![0, 0, 128 * j] S1x1x128.size (hsb j h)).toLoadRect (harg3.unread x2)) (View.readAt (Elt Ideal) arg5.view (Rect.unit (s := S128x128) ![0, 0] S128x128.size inb_S128x128_S128x128_0_0).toLoadRect (harg5.unread x4))) 5 (by decide) := by
    unfold kernelRun0_B.sl.HS2_5
    rw [h4]
    rfl
  have h6 : kernelRun0_B.sl.HS2_6 (F := Ideal) c i arg1 harg1 arg2 harg2 arg3 harg3 arg4 harg4 arg5 harg5 arg11 harg11 x0 x1 x2 x3 x4 xs2 = Lp arg11.view (harg11.unread xs2) i [] (tl (k0_pay11 (View.readAt (Elt Ideal) arg1.view (Rect.unit (s := S128x4096) ![0, 0] S128x4096.size inb_S128x4096_S128x4096_0_0).toLoadRect (harg1.unread x0)) (View.readAt (Elt Ideal) arg2.view (Rect.unit (s := S1280x4096) ![0, 0] S1280x4096.size inb_S1280x4096_S1280x4096_0_0).toLoadRect (harg2.unread x1))) (View.readAt (Elt Ideal) arg4.view (Rect.unit (s := S128x128) ![0, 0] S128x128.size inb_S128x128_S128x128_0_0).toLoadRect (harg4.unread x3)) (fun j h => View.readAt (Elt Ideal) arg3.view (Rect.unit (s := S1x1x1280) ![0, 0, 128 * j] S1x1x128.size (hsb j h)).toLoadRect (harg3.unread x2)) (View.readAt (Elt Ideal) arg5.view (Rect.unit (s := S128x128) ![0, 0] S128x128.size inb_S128x128_S128x128_0_0).toLoadRect (harg5.unread x4))) 6 (by decide) := by
    unfold kernelRun0_B.sl.HS2_6
    rw [h5]
    rfl
  have h7 : kernelRun0_B.sl.HS2_7 (F := Ideal) c i arg1 harg1 arg2 harg2 arg3 harg3 arg4 harg4 arg5 harg5 arg11 harg11 x0 x1 x2 x3 x4 xs2 = Lp arg11.view (harg11.unread xs2) i [] (tl (k0_pay11 (View.readAt (Elt Ideal) arg1.view (Rect.unit (s := S128x4096) ![0, 0] S128x4096.size inb_S128x4096_S128x4096_0_0).toLoadRect (harg1.unread x0)) (View.readAt (Elt Ideal) arg2.view (Rect.unit (s := S1280x4096) ![0, 0] S1280x4096.size inb_S1280x4096_S1280x4096_0_0).toLoadRect (harg2.unread x1))) (View.readAt (Elt Ideal) arg4.view (Rect.unit (s := S128x128) ![0, 0] S128x128.size inb_S128x128_S128x128_0_0).toLoadRect (harg4.unread x3)) (fun j h => View.readAt (Elt Ideal) arg3.view (Rect.unit (s := S1x1x1280) ![0, 0, 128 * j] S1x1x128.size (hsb j h)).toLoadRect (harg3.unread x2)) (View.readAt (Elt Ideal) arg5.view (Rect.unit (s := S128x128) ![0, 0] S128x128.size inb_S128x128_S128x128_0_0).toLoadRect (harg5.unread x4))) 7 (by decide) := by
    unfold kernelRun0_B.sl.HS2_7
    rw [h6]
    rfl
  have h8 : kernelRun0_B.sl.HS2_8 (F := Ideal) c i arg1 harg1 arg2 harg2 arg3 harg3 arg4 harg4 arg5 harg5 arg11 harg11 x0 x1 x2 x3 x4 xs2 = Lp arg11.view (harg11.unread xs2) i [] (tl (k0_pay11 (View.readAt (Elt Ideal) arg1.view (Rect.unit (s := S128x4096) ![0, 0] S128x4096.size inb_S128x4096_S128x4096_0_0).toLoadRect (harg1.unread x0)) (View.readAt (Elt Ideal) arg2.view (Rect.unit (s := S1280x4096) ![0, 0] S1280x4096.size inb_S1280x4096_S1280x4096_0_0).toLoadRect (harg2.unread x1))) (View.readAt (Elt Ideal) arg4.view (Rect.unit (s := S128x128) ![0, 0] S128x128.size inb_S128x128_S128x128_0_0).toLoadRect (harg4.unread x3)) (fun j h => View.readAt (Elt Ideal) arg3.view (Rect.unit (s := S1x1x1280) ![0, 0, 128 * j] S1x1x128.size (hsb j h)).toLoadRect (harg3.unread x2)) (View.readAt (Elt Ideal) arg5.view (Rect.unit (s := S128x128) ![0, 0] S128x128.size inb_S128x128_S128x128_0_0).toLoadRect (harg5.unread x4))) 8 (by decide) := by
    unfold kernelRun0_B.sl.HS2_8
    rw [h7]
    rfl
  have h9 : kernelRun0_B.sl.HS2_9 (F := Ideal) c i arg1 harg1 arg2 harg2 arg3 harg3 arg4 harg4 arg5 harg5 arg11 harg11 x0 x1 x2 x3 x4 xs2 = Lp arg11.view (harg11.unread xs2) i [] (tl (k0_pay11 (View.readAt (Elt Ideal) arg1.view (Rect.unit (s := S128x4096) ![0, 0] S128x4096.size inb_S128x4096_S128x4096_0_0).toLoadRect (harg1.unread x0)) (View.readAt (Elt Ideal) arg2.view (Rect.unit (s := S1280x4096) ![0, 0] S1280x4096.size inb_S1280x4096_S1280x4096_0_0).toLoadRect (harg2.unread x1))) (View.readAt (Elt Ideal) arg4.view (Rect.unit (s := S128x128) ![0, 0] S128x128.size inb_S128x128_S128x128_0_0).toLoadRect (harg4.unread x3)) (fun j h => View.readAt (Elt Ideal) arg3.view (Rect.unit (s := S1x1x1280) ![0, 0, 128 * j] S1x1x128.size (hsb j h)).toLoadRect (harg3.unread x2)) (View.readAt (Elt Ideal) arg5.view (Rect.unit (s := S128x128) ![0, 0] S128x128.size inb_S128x128_S128x128_0_0).toLoadRect (harg5.unread x4))) 9 (by decide) := by
    unfold kernelRun0_B.sl.HS2_9
    rw [h8]
    rfl
  unfold kernelRun0_B
  dsimp only
  rw [h9]
  rfl

set_option maxHeartbeats 2000000 in
/-- Case C: the pieces of the group maxima. -/
theorem gp_C (c : Dev nD) (i : grid0.Coords) (arg1 : Memref sig .tc .vmem S128x4096 .i8) (harg1 : arg1.IsWhole) (arg2 : Memref sig .tc .vmem S1280x4096 .i8) (harg2 : arg2.IsWhole) (arg3 : Memref sig .tc .vmem S1x1x1280 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x256 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S2x128x128 .f32) (harg11 : arg11.IsWhole) (hc0 : ¬cond0_0 i) (hc1 : cond0_1 i) (x0 : Vec Ideal S128x4096 .i8) (x1 : Vec Ideal S1280x4096 .i8) (x2 : Vec Ideal S1x1x1280 .f32) (x3 : Vec Ideal S128x128 .f32) (x4 : Vec Ideal S128x128 .f32) (x5 : Vec Ideal S128x128 .f32) (xs0 : Vec Ideal S128x128 .f32) (xs1 : Vec Ideal S128x128 .f32) (xs2 : Vec Ideal S2x128x128 .f32) :
    (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2).2.2.2.2.1 = Lp arg11.view (harg11.unread xs2) i [] (tiles x0 x1 x2 x3 x4) 10 le_rfl := by
  have e : (tl (k0_pay11 (View.readAt (Elt Ideal) arg1.view (Rect.unit (s := S128x4096) ![0, 0] S128x4096.size inb_S128x4096_S128x4096_0_0).toLoadRect (harg1.unread x0)) (View.readAt (Elt Ideal) arg2.view (Rect.unit (s := S1280x4096) ![0, 0] S1280x4096.size inb_S1280x4096_S1280x4096_0_0).toLoadRect (harg2.unread x1))) (View.readAt (Elt Ideal) arg4.view (Rect.unit (s := S128x128) ![0, 0] S128x128.size inb_S128x128_S128x128_0_0).toLoadRect (harg4.unread x3)) (fun j h => View.readAt (Elt Ideal) arg3.view (Rect.unit (s := S1x1x1280) ![0, 0, 128 * j] S1x1x128.size (hsb j h)).toLoadRect (harg3.unread x2)) (View.readAt (Elt Ideal) arg5.view (Rect.unit (s := S128x128) ![0, 0] S128x128.size inb_S128x128_S128x128_0_0).toLoadRect (harg5.unread x4))) = (tiles x0 x1 x2 x3 x4) := by
    simp only [View.readAt_eq_ld, harg1.read_unread, harg2.read_unread, harg3.read_unread, harg4.read_unread, harg5.read_unread, harg6.read_unread]
    simp only [View.ld_unit_zero (S := S128x128) hz, View.ld_unit_zero (S := S128x4096) hz, View.ld_unit_zero (S := S1280x4096) hz]
    rfl
  rw [← e]
  have h1 : kernelRun0_C.sl.HS2_1 (F := Ideal) c i arg1 harg1 arg2 harg2 arg3 harg3 arg4 harg4 arg5 harg5 arg11 harg11 x0 x1 x2 x3 x4 xs2 = Lp arg11.view (harg11.unread xs2) i [] (tl (k0_pay11 (View.readAt (Elt Ideal) arg1.view (Rect.unit (s := S128x4096) ![0, 0] S128x4096.size inb_S128x4096_S128x4096_0_0).toLoadRect (harg1.unread x0)) (View.readAt (Elt Ideal) arg2.view (Rect.unit (s := S1280x4096) ![0, 0] S1280x4096.size inb_S1280x4096_S1280x4096_0_0).toLoadRect (harg2.unread x1))) (View.readAt (Elt Ideal) arg4.view (Rect.unit (s := S128x128) ![0, 0] S128x128.size inb_S128x128_S128x128_0_0).toLoadRect (harg4.unread x3)) (fun j h => View.readAt (Elt Ideal) arg3.view (Rect.unit (s := S1x1x1280) ![0, 0, 128 * j] S1x1x128.size (hsb j h)).toLoadRect (harg3.unread x2)) (View.readAt (Elt Ideal) arg5.view (Rect.unit (s := S128x128) ![0, 0] S128x128.size inb_S128x128_S128x128_0_0).toLoadRect (harg5.unread x4))) 1 (by decide) := by
    unfold kernelRun0_C.sl.HS2_1
    rfl
  have h2 : kernelRun0_C.sl.HS2_2 (F := Ideal) c i arg1 harg1 arg2 harg2 arg3 harg3 arg4 harg4 arg5 harg5 arg11 harg11 x0 x1 x2 x3 x4 xs2 = Lp arg11.view (harg11.unread xs2) i [] (tl (k0_pay11 (View.readAt (Elt Ideal) arg1.view (Rect.unit (s := S128x4096) ![0, 0] S128x4096.size inb_S128x4096_S128x4096_0_0).toLoadRect (harg1.unread x0)) (View.readAt (Elt Ideal) arg2.view (Rect.unit (s := S1280x4096) ![0, 0] S1280x4096.size inb_S1280x4096_S1280x4096_0_0).toLoadRect (harg2.unread x1))) (View.readAt (Elt Ideal) arg4.view (Rect.unit (s := S128x128) ![0, 0] S128x128.size inb_S128x128_S128x128_0_0).toLoadRect (harg4.unread x3)) (fun j h => View.readAt (Elt Ideal) arg3.view (Rect.unit (s := S1x1x1280) ![0, 0, 128 * j] S1x1x128.size (hsb j h)).toLoadRect (harg3.unread x2)) (View.readAt (Elt Ideal) arg5.view (Rect.unit (s := S128x128) ![0, 0] S128x128.size inb_S128x128_S128x128_0_0).toLoadRect (harg5.unread x4))) 2 (by decide) := by
    unfold kernelRun0_C.sl.HS2_2
    rw [h1]
    rfl
  have h3 : kernelRun0_C.sl.HS2_3 (F := Ideal) c i arg1 harg1 arg2 harg2 arg3 harg3 arg4 harg4 arg5 harg5 arg11 harg11 x0 x1 x2 x3 x4 xs2 = Lp arg11.view (harg11.unread xs2) i [] (tl (k0_pay11 (View.readAt (Elt Ideal) arg1.view (Rect.unit (s := S128x4096) ![0, 0] S128x4096.size inb_S128x4096_S128x4096_0_0).toLoadRect (harg1.unread x0)) (View.readAt (Elt Ideal) arg2.view (Rect.unit (s := S1280x4096) ![0, 0] S1280x4096.size inb_S1280x4096_S1280x4096_0_0).toLoadRect (harg2.unread x1))) (View.readAt (Elt Ideal) arg4.view (Rect.unit (s := S128x128) ![0, 0] S128x128.size inb_S128x128_S128x128_0_0).toLoadRect (harg4.unread x3)) (fun j h => View.readAt (Elt Ideal) arg3.view (Rect.unit (s := S1x1x1280) ![0, 0, 128 * j] S1x1x128.size (hsb j h)).toLoadRect (harg3.unread x2)) (View.readAt (Elt Ideal) arg5.view (Rect.unit (s := S128x128) ![0, 0] S128x128.size inb_S128x128_S128x128_0_0).toLoadRect (harg5.unread x4))) 3 (by decide) := by
    unfold kernelRun0_C.sl.HS2_3
    rw [h2]
    rfl
  have h4 : kernelRun0_C.sl.HS2_4 (F := Ideal) c i arg1 harg1 arg2 harg2 arg3 harg3 arg4 harg4 arg5 harg5 arg11 harg11 x0 x1 x2 x3 x4 xs2 = Lp arg11.view (harg11.unread xs2) i [] (tl (k0_pay11 (View.readAt (Elt Ideal) arg1.view (Rect.unit (s := S128x4096) ![0, 0] S128x4096.size inb_S128x4096_S128x4096_0_0).toLoadRect (harg1.unread x0)) (View.readAt (Elt Ideal) arg2.view (Rect.unit (s := S1280x4096) ![0, 0] S1280x4096.size inb_S1280x4096_S1280x4096_0_0).toLoadRect (harg2.unread x1))) (View.readAt (Elt Ideal) arg4.view (Rect.unit (s := S128x128) ![0, 0] S128x128.size inb_S128x128_S128x128_0_0).toLoadRect (harg4.unread x3)) (fun j h => View.readAt (Elt Ideal) arg3.view (Rect.unit (s := S1x1x1280) ![0, 0, 128 * j] S1x1x128.size (hsb j h)).toLoadRect (harg3.unread x2)) (View.readAt (Elt Ideal) arg5.view (Rect.unit (s := S128x128) ![0, 0] S128x128.size inb_S128x128_S128x128_0_0).toLoadRect (harg5.unread x4))) 4 (by decide) := by
    unfold kernelRun0_C.sl.HS2_4
    rw [h3]
    rfl
  have h5 : kernelRun0_C.sl.HS2_5 (F := Ideal) c i arg1 harg1 arg2 harg2 arg3 harg3 arg4 harg4 arg5 harg5 arg11 harg11 x0 x1 x2 x3 x4 xs2 = Lp arg11.view (harg11.unread xs2) i [] (tl (k0_pay11 (View.readAt (Elt Ideal) arg1.view (Rect.unit (s := S128x4096) ![0, 0] S128x4096.size inb_S128x4096_S128x4096_0_0).toLoadRect (harg1.unread x0)) (View.readAt (Elt Ideal) arg2.view (Rect.unit (s := S1280x4096) ![0, 0] S1280x4096.size inb_S1280x4096_S1280x4096_0_0).toLoadRect (harg2.unread x1))) (View.readAt (Elt Ideal) arg4.view (Rect.unit (s := S128x128) ![0, 0] S128x128.size inb_S128x128_S128x128_0_0).toLoadRect (harg4.unread x3)) (fun j h => View.readAt (Elt Ideal) arg3.view (Rect.unit (s := S1x1x1280) ![0, 0, 128 * j] S1x1x128.size (hsb j h)).toLoadRect (harg3.unread x2)) (View.readAt (Elt Ideal) arg5.view (Rect.unit (s := S128x128) ![0, 0] S128x128.size inb_S128x128_S128x128_0_0).toLoadRect (harg5.unread x4))) 5 (by decide) := by
    unfold kernelRun0_C.sl.HS2_5
    rw [h4]
    rfl
  have h6 : kernelRun0_C.sl.HS2_6 (F := Ideal) c i arg1 harg1 arg2 harg2 arg3 harg3 arg4 harg4 arg5 harg5 arg11 harg11 x0 x1 x2 x3 x4 xs2 = Lp arg11.view (harg11.unread xs2) i [] (tl (k0_pay11 (View.readAt (Elt Ideal) arg1.view (Rect.unit (s := S128x4096) ![0, 0] S128x4096.size inb_S128x4096_S128x4096_0_0).toLoadRect (harg1.unread x0)) (View.readAt (Elt Ideal) arg2.view (Rect.unit (s := S1280x4096) ![0, 0] S1280x4096.size inb_S1280x4096_S1280x4096_0_0).toLoadRect (harg2.unread x1))) (View.readAt (Elt Ideal) arg4.view (Rect.unit (s := S128x128) ![0, 0] S128x128.size inb_S128x128_S128x128_0_0).toLoadRect (harg4.unread x3)) (fun j h => View.readAt (Elt Ideal) arg3.view (Rect.unit (s := S1x1x1280) ![0, 0, 128 * j] S1x1x128.size (hsb j h)).toLoadRect (harg3.unread x2)) (View.readAt (Elt Ideal) arg5.view (Rect.unit (s := S128x128) ![0, 0] S128x128.size inb_S128x128_S128x128_0_0).toLoadRect (harg5.unread x4))) 6 (by decide) := by
    unfold kernelRun0_C.sl.HS2_6
    rw [h5]
    rfl
  have h7 : kernelRun0_C.sl.HS2_7 (F := Ideal) c i arg1 harg1 arg2 harg2 arg3 harg3 arg4 harg4 arg5 harg5 arg11 harg11 x0 x1 x2 x3 x4 xs2 = Lp arg11.view (harg11.unread xs2) i [] (tl (k0_pay11 (View.readAt (Elt Ideal) arg1.view (Rect.unit (s := S128x4096) ![0, 0] S128x4096.size inb_S128x4096_S128x4096_0_0).toLoadRect (harg1.unread x0)) (View.readAt (Elt Ideal) arg2.view (Rect.unit (s := S1280x4096) ![0, 0] S1280x4096.size inb_S1280x4096_S1280x4096_0_0).toLoadRect (harg2.unread x1))) (View.readAt (Elt Ideal) arg4.view (Rect.unit (s := S128x128) ![0, 0] S128x128.size inb_S128x128_S128x128_0_0).toLoadRect (harg4.unread x3)) (fun j h => View.readAt (Elt Ideal) arg3.view (Rect.unit (s := S1x1x1280) ![0, 0, 128 * j] S1x1x128.size (hsb j h)).toLoadRect (harg3.unread x2)) (View.readAt (Elt Ideal) arg5.view (Rect.unit (s := S128x128) ![0, 0] S128x128.size inb_S128x128_S128x128_0_0).toLoadRect (harg5.unread x4))) 7 (by decide) := by
    unfold kernelRun0_C.sl.HS2_7
    rw [h6]
    rfl
  have h8 : kernelRun0_C.sl.HS2_8 (F := Ideal) c i arg1 harg1 arg2 harg2 arg3 harg3 arg4 harg4 arg5 harg5 arg11 harg11 x0 x1 x2 x3 x4 xs2 = Lp arg11.view (harg11.unread xs2) i [] (tl (k0_pay11 (View.readAt (Elt Ideal) arg1.view (Rect.unit (s := S128x4096) ![0, 0] S128x4096.size inb_S128x4096_S128x4096_0_0).toLoadRect (harg1.unread x0)) (View.readAt (Elt Ideal) arg2.view (Rect.unit (s := S1280x4096) ![0, 0] S1280x4096.size inb_S1280x4096_S1280x4096_0_0).toLoadRect (harg2.unread x1))) (View.readAt (Elt Ideal) arg4.view (Rect.unit (s := S128x128) ![0, 0] S128x128.size inb_S128x128_S128x128_0_0).toLoadRect (harg4.unread x3)) (fun j h => View.readAt (Elt Ideal) arg3.view (Rect.unit (s := S1x1x1280) ![0, 0, 128 * j] S1x1x128.size (hsb j h)).toLoadRect (harg3.unread x2)) (View.readAt (Elt Ideal) arg5.view (Rect.unit (s := S128x128) ![0, 0] S128x128.size inb_S128x128_S128x128_0_0).toLoadRect (harg5.unread x4))) 8 (by decide) := by
    unfold kernelRun0_C.sl.HS2_8
    rw [h7]
    rfl
  have h9 : kernelRun0_C.sl.HS2_9 (F := Ideal) c i arg1 harg1 arg2 harg2 arg3 harg3 arg4 harg4 arg5 harg5 arg11 harg11 x0 x1 x2 x3 x4 xs2 = Lp arg11.view (harg11.unread xs2) i [] (tl (k0_pay11 (View.readAt (Elt Ideal) arg1.view (Rect.unit (s := S128x4096) ![0, 0] S128x4096.size inb_S128x4096_S128x4096_0_0).toLoadRect (harg1.unread x0)) (View.readAt (Elt Ideal) arg2.view (Rect.unit (s := S1280x4096) ![0, 0] S1280x4096.size inb_S1280x4096_S1280x4096_0_0).toLoadRect (harg2.unread x1))) (View.readAt (Elt Ideal) arg4.view (Rect.unit (s := S128x128) ![0, 0] S128x128.size inb_S128x128_S128x128_0_0).toLoadRect (harg4.unread x3)) (fun j h => View.readAt (Elt Ideal) arg3.view (Rect.unit (s := S1x1x1280) ![0, 0, 128 * j] S1x1x128.size (hsb j h)).toLoadRect (harg3.unread x2)) (View.readAt (Elt Ideal) arg5.view (Rect.unit (s := S128x128) ![0, 0] S128x128.size inb_S128x128_S128x128_0_0).toLoadRect (harg5.unread x4))) 9 (by decide) := by
    unfold kernelRun0_C.sl.HS2_9
    rw [h8]
    rfl
  have h10 : kernelRun0_C.sl.HS2_10 (F := Ideal) c i arg1 harg1 arg2 harg2 arg3 harg3 arg4 harg4 arg5 harg5 arg11 harg11 x0 x1 x2 x3 x4 xs2 = Lp arg11.view (harg11.unread xs2) i [] (tl (k0_pay11 (View.readAt (Elt Ideal) arg1.view (Rect.unit (s := S128x4096) ![0, 0] S128x4096.size inb_S128x4096_S128x4096_0_0).toLoadRect (harg1.unread x0)) (View.readAt (Elt Ideal) arg2.view (Rect.unit (s := S1280x4096) ![0, 0] S1280x4096.size inb_S1280x4096_S1280x4096_0_0).toLoadRect (harg2.unread x1))) (View.readAt (Elt Ideal) arg4.view (Rect.unit (s := S128x128) ![0, 0] S128x128.size inb_S128x128_S128x128_0_0).toLoadRect (harg4.unread x3)) (fun j h => View.readAt (Elt Ideal) arg3.view (Rect.unit (s := S1x1x1280) ![0, 0, 128 * j] S1x1x128.size (hsb j h)).toLoadRect (harg3.unread x2)) (View.readAt (Elt Ideal) arg5.view (Rect.unit (s := S128x128) ![0, 0] S128x128.size inb_S128x128_S128x128_0_0).toLoadRect (harg5.unread x4))) 10 (by decide) := by
    unfold kernelRun0_C.sl.HS2_10
    rw [h9]
    rfl
  exact h10

end Cert.HeadIdeal.RefValue

end
-- ==== Proof.HeadOut.lean ====
/- Head call: what the last run of the kernel body writes into the two results. -/
module
public import proofs.«01_k».proof.Proof.HeadPieces
@[expose] public section
set_option maxRecDepth 16384
noncomputable section
namespace Cert.HeadIdeal.RefValue
open Cert.HeadIdeal Cert.HeadIdeal.Gen Idealize.ShloMosaic Idealize.ShloMosaic.TcCoe Idealize.SL.Sem

theorem hmx (c : Dev nD) (i : grid0.Coords) (arg1 : Memref sig .tc .vmem S128x4096 .i8) (harg1 : arg1.IsWhole) (arg2 : Memref sig .tc .vmem S1280x4096 .i8) (harg2 : arg2.IsWhole) (arg3 : Memref sig .tc .vmem S1x1x1280 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x256 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S2x128x128 .f32) (harg11 : arg11.IsWhole) (hc0 : ¬cond0_0 i) (hc1 : cond0_1 i) (x0 : Vec Ideal S128x4096 .i8) (x1 : Vec Ideal S1280x4096 .i8) (x2 : Vec Ideal S1x1x1280 .f32) (x3 : Vec Ideal S128x128 .f32) (x4 : Vec Ideal S128x128 .f32) (x5 : Vec Ideal S128x128 .f32) (xs0 : Vec Ideal S128x128 .f32) (xs1 : Vec Ideal S128x128 .f32) (xs2 : Vec Ideal S2x128x128 .f32) : kernelRun0_C.sl.v374 (F := Ideal) c arg1 harg1 arg2 harg2 arg3 harg3 arg4 harg4 arg5 harg5 arg9 harg9 x0 x1 x2 x3 x4 xs0 = nmx (tiles x0 x1 x2 x3 x4) xs0 := by
  sl_unfold_words
  simp only [Awq.readCov_whole (S := S128x128) _ hz, View.readAt_eq_ld, harg1.read_unread, harg2.read_unread, harg3.read_unread, harg4.read_unread, harg5.read_unread, harg6.read_unread, harg9.read_unread, harg10.read_unread]
  simp only [View.ld_unit_zero (S := S128x128) hz, View.ld_unit_zero (S := S128x4096) hz, View.ld_unit_zero (S := S1280x4096) hz]
  exact shapeCast_self _ _

theorem hsm (c : Dev nD) (i : grid0.Coords) (arg1 : Memref sig .tc .vmem S128x4096 .i8) (harg1 : arg1.IsWhole) (arg2 : Memref sig .tc .vmem S1280x4096 .i8) (harg2 : arg2.IsWhole) (arg3 : Memref sig .tc .vmem S1x1x1280 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x256 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S2x128x128 .f32) (harg11 : arg11.IsWhole) (hc0 : ¬cond0_0 i) (hc1 : cond0_1 i) (x0 : Vec Ideal S128x4096 .i8) (x1 : Vec Ideal S1280x4096 .i8) (x2 : Vec Ideal S1x1x1280 .f32) (x3 : Vec Ideal S128x128 .f32) (x4 : Vec Ideal S128x128 .f32) (x5 : Vec Ideal S128x128 .f32) (xs0 : Vec Ideal S128x128 .f32) (xs1 : Vec Ideal S128x128 .f32) (xs2 : Vec Ideal S2x128x128 .f32) : kernelRun0_C.sl.v377 (F := Ideal) c arg1 harg1 arg2 harg2 arg3 harg3 arg4 harg4 arg5 harg5 arg9 harg9 arg10 harg10 x0 x1 x2 x3 x4 xs0 xs1 = nsm (tiles x0 x1 x2 x3 x4) xs0 xs1 := by
  sl_unfold_words
  simp only [Awq.readCov_whole (S := S128x128) _ hz, View.readAt_eq_ld, harg1.read_unread, harg2.read_unread, harg3.read_unread, harg4.read_unread, harg5.read_unread, harg6.read_unread, harg9.read_unread, harg10.read_unread]
  simp only [View.ld_unit_zero (S := S128x128) hz, View.ld_unit_zero (S := S128x4096) hz, View.ld_unit_zero (S := S1280x4096) hz]
  exact shapeCast_self _ _

/-- The last point: the log-sum-exp, less the constant, that the body writes. -/
theorem o7_C (c : Dev nD) (i : grid0.Coords) (arg1 : Memref sig .tc .vmem S128x4096 .i8) (harg1 : arg1.IsWhole) (arg2 : Memref sig .tc .vmem S1280x4096 .i8) (harg2 : arg2.IsWhole) (arg3 : Memref sig .tc .vmem S1x1x1280 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x256 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S2x128x128 .f32) (harg11 : arg11.IsWhole) (hc0 : ¬cond0_0 i) (hc1 : cond0_1 i) (x0 : Vec Ideal S128x4096 .i8) (x1 : Vec Ideal S1280x4096 .i8) (x2 : Vec Ideal S1x1x1280 .f32) (x3 : Vec Ideal S128x128 .f32) (x4 : Vec Ideal S128x128 .f32) (x5 : Vec Ideal S128x128 .f32) (xs0 : Vec Ideal S128x128 .f32) (xs1 : Vec Ideal S128x128 .f32) (xs2 : Vec Ideal S2x128x128 .f32) :
    out0_C_7 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 = k0_pay5 (F := Ideal) (nmx (tiles x0 x1 x2 x3 x4) xs0) (nsm (tiles x0 x1 x2 x3 x4) xs0 xs1) (nmx (tiles x0 x1 x2 x3 x4) xs0) := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_C
  dsimp only
  rw [View.canon_unit_zero hz, hmx c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2, hsm c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2]

/-- The last point: the group maxima, shifted, that the body writes. -/
theorem o6_C (c : Dev nD) (i : grid0.Coords) (arg1 : Memref sig .tc .vmem S128x4096 .i8) (harg1 : arg1.IsWhole) (arg2 : Memref sig .tc .vmem S1280x4096 .i8) (harg2 : arg2.IsWhole) (arg3 : Memref sig .tc .vmem S1x1x1280 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x256 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S2x128x128 .f32) (harg11 : arg11.IsWhole) (hc0 : ¬cond0_0 i) (hc1 : cond0_1 i) (x0 : Vec Ideal S128x4096 .i8) (x1 : Vec Ideal S1280x4096 .i8) (x2 : Vec Ideal S1x1x1280 .f32) (x3 : Vec Ideal S128x128 .f32) (x4 : Vec Ideal S128x128 .f32) (x5 : Vec Ideal S128x128 .f32) (xs0 : Vec Ideal S128x128 .f32) (xs1 : Vec Ideal S128x128 .f32) (xs2 : Vec Ideal S2x128x128 .f32) :
    out0_C_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 = View.canon (Val := Elt Ideal) [⟨Rect.unit (s := S128x256) ![0, 128] S128x128.size inb_S128x256_S128x128_0_128, k0_pay3 (F := Ideal) (k0_pay4 (F := Ideal) (nmx (tiles x0 x1 x2 x3 x4) xs0) (nsm (tiles x0 x1 x2 x3 x4) xs0 xs1) (nmx (tiles x0 x1 x2 x3 x4) xs0)) (k0_pay7 (F := Ideal) x5) (View.readAt (Elt Ideal) arg11.view (Rect.unit (s := S2x128x128) ![1, 0, 0] S1x128x128.size inb_S2x128x128_S1x128x128_1_0_0).toLoadRect (arg11.view.writes (Elt Ideal) (harg11.unread xs2) (Lp arg11.view (harg11.unread xs2) i [] (tiles x0 x1 x2 x3 x4) 10 le_rfl)))⟩,
      ⟨Rect.unit (s := S128x256) ![0, 0] S128x128.size inb_S128x256_S128x128_0_0, k0_pay6 (F := Ideal) (nmx (tiles x0 x1 x2 x3 x4) xs0) (nsm (tiles x0 x1 x2 x3 x4) xs0 xs1) (nmx (tiles x0 x1 x2 x3 x4) xs0) x5 (View.readAt (Elt Ideal) arg11.view (Rect.unit (s := S2x128x128) ![0, 0, 0] S1x128x128.size inb_S2x128x128_S1x128x128_0_0_0).toLoadRect (arg11.view.writes (Elt Ideal) (harg11.unread xs2) (Lp arg11.view (harg11.unread xs2) i [] (tiles x0 x1 x2 x3 x4) 10 le_rfl)))⟩] := by
  have e : View.readAt (Elt Ideal) arg6.view (Rect.unit (s := S128x128) ![0, 0] S128x128.size inb_S128x128_S128x128_0_0).toLoadRect (harg6.unread x5) = x5 := by
    simp only [View.readAt_eq_ld, harg1.read_unread, harg2.read_unread, harg3.read_unread, harg4.read_unread, harg5.read_unread, harg6.read_unread, harg9.read_unread, harg10.read_unread]
    simp only [View.ld_unit_zero (S := S128x128) hz, View.ld_unit_zero (S := S128x4096) hz, View.ld_unit_zero (S := S1280x4096) hz]
  unfold out0_C_6
  rw [View.read_writes_eq_canon _ _ _ (cover0_C_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_C
  dsimp only
  unfold kernelRun0_C.sl.r_27 kernelRun0_C.sl.r_28 kernelRun0_C.sl.v407 kernelRun0_C.sl.v399
  rw [hmx c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2, hsm c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2, e, ← gp_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2]
  unfold kernelRun0_C
  dsimp only

end Cert.HeadIdeal.RefValue

end
-- ==== Proof.HeadValue.lean ====
/- Head call: what one run of the kernel body writes, read at an index. -/
module
public import proofs.«01_k».proof.Proof.HeadOut
public import Idealize.ShloMosaic.Lib.Pointwise
public import Idealize.ShloMosaic.Lib.WritesUnit
@[expose] public section
set_option maxRecDepth 16384
noncomputable section
namespace Cert.HeadIdeal.RefValue
open Cert.HeadIdeal Cert.HeadIdeal.Gen Idealize.ShloMosaic Idealize.ShloMosaic.TcCoe Idealize.SL.Sem

/-- The factor by which the logits are brought to units of the binary logarithm. -/
def LOG2E : EReal := FloatOps.ofBits (F := Ideal) .f32 0x3FB8AA3B#32

theorem tl_apply (y : FVec Ideal S128x1280 .f32) (asc : Vec Ideal S128x128 .f32) (hs : ∀ j, j < 10 → Vec Ideal S1x1x128 .f32)
    (it : Vec Ideal S128x128 .f32) (j : ℕ) (h : j < 10) (b l : Fin 128) :
    tl y asc hs it j h (ix2 b l) = y (ix2 b ⟨128 * j + l.val, by omega⟩) * asc (ix2 b l) * hs j h (ix3 0 0 l) * it (ix2 b l) := by
  pointwise [tl]

theorem l2_apply (t : FVec Ideal S128x128 .f32) (p : S128x128.Idx) : l2 t p = t p * LOG2E := rfl

/-- The maxima after a block, at a lane whose values are `f` from `n` on. -/
theorem nmx_apply (T : ∀ j, j < 10 → FVec Ideal S128x128 .f32) (mx : FVec Ideal S128x128 .f32) (f : ℕ → EReal) (n : ℕ) (p : S128x128.Idx)
    (hT : ∀ j h, T j h p * LOG2E = f (n + j)) (hm : mx p = HeadMath.mx f n) : nmx T mx p = HeadMath.mx f (n + 10) := by
  rw [← HeadMath.mx_step, ← hm]
  have e := fun j h => (l2_apply (T j h) p).trans (hT j h)
  have e0 : l2 (T 0 (by decide)) p = f n := e 0 _
  rw [← e0, ← e 1 (by decide), ← e 2 (by decide), ← e 3 (by decide), ← e 4 (by decide), ← e 5 (by decide), ← e 6 (by decide), ← e 7 (by decide), ← e 8 (by decide), ← e 9 (by decide)]
  rfl

/-- The sums after a block, at a lane whose values are `f` from `n` on. -/
theorem nsm_apply (T : ∀ j, j < 10 → FVec Ideal S128x128 .f32) (mx sm : FVec Ideal S128x128 .f32) (f : ℕ → EReal) (n : ℕ) (p : S128x128.Idx)
    (hT : ∀ j h, T j h p * LOG2E = f (n + j)) (hm : mx p = HeadMath.mx f n) (hs : sm p = HeadMath.sm f n) :
    nsm T mx sm p = HeadMath.sm f (n + 10) := by
  rw [← HeadMath.sm_step f n (nmx_apply T mx f n p hT hm), ← hm, ← hs]
  have e := fun j h => (l2_apply (T j h) p).trans (hT j h)
  have e0 : l2 (T 0 (by decide)) p = f n := e 0 _
  rw [← e0, ← e 1 (by decide), ← e 2 (by decide), ← e 3 (by decide), ← e 4 (by decide), ← e 5 (by decide), ← e 6 (by decide), ← e 7 (by decide), ← e 8 (by decide), ← e 9 (by decide)]
  rfl

theorem lane_eq : ∀ (a : Fin 25) (j : Fin 10), Scalar.andi (Scalar.addi (Scalar.muli (BitVec.ofNat 32 a.val) 10#32) (BitVec.ofNat 32 j.val)) 127#32
    = BitVec.ofNat 32 ((10 * a.val + j.val) % 128) := by decide +kernel

theorem neg_inf : Ideal.ofBits FTy.f32 0xFF800000#32 = (⊥ : EReal) := by simp [Ideal.ofBits, Ideal.ieee]

/-- The updated slab at an index: the group's lane holds the tile's row maximum, the others what they held. -/
theorem upd_apply (i : grid0.Coords) (j : ℕ) (h : j < 10) (tile : FVec Ideal S128x128 .f32) (old : Vec Ideal S1x128x128 .f32) (b l : Fin 128) :
    upd i j tile old (ix3 0 b l) = if l.val = (10 * (i 0).val + j) % 128 then Finset.univ.sup (fun k : Fin 128 => tile (ix2 b k)) else old (ix3 0 b l) := by
  pointwise [upd]
  rw [lane_eq (i 0) ⟨j, h⟩, neg_inf]
  have hl := l.isLt
  have hg : (10 * (i 0).val + j) % 128 < 128 := Nat.mod_lt _ (by decide)
  have key : BitVec.ofNat 32 l.val = BitVec.ofNat 32 ((10 * (i 0).val + j) % 128) ↔ l.val = (10 * (i 0).val + j) % 128 := by
    constructor
    · intro hb
      have := congrArg BitVec.toNat hb
      rw [BitVec.toNat_ofNat, BitVec.toNat_ofNat, Nat.mod_eq_of_lt (by omega), Nat.mod_eq_of_lt (by omega)] at this
      exact this
    · intro hb; rw [hb]
  by_cases hc : l.val = (10 * (i 0).val + j) % 128
  · rw [if_pos hc]
    simp [Scalar.select, IntOp.cmpi, key.mpr hc]
    rfl
  · rw [if_neg hc]
    have := mt key.mp hc
    simp only [Scalar.select, IntOp.cmpi, beq_eq_false_iff_ne.mpr this]
    rfl

/-- What the slabs hold after the first `n` tiles: the groups of those tiles hold their row maxima, the others what they held. -/
theorem read_Lp {κ : Kind} {sp : Space} (v : View sig κ sp S2x128x128 .f32) (f : v.ty.Contents (Elt Ideal)) (i : grid0.Coords)
    (L : List (View.Piece (Elt Ideal) S2x128x128 .f32)) (T : ∀ j, j < 10 → FVec Ideal S128x128 .f32) (R : ℕ → Fin 128 → EReal)
    (hR : ∀ j h b, (Finset.univ.sup fun k : Fin 128 => T j h (ix2 b k)) = R (10 * (i 0).val + j) b) (t : Fin 2) (b l : Fin 128) :
    ∀ (n : ℕ) (h : n ≤ 10), v.read (Elt Ideal) (v.writes (Elt Ideal) f (Lp v f i L T n h)) (ix3 t b l)
      = if 10 * (i 0).val ≤ 128 * t.val + l.val ∧ 128 * t.val + l.val < 10 * (i 0).val + n then R (128 * t.val + l.val) b
        else v.read (Elt Ideal) (v.writes (Elt Ideal) f L) (ix3 t b l)
  | 0, _ => by rw [if_neg (by omega)]; rfl
  | n + 1, h => by
    have ih := read_Lp v f i L T R hR t b l n (Nat.le_of_succ_le h)
    have ht := t.isLt
    have hl := l.isLt
    have hoff := off1_eq i n h
    unfold Lp slab
    by_cases hc : t.val = (10 * (i 0).val + n) / 128
    · rw [View.read_writes_cons_unit_of_mem v f (inb i n h) _ _ (ix3 t b l) (ix3 0 b l) hoff (fun a => by
        fin_cases a
        · show t.val = (10 * (i 0).val + n) / 128 + 0
          omega
        · show b.val = 0 + b.val
          omega
        · show l.val = 0 + l.val
          omega)]
      rw [upd_apply i n h]
      by_cases hlane : l.val = (10 * (i 0).val + n) % 128
      · have e : 128 * t.val + l.val = 10 * (i 0).val + n := by omega
        rw [if_pos hlane, if_pos (by omega), e, hR]
      · rw [if_neg hlane]
        have e : (slab i n h).toLoadRect.idx (ix3 0 b l) = ix3 t b l := by
          refine funext fun a => Fin.ext ?_
          show k0_off1 i (BitVec.ofNat 32 n) a + 1 * ((ix3 (0 : Fin 1) b l : S1x128x128.Idx) a).val = _
          rw [hoff]
          fin_cases a
          · show (10 * (i 0).val + n) / 128 + 1 * 0 = t.val
            omega
          · show 0 + 1 * b.val = b.val
            omega
          · show 0 + 1 * l.val = l.val
            omega
        show v.read (Elt Ideal) (v.writes (Elt Ideal) f (Lp v f i L T n (Nat.le_of_succ_le h))) ((slab i n h).toLoadRect.idx (ix3 0 b l)) = _
        rw [e, ih]
        by_cases hin : 10 * (i 0).val ≤ 128 * t.val + l.val ∧ 128 * t.val + l.val < 10 * (i 0).val + n
        · rw [if_pos hin, if_pos (by omega)]
        · rw [if_neg hin, if_neg (by omega)]
    · rw [View.read_writes_cons_unit_of_not_mem v f (inb i n h) _ _ (ix3 t b l) hoff 0 (by
        show t.val < (10 * (i 0).val + n) / 128 ∨ (10 * (i 0).val + n) / 128 + 1 ≤ t.val
        omega), ih]
      by_cases hin : 10 * (i 0).val ≤ 128 * t.val + l.val ∧ 128 * t.val + l.val < 10 * (i 0).val + n
      · rw [if_pos hin, if_pos (by omega)]
      · rw [if_neg hin, if_neg (by omega)]

end Cert.HeadIdeal.RefValue

end
-- ==== Proof.HeadInv.lean ====
/- Head call: what the carried scratch arrays hold after each grid point. -/
module
public import proofs.«01_k».proof.Proof.HeadValue
public import proofs.«01_k».proof.Proof.HeadFrame
public import Idealize.ShloMosaic.Lib.Pointwise
public import Idealize.ShloMosaic.Lib.Claim
public import Idealize.ShloMosaic.Lib.Pipeline.ValueKit
@[expose] public section
set_option maxRecDepth 16384
noncomputable section
namespace Cert.HeadIdeal.RefValue
open Cert.HeadIdeal Cert.HeadIdeal.Gen Idealize.ShloMosaic Idealize.ShloMosaic.TcCoe Idealize.SL.Sem

/-- The logit of a row and a word, words numbered by natural numbers. -/
def logit (x0 : IVec S128x4096 8) (x1 : IVec S32000x4096 8) (x2 : FVec Ideal S32000 .f32) (x3 x4 : FVec Ideal S128 .f32) (b : Fin 128) (v : ℕ) : EReal :=
  if h : v < 32000 then (∑ k : Fin 4096, FloatOps.sitofp (F := Ideal) FTy.bf16 (x0 (ix2 b k)) * FloatOps.sitofp (F := Ideal) FTy.bf16 (x1 (ix2 ⟨v, h⟩ k)) : EReal)
    * x3 (ix1 b) * x2 (ix1 ⟨v, h⟩) * x4 (ix1 b) else 0

/-- The product of a block at an index. -/
theorem pay11_apply (x0 : Vec Ideal S128x4096 .i8) (x1 : Vec Ideal S1280x4096 .i8) (b : Fin 128) (v : Fin 1280) :
    k0_pay11 (F := Ideal) x0 x1 (ix2 b v) = (∑ k : Fin 4096, FloatOps.sitofp (F := Ideal) FTy.bf16 (x0 (ix2 b k)) * FloatOps.sitofp (F := Ideal) FTy.bf16 (x1 (ix2 v k)) : EReal) := by
  pointwise [k0_pay11]

variable (m : (ℓ : Loc nD τ sig) → Buf (Elt Ideal) ℓ) (ρ : Dev nD → PrngReg)

/-- The block indices of the windows at every grid point. -/
theorem idx : ∀ t : Fin cfg0.N, win0_0.index t = ![0, 0] ∧ win0_1.index t = ![t.val, 0] ∧ win0_2.index t = ![t.val, 0, 0]
    ∧ win0_3.index t = ![0, 0] ∧ win0_4.index t = ![0, 0] ∧ win0_5.index t = ![0, 0]
    ∧ win0_6.index t = ![0, 0] ∧ win0_7.index t = ![0, 0] := by decide +kernel

/-- What the host prepares from an argument, at an index. -/
theorem V0 (c : Dev nD) (g : Fin 25) (l : Fin 1280) (h : 1280 * g.val + l.val < 32000) :
    V m c main_v0 (ix3 g 0 l) = m ((c : Thread nD τ).loc main_arg2) (ix1 (⟨1280 * g.val + l.val, h⟩ : Fin 32000)) := by
  entry_read
  show shapeCast S25x1x1280 (m (c, Proc.tc.devRef main_arg2)) shapeCasts_S32000_S25x1x1280 (ix3 g 0 l) = m (c, Proc.tc.devRef main_arg2) _
  generalize m (c, Proc.tc.devRef main_arg2) = z
  pointwise
  exact congrArg (fun q => z (ix1 q)) (Fin.ext (by show g.val * 1280 + l.val = 1280 * g.val + l.val; omega))
theorem V2 (c : Dev nD) (b l : Fin 128) : V m c main_v2 (ix2 b l) = m ((c : Thread nD τ).loc main_arg3) (ix1 b) := by
  entry_read
  show _ = m (c, Proc.tc.devRef main_arg3) _
  generalize m (c, Proc.tc.devRef main_arg3) = z
  pointwise
theorem V4 (c : Dev nD) (b l : Fin 128) : V m c main_v4 (ix2 b l) = m ((c : Thread nD τ).loc main_arg4) (ix1 b) := by
  entry_read
  show _ = m (c, Proc.tc.devRef main_arg4) _
  generalize m (c, Proc.tc.devRef main_arg4) = z
  pointwise
theorem V6 (c : Dev nD) (b l : Fin 128) : V m c main_v6 (ix2 b l) = m ((c : Thread nD τ).loc main_arg5) (ix1 b) := by
  entry_read
  show _ = m (c, Proc.tc.devRef main_arg5) _
  generalize m (c, Proc.tc.devRef main_arg5) = z
  pointwise

/-- A block's element is the array's element at the place where the block stands. -/
theorem blk0 (c : Dev nD) (t : Fin cfg0.N) (i : Fin 128) (q : Fin 4096) :
    iblk m c 0 t (ix2 i q) = m ((c : Thread nD τ).loc main_arg0) (ix2 i q) := by
  blk_ext [iblk, V, idx t]
theorem blk1 (c : Dev nD) (t : Fin cfg0.N) (r : Fin 1280) (q : Fin 4096) (h : 1280 * t.val + r.val < 32000) :
    iblk m c 1 t (ix2 r q) = m ((c : Thread nD τ).loc main_arg1) (ix2 ⟨1280 * t.val + r.val, h⟩ q) := by
  blk_ext [iblk, V, idx t]
theorem blk2 (c : Dev nD) (t : Fin cfg0.N) (l : Fin 1280) (h : 1280 * t.val + l.val < 32000) :
    iblk m c 2 t (ix3 0 0 l) = m ((c : Thread nD τ).loc main_arg2) (ix1 ⟨1280 * t.val + l.val, h⟩) := by
  have e : iblk m c 2 t (ix3 0 0 l) = V m c main_v0 (ix3 (⟨t.val, t.isLt⟩ : Fin 25) 0 l) := by
    blk_ext [iblk, idx t]
  rw [e, V0]
theorem blk3 (c : Dev nD) (t : Fin cfg0.N) (b l : Fin 128) : iblk m c 3 t (ix2 b l) = m ((c : Thread nD τ).loc main_arg3) (ix1 b) := by
  have e : iblk m c 3 t (ix2 b l) = V m c main_v2 (ix2 b l) := by
    blk_ext [iblk, idx t]
  rw [e, V2]
theorem blk4 (c : Dev nD) (t : Fin cfg0.N) (b l : Fin 128) : iblk m c 4 t (ix2 b l) = m ((c : Thread nD τ).loc main_arg4) (ix1 b) := by
  have e : iblk m c 4 t (ix2 b l) = V m c main_v4 (ix2 b l) := by
    blk_ext [iblk, idx t]
  rw [e, V4]
theorem blk5 (c : Dev nD) (t : Fin cfg0.N) (b l : Fin 128) : iblk m c 5 t (ix2 b l) = m ((c : Thread nD τ).loc main_arg5) (ix1 b) := by
  have e : iblk m c 5 t (ix2 b l) = V m c main_v6 (ix2 b l) := by
    blk_ext [iblk, idx t]
  rw [e, V6]

/-- The logits of the argument arrays. -/
abbrev lg (c : Dev nD) : Fin 128 → ℕ → EReal :=
  logit (m ((c : Thread nD τ).loc main_arg0)) (m ((c : Thread nD τ).loc main_arg1)) (m ((c : Thread nD τ).loc main_arg2))
    (m ((c : Thread nD τ).loc main_arg3)) (m ((c : Thread nD τ).loc main_arg4))

/-- A lane's logits, group by group, in units of the binary logarithm. -/
def F2 (c : Dev nD) (b l : Fin 128) (g : ℕ) : EReal := lg m c b (128 * g + l.val) * LOG2E

/-- The largest logit of a group of 128 words. -/
def gm (c : Dev nD) (g : ℕ) (b : Fin 128) : EReal := Finset.univ.sup fun k : Fin 128 => lg m c b (128 * g + k.val)

/-- The tiles of grid point `t`. -/
abbrev tilesAt (c : Dev nD) (t : Fin cfg0.N) := tiles (iblk m c 0 t) (iblk m c 1 t) (iblk m c 2 t) (iblk m c 3 t) (iblk m c 4 t)

theorem mul4 {a a' b b' c c' d d' : EReal} (ha : a = a') (hb : b = b') (hc : c = c') (hd : d = d') : a * b * c * d = a' * b' * c' * d' := by
  rw [ha, hb, hc, hd]

/-- A tile's element is the logit of its word. -/
theorem tile_val (c : Dev nD) (t : Fin cfg0.N) (j : ℕ) (h : j < 10) (b l : Fin 128) :
    tilesAt m c t j h (ix2 b l) = lg m c b (128 * (10 * t.val + j) + l.val) := by
  have ht : t.val < 25 := t.isLt
  have hl := l.isLt
  have hlt : 128 * (10 * t.val + j) + l.val < 32000 := by omega
  have hlt' : 1280 * t.val + (128 * j + l.val) < 32000 := by omega
  have e : (⟨128 * (10 * t.val + j) + l.val, hlt⟩ : Fin 32000) = ⟨1280 * t.val + (128 * j + l.val), hlt'⟩ := Fin.ext (by show 128 * (10 * t.val + j) + l.val = 1280 * t.val + (128 * j + l.val); omega)
  unfold tilesAt tiles
  rw [tl_apply, pay11_apply, blk3, blk4]
  have e2 : View.ld (Val := Elt Ideal) (iblk m c 2 t) (Rect.unit (s := S1x1x1280) ![0, 0, 128 * j] S1x1x128.size (hsb j h)) (ix3 0 0 l)
      = iblk m c 2 t (ix3 0 0 ⟨128 * j + l.val, by omega⟩) := by
    refine congrArg (iblk m c 2 t) (funext fun a => Fin.ext ?_)
    fin_cases a
    · rfl
    · rfl
    · show 128 * j + 1 * l.val = 128 * j + l.val
      omega
  have hs : (∑ k : Fin 4096, FloatOps.sitofp (F := Ideal) FTy.bf16 (iblk m c 0 t (ix2 b k)) * FloatOps.sitofp (F := Ideal) FTy.bf16 (iblk m c 1 t (ix2 ⟨128 * j + l.val, by omega⟩ k)) : EReal)
      = (∑ k : Fin 4096, FloatOps.sitofp (F := Ideal) FTy.bf16 (m ((c : Thread nD τ).loc main_arg0) (ix2 b k)) * FloatOps.sitofp (F := Ideal) FTy.bf16 (m ((c : Thread nD τ).loc main_arg1) (ix2 ⟨128 * (10 * t.val + j) + l.val, hlt⟩ k)) : EReal) :=
    Finset.sum_congr rfl fun k _ => by rw [blk0, blk1 m c t ⟨128 * j + l.val, by omega⟩ k hlt', e]
  have h2 := e2.trans (blk2 m c t ⟨128 * j + l.val, by omega⟩ hlt')
  refine (mul4 hs rfl h2 rfl).trans ?_
  unfold lg logit
  rw [dif_pos hlt, e]

theorem tile_F2 (c : Dev nD) (t : Fin cfg0.N) (b l : Fin 128) (j : ℕ) (h : j < 10) :
    tilesAt m c t j h (ix2 b l) * LOG2E = F2 m c b l (10 * t.val + j) := by rw [tile_val]; rfl

theorem tile_gm (c : Dev nD) (t : Fin cfg0.N) (j : ℕ) (h : j < 10) (b : Fin 128) :
    (Finset.univ.sup fun k : Fin 128 => tilesAt m c t j h (ix2 b k)) = gm m c (10 * t.val + j) b :=
  Finset.sup_congr rfl fun k _ => tile_val m c t j h b k

theorem coord (t : Fin cfg0.N) : ((grid0.coords t) 0).val = t.val :=
  (by decide +kernel : ∀ t : Fin grid0.N, ((grid0.coords t) 0).val = t.val) t

/-- What the three carried arrays hold after grid point `n`. -/
def Inv (c : Dev nD) (n : ℕ) (A B : Vec Ideal S128x128 .f32) (C : Vec Ideal S2x128x128 .f32) : Prop :=
  (∀ b l : Fin 128, A (ix2 b l) = HeadMath.mx (F2 m c b l) (10 * n + 10))
  ∧ (∀ b l : Fin 128, B (ix2 b l) = HeadMath.sm (F2 m c b l) (10 * n + 10))
  ∧ (∀ (s : Fin 2) (b l : Fin 128), 128 * s.val + l.val < 10 * n + 10 → C (ix3 s b l) = gm m c (128 * s.val + l.val) b)

theorem pay8_apply (y : S128x128.Idx) : k0_pay8 (F := Ideal) y = (⊥ : EReal) := by
  have h : k0_pay8 (F := Ideal) y = Ideal.ofBits FTy.f32 0xFF800000#32 := by pointwise [k0_pay8]
  rw [h, neg_inf]
theorem pay9_apply (y : S128x128.Idx) : k0_pay9 (F := Ideal) y = (0 : EReal) := by
  have h : k0_pay9 (F := Ideal) y = Ideal.ofBits FTy.f32 0x00000000#32 := by pointwise [k0_pay9]
  rw [h, Ideal.ofBits_zero_f32]

/-- The invariant holds after every grid point. -/
theorem inv (c : Dev nD) : ∀ (n : ℕ) (hn : n < cfg0.N), Inv m c n (outsAt0 m c n hn).2.2.1 (outsAt0 m c n hn).2.2.2.1 (outsAt0 m c n hn).2.2.2.2 := by
  intro n
  induction n with
  | zero =>
    intro hn
    have hA := outsAt0_A m c ⟨0, hn⟩ (by rfl) (by show ¬ 0 % 25 = 24; decide)
    rw [hA]
    dsimp only
    refine ⟨fun b l => ?_, fun b l => ?_, fun s b l hlt => ?_⟩
    · rw [mx_A]
      exact nmx_apply _ _ (F2 m c b l) 0 _ (fun j h => (tile_F2 m c ⟨0, hn⟩ b l j h).trans (by rw [Nat.mul_zero])) (pay8_apply _)
    · rw [sm_A]
      exact nsm_apply _ _ _ (F2 m c b l) 0 _ (fun j h => (tile_F2 m c ⟨0, hn⟩ b l j h).trans (by rw [Nat.mul_zero])) (pay8_apply _) (pay9_apply _)
    · unfold sout0_A_2
      rw [gp_A]
      refine (read_Lp _ _ _ _ _ (gm m c) (fun j h b => (tile_gm m c ⟨0, hn⟩ j h b).trans (by rw [coord])) s b l 10 le_rfl).trans (if_pos ?_)
      rw [coord]
      show 10 * 0 ≤ _ ∧ _ < 10 * 0 + 10
      omega
  | succ n ih =>
    intro hn
    have hN : n + 1 < 25 := hn
    obtain ⟨i0, i1, i2⟩ := ih (Nat.lt_of_succ_lt hn)
    have h0 : ¬ (n + 1) % 25 = 0 := by omega
    by_cases h1 : (n + 1) % 25 = 24
    · have hC := outsAt0_C m c ⟨n + 1, hn⟩ h0 h1
      rw [hC]
      dsimp only
      refine ⟨fun b l => ?_, fun b l => ?_, fun s b l hlt => ?_⟩
      · rw [mx_C]
        exact nmx_apply _ _ (F2 m c b l) (10 * n + 10) _ (fun j h => tile_F2 m c ⟨n + 1, hn⟩ b l j h) (i0 b l)
      · rw [sm_C]
        exact nsm_apply _ _ _ (F2 m c b l) (10 * n + 10) _ (fun j h => tile_F2 m c ⟨n + 1, hn⟩ b l j h) (i0 b l) (i1 b l)
      · unfold sout0_C_2
        rw [gp_C]
        refine (read_Lp _ _ _ _ _ (gm m c) (fun j h b => (tile_gm m c ⟨n + 1, hn⟩ j h b).trans (by rw [coord])) s b l 10 le_rfl).trans ?_
        rw [coord]
        by_cases hc : 10 * (n + 1) ≤ 128 * s.val + l.val
        · exact if_pos ⟨hc, hlt⟩
        · refine (if_neg fun h => hc h.1).trans ?_
          show View.read _ _ _ _ = _
          rw [View.writes_nil, Memref.IsWhole.read_unread]
          exact i2 s b l (by omega)
    · have hB := outsAt0_B m c ⟨n + 1, hn⟩ h0 h1
      rw [hB]
      dsimp only
      refine ⟨fun b l => ?_, fun b l => ?_, fun s b l hlt => ?_⟩
      · rw [mx_B]
        exact nmx_apply _ _ (F2 m c b l) (10 * n + 10) _ (fun j h => tile_F2 m c ⟨n + 1, hn⟩ b l j h) (i0 b l)
      · rw [sm_B]
        exact nsm_apply _ _ _ (F2 m c b l) (10 * n + 10) _ (fun j h => tile_F2 m c ⟨n + 1, hn⟩ b l j h) (i0 b l) (i1 b l)
      · unfold sout0_B_2
        rw [gp_B]
        refine (read_Lp _ _ _ _ _ (gm m c) (fun j h b => (tile_gm m c ⟨n + 1, hn⟩ j h b).trans (by rw [coord])) s b l 10 le_rfl).trans ?_
        rw [coord]
        by_cases hc : 10 * (n + 1) ≤ 128 * s.val + l.val
        · exact if_pos ⟨hc, hlt⟩
        · refine (if_neg fun h => hc h.1).trans ?_
          show View.read _ _ _ _ = _
          rw [View.writes_nil, Memref.IsWhole.read_unread]
          exact i2 s b l (by omega)

end Cert.HeadIdeal.RefValue
end
-- ==== Proof.HeadSum.lean ====
/- Head call: sums and maxima over all words, from sums and maxima over lanes and groups; powers of two. -/
module
public import proofs.«01_k».proof.Proof.HeadMath
@[expose] public section
noncomputable section
namespace Cert.HeadMath
open Idealize.ShloMosaic

/-- A sum over lanes and groups is the sum over all words. -/
theorem sum_words (h : ℕ → EReal) : (∑ l : Fin 128, ∑ g ∈ Finset.range 250, h (128 * g + l.val)) = ∑ v : Fin 32000, h v.val := by
  rw [Finset.sum_comm, Finset.sum_range (fun g => ∑ l : Fin 128, h (128 * g + l.val)), ← Fintype.sum_prod_type' (fun (g : Fin 250) (l : Fin 128) => h (128 * g.val + l.val))]
  exact Fintype.sum_equiv (finProdFinEquiv (m := 250) (n := 128)) _ (fun v : Fin (250 * 128) => h v.val) fun p => congrArg h (Nat.add_comm _ _)

/-- A maximum over lanes and groups is the maximum over all words. -/
theorem sup_words (h : ℕ → EReal) : (Finset.univ.sup fun l : Fin 128 => (Finset.range 250).sup fun g => h (128 * g + l.val)) = Finset.univ.sup fun v : Fin 32000 => h v.val := by
  apply le_antisymm
  · refine Finset.sup_le fun l _ => Finset.sup_le fun g hg => ?_
    have hg' := Finset.mem_range.mp hg
    have hl := l.isLt
    exact Finset.le_sup (f := fun v : Fin 32000 => h v.val) (Finset.mem_univ (⟨128 * g + l.val, by omega⟩ : Fin 32000))
  · refine Finset.sup_le fun v _ => ?_
    have hv := v.isLt
    have hl : v.val % 128 < 128 := Nat.mod_lt _ (by decide)
    have e : h v.val = h (128 * (v.val / 128) + v.val % 128) := congrArg h (by omega)
    have hg : v.val / 128 ∈ Finset.range 250 := Finset.mem_range.mpr (by omega)
    rw [e]
    exact (Finset.le_sup (f := fun g => h (128 * g + v.val % 128)) hg).trans
      (Finset.le_sup (f := fun l : Fin 128 => (Finset.range 250).sup fun g => h (128 * g + l.val)) (Finset.mem_univ (⟨v.val % 128, hl⟩ : Fin 128)))

/-- The literal 2. -/
theorem two : Ideal.ofBits .f32 0x40000000#32 = ((2 : ℝ) : EReal) := by
  simp [Ideal.ofBits, Ideal.ieee, -EReal.coe_mul]
  norm_num

/-- A power with base 2 is the binary exponential. -/
theorem pow_two (x : EReal) : Ideal.pow ((2 : ℝ) : EReal) x = Ideal.exp2 x := by
  induction x using EReal.rec with
  | bot => rw [Ideal.pow_coe_bot, Ideal.exp2_bot, if_neg (by norm_num), if_pos (by norm_num)]
  | top => rw [Ideal.pow_coe_top, Ideal.exp2_top, if_neg (by norm_num), if_pos (by norm_num)]
  | coe r => rfl

end Cert.HeadMath
end
-- ==== Proof.HeadFinal.lean ====
/- Head call: the two result arrays after the run, as functions of the arguments. -/
module
public import proofs.«01_k».proof.Proof.HeadInv
public import proofs.«01_k».proof.Proof.HeadSum
@[expose] public section
set_option maxRecDepth 16384
noncomputable section
namespace Cert.HeadIdeal.RefValue
open Cert.HeadIdeal Cert.HeadIdeal.Gen Idealize.ShloMosaic Idealize.ShloMosaic.TcCoe Idealize.SL.Sem

/-- The least integer not below the largest logit, in units of the binary logarithm. -/
def top (L : ℕ → EReal) : EReal := HeadMath.ceil (Finset.univ.sup fun v : Fin 32000 => L v.val * LOG2E)

/-- The natural logarithm of the sum of the exponentials of a row's logits, as the kernel and the reference compute it. -/
def lse (L : ℕ → EReal) : EReal :=
  (top L + Ideal.div (Ideal.log (∑ v : Fin 32000, Ideal.exp2 (L v.val * LOG2E - top L))) (Ideal.log (Ideal.ofBits FTy.f32 0x40000000#32)))
    * Ideal.ofBits FTy.f32 0x3F317218#32

/-- The logarithm's payload at a row: maxima and sums of the 128 lanes combined. -/
theorem pay4_apply (M S : Vec Ideal S128x128 .f32) (b : Fin 128) :
    k0_pay4 (F := Ideal) M S M (ix2 b 0) = (Finset.univ.sup (fun x : Fin 128 => (M (ix2 b x) : EReal)) + Ideal.div (Ideal.log (∑ x : Fin 128, S (ix2 b x) * Ideal.exp2 (M (ix2 b x) - Finset.univ.sup (fun x : Fin 128 => (M (ix2 b x) : EReal)))))
      (Ideal.log (Ideal.ofBits FTy.f32 0x40000000#32))) * Ideal.ofBits FTy.f32 0x3F317218#32 := by
  pointwise [k0_pay4]
  rw [neg_inf]
  rfl
theorem pay5_apply (M S : Vec Ideal S128x128 .f32) (b l : Fin 128) :
    k0_pay5 (F := Ideal) M S M (ix2 b l) = k0_pay4 (F := Ideal) M S M (ix2 b 0) - Ideal.ofBits FTy.f32 0x4125F9D2#32 := by
  unfold k0_pay5
  generalize k0_pay4 M S M = z
  pointwise
theorem pay6_apply (M S : Vec Ideal S128x128 .f32) (lp : Vec Ideal S128x128 .f32) (g : Vec Ideal S1x128x128 .f32) (b l : Fin 128) :
    k0_pay6 (F := Ideal) M S M lp g (ix2 b l) = lp (ix2 b l) + g (ix3 0 b l) - k0_pay4 (F := Ideal) M S M (ix2 b 0) := by
  unfold k0_pay6
  generalize k0_pay4 M S M = z
  pointwise
theorem pay3_apply (z : FVec Ideal S128x1 .f32) (lp : Vec Ideal S128x128 .f32) (g : Vec Ideal S1x128x128 .f32) (b l : Fin 128) :
    k0_pay3 (F := Ideal) z (k0_pay7 lp) g (ix2 b l) = lp (ix2 b l) + g (ix3 0 b l) - z (ix2 b 0) := by
  pointwise [k0_pay3, k0_pay7]

variable (m : (ℓ : Loc nD τ sig) → Buf (Elt Ideal) ℓ) (ρ : Dev nD → PrngReg)

/-- Lanes that hold the maxima and sums of all groups give the row's logarithm. -/
theorem lse_val (c : Dev nD) (b : Fin 128) (A B : Vec Ideal S128x128 .f32) (hA : ∀ l : Fin 128, A (ix2 b l) = HeadMath.mx (F2 m c b l) 250)
    (hB : ∀ l : Fin 128, B (ix2 b l) = HeadMath.sm (F2 m c b l) 250) : k0_pay4 (F := Ideal) A B A (ix2 b 0) = lse (lg m c b) := by
  have hM : (Finset.univ.sup fun l : Fin 128 => HeadMath.mx (F2 m c b l) 250) = top (lg m c b) := by
    unfold top
    rw [HeadMath.ceil_sup]
    exact HeadMath.sup_words fun v => HeadMath.ceil (lg m c b v * LOG2E)
  rw [pay4_apply]
  simp only [hA, hB]
  rw [HeadMath.lanes Finset.univ (F2 m c b) 250 rfl, hM]
  unfold lse
  rw [← HeadMath.sum_words fun v => Ideal.exp2 (lg m c b v * LOG2E - top (lg m c b))]
  rfl

/-- A slab's load at an index. -/
theorem slab_apply {κ : Kind} {sp : Space} (v : View sig κ sp S2x128x128 .f32) (f : v.ty.Contents (Elt Ideal)) (s : ℕ) (hs : s < 2) (h : ∀ a, (![s, 0, 0] : Fin 3 → ℕ) a + S1x128x128.size a ≤ S2x128x128.size a) (b l : Fin 128) :
    View.readAt (Elt Ideal) v (Rect.unit (s := S2x128x128) ![s, 0, 0] S1x128x128.size h).toLoadRect f (ix3 0 b l) = v.read (Elt Ideal) f (ix3 ⟨s, hs⟩ b l) := by
  show v.read (Elt Ideal) f ((Rect.unit (s := S2x128x128) ![s, 0, 0] S1x128x128.size h).toLoadRect.idx (ix3 0 b l)) = _
  refine congrArg _ (funext fun a => Fin.ext ?_)
  fin_cases a
  · rfl
  · show 0 + 1 * b.val = b.val
    omega
  · show 0 + 1 * l.val = l.val
    omega

/-- Two pieces side by side: a column of the left half holds the left piece's element. -/
theorem canon_left (P Q : Vec Ideal S128x128 .f32) (b l : Fin 128) (h : 128 * 0 + l.val < 256) :
    View.canon (Val := Elt Ideal) (s := S128x256) (e := .f32) [⟨Rect.unit (s := S128x256) ![0, 128] S128x128.size inb_S128x256_S128x128_0_128, P⟩,
      ⟨Rect.unit (s := S128x256) ![0, 0] S128x128.size inb_S128x256_S128x128_0_0, Q⟩] (ix2 b ⟨128 * 0 + l.val, h⟩) = Q (ix2 b l) := by
  have hl := l.isLt
  have hm : (ix2 b ⟨128 * 0 + l.val, h⟩ : S128x256.Idx) ∉ (Rect.unit (s := S128x256) ![0, 128] S128x128.size inb_S128x256_S128x128_0_128).set := by
    intro hm
    have := ((Rect.mem_set_unit (inb := inb_S128x256_S128x128_0_128)).mp hm 1).1
    change 128 ≤ 128 * 0 + l.val at this
    omega
  refine (View.canon_cons_of_not_mem (Val := Elt Ideal) (⟨Rect.unit (s := S128x256) ![0, 128] S128x128.size inb_S128x256_S128x128_0_128, P⟩ : View.Piece (Elt Ideal) S128x256 .f32) _ hm).trans ?_
  have e : (ix2 b ⟨128 * 0 + l.val, h⟩ : S128x256.Idx) = (Rect.unit (s := S128x256) ![0, 0] S128x128.size inb_S128x256_S128x128_0_0).emb (ix2 b l) := by
    refine funext fun a => Fin.ext ?_
    fin_cases a
    · show b.val = 0 + 1 * b.val
      omega
    · show 128 * 0 + l.val = 0 + 1 * l.val
      omega
  rw [e]
  exact View.canon_cons_emb (Val := Elt Ideal) (Rect.unit (s := S128x256) ![0, 0] S128x128.size inb_S128x256_S128x128_0_0) Q [] (ix2 b l)

/-- A column of the right half holds the right piece's element. -/
theorem canon_right (P Q : Vec Ideal S128x128 .f32) (b l : Fin 128) (h : 128 * 1 + l.val < 256) :
    View.canon (Val := Elt Ideal) (s := S128x256) (e := .f32) [⟨Rect.unit (s := S128x256) ![0, 128] S128x128.size inb_S128x256_S128x128_0_128, P⟩,
      ⟨Rect.unit (s := S128x256) ![0, 0] S128x128.size inb_S128x256_S128x128_0_0, Q⟩] (ix2 b ⟨128 * 1 + l.val, h⟩) = P (ix2 b l) := by
  have e : (ix2 b ⟨128 * 1 + l.val, h⟩ : S128x256.Idx) = (Rect.unit (s := S128x256) ![0, 128] S128x128.size inb_S128x256_S128x128_0_128).emb (ix2 b l) := by
    refine funext fun a => Fin.ext ?_
    fin_cases a
    · show b.val = 0 + 1 * b.val
      omega
    · show 128 * 1 + l.val = 128 + 1 * l.val
      omega
  rw [e]
  exact View.canon_cons_emb (Val := Elt Ideal) (Rect.unit (s := S128x256) ![0, 128] S128x128.size inb_S128x256_S128x128_0_128) P _ (ix2 b l)

/-- The parent's log-probability of a row. -/
abbrev par (c : Dev nD) (b : Fin 128) : EReal := m ((c : Thread nD τ).loc main_arg5) (ix1 b)

theorem lastLt : 24 < cfg0.N := by show 24 < grid0.N; decide +kernel

/-- The last point's group scores, in what it leaves in the carried arrays. -/
theorem out6 (c : Dev nD) (s : Fin 2) (b l : Fin 128) (h : 128 * s.val + l.val < 256) :
    (outsAt0 m c 24 lastLt).1 (ix2 b ⟨128 * s.val + l.val, h⟩) = par m c b
      + ((outsAt0 m c 24 lastLt).2.2.2.2 (ix3 s b l) : EReal) - k0_pay4 (F := Ideal) (outsAt0 m c 24 lastLt).2.2.1 (outsAt0 m c 24 lastLt).2.2.2.1 (outsAt0 m c 24 lastLt).2.2.1 (ix2 b 0) := by
  have hC := outsAt0_C m c ⟨24, lastLt⟩ (by show ¬ 24 % 25 = 0; decide) (by rfl)
  rw [hC]
  dsimp only
  rw [o6_C, mx_C, sm_C]
  unfold sout0_C_2
  rw [gp_C]
  have hl := l.isLt
  match s with
  | ⟨0, hs⟩ =>
    refine (canon_left _ _ b l h).trans ?_
    rw [pay6_apply, blk5, slab_apply _ _ 0 hs]
  | ⟨1, hs⟩ =>
    refine (canon_right _ _ b l h).trans ?_
    rw [pay3_apply, blk5, slab_apply _ _ 1 hs]

/-- The last point's relative logarithms, in what it leaves in the carried arrays. -/
theorem out7 (c : Dev nD) (b l : Fin 128) :
    (outsAt0 m c 24 lastLt).2.1 (ix2 b l) = k0_pay4 (F := Ideal) (outsAt0 m c 24 lastLt).2.2.1 (outsAt0 m c 24 lastLt).2.2.2.1 (outsAt0 m c 24 lastLt).2.2.1 (ix2 b 0)
      - Ideal.ofBits FTy.f32 0x4125F9D2#32 := by
  have hC := outsAt0_C m c ⟨24, lastLt⟩ (by show ¬ 24 % 25 = 0; decide) (by rfl)
  rw [hC]
  dsimp only
  rw [o7_C, mx_C, sm_C, pay5_apply]

/-- A group's score: the parent's log-probability plus the group's largest logit, less the row's logarithm. -/
def score (c : Dev nD) (b : Fin 128) (g : ℕ) : EReal := par m c b + gm m c g b - lse (lg m c b)

theorem out6_val (c : Dev nD) (b : Fin 128) (g : ℕ) (h : g < 250) (h' : g < 256) :
    (outsAt0 m c 24 lastLt).1 (ix2 b ⟨g, h'⟩) = score m c b g := by
  obtain ⟨i0, i1, i2⟩ := inv m c 24 lastLt
  have hs : g / 128 < 2 := by omega
  have hl : g % 128 < 128 := Nat.mod_lt _ (by decide)
  have e : 128 * (g / 128) + g % 128 = g := by omega
  have ho := out6 m c ⟨g / 128, hs⟩ b ⟨g % 128, hl⟩ (by show 128 * (g / 128) + g % 128 < 256; omega)
  have hg := i2 ⟨g / 128, hs⟩ b ⟨g % 128, hl⟩ (by show 128 * (g / 128) + g % 128 < 250; omega)
  rw [lse_val m c b _ _ (i0 b) (i1 b), hg] at ho
  dsimp only at ho
  unfold score
  simp only [e] at ho
  exact ho

theorem out7_val (c : Dev nD) (b l : Fin 128) :
    (outsAt0 m c 24 lastLt).2.1 (ix2 b l) = lse (lg m c b) - Ideal.ofBits FTy.f32 0x4125F9D2#32 := by
  obtain ⟨i0, i1, i2⟩ := inv m c 24 lastLt
  rw [out7, lse_val m c b _ _ (i0 b) (i1 b)]

/-- The array of group scores after the run is what the last point left. -/
theorem final6 (c : Dev nD) : (dats m 0 c).arrAt 6 cfg0.N = (outsAt0 m c 24 lastLt).1 := by
  refine (dats m 0 c).arrAt_eq_of_after_last 6 ⟨24, lastLt⟩ (by decide +kernel) _ fun j => ?_
  rw [after0_6]
  rfl

/-- The array of relative logarithms after the run is what the last point left. -/
theorem final7 (c : Dev nD) : (dats m 0 c).arrAt 7 cfg0.N = (outsAt0 m c 24 lastLt).2.1 := by
  refine (dats m 0 c).arrAt_eq_of_after_last 7 ⟨24, lastLt⟩ (by decide +kernel) _ fun j => ?_
  rw [after0_7]
  rfl

end Cert.HeadIdeal.RefValue
end
-- ==== Proof.HeadRef.lean ====
/- Head call: the reference's two results at an index. -/
module
public import proofs.«01_k».proof.Proof.HeadFinal
public import proofs.«01_k».proof.Proof.Gen.HeadRefIdeal.Read
@[expose] public section
set_option maxRecDepth 16384
noncomputable section
namespace Cert.HeadRefIdeal.RefValue
open Cert.HeadRefIdeal Cert.HeadRefIdeal.Gen Cert.HeadRefIdeal.Read Idealize.ShloMosaic Idealize.ShloMosaic.TcCoe Idealize.SL.Sem
open Cert.HeadIdeal.RefValue (logit LOG2E top lse neg_inf)

variable (x0 : (⟨S128x4096, .i8⟩ : BufTy).Contents (Elt Ideal)) (x1 : (⟨S32000x4096, .i8⟩ : BufTy).Contents (Elt Ideal)) (x2 : (⟨S32000, .f32⟩ : BufTy).Contents (Elt Ideal))
  (x3 x4 x5 : (⟨S128, .f32⟩ : BufTy).Contents (Elt Ideal))

/-- A byte converted by way of a 32-bit word is the byte converted. -/
theorem conv (a : BitVec 8) : FloatOps.sitofp (F := Ideal) FTy.bf16 (a.signExtend 32) = FloatOps.sitofp (F := Ideal) FTy.bf16 a := by
  have h : (a.signExtend 32).toInt = a.toInt := BitVec.toInt_signExtend_of_le (by decide)
  show (((a.signExtend 32).toInt : ℝ) : EReal) = ((a.toInt : ℝ) : EReal)
  rw [h]

/-- The reference's scaled logits. -/
theorem v13 (b : Fin 128) (v : Fin 32000) : val_main_v13 (F := Ideal) x0 x1 x2 x3 x4 (ix2 b v) = logit x0 x1 x2 x3 x4 b v.val := by
  rw [val_main_v13_apply, val_main_v10_apply, val_main_v7_apply, val_main_v4_apply, val_main_v12_apply, val_main_v11_apply,
    val_main_v9_apply, val_main_v8_apply, val_main_v6_apply, val_main_v5_apply]
  unfold logit
  rw [dif_pos v.isLt]
  refine Cert.HeadIdeal.RefValue.mul4 (Finset.sum_congr rfl fun k _ => ?_) (congrArg x3 ?_) (congrArg x2 ?_) (congrArg x4 ?_)
  · rw [val_main_v1_apply, val_main_v3_apply, val_main_v0_apply, val_main_v2_apply, conv, conv]
    refine congr (congrArg _ (congrArg _ (congrArg x0 ?_))) (congrArg _ (congrArg x1 ?_))
    · funext a; match a with
      | ⟨0, _⟩ => rfl
      | ⟨1, _⟩ => rfl
    · funext a; match a with
      | ⟨0, _⟩ => rfl
      | ⟨1, _⟩ => rfl
  all_goals
    funext a; match a with
    | ⟨0, _⟩ => rfl

theorem v15 (b : Fin 128) (v : Fin 32000) : val_main_v15 (F := Ideal) x0 x1 x2 x3 x4 (ix2 b v) = logit x0 x1 x2 x3 x4 b v.val * LOG2E := by
  rw [val_main_v15_apply, v13, val_main_v14_apply, val_main_cst_apply]
  rfl

theorem v17 (b : Fin 128) : val_main_v17 (F := Ideal) x0 x1 x2 x3 x4 (ix1 b) = top (logit x0 x1 x2 x3 x4 b) := by
  have h : val_main_v16 (F := Ideal) x0 x1 x2 x3 x4 (ix1 b) = Finset.univ.sup fun v : Fin 32000 => logit x0 x1 x2 x3 x4 b v.val * LOG2E := by
    have hv := fun v => v15 x0 x1 x2 x3 x4 b v
    unfold val_main_v16
    generalize val_main_v15 (F := Ideal) x0 x1 x2 x3 x4 = y at hv ⊢
    pointwise
    simp only [hv]
    rw [val_main_cst_0_apply, show (FloatOps.ofBits FTy.f32 0xFF800000#32 : Ideal .f32) = (⊥ : EReal) from neg_inf]
    rfl
  rw [val_main_v17_apply, h]
  unfold top
  generalize (Finset.univ.sup fun v : Fin 32000 => logit x0 x1 x2 x3 x4 b v.val * LOG2E) = z
  rfl

theorem v22 (b : Fin 128) (v : Fin 32000) : val_main_v22 (F := Ideal) x0 x1 x2 x3 x4 (ix2 b v)
    = Ideal.exp2 (logit x0 x1 x2 x3 x4 b v.val * LOG2E - top (logit x0 x1 x2 x3 x4 b)) := by
  have e : idx_main_v18 (idx_main_v19 (ix2 b v)) = ix1 b := by
    funext a; match a with
    | ⟨0, _⟩ => rfl
  rw [val_main_v22_apply, val_main_v21_apply, val_main_cst_1_apply, val_main_v20_apply, v15, val_main_v19_apply, val_main_v18_apply, e, v17]
  show Ideal.pow (Ideal.ofBits FTy.f32 0x40000000#32) _ = _
  rw [HeadMath.two, HeadMath.pow_two]
  rfl

theorem v30 (b : Fin 128) : val_main_v30 (F := Ideal) x0 x1 x2 x3 x4 (ix1 b) = lse (logit x0 x1 x2 x3 x4 b) := by
  rw [val_main_v30_apply, val_main_v29_apply, val_main_cst_4_apply, val_main_v28_apply, v17, val_main_v27_apply, val_main_v26_apply, val_main_v25_apply,
    val_main_cst_3_apply, val_main_v24_apply, val_main_v23_apply, val_main_cst_2_apply]
  have hs : (∑ k : Fin 32000, (val_main_v22 (F := Ideal) x0 x1 x2 x3 x4) (idx_main_v23 (ix1 b) k) : EReal)
      = ∑ v : Fin 32000, Ideal.exp2 (logit x0 x1 x2 x3 x4 b v.val * LOG2E - top (logit x0 x1 x2 x3 x4 b)) := by
    refine Finset.sum_congr rfl fun k _ => ?_
    rw [← v22]
    refine congrArg _ ?_
    funext a; match a with
    | ⟨0, _⟩ => rfl
    | ⟨1, _⟩ => rfl
  rw [hs]
  unfold lse
  have z : (FloatOps.ofBits FTy.f32 0x00000000#32 : Ideal .f32) = (0 : EReal) := Ideal.ofBits_zero_f32
  rw [z, zero_add]
  generalize (∑ v : Fin 32000, Ideal.exp2 (logit x0 x1 x2 x3 x4 b v.val * LOG2E - top (logit x0 x1 x2 x3 x4 b)) : EReal) = w
  generalize top (logit x0 x1 x2 x3 x4 b) = u
  rfl

/-- The reference's relative logarithms. -/
theorem v43 (b l : Fin 128) : val_main_v43 (F := Ideal) x0 x1 x2 x3 x4 (ix2 b l) = lse (logit x0 x1 x2 x3 x4 b) - Ideal.ofBits FTy.f32 0x4125F9D2#32 := by
  have e : idx_main_v42 (idx_main_v43 (ix2 b l)) = ix1 b := by
    funext a; match a with
    | ⟨0, _⟩ => rfl
  rw [val_main_v43_apply, val_main_v42_apply, e, val_main_v32_apply, v30, val_main_v31_apply, val_main_cst_5_apply]
  rfl

theorem v38 (b : Fin 128) (v : Fin 32000) : val_main_v38 (F := Ideal) x0 x1 x2 x3 x4 x5 (ix2 b v)
    = x5 (ix1 b) + logit x0 x1 x2 x3 x4 b v.val - lse (logit x0 x1 x2 x3 x4 b) := by
  have e : idx_main_v36 (idx_main_v37 (ix2 b v)) = ix1 b := by
    funext a; match a with
    | ⟨0, _⟩ => rfl
  have e' : idx_main_v33 (idx_main_v34 (ix2 b v)) = ix1 b := by
    funext a; match a with
    | ⟨0, _⟩ => rfl
  rw [val_main_v38_apply, val_main_v35_apply, val_main_v34_apply, val_main_v33_apply, e', v13, val_main_v37_apply, val_main_v36_apply, e, v30]
  rfl

/-- The reference's group scores, at the columns that hold a group. -/
theorem v41 (b : Fin 128) (g : Fin 256) (h : g.val < 250) : val_main_v41 (F := Ideal) x0 x1 x2 x3 x4 x5 (ix2 b g)
    = x5 (ix1 b) + (Finset.univ.sup fun k : Fin 128 => logit x0 x1 x2 x3 x4 b (128 * g.val + k.val)) - lse (logit x0 x1 x2 x3 x4 b) := by
  have h39 : ∀ k : Fin 128, val_main_v39 (F := Ideal) x0 x1 x2 x3 x4 x5 (ix3 b (⟨g.val, h⟩ : Fin 250) k)
      = x5 (ix1 b) + logit x0 x1 x2 x3 x4 b (128 * g.val + k.val) - lse (logit x0 x1 x2 x3 x4 b) := by
    intro k
    have hk := k.isLt
    have hb := b.isLt
    rw [val_main_v39_apply, ← v38 x0 x1 x2 x3 x4 x5 b ⟨128 * g.val + k.val, by omega⟩]
    refine congrArg _ ?_
    funext a; match a with
    | ⟨0, _⟩ => exact Fin.ext (by show ((b.val * 250 + g.val) * 128 + k.val) / 32000 = b.val; omega)
    | ⟨1, _⟩ => exact Fin.ext (by show ((b.val * 250 + g.val) * 128 + k.val) % 32000 = 128 * g.val + k.val; omega)
  have h40 : val_main_v40 (F := Ideal) x0 x1 x2 x3 x4 x5 (ix2 b (⟨g.val, h⟩ : Fin 250)) = Finset.univ.sup fun k : Fin 128 =>
      x5 (ix1 b) + logit x0 x1 x2 x3 x4 b (128 * g.val + k.val) - lse (logit x0 x1 x2 x3 x4 b) := by
    unfold val_main_v40
    generalize val_main_v39 (F := Ideal) x0 x1 x2 x3 x4 x5 = y at h39 ⊢
    pointwise
    simp only [h39]
    rw [val_main_cst_6_apply, show (FloatOps.ofBits FTy.f32 0xFF800000#32 : Ideal .f32) = (⊥ : EReal) from neg_inf]
    rfl
  rw [HeadMath.sup_affine Finset.univ ⟨0, Finset.mem_univ _⟩, ← h40]
  unfold val_main_v41
  generalize val_main_v40 (F := Ideal) x0 x1 x2 x3 x4 x5 = y
  pointwise
  rw [dif_pos h]

end Cert.HeadRefIdeal.RefValue
end
-- ==== Proof.HeadBits.lean ====
/- Head call: the printed kernel has the frame of its idealization, whose bodies are the same. -/
module
public import proofs.«01_k».proof.Defs
public import proofs.«01_k».proof.Proof.HeadFrame
public import proofs.«01_k».proof.Proof.Gen.Head.Frame
@[expose] public section
open Idealize.ShloMosaic Idealize.ShloMosaic.TcCoe
namespace Cert.HeadProof
set_option maxRecDepth 20000
set_option backward.isDefEq.respectTransparency.types false
/-- The two programs run the same body. -/
theorem body_eq (f : Fin 1) : ∀ a, Cert.Head.defs₀ (F := Bits) .tc f a = Cert.HeadIdeal.defs₀ (F := Bits) .tc f a := by
  obtain rfl : f = 0 := Subsingleton.elim _ _
  rintro ⟨t, s⟩
  unfold Cert.Head.defs₀ Cert.HeadIdeal.defs₀
  rw [Defs.onTc_tc, Defs.onTc_tc]
  rfl
/-- The two programs have the same calls. -/
theorem defs₀_eq : Cert.Head.defs₀ (F := Bits) = Cert.HeadIdeal.defs₀ (F := Bits) := by
  funext κ f a
  cases κ
  · exact body_eq f a
  all_goals rfl
/-- The two programs have the same calls, every one counted. -/
theorem defs_eq : Cert.Head.defs (F := Bits) = Cert.HeadIdeal.defs (F := Bits) := by
  unfold Cert.Head.defs Cert.HeadIdeal.defs
  rw [defs₀_eq]
  rfl
/-- The printed kernel runs without an error and without a race. -/
theorem frameP : quiescent_Head := fun m ρ _ => by
  rw [defs_eq]
  exact Cert.HeadIdeal.Gen.frame (F := Bits) m ρ
end Cert.HeadProof
-- ==== Proof.Head.lean ====
/- Head call: the claims about it. -/
module
public import proofs.«01_k».proof.Proof.HeadRef
public import proofs.«01_k».proof.Proof.HeadBits
public import Idealize.ShloMosaic.Lib.Quiescent
@[expose] public section
noncomputable section
namespace Cert.HeadProof
open Idealize.ShloMosaic Idealize.ShloMosaic.TcCoe Idealize.SL.Sem

/-- What the mask's operations ask of its shapes. -/
instance maskFacts : Cert.On_mask_head.Facts where
  bcast_S_S256 := by decide +kernel
  bcast_S256_S1x256_1 := by decide +kernel
  bcast_S1x256_S128x256_0_1 := by decide +kernel
  bcast_S_S128x128 := by decide +kernel

open Cert.On_mask_head in
/-- The mask selects only columns that hold a group. -/
theorem mask_lt (a0 : IVec S128x4096 8) (a1 : IVec S32000x4096 8) (a2 : FVec Ideal S32000 .f32) (a3 a4 a5 : FVec Ideal S128 .f32) (b : Fin 128) (g : Fin 256)
    (h : (fn (F := Ideal) a0 a1 a2 a3 a4 a5).1 (ix2 b g) = 1#1) : g.val < 250 := by
  have e : (fn (F := Ideal) a0 a1 a2 a3 a4 a5).1 (ix2 b g) = IntOp.cmpi .slt (BitVec.ofNat 32 g.val) 250#32 := by
    pointwise [fn]
  rw [e] at h
  have key : ∀ g : Fin 256, IntOp.cmpi .slt (BitVec.ofNat 32 g.val) 250#32 = 1#1 → g.val < 250 := by decide +kernel
  exact key g h

/-- The reference leaves its arguments and every semaphore as they were. -/
theorem ref_frame : quiescent_HeadRefIdeal :=
  fun m ρ _ => (θ_run Cert.HeadRefIdeal.defs _ _).mono (fun r h =>
    ⟨fun c => (h c).2.2, sem_eq_zero_of_no_sems (by decide) r.2⟩) (Cert.HeadRefIdeal.Value.run (F := Ideal) m ρ)

open Cert.HeadIdeal Cert.HeadIdeal.Gen in
/-- The kernel's run: its two result arrays are what the last grid point left, its arguments are as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7_0) = (outsAt0 m c 24 Cert.HeadIdeal.RefValue.lastLt).1
      ∧ r.2.mem ((c.tc : Thread nD τ).loc main_v7_1) = (outsAt0 m c 24 Cert.HeadIdeal.RefValue.lastLt).2.1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h.1 c).1 6).trans (Cert.HeadIdeal.RefValue.final6 m c), ((h.1 c).1 7).trans (Cert.HeadIdeal.RefValue.final7 m c), h.2 c⟩)
    (θ_run_and (run_main m ρ) (unchanged m ρ))

/-- The kernel and the reference, from the same arguments, end with the same results: the group scores at the columns that hold
    a group, and the relative logarithms. -/
theorem algebraic : algebraic_HeadIdeal_HeadRefIdeal_on_mask_head := by
  intro m ρ m' ρ' _ hagree
  refine ⟨fun c => (Cert.HeadIdeal.Gen.outsAt0 m c 24 Cert.HeadIdeal.RefValue.lastLt).1, fun c => (Cert.HeadIdeal.Gen.outsAt0 m c 24 Cert.HeadIdeal.RefValue.lastLt).2.1, ?_, ?_⟩
  · exact (θ_run Cert.HeadIdeal.defs _ _).mono (fun _ h c => ⟨fun i _ => congrFun (h c).1 i, fun i _ => congrFun (h c).2.1 i, (h c).2.2⟩) (run m ρ)
  · refine (θ_run Cert.HeadRefIdeal.defs _ _).mono (fun _ h c => ⟨fun i hi => (congrFun (h c).1 i).trans ?_, fun i _ => (congrFun (h c).2.1 i).trans ?_, (h c).2.2⟩)
      (Cert.HeadRefIdeal.Value.run (F := Ideal) m' ρ')
    · obtain ⟨a0, a1, a2, a3, a4, a5⟩ := hagree c
      have hy : i = ix2 (i 0) (i 1) := funext fun a => by match a with
        | ⟨0, _⟩ => rfl
        | ⟨1, _⟩ => rfl
      have hlt : (i 1).val < 250 := by
        rw [hy] at hi
        exact mask_lt _ _ _ _ _ _ _ _ hi
      rw [Cert.HeadRefIdeal.Read.val_main_v41_eq, a0, a1, a2, a3, a4, a5]
      refine (congrArg _ hy).trans ((Cert.HeadRefIdeal.RefValue.v41 _ _ _ _ _ _ (i 0) (i 1) hlt).trans ?_)
      exact ((congrArg _ hy).trans (Cert.HeadIdeal.RefValue.out6_val m c (i 0) (i 1).val hlt (i 1).isLt)).symm
    · obtain ⟨a0, a1, a2, a3, a4, a5⟩ := hagree c
      have hy : i = ix2 (i 0) (i 1) := funext fun a => by match a with
        | ⟨0, _⟩ => rfl
        | ⟨1, _⟩ => rfl
      rw [Cert.HeadRefIdeal.Read.val_main_v43_eq, a0, a1, a2, a3, a4]
      refine (congrArg _ hy).trans ((Cert.HeadRefIdeal.RefValue.v43 _ _ _ _ _ (i 0) (i 1)).trans ?_)
      exact ((congrArg _ hy).trans (Cert.HeadIdeal.RefValue.out7_val m c (i 0) (i 1))).symm

end Cert.HeadProof

end
-- ==== Proof.DownRun.lean ====
/- Down call: what the runs of its kernel body share — the branch condition over the grid points, where the
   output windows are idle, the staging and scratch memrefs. -/
module

public import proofs.«01_k».proof.Proof.Gen.DownIdeal.Frame
public import proofs.«01_k».proof.Proof.Gen.DownIdeal.Loops
public import proofs.«01_k».proof.Proof.Gen.DownIdeal.Points
public import proofs.«01_k».proof.Proof.Gen.DownIdeal.Skeleton
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the last point only — by arithmetic of the point. -/
theorem hcond0_0 : ∀ t : Fin cfg0.N, cond0_0 (grid0.coords t) ↔ t.val % 8 = 7 :=
  (fun t => by
    have ht : t.val < 8 := Nat.lt_of_lt_of_eq t.isLt N_0
    have e0 : (grid0.coords t 0).val = t.val / 1 % 8 := Pipeline.Grid.coords_val t 0 (by decide) rfl
    simp only [cond0_0, k0_cond1, e0]
    word_cmp
   : ∀ t : Fin grid0.N, cond0_0 (grid0.coords t) ↔ t.val % 8 = 7)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- At the points of case A the printed configuration (`Cfg.idle`) calls output 6 idle: the case stores nothing into it. -/
theorem idleAt0_6_A : ∀ t : Fin cfg0.N, ¬cond0_0 (grid0.coords t) → cfg0.idle 6 (grid0.coords t) = true := by decide +kernel
/-- At the points of case A the pipeline does not write output 6's block back. -/
theorem noFlush0_6_A : ∀ t : Fin cfg0.N, ¬cond0_0 (grid0.coords t) → (cfg0.win 6).flush t = false := by decide +kernel
/-- At the points of case B the printed configuration (`Cfg.idle`) calls output 6 live: the case stores into it. -/
theorem liveAt0_6_B : ∀ t : Fin cfg0.N, cond0_0 (grid0.coords t) → cfg0.idle 6 (grid0.coords t) = false := by decide +kernel
/-- At the points of case A the printed configuration (`Cfg.idle`) calls output 7 idle: the case stores nothing into it. -/
theorem idleAt0_7_A : ∀ t : Fin cfg0.N, ¬cond0_0 (grid0.coords t) → cfg0.idle 7 (grid0.coords t) = true := by decide +kernel
/-- At the points of case A the pipeline does not write output 7's block back. -/
theorem noFlush0_7_A : ∀ t : Fin cfg0.N, ¬cond0_0 (grid0.coords t) → (cfg0.win 7).flush t = false := by decide +kernel
/-- At the points of case B the printed configuration (`Cfg.idle`) calls output 7 live: the case stores into it. -/
theorem liveAt0_7_B : ∀ t : Fin cfg0.N, cond0_0 (grid0.coords t) → cfg0.idle 7 (grid0.coords t) = false := by decide +kernel
/-- At the points of case A the printed configuration (`Cfg.idle`) calls output 8 idle: the case stores nothing into it. -/
theorem idleAt0_8_A : ∀ t : Fin cfg0.N, ¬cond0_0 (grid0.coords t) → cfg0.idle 8 (grid0.coords t) = true := by decide +kernel
/-- At the points of case A the pipeline does not write output 8's block back. -/
theorem noFlush0_8_A : ∀ t : Fin cfg0.N, ¬cond0_0 (grid0.coords t) → (cfg0.win 8).flush t = false := by decide +kernel
/-- At the points of case B the printed configuration (`Cfg.idle`) calls output 8 live: the case stores into it. -/
theorem liveAt0_8_B : ∀ t : Fin cfg0.N, cond0_0 (grid0.coords t) → cfg0.idle 8 (grid0.coords t) = false := by decide +kernel

/-! ## The kernel body on any staging memrefs: a subtype the run finds -/

/-- One staging buffer of output window 6, through which its contents are stated (`View.read_writes_of_cover`: the
    choice does not matter). -/
abbrev VO0_6 : View sig .tc .vmem S128x4096 .bf16 := (Memref.whole cc0_stg6_0 : Memref sig .tc .vmem S128x4096 .bf16).view
/-- One staging buffer of output window 7, through which its contents are stated (`View.read_writes_of_cover`: the
    choice does not matter). -/
abbrev VO0_7 : View sig .tc .vmem S128x4096 .i8 := (Memref.whole cc0_stg7_0 : Memref sig .tc .vmem S128x4096 .i8).view
/-- One staging buffer of output window 8, through which its contents are stated (`View.read_writes_of_cover`: the
    choice does not matter). -/
abbrev VO0_8 : View sig .tc .vmem S128x128 .f32 := (Memref.whole cc0_stg8_0 : Memref sig .tc .vmem S128x128 .f32).view
/-- Each window's current staging memref at point `t`, spelled as the pipeline passes it (`bodyAt0`), and its wholeness. -/
abbrev ms0_0 (t : Fin cfg0.N) : Memref sig .tc .vmem S128x14336 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S7168x512 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S112x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S112x512 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x4096 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x4096 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x4096 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x4096 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x128 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S112x512 .f32 := Memref.whole cc0_scratch0
abbrev scM0_1 : Memref sig .tc .vmem S112x512 .f32 := Memref.whole cc0_scratch1
abbrev scM0_2 : Memref sig .tc .vmem S128x4096 .f32 := Memref.whole cc0_scratch2
/-- The scratch `arg12` the kernel carries between points, as a view: what it holds is stated through it. -/
abbrev VS0_2 : View sig .tc .vmem S128x4096 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.DownIdeal.Gen

end
-- ==== Proof.DownRunA.lean ====
/- Down call: the run of the kernel body in case A. -/
module

public import proofs.«01_k».proof.Proof.DownRun

@[expose] public section

-- membership in a rectangle of production extents (`View.cover_of_tiled`): the elaborator's structural look
-- recurses once per coordinate of the long axes
set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1948000 in
/-- What the body's stores leave in each output's staging memref, as pieces (last first) IN CASE A (`scf.if` 0 not taken: points 0, 1, … 6: 7 of 8), WITH the
    proof that on whole staging memrefs — the inputs' at their contents, the outputs it leaves idle (6, 7, 8: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S128x14336 .bf16) (harg1 : arg1.IsWhole) (arg2 : Memref sig .tc .vmem S7168x512 .i8) (harg2 : arg2.IsWhole) (arg3 : Memref sig .tc .vmem S112x512 .bf16) (harg3 : arg3.IsWhole) (arg4 : Memref sig .tc .vmem S112x512 .i8) (harg4 : arg4.IsWhole) (arg5 : Memref sig .tc .vmem S128x4096 .f32) (harg5 : arg5.IsWhole) (arg6 : Memref sig .tc .vmem S1x4096 .f32) (harg6 : arg6.IsWhole) (arg7 : Memref sig .tc .vmem S128x4096 .bf16) (harg7 : arg7.IsWhole) (arg8 : Memref sig .tc .vmem S128x4096 .i8) (harg8 : arg8.IsWhole) (arg9 : Memref sig .tc .vmem S128x128 .f32) (harg9 : arg9.IsWhole) (arg10 : Memref sig .tc .vmem S112x512 .f32) (harg10 : arg10.IsWhole) (arg11 : Memref sig .tc .vmem S112x512 .f32) (harg11 : arg11.IsWhole) (arg12 : Memref sig .tc .vmem S128x4096 .f32) (harg12 : arg12.IsWhole) (hc0 : ¬cond0_0 i)
    (x0 : Vec F S128x14336 .bf16) (x1 : Vec F S7168x512 .i8) (x2 : Vec F S112x512 .bf16) (x3 : Vec F S112x512 .i8) (x4 : Vec F S128x4096 .f32) (x5 : Vec F S1x4096 .f32) :
    Σ' (L6 : List (View.Piece (Elt F) S128x4096 .bf16)), Σ' (L7 : List (View.Piece (Elt F) S128x4096 .i8)), Σ' (L8 : List (View.Piece (Elt F) S128x128 .f32)), Σ' (LS2 : List (View.Piece (Elt F) S128x4096 .f32)), Σ' (LT0 : List (View.Piece (Elt F) S112x512 .f32)), { LT1 : List (View.Piece (Elt F) S112x512 .f32) //
      ∀ (xi6 : Vec F S128x4096 .bf16) (xi7 : Vec F S128x4096 .i8) (xi8 : Vec F S128x128 .f32) (xs2 : Vec F S128x4096 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xi7 ∗ owns (c : Thread nD τ) arg9 fullShare xi8 ∗ (∃ d, owns (c : Thread nD τ) arg10 fullShare d) ∗ (∃ d, owns (c : Thread nD τ) arg11 fullShare d) ∗ owns (c : Thread nD τ) arg12 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xi7 ∗ owns (c : Thread nD τ) arg9 fullShare xi8 ∗ (∃ f, arg10.view.loc (c : Thread nD τ) ↦[arg10.view.set]{fullShare} arg10.view.writes (Elt F) f LT0) ∗ (∃ f, arg11.view.loc (c : Thread nD τ) ↦[arg11.view.set]{fullShare} arg11.view.writes (Elt F) f LT1) ∗ (arg12.view.loc (c : Thread nD τ) ↦[arg12.view.set]{fullShare} arg12.view.writes (Elt F) (harg12.unread xs2) LS2)) -∗ K ⟨⟩))
          ⊢ wp frame (wpE (defs₀ (F := F)) Variants.none c none) E (cc0_down i arg1 harg1 arg2 harg2 arg3 harg3 arg4 harg4 arg5 harg5 arg6 harg6 arg7 harg7 arg8 harg8 arg9 harg9 arg10 harg10 arg11 harg11 arg12 harg12) K } := by
  refine ⟨[], [], [], ?_, ?_, ?_, fun xi6 xi7 xi8 xs2 E K => ?run⟩
  case run =>
    simp only [cc0_down_eq_skeleton]; unfold cc0_down_skel
    simp only [k0_part63_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, ⟨%ds1, %fs1, -, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg12.eq_unread hfs2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    isplitl [HS1]; · iexists _; iexact HS1
    iexact HS2

end Cert.DownIdeal.Gen

end
-- ==== Proof.DownRunB.lean ====
/- Down call: the run of the kernel body in case B. -/
module

public import proofs.«01_k».proof.Proof.DownRun

@[expose] public section

-- membership in a rectangle of production extents (`View.cover_of_tiled`): the elaborator's structural look
-- recurses once per coordinate of the long axes
set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1996000 in
/-- What the body's stores leave in each output's staging memref, as pieces (last first) IN CASE B (`scf.if` 0 taken: points 7), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S128x14336 .bf16) (harg1 : arg1.IsWhole) (arg2 : Memref sig .tc .vmem S7168x512 .i8) (harg2 : arg2.IsWhole) (arg3 : Memref sig .tc .vmem S112x512 .bf16) (harg3 : arg3.IsWhole) (arg4 : Memref sig .tc .vmem S112x512 .i8) (harg4 : arg4.IsWhole) (arg5 : Memref sig .tc .vmem S128x4096 .f32) (harg5 : arg5.IsWhole) (arg6 : Memref sig .tc .vmem S1x4096 .f32) (harg6 : arg6.IsWhole) (arg7 : Memref sig .tc .vmem S128x4096 .bf16) (harg7 : arg7.IsWhole) (arg8 : Memref sig .tc .vmem S128x4096 .i8) (harg8 : arg8.IsWhole) (arg9 : Memref sig .tc .vmem S128x128 .f32) (harg9 : arg9.IsWhole) (arg10 : Memref sig .tc .vmem S112x512 .f32) (harg10 : arg10.IsWhole) (arg11 : Memref sig .tc .vmem S112x512 .f32) (harg11 : arg11.IsWhole) (arg12 : Memref sig .tc .vmem S128x4096 .f32) (harg12 : arg12.IsWhole) (hc0 : cond0_0 i)
    (x0 : Vec F S128x14336 .bf16) (x1 : Vec F S7168x512 .i8) (x2 : Vec F S112x512 .bf16) (x3 : Vec F S112x512 .i8) (x4 : Vec F S128x4096 .f32) (x5 : Vec F S1x4096 .f32) (xs2 : Vec F S128x4096 .f32) :
    Σ' (L6 : List (View.Piece (Elt F) S128x4096 .bf16)), Σ' (L7 : List (View.Piece (Elt F) S128x4096 .i8)), Σ' (L8 : List (View.Piece (Elt F) S128x128 .f32)), Σ' (LS2 : List (View.Piece (Elt F) S128x4096 .f32)), Σ' (LT0 : List (View.Piece (Elt F) S112x512 .f32)), { LT1 : List (View.Piece (Elt F) S112x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LT0) ∗ (∃ f, arg11.view.loc (c : Thread nD τ) ↦[arg11.view.set]{fullShare} arg11.view.writes (Elt F) f LT1) ∗ (arg12.view.loc (c : Thread nD τ) ↦[arg12.view.set]{fullShare} arg12.view.writes (Elt F) (harg12.unread xs2) LS2)) -∗ K ⟨⟩))
          ⊢ wp frame (wpE (defs₀ (F := F)) Variants.none c none) E (cc0_down i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, ?_, fun E K => ?run⟩
  case run =>
    simp only [cc0_down_eq_skeleton]; unfold cc0_down_skel
    simp only [k0_part63_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg12.eq_unread hfs2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    isplitl [HS1]; · iexists _; iexact HS1
    iexact HS2

end Cert.DownIdeal.Gen

end
-- ==== Proof.DownPieces.lean ====
/- The down call: the tile that one grid point writes into its columns of the hidden states, in both cases of the body. -/
module
public import proofs.«01_k».proof.Proof.DownRunA
public import proofs.«01_k».proof.Proof.DownRunB
public import proofs.«01_k».proof.Proof.AwqHost
@[expose] public section
noncomputable section
namespace Cert.DownIdeal.Gen
open Cert.DownIdeal Cert.DownIdeal.Gen Idealize.ShloMosaic Idealize.ShloMosaic.TcCoe Idealize.SL.Sem
variable {F : FTy → Type} [FloatOps F]
/-- The offset at the origin, as a constant function. -/
theorem hz : (![0, 0] : Fin 2 → Nat) = fun _ => 0 := funext fun a => by fin_cases a <;> rfl

/-- What one grid point writes into its columns of the hidden states: the residual plus the product. -/
def tile (i : grid0.Coords) (x0 : Vec F S128x14336 .bf16) (x1 : Vec F S7168x512 .i8) (x2 : Vec F S112x512 .bf16) (x3 : Vec F S112x512 .i8) (x4 : Vec F S128x4096 .f32) : FVec F S128x512 .f32 :=
  shapeCast S128x512 (addf (View.ld (Val := Elt F) (e' := .f32) x4 (Rect.unit (s := S128x4096) (k0_off1 i) S128x512.size (k0_off1_inb i)))
    (Awq.mul 56 (by decide) (by decide) (by decide) x0 x1 (k0_pay7 x2) (k0_pay8 x3) 55 (by decide))) shapeCasts_S128x512_S128x512

set_option maxHeartbeats 2000000 in
/-- A point before the last stores its tile of the hidden states, and nothing else, in the carried array. -/
theorem ls2_A (c : Dev nD) (i : grid0.Coords) (arg1 : Memref sig .tc .vmem S128x14336 .bf16) (harg1 : arg1.IsWhole) (arg2 : Memref sig .tc .vmem S7168x512 .i8) (harg2 : arg2.IsWhole) (arg3 : Memref sig .tc .vmem S112x512 .bf16) (harg3 : arg3.IsWhole) (arg4 : Memref sig .tc .vmem S112x512 .i8) (harg4 : arg4.IsWhole) (arg5 : Memref sig .tc .vmem S128x4096 .f32) (harg5 : arg5.IsWhole) (arg6 : Memref sig .tc .vmem S1x4096 .f32) (harg6 : arg6.IsWhole) (arg7 : Memref sig .tc .vmem S128x4096 .bf16) (harg7 : arg7.IsWhole) (arg8 : Memref sig .tc .vmem S128x4096 .i8) (harg8 : arg8.IsWhole) (arg9 : Memref sig .tc .vmem S128x128 .f32) (harg9 : arg9.IsWhole) (arg10 : Memref sig .tc .vmem S112x512 .f32) (harg10 : arg10.IsWhole) (arg11 : Memref sig .tc .vmem S112x512 .f32) (harg11 : arg11.IsWhole) (arg12 : Memref sig .tc .vmem S128x4096 .f32) (harg12 : arg12.IsWhole)
    (hc0 : ¬cond0_0 i)
    (x0 : Vec F S128x14336 .bf16) (x1 : Vec F S7168x512 .i8) (x2 : Vec F S112x512 .bf16) (x3 : Vec F S112x512 .i8) (x4 : Vec F S128x4096 .f32) (x5 : Vec F S1x4096 .f32) :
    (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5).2.2.2.1 = [⟨Rect.unit (k0_off1 i) S128x512.size (k0_off1_inb i), tile i x0 x1 x2 x3 x4⟩] := by
  unfold kernelRun0_A
  dsimp only
  sl_unfold_words
  simp only [View.readAt_eq_ld, harg1.read_unread, harg2.read_unread, harg3.read_unread, harg4.read_unread, harg5.read_unread, harg6.read_unread]
  simp only [Awq.readCov_all (S := S112x512) _ hz, View.ld_unit_zero (S := S112x512) hz]
  unfold tile Awq.mul
  simp only [Awq.accum, Awq.blockAt]
  rfl

set_option maxHeartbeats 2000000 in
/-- The last point stores its tile of the hidden states in the carried array too. -/
theorem ls2_B (c : Dev nD) (i : grid0.Coords) (arg1 : Memref sig .tc .vmem S128x14336 .bf16) (harg1 : arg1.IsWhole) (arg2 : Memref sig .tc .vmem S7168x512 .i8) (harg2 : arg2.IsWhole) (arg3 : Memref sig .tc .vmem S112x512 .bf16) (harg3 : arg3.IsWhole) (arg4 : Memref sig .tc .vmem S112x512 .i8) (harg4 : arg4.IsWhole) (arg5 : Memref sig .tc .vmem S128x4096 .f32) (harg5 : arg5.IsWhole) (arg6 : Memref sig .tc .vmem S1x4096 .f32) (harg6 : arg6.IsWhole) (arg7 : Memref sig .tc .vmem S128x4096 .bf16) (harg7 : arg7.IsWhole) (arg8 : Memref sig .tc .vmem S128x4096 .i8) (harg8 : arg8.IsWhole) (arg9 : Memref sig .tc .vmem S128x128 .f32) (harg9 : arg9.IsWhole) (arg10 : Memref sig .tc .vmem S112x512 .f32) (harg10 : arg10.IsWhole) (arg11 : Memref sig .tc .vmem S112x512 .f32) (harg11 : arg11.IsWhole) (arg12 : Memref sig .tc .vmem S128x4096 .f32) (harg12 : arg12.IsWhole)
    (hc0 : cond0_0 i)
    (x0 : Vec F S128x14336 .bf16) (x1 : Vec F S7168x512 .i8) (x2 : Vec F S112x512 .bf16) (x3 : Vec F S112x512 .i8) (x4 : Vec F S128x4096 .f32) (x5 : Vec F S1x4096 .f32) (xs2 : Vec F S128x4096 .f32) :
    (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 xs2).2.2.2.1 = [⟨Rect.unit (k0_off1 i) S128x512.size (k0_off1_inb i), tile i x0 x1 x2 x3 x4⟩] := by
  unfold kernelRun0_B
  dsimp only
  sl_unfold_words
  simp only [View.readAt_eq_ld, harg1.read_unread, harg2.read_unread, harg3.read_unread, harg4.read_unread, harg5.read_unread, harg6.read_unread]
  simp only [Awq.readCov_all (S := S112x512) _ hz, View.ld_unit_zero (S := S112x512) hz]
  unfold tile Awq.mul
  simp only [Awq.accum, Awq.blockAt]
  rfl
end Cert.DownIdeal.Gen
end
-- ==== Proof.DownRows.lean ====
/- The down call: the pieces that the loop over 32-row blocks leaves in the three results, as one function of the hidden
   states and of the weights of the normalization. -/
module
public import proofs.«01_k».proof.Proof.DownPieces
@[expose] public section
set_option maxRecDepth 16384
noncomputable section
namespace Cert.DownIdeal.Gen
open Cert.DownIdeal Cert.DownIdeal.Gen Idealize.ShloMosaic Idealize.ShloMosaic.TcCoe Idealize.ShloMosaic.Tactic Idealize.SL.Sem
variable {F : FTy → Type} [FloatOps F]

/-- Each block of 32 rows lies in the array. -/
theorem off2_inb (k : Fin k0_t1_loop.trips) : ∀ a, (k0_off2 k) a + S32x4096.size a ≤ S128x4096.size a :=
  k0_off2_inb (grid0.coords ⟨7, by decide⟩) k ((hcond0_0 ⟨7, by decide⟩).mpr rfl)

/-- The `k`-th block of 32 rows of the hidden states. -/
def rowsOf (H : Vec F S128x4096 .f32) (k : Fin k0_t1_loop.trips) : Vec F S32x4096 .f32 :=
  View.ld (Val := Elt F) (e' := .f32) H (Rect.unit (s := S128x4096) (k0_off2 k) S32x4096.size (off2_inb k))

/-- The block that row `b` lies in. -/
def kOf (b : Fin 128) : Fin k0_t1_loop.trips := ⟨b.val / 32, by
  have h : k0_t1_loop.trips = 4 := by decide
  rw [h]; omega⟩

/-- The three results as functions of the hidden states `H` and the weights `N`, block by block. -/
def G6 (H : Vec F S128x4096 .f32) : Vec F S128x4096 .bf16 := fun y =>
  k0_pay3 (rowsOf H (kOf (y 0))) (ix2 ⟨(y 0).val % 32, Nat.mod_lt _ (by decide)⟩ (y 1))
/-- The codes. -/
def G7 (H : Vec F S128x4096 .f32) (N : Vec F S1x4096 .f32) : Vec F S128x4096 .i8 := fun y =>
  k0_pay6 (rowsOf H (kOf (y 0))) N (ix2 ⟨(y 0).val % 32, Nat.mod_lt _ (by decide)⟩ (y 1))
/-- The scales. -/
def G8 (H : Vec F S128x4096 .f32) (N : Vec F S1x4096 .f32) : Vec F S128x128 .f32 := fun y =>
  k0_pay2 (k0_pay5 (rowsOf H (kOf (y 0))) N) (ix2 ⟨(y 0).val % 32, Nat.mod_lt _ (by decide)⟩ (y 1))

/-- A block's value at its own index is the block-wise function's at the place where the block lies. -/
theorem blk_agree {α : Type} {W : ℕ} (k : Fin k0_t1_loop.trips) (off : Fin 2 → ℕ) (hoff : off = ![32 * k.val, 0])
    (inb : ∀ a, off a + (![32, W] : Fin 2 → ℕ) a ≤ (⟨2, ![128, W]⟩ : Shape).size a)
    (P : Fin k0_t1_loop.trips → (⟨2, ![32, W]⟩ : Shape).Idx → α) (x : (⟨2, ![32, W]⟩ : Shape).Idx) (y : (⟨2, ![128, W]⟩ : Shape).Idx)
    (hy : y = (Rect.unit (s := ⟨2, ![128, W]⟩) off ![32, W] inb).emb x) :
    P k x = P (kOf (y 0)) (ix2 ⟨(y 0).val % 32, Nat.mod_lt _ (by decide)⟩ (y 1)) := by
  subst hoff
  have hx : (x 0).val < 32 := (x 0).isLt
  have h0 : (y 0).val = 32 * k.val + (x 0).val := by subst hy; exact congrArg (32 * k.val + ·) (Nat.one_mul _)
  have h1 : (y 1).val = (x 1).val := by subst hy; exact (Nat.zero_add _).trans (Nat.one_mul _)
  have hk : kOf (y 0) = k := Fin.ext (by show (y 0).val / 32 = k.val; omega)
  rw [hk]
  congr 1
  funext a
  match a with
  | ⟨0, _⟩ => exact Fin.ext (by show (x 0).val = (y 0).val % 32; omega)
  | ⟨1, _⟩ => exact Fin.ext h1.symm

/-- The pieces of one trip of the loop. -/
theorem trip_eq (𝒱 : Variants) (c : Dev nD) (bd : Option 𝒱.V) (i : grid0.Coords) (arg1 : Memref sig .tc .vmem S128x14336 .bf16) (harg1 : arg1.IsWhole) (arg2 : Memref sig .tc .vmem S7168x512 .i8) (harg2 : arg2.IsWhole) (arg3 : Memref sig .tc .vmem S112x512 .bf16) (harg3 : arg3.IsWhole) (arg4 : Memref sig .tc .vmem S112x512 .i8) (harg4 : arg4.IsWhole) (arg5 : Memref sig .tc .vmem S128x4096 .f32) (harg5 : arg5.IsWhole) (arg6 : Memref sig .tc .vmem S1x4096 .f32) (harg6 : arg6.IsWhole) (arg7 : Memref sig .tc .vmem S128x4096 .bf16) (harg7 : arg7.IsWhole) (arg8 : Memref sig .tc .vmem S128x4096 .i8) (harg8 : arg8.IsWhole) (arg9 : Memref sig .tc .vmem S128x128 .f32) (harg9 : arg9.IsWhole) (arg10 : Memref sig .tc .vmem S112x512 .f32) (harg10 : arg10.IsWhole) (arg11 : Memref sig .tc .vmem S112x512 .f32) (harg11 : arg11.IsWhole) (arg12 : Memref sig .tc .vmem S128x4096 .f32) (harg12 : arg12.IsWhole) (h1 : k0_cond1 i = 1#1)
   (X6 : BufTy.Contents (Elt F) arg6.view.ty) (X12 : BufTy.Contents (Elt F) arg12.view.ty) (k : Fin k0_t1_loop.trips) :
   tripL_k0_t1 (F := F) 𝒱 c bd i arg1 harg1 arg2 harg2 arg3 harg3 arg4 harg4 arg5 harg5 arg6 harg6 arg7 harg7 arg8 harg8 arg9 harg9 arg10 harg10 arg11 harg11 arg12 harg12 h1 X6 X12 k =
    ([⟨Rect.unit (k0_off2 k) S32x4096.size (off2_inb k), k0_pay3 (rowsOf (arg12.view.read (Elt F) X12) k)⟩],
     [⟨Rect.unit (k0_off2 k) S32x4096.size (off2_inb k), k0_pay6 (rowsOf (arg12.view.read (Elt F) X12) k) (arg6.view.read (Elt F) X6)⟩],
     [⟨Rect.unit (k0_off3 k) S32x128.size (k0_off3_inb i k h1), k0_pay2 (k0_pay5 (rowsOf (arg12.view.read (Elt F) X12) k) (arg6.view.read (Elt F) X6))⟩]) := by
  unfold tripL_k0_t1 trip_k0_t1
  dsimp only
  sl_unfold_words
  simp only [View.readAt_eq_ld, View.ld_unit_zero (S := S1x4096) hz]
  rfl

/-- Every piece of the trips before `n` agrees with the block-wise functions. -/
theorem pb_agree (𝒱 : Variants) (c : Dev nD) (bd : Option 𝒱.V) (i : grid0.Coords) (arg1 : Memref sig .tc .vmem S128x14336 .bf16) (harg1 : arg1.IsWhole) (arg2 : Memref sig .tc .vmem S7168x512 .i8) (harg2 : arg2.IsWhole) (arg3 : Memref sig .tc .vmem S112x512 .bf16) (harg3 : arg3.IsWhole) (arg4 : Memref sig .tc .vmem S112x512 .i8) (harg4 : arg4.IsWhole) (arg5 : Memref sig .tc .vmem S128x4096 .f32) (harg5 : arg5.IsWhole) (arg6 : Memref sig .tc .vmem S1x4096 .f32) (harg6 : arg6.IsWhole) (arg7 : Memref sig .tc .vmem S128x4096 .bf16) (harg7 : arg7.IsWhole) (arg8 : Memref sig .tc .vmem S128x4096 .i8) (harg8 : arg8.IsWhole) (arg9 : Memref sig .tc .vmem S128x128 .f32) (harg9 : arg9.IsWhole) (arg10 : Memref sig .tc .vmem S112x512 .f32) (harg10 : arg10.IsWhole) (arg11 : Memref sig .tc .vmem S112x512 .f32) (harg11 : arg11.IsWhole) (arg12 : Memref sig .tc .vmem S128x4096 .f32) (harg12 : arg12.IsWhole) (h1 : k0_cond1 i = 1#1)
   (X6 : BufTy.Contents (Elt F) arg6.view.ty) (X12 : BufTy.Contents (Elt F) arg12.view.ty) (n : ℕ) (hn : n ≤ k0_t1_loop.trips) :
   (∀ p ∈ (pb_k0_t1 (F := F) 𝒱 c bd i arg1 harg1 arg2 harg2 arg3 harg3 arg4 harg4 arg5 harg5 arg6 harg6 arg7 harg7 arg8 harg8 arg9 harg9 arg10 harg10 arg11 harg11 arg12 harg12 h1 X6 X12 n).1, ∀ x : p.1.shape.Idx, p.2 x = G6 (arg12.view.read (Elt F) X12) (p.1.emb x))
   ∧ (∀ p ∈ (pb_k0_t1 (F := F) 𝒱 c bd i arg1 harg1 arg2 harg2 arg3 harg3 arg4 harg4 arg5 harg5 arg6 harg6 arg7 harg7 arg8 harg8 arg9 harg9 arg10 harg10 arg11 harg11 arg12 harg12 h1 X6 X12 n).2.1, ∀ x : p.1.shape.Idx, p.2 x = G7 (arg12.view.read (Elt F) X12) (arg6.view.read (Elt F) X6) (p.1.emb x))
   ∧ (∀ p ∈ (pb_k0_t1 (F := F) 𝒱 c bd i arg1 harg1 arg2 harg2 arg3 harg3 arg4 harg4 arg5 harg5 arg6 harg6 arg7 harg7 arg8 harg8 arg9 harg9 arg10 harg10 arg11 harg11 arg12 harg12 h1 X6 X12 n).2.2, ∀ x : p.1.shape.Idx, p.2 x = G8 (arg12.view.read (Elt F) X12) (arg6.view.read (Elt F) X6) (p.1.emb x)) := by
  induction n with
  | zero => exact ⟨fun p hp => absurd hp List.not_mem_nil, fun p hp => absurd hp List.not_mem_nil, fun p hp => absurd hp List.not_mem_nil⟩
  | succ n ih =>
    obtain ⟨i0, i1, i2⟩ := ih (Nat.le_of_succ_le hn)
    have e := pb_k0_t1_succ (F := F) 𝒱 c bd i arg1 harg1 arg2 harg2 arg3 harg3 arg4 harg4 arg5 harg5 arg6 harg6 arg7 harg7 arg8 harg8 arg9 harg9 arg10 harg10 arg11 harg11 arg12 harg12 h1 X6 X12 ⟨n, hn⟩
    rw [trip_eq] at e
    dsimp only at e
    rw [e]
    refine ⟨fun p hp => ?_, fun p hp => ?_, fun p hp => ?_⟩
    · rcases List.mem_append.mp hp with h | h
      · obtain rfl := List.mem_singleton.mp h
        exact fun x => blk_agree (W := 4096) ⟨n, hn⟩ _ (k0_off2_eq _) (off2_inb _) (fun k => k0_pay3 (rowsOf (arg12.view.read (Elt F) X12) k)) x _ rfl
      · exact i0 p h
    · rcases List.mem_append.mp hp with h | h
      · obtain rfl := List.mem_singleton.mp h
        exact fun x => blk_agree (W := 4096) ⟨n, hn⟩ _ (k0_off2_eq _) (off2_inb _) (fun k => k0_pay6 (rowsOf (arg12.view.read (Elt F) X12) k) (arg6.view.read (Elt F) X6)) x _ rfl
      · exact i1 p h
    · rcases List.mem_append.mp hp with h | h
      · obtain rfl := List.mem_singleton.mp h
        exact fun x => blk_agree (W := 128) ⟨n, hn⟩ _ (k0_off3_eq _) (k0_off3_inb i _ h1) (fun k => k0_pay2 (k0_pay5 (rowsOf (arg12.view.read (Elt F) X12) k) (arg6.view.read (Elt F) X6))) x _ rfl
      · exact i2 p h

/-- The pieces of the three results at the last point are the loop's, over the hidden states with the last tile stored. -/
theorem l_B (c : Dev nD) (i : grid0.Coords) (arg1 : Memref sig .tc .vmem S128x14336 .bf16) (harg1 : arg1.IsWhole) (arg2 : Memref sig .tc .vmem S7168x512 .i8) (harg2 : arg2.IsWhole) (arg3 : Memref sig .tc .vmem S112x512 .bf16) (harg3 : arg3.IsWhole) (arg4 : Memref sig .tc .vmem S112x512 .i8) (harg4 : arg4.IsWhole) (arg5 : Memref sig .tc .vmem S128x4096 .f32) (harg5 : arg5.IsWhole) (arg6 : Memref sig .tc .vmem S1x4096 .f32) (harg6 : arg6.IsWhole) (arg7 : Memref sig .tc .vmem S128x4096 .bf16) (harg7 : arg7.IsWhole) (arg8 : Memref sig .tc .vmem S128x4096 .i8) (harg8 : arg8.IsWhole) (arg9 : Memref sig .tc .vmem S128x128 .f32) (harg9 : arg9.IsWhole) (arg10 : Memref sig .tc .vmem S112x512 .f32) (harg10 : arg10.IsWhole) (arg11 : Memref sig .tc .vmem S112x512 .f32) (harg11 : arg11.IsWhole) (arg12 : Memref sig .tc .vmem S128x4096 .f32) (harg12 : arg12.IsWhole)
    (hc0 : cond0_0 i)
    (x0 : Vec F S128x14336 .bf16) (x1 : Vec F S7168x512 .i8) (x2 : Vec F S112x512 .bf16) (x3 : Vec F S112x512 .i8) (x4 : Vec F S128x4096 .f32) (x5 : Vec F S1x4096 .f32) (xs2 : Vec F S128x4096 .f32) :
    ((kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 xs2).1, (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 xs2).2.1, (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 xs2).2.2.1)
     = pb_k0_t1 (F := F) Variants.none c none i arg1 harg1 arg2 harg2 arg3 harg3 arg4 harg4 arg5 harg5 arg6 harg6 arg7 harg7 arg8 harg8 arg9 harg9 arg10 harg10 arg11 harg11 arg12 harg12 hc0 (harg6.unread x5) (arg12.view.writes (Elt F) (harg12.unread xs2) (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 xs2).2.2.2.1) k0_t1_loop.trips := by
  unfold kernelRun0_B
  dsimp only

end Cert.DownIdeal.Gen
end
-- ==== Proof.DownFrame.lean ====
/- The down call: the proof data of its pipeline, the body's obligation at every point, the run and the frame. The hidden
   states are collected in a scratch array, 512 columns a point; before point `n` the columns below `512 n` are known,
   whatever the scratch array held before the first point. The last point reads all of it. -/
module

public import proofs.«01_k».proof.Proof.DownRows
public import Idealize.ShloMosaic.Lib.Claim
public import Idealize.ShloMosaic.Lib.WritesUnit

@[expose] public section

-- membership in a rectangle of production extents (`View.cover_of_tiled`): the elaborator's structural look
-- recurses once per coordinate of the long axes
set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point that writes column `j` of the hidden states. -/
def tOf (j : Fin 4096) : Fin cfg0.N := ⟨j.val / 512, by rw [show cfg0.N = 8 from N_0]; omega⟩

/-- The tile of the hidden states that point `t` writes. -/
def tileAt (c : Dev nD) (t : Fin cfg0.N) : FVec F S128x512 .f32 :=
  tile (grid0.coords t) (iblk m c 0 t) (iblk m c 1 t) (iblk m c 2 t) (iblk m c 3 t) (iblk m c 4 t)

/-- The hidden states, tile by tile. -/
def hid (c : Dev nD) : Vec F S128x4096 .f32 := fun y =>
  tileAt m c (tOf (y 1)) (ix2 (y 0) ⟨(y 1).val % 512, Nat.mod_lt _ (by decide)⟩)

/-- A store of point `t`'s tile extends the known columns by 512. -/
theorem store_hid (c : Dev nD) (t : Fin cfg0.N) {κ : Kind} {sp : Space} (v : View sig κ sp S128x4096 .f32) (f : v.ty.Contents (Elt F))
    (hf : ∀ y : S128x4096.Idx, (y 1).val < 512 * t.val → v.read (Elt F) f y = hid m c y) (y : S128x4096.Idx) (hy : (y 1).val < 512 * (t.val + 1)) :
    v.read (Elt F) (v.writes (Elt F) f [⟨Rect.unit (k0_off1 (grid0.coords t)) S128x512.size (k0_off1_inb (grid0.coords t)), tileAt m c t⟩]) y = hid m c y := by
  have ht : t.val < 8 := lt_of_lt_of_eq t.isLt (show cfg0.N = 8 from N_0)
  have e0 : (grid0.coords t 0).val = t.val := by
    have e : (grid0.coords t 0).val = t.val / 1 % 8 := Pipeline.Grid.coords_val t 0 (by decide) rfl
    omega
  have hoff : k0_off1 (grid0.coords t) = ![0, 512 * t.val] := by rw [k0_off1_eq, e0]
  by_cases h : (y 1).val < 512 * t.val
  · rw [View.read_writes_cons_unit_of_not_mem v f (k0_off1_inb (grid0.coords t)) (tileAt m c t) [] y hoff 1 (Or.inl h)]
    rw [View.writes_nil]
    exact hf y h
  · have h1 : (y 1).val % 512 = (y 1).val - 512 * t.val := by omega
    rw [View.read_writes_cons_unit_of_mem v f (k0_off1_inb (grid0.coords t)) (tileAt m c t) [] y
      (ix2 (y 0) ⟨(y 1).val % 512, Nat.mod_lt _ (by decide)⟩) hoff (fun a => by
        match a with
        | ⟨0, _⟩ => exact (Nat.zero_add _).symm
        | ⟨1, _⟩ =>
          show (y 1).val = 512 * t.val + (y 1).val % 512
          omega)]
    have ht' : tOf (y 1) = t := Fin.ext (by show (y 1).val / 512 = t.val; omega)
    unfold hid
    rw [ht']

/-- The region invariant before position `n`: the carried scratch agrees with the hidden states on the columns written so
    far, the other scratch buffers and the generator register at some state. -/
def PhiS (c : Dev nD) (n : ℕ) (h : n ≤ cfg0.N) : sProp 𝕄 :=
  iprop(∃ X : Vec F S128x4096 .f32, iprop(⌜∀ y : S128x4096.Idx, (y 1).val < 512 * n → X y = hid m c y⌝
    ∗ iprop(iprop((∃ d, owns (c : Thread nD τ) scM0_0 fullShare d) ∗ (∃ d, owns (c : Thread nD τ) scM0_1 fullShare d) ∗ owns (c : Thread nD τ) scM0_2 fullShare X) ∗ (∃ r, prngReg c r))))

set_option maxHeartbeats 2000000 in
/-- What the last point leaves in the three results is the functions of the hidden states `H` that the scratch array holds
    after that point's store. -/
theorem outs_B (c : Dev nD) (i : grid0.Coords) (arg1 : Memref sig .tc .vmem S128x14336 .bf16) (harg1 : arg1.IsWhole) (arg2 : Memref sig .tc .vmem S7168x512 .i8) (harg2 : arg2.IsWhole) (arg3 : Memref sig .tc .vmem S112x512 .bf16) (harg3 : arg3.IsWhole) (arg4 : Memref sig .tc .vmem S112x512 .i8) (harg4 : arg4.IsWhole) (arg5 : Memref sig .tc .vmem S128x4096 .f32) (harg5 : arg5.IsWhole) (arg6 : Memref sig .tc .vmem S1x4096 .f32) (harg6 : arg6.IsWhole) (arg7 : Memref sig .tc .vmem S128x4096 .bf16) (harg7 : arg7.IsWhole) (arg8 : Memref sig .tc .vmem S128x4096 .i8) (harg8 : arg8.IsWhole) (arg9 : Memref sig .tc .vmem S128x128 .f32) (harg9 : arg9.IsWhole) (arg10 : Memref sig .tc .vmem S112x512 .f32) (harg10 : arg10.IsWhole) (arg11 : Memref sig .tc .vmem S112x512 .f32) (harg11 : arg11.IsWhole) (arg12 : Memref sig .tc .vmem S128x4096 .f32) (harg12 : arg12.IsWhole) (hc0 : cond0_0 i)
    (x0 : Vec F S128x14336 .bf16) (x1 : Vec F S7168x512 .i8) (x2 : Vec F S112x512 .bf16) (x3 : Vec F S112x512 .i8) (x4 : Vec F S128x4096 .f32) (x5 : Vec F S1x4096 .f32) (xs2 : Vec F S128x4096 .f32)
    (H : Vec F S128x4096 .f32) (hH : arg12.view.read (Elt F) (arg12.view.writes (Elt F) (harg12.unread xs2) (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 xs2).2.2.2.1) = H) :
    (∀ f, arg7.view.read (Elt F) (arg7.view.writes (Elt F) f (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 xs2).1) = G6 H)
    ∧ (∀ f, arg8.view.read (Elt F) (arg8.view.writes (Elt F) f (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 xs2).2.1) = G7 H x5)
    ∧ (∀ f, arg9.view.read (Elt F) (arg9.view.writes (Elt F) f (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 xs2).2.2.1) = G8 H x5) := by
  have c6 := View.cover_of_tiledL (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 xs2).1 S32x4096.size (by sl_kernel_rfl)
  have c7 := View.cover_of_tiledL (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 xs2).2.1 S32x4096.size (by sl_kernel_rfl)
  have c8 := View.cover_of_tiledL (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 xs2).2.2.1 S32x128.size (by sl_kernel_rfl)
  obtain ⟨a6, a7, a8⟩ := pb_agree (F := F) Variants.none c none i arg1 harg1 arg2 harg2 arg3 harg3 arg4 harg4 arg5 harg5 arg6 harg6 arg7 harg7 arg8 harg8 arg9 harg9 arg10 harg10 arg11 harg11 arg12 harg12 hc0 (harg6.unread x5) (arg12.view.writes (Elt F) (harg12.unread xs2) (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 xs2).2.2.2.1) k0_t1_loop.trips le_rfl
  have e := l_B c i arg1 harg1 arg2 harg2 arg3 harg3 arg4 harg4 arg5 harg5 arg6 harg6 arg7 harg7 arg8 harg8 arg9 harg9 arg10 harg10 arg11 harg11 arg12 harg12 hc0 x0 x1 x2 x3 x4 x5 xs2
  rw [← e, hH] at a6 a7 a8
  rw [harg6.read_unread] at a7 a8
  exact ⟨fun f => funext fun y => View.read_writes_apply_of_pieces _ _ (G6 H) _ a6 y (c6 y),
    fun f => funext fun y => View.read_writes_apply_of_pieces _ _ (G7 H x5) _ a7 y (c7 y),
    fun f => funext fun y => View.read_writes_apply_of_pieces _ _ (G8 H x5) _ a8 y (c8 y)⟩

/-! ## The pipeline's proof data -/

/-- The proof data of the one pipeline on core `c`: the arrays as the region finds them (`V`); after the body at
    point `t` each input's buffer at its block and the outputs' at the functions of the
    hidden states (consulted at the last point alone); the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => G6 (hid m c)
    | ⟨7, _⟩ => G7 (hid m c) (iblk m c 5 t)
    | ⟨8, _⟩ => G8 (hid m c) (iblk m c 5 t)
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = G6 (hid m c) := by dsimp only [dats]
theorem after0_7 (c : Dev nD) (t : Fin cfg0.N) : (dats m 0 c).after 7 t = G7 (hid m c) (iblk m c 5 t) := by dsimp only [dats]
theorem after0_8 (c : Dev nD) (t : Fin cfg0.N) : (dats m 0 c).after 8 t = G8 (hid m c) (iblk m c 5 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 9600000 in
/-- The body at any point: the inputs' memrefs hold their blocks; the closed forms say which case the point is in; the
    store of the point's tile extends the known columns; at the last point they are all of them, so what the loop stores
    are the functions of the hidden states. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_castSucc m c t]
  unfold PhiS
  have hN : t.val < 8 := lt_of_lt_of_eq t.isLt (show cfg0.N = 8 from N_0)
  by_cases h0 : t.val % 8 = 7
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6_B t ((hcond0_0 t).mpr h0)], after0_6]
    rw [show (dats m 0 c).leavesExact 7 t = owns (c : Thread nD τ) (ms0_7 t) fullShare ((dats m 0 c).after 7 t) from by
      unfold Dat.leavesExact; rw [liveAt0_7_B t ((hcond0_0 t).mpr h0)], after0_7]
    rw [show (dats m 0 c).leavesExact 8 t = owns (c : Thread nD τ) (ms0_8 t) fullShare ((dats m 0 c).after 8 t) from by
      unfold Dat.leavesExact; rw [liveAt0_8_B t ((hcond0_0 t).mpr h0)], after0_8]
    iintro ⟨⟨%X, %hX, ⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    have eL := ls2_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) X
    have eX : ∀ y : S128x4096.Idx, (y 1).val < 512 * (t.val + 1) → scM0_2.view.read (Elt F) (scM0_2.view.writes (Elt F) ((Memref.isWhole_whole cc0_scratch2).unread X) (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) X).2.2.2.1) y = hid m c y := by
      intro y hy
      rw [eL]
      exact store_hid m c t scM0_2.view _ (fun y hy => by rw [Memref.IsWhole.read_unread]; exact hX y hy) y hy
    have eH : scM0_2.view.read (Elt F) (scM0_2.view.writes (Elt F) ((Memref.isWhole_whole cc0_scratch2).unread X) (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) X).2.2.2.1) = hid m c := by
      funext y
      refine eX y ?_
      have hy : (y 1).val < 4096 := (y 1).isLt
      omega
    obtain ⟨o6, o7, o8⟩ := outs_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) X (hid m c) eH
    iapply ((kernelRun0_B c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) X).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    isplitl [HS2]; · iexact HS2
    iintro ⟨H0, H1, H2, H3, H4, H5, ⟨%e6, H6⟩, ⟨%e7, H7⟩, ⟨%e8, H8⟩, ⟨%fT0, HS0⟩, ⟨%fT1, HS1⟩, HS2⟩
    isplitl [HS0 HS1 HS2 Hg]
    · iexists _; isplitr
      · ipureintro; exact eX
      isplitl [HS0 HS1 HS2]
      · isplitl [HS0]
        · iexists _; unfold owns; iexists _; isplitr
          swap; · iexact HS0
          ipureintro; rfl
        isplitl [HS1]
        · iexists _; unfold owns; iexists _; isplitr
          swap; · iexact HS1
          ipureintro; rfl
        unfold owns; iexists _; isplitr
        swap; · iexact HS2
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact o6 _
    isplitl [H7]
    · unfold owns; iexists _; isplitr
      swap; · iexact H7
      ipureintro; exact o7 _
    unfold owns; iexists _; isplitr
    swap; · iexact H8
    ipureintro; exact o8 _
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [Dat.leavesExact_idle (dats m 0 c) 6 t (idleAt0_6_A t (fun h => h0 ((hcond0_0 t).mp h))) (noFlush0_6_A t (fun h => h0 ((hcond0_0 t).mp h)))]
    rw [Dat.leavesExact_idle (dats m 0 c) 7 t (idleAt0_7_A t (fun h => h0 ((hcond0_0 t).mp h))) (noFlush0_7_A t (fun h => h0 ((hcond0_0 t).mp h)))]
    rw [Dat.leavesExact_idle (dats m 0 c) 8 t (idleAt0_8_A t (fun h => h0 ((hcond0_0 t).mp h))) (noFlush0_8_A t (fun h => h0 ((hcond0_0 t).mp h)))]
    iintro ⟨⟨%X, %hX, ⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    have eL := ls2_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t)
    have eX : ∀ y : S128x4096.Idx, (y 1).val < 512 * (t.val + 1) → scM0_2.view.read (Elt F) (scM0_2.view.writes (Elt F) ((Memref.isWhole_whole cc0_scratch2).unread X) (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t)).2.2.2.1) y = hid m c y := by
      intro y hy
      rw [eL]
      exact store_hid m c t scM0_2.view _ (fun y hy => by rw [Memref.IsWhole.read_unread]; exact hX y hy) y hy
    iapply ((kernelRun0_A c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t)).2.2.2.2.2.2 _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    iintro ⟨H0, H1, H2, H3, H4, H5, H6, H7, H8, ⟨%fT0, HS0⟩, ⟨%fT1, HS1⟩, HS2⟩
    isplitl [HS0 HS1 HS2 Hg]
    · iexists _; isplitr
      · ipureintro; exact eX
      isplitl [HS0 HS1 HS2]
      · isplitl [HS0]
        · iexists _; unfold owns; iexists _; isplitr
          swap; · iexact HS0
          ipureintro; rfl
        isplitl [HS1]
        · iexists _; unfold owns; iexists _; isplitr
          swap; · iexact HS1
          ipureintro; rfl
        unfold owns; iexists _; isplitr
        swap; · iexact HS2
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iexists _; iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point, at whatever the carried scratch holds. -/
theorem hin (c : Dev nD) : Pipeline.ΦA spec0 c ⊢ (dats m 0 c).Φ 0 := by
  rw [show (dats m 0 c).Φ 0 = PhiS m c 0 (Nat.zero_le _) from rfl, PhiA0_eq]
  unfold PhiS
  iintro ⟨⟨HS0, HS1, ⟨%X, HS2⟩⟩, Hg⟩
  iexists X; isplitr
  · ipureintro; exact fun y hy => absurd hy (by omega)
  isplitl [HS0 HS1 HS2]
  · isplitl [HS0]; · iexact HS0
    isplitl [HS1]; · iexact HS1
    iexact HS2
  iexact Hg

/-- After the last point the invariant gives `ΦA` back: what the carried scratch holds is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA0_eq]
  unfold PhiS
  iintro ⟨%X, %hX, ⟨HS0, HS1, HS2⟩, Hg⟩
  isplitl [HS0 HS1 HS2]
  · isplitl [HS0]
    · iexact HS0
    isplitl [HS1]
    · iexact HS1
    iexists _; iexact HS2
  iexact Hg

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: `Cert.quiescent_DownIdeal`'s statement (Defs.lean) at any `F` — Proof.lean cites it at `Bits`:
    `theorem Cert.Proof.claim : Cert.Claim := ⟨Cert.DownIdeal.Gen.facts, fun m ρ _ => Cert.DownIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.DownIdeal.Gen

end
-- ==== Proof.DownMath.lean ====
/- The down call: facts about rounding and clipping to codes of 8 bits, and the call's functions of one row. -/
module
public import Idealize.ShloMosaic.Lib.Pipeline.ValueKit
@[expose] public section
noncomputable section
namespace Cert.DownMath
open Idealize.ShloMosaic

/-- The low 8 bits of a 32-bit integer word are the 8-bit word of the same integer. -/
theorem setWidth_ofInt (n : ℤ) : (BitVec.ofInt 32 n).setWidth 8 = BitVec.ofInt 8 n := by
  apply BitVec.eq_of_toNat_eq
  rw [BitVec.toNat_setWidth, BitVec.toNat_ofInt, BitVec.toNat_ofInt]
  omega

/-- For a value from -127 to 127, conversion to 32 bits followed by truncation to 8 is conversion to 8 bits. -/
theorem narrow (x : EReal) (h1 : ((-127 : ℝ) : EReal) ≤ x) (h2 : x ≤ ((127 : ℝ) : EReal)) :
    (Ideal.fptosi 32 x).setWidth 8 = Ideal.fptosi 8 x := by
  unfold Ideal.fptosi
  rw [setWidth_ofInt]
  congr 1
  induction x using EReal.rec with
  | bot => exact absurd h1 (by simp)
  | top => exact absurd h2 (by simp)
  | coe r =>
    have a := EReal.coe_le_coe_iff.mp h1
    have b := EReal.coe_le_coe_iff.mp h2
    rw [Ideal.toIntClamped_coe, Ideal.toIntClamped_coe]
    have hk : ∃ k : ℤ, (if 0 ≤ r then ⌊r⌋ else ⌈r⌉) = k ∧ -127 ≤ k ∧ k ≤ 127 := by
      refine ⟨_, rfl, ?_, ?_⟩
      · split
        · exact Int.le_floor.mpr (by push_cast; linarith)
        · have h := Int.le_ceil r
          have h' : (-128 : ℝ) < (⌈r⌉ : ℝ) := by linarith
          have h'' : (-128 : ℤ) < ⌈r⌉ := by exact_mod_cast h'
          omega
      · split
        · have h := Int.floor_le r
          have h' : (⌊r⌋ : ℝ) < 128 := by linarith
          have h'' : ⌊r⌋ < (128 : ℤ) := by exact_mod_cast h'
          omega
        · exact Int.ceil_le.mpr (by push_cast; linarith)
    obtain ⟨k, e, l, u⟩ := hk
    rw [e]
    norm_num
    omega

/-- The same for a value clipped to that range. -/
theorem narrow_clip (x : EReal) : (Ideal.fptosi 32 (min (((127#32 : BitVec 32).toInt : ℝ) : EReal) (max (((4294967169#32 : BitVec 32).toInt : ℝ) : EReal) x))).setWidth 8
    = Ideal.fptosi 8 (min (((127#32 : BitVec 32).toInt : ℝ) : EReal) (max (((4294967169#32 : BitVec 32).toInt : ℝ) : EReal) x)) := by
  have e1 : (127#32 : BitVec 32).toInt = 127 := by decide
  have e2 : (4294967169#32 : BitVec 32).toInt = -127 := by decide
  rw [e1, e2]
  refine narrow _ (le_min ?_ ?_) ?_
  · exact EReal.coe_le_coe_iff.mpr (by norm_num)
  · exact (le_max_left _ _).trans' (by norm_num)
  · exact (min_le_left _ _).trans (by norm_num)

/-- A row over the square root of the mean of its squares, times the normalization's weights. -/
def nrm (h n : Fin 4096 → EReal) (j : Fin 4096) : EReal :=
  Ideal.div (h j) (Ideal.sqrt (Ideal.div (∑ x, h x * h x) (Ideal.ofBits FTy.f32 1166016512#32) + Ideal.ofBits FTy.f32 925353388#32)) * n j

/-- The greatest magnitude in a row. -/
def amax (v : Fin 4096 → EReal) : EReal :=
  Finset.fold max (Ideal.ofBits FTy.f32 4286578688#32) (fun x => FloatOps.absf (F := Ideal) (φ := .f32) (v x)) Finset.univ

/-- A row's scale: its greatest magnitude over 127, or 1 for a row of zeros. -/
def scale (v : Fin 4096 → EReal) : EReal := if amax v = 0 then 1 else Ideal.div (amax v) (Ideal.ofBits FTy.f32 1123942400#32)

/-- A row's element over the row's scale, rounded and clipped to -127 … 127. -/
def clipped (v : Fin 4096 → EReal) (j : Fin 4096) : EReal :=
  min (((127#32 : BitVec 32).toInt : ℝ) : EReal) (max (((4294967169#32 : BitVec 32).toInt : ℝ) : EReal) (Ideal.liftRound Ideal.roundHalfEven (Ideal.div (v j) (scale v))))

/-- The code of a row's element. -/
def code (v : Fin 4096 → EReal) (j : Fin 4096) : BitVec 8 := Ideal.fptosi 8 (clipped v j)

end Cert.DownMath
end
-- ==== Proof.DownValue.lean ====
/- The down call: the hidden states and the three results, as functions of the argument arrays. -/
module
public import proofs.«01_k».proof.Proof.DownFrame
public import proofs.«01_k».proof.Proof.DownMath
@[expose] public section
set_option maxRecDepth 16384
noncomputable section
namespace Cert.DownIdeal.RefValue
open Cert.DownIdeal Cert.DownIdeal.Gen Idealize.ShloMosaic Idealize.ShloMosaic.TcCoe Idealize.SL.Sem

/-- A row of a block. -/
abbrev row {R : ℕ} (v : (⟨2, ![R, 4096]⟩ : Shape).Idx → EReal) (r : Fin R) : Fin 4096 → EReal := fun j => v (ix2 r j)

/-- The normalized block at an index. -/
theorem pay4_apply (v : Vec Ideal S32x4096 .f32) (n : Vec Ideal S1x4096 .f32) (r : Fin 32) (j : Fin 4096) :
    k0_pay4 (F := Ideal) v n (ix2 r j) = DownMath.nrm (row v r) (row n 0) j := by
  have h : k0_pay4 (F := Ideal) v n (ix2 r j) = Ideal.div (v (ix2 r j)) (Ideal.sqrt (Ideal.div (∑ x, v (ix2 r x) * v (ix2 r x)) (Ideal.ofBits FTy.f32 1166016512#32)
      + Ideal.ofBits FTy.f32 925353388#32)) * n (ix2 0 j) := by pointwise [k0_pay4]
  exact h
/-- The block's scales at an index. -/
theorem pay5_apply (v : Vec Ideal S32x4096 .f32) (n : Vec Ideal S1x4096 .f32) (r : Fin 32) (j : Fin 1) :
    k0_pay5 (F := Ideal) v n (ix2 r j) = DownMath.scale (DownMath.nrm (row v r) (row n 0)) := by
  have hz : row (k0_pay4 (F := Ideal) v n) r = DownMath.nrm (row v r) (row n 0) := funext fun j => pay4_apply v n r j
  rw [← hz]
  unfold k0_pay5
  generalize k0_pay4 (F := Ideal) v n = z
  have h : ∀ g : FVec Ideal S32x4096 .f32, g = z → (select (cmpf .oeq (shapeCast S32x1 (multiReduction .maximumf [1] S32 (absf z) 0xFF800000#32 reduces_S32x4096_S32 (.inl rfl) rfl) shapeCasts_S32_S32x1)
      (broadcast S32x1 (Scalar.ofBits (F := Ideal) .f32 0x00000000#32))) (broadcast S32x1 (Scalar.ofBits (F := Ideal) .f32 0x3F800000#32))
      (divf (shapeCast S32x1 (multiReduction .maximumf [1] S32 (absf z) 0xFF800000#32 reduces_S32x4096_S32 (.inl rfl) rfl) shapeCasts_S32_S32x1)
        (broadcast S32x1 (Scalar.ofBits (F := Ideal) .f32 0x42FE0000#32)))) (ix2 r j)
      = (if Finset.fold max (Ideal.ofBits FTy.f32 4286578688#32) (fun x => FloatOps.absf (z (ix2 r x))) Finset.univ = 0 then 1
         else Ideal.div (Finset.fold max (Ideal.ofBits FTy.f32 4286578688#32) (fun x => FloatOps.absf (z (ix2 r x))) Finset.univ)
        (Ideal.ofBits FTy.f32 1123942400#32)) := by
    intro g _
    pointwise
  exact h z rfl
/-- The block's codes at an index. -/
theorem pay6_apply (v : Vec Ideal S32x4096 .f32) (n : Vec Ideal S1x4096 .f32) (r : Fin 32) (j : Fin 4096) :
    k0_pay6 (F := Ideal) v n (ix2 r j) = DownMath.code (DownMath.nrm (row v r) (row n 0)) j := by
  have h4 := pay4_apply v n r j
  have h5 := pay5_apply v n r 0
  unfold DownMath.code DownMath.clipped
  rw [← h4, ← h5]
  unfold k0_pay6
  generalize k0_pay4 (F := Ideal) v n = z
  generalize k0_pay5 (F := Ideal) v n = w
  pointwise
  rfl
/-- The broadcast scales at an index. -/
theorem pay2_apply (v : Vec Ideal S32x1 .f32) (r : Fin 32) (j : Fin 128) :
    k0_pay2 (F := Ideal) v (ix2 r j) = v (ix2 r 0) := by
  pointwise [k0_pay2]
/-- The rounded block at an index. -/
theorem pay3_apply (v : Vec Ideal S32x4096 .f32) (r : Fin 32) (j : Fin 4096) :
    k0_pay3 (F := Ideal) v (ix2 r j) = v (ix2 r j) := by
  pointwise [k0_pay3]

/-- A row of a block of 32 is a row of the whole. -/
theorem rows_apply (H : Vec Ideal S128x4096 .f32) (b : Fin 128) (j : Fin 4096) :
    rowsOf H (kOf b) (ix2 ⟨b.val % 32, Nat.mod_lt _ (by decide)⟩ j) = H (ix2 b j) := by
  have hk : (kOf b).val = b.val / 32 := rfl
  refine congrArg H (funext fun a => Fin.ext ?_)
  match a with
  | ⟨0, _⟩ =>
    show k0_off2 (kOf b) 0 + 1 * (b.val % 32) = b.val
    rw [k0_off2_eq]
    show 32 * (kOf b).val + 1 * (b.val % 32) = b.val
    omega
  | ⟨1, _⟩ =>
    show k0_off2 (kOf b) 1 + 1 * j.val = j.val
    rw [k0_off2_eq]
    show 0 + 1 * j.val = j.val
    omega

/-- The three results of hidden states and weights, at an index. -/
theorem G6_apply (H : Vec Ideal S128x4096 .f32) (b : Fin 128) (j : Fin 4096) : G6 H (ix2 b j) = H (ix2 b j) :=
  (pay3_apply _ _ _).trans (rows_apply H b j)
/-- The codes. -/
theorem G7_apply (H : Vec Ideal S128x4096 .f32) (N : Vec Ideal S1x4096 .f32) (b : Fin 128) (j : Fin 4096) :
    G7 H N (ix2 b j) = DownMath.code (DownMath.nrm (row H b) (row N 0)) j := by
  have e : row (rowsOf H (kOf b)) ⟨b.val % 32, Nat.mod_lt _ (by decide)⟩ = row H b := funext fun q => rows_apply H b q
  rw [← e]
  exact pay6_apply _ _ _ _
/-- The scales. -/
theorem G8_apply (H : Vec Ideal S128x4096 .f32) (N : Vec Ideal S1x4096 .f32) (b : Fin 128) (l : Fin 128) :
    G8 H N (ix2 b l) = DownMath.scale (DownMath.nrm (row H b) (row N 0)) := by
  have e : row (rowsOf H (kOf b)) ⟨b.val % 32, Nat.mod_lt _ (by decide)⟩ = row H b := funext fun q => rows_apply H b q
  rw [← e]
  exact (pay2_apply _ _ _).trans (pay5_apply _ _ _ _)

variable (m : (ℓ : Loc nD τ sig) → Buf (Elt Ideal) ℓ) (ρ : Dev nD → PrngReg)

/-- What the host prepares of the normalization's weights, at an index. -/
theorem V0 (c : Dev nD) (l : Fin 4096) : V m c main_v0 (ix2 0 l) = m ((c : Thread nD τ).loc main_arg5) (ix1 l) := by
  entry_read
  show _ = m (c, Proc.tc.devRef main_arg5) _
  generalize m (c, Proc.tc.devRef main_arg5) = z
  pointwise
/-- The block indices of the windows at every grid point. -/
theorem idx : ∀ t : Fin cfg0.N, win0_0.index t = ![0, 0] ∧ win0_1.index t = ![0, t.val] ∧ win0_2.index t = ![0, t.val]
    ∧ win0_3.index t = ![0, t.val] ∧ win0_4.index t = ![0, 0] ∧ win0_5.index t = ![0, 0] := by decide +kernel

/-- A column of a block of 512 is a column of the array. -/
theorem colbound (t : Fin cfg0.N) (l : Fin 512) : 512 * t.val + l.val < 4096 := by
  have h : t.val < 8 := t.isLt
  omega
/-- A block's element is the array's element at the place where the block stands. -/
theorem blk0 (c : Dev nD) (t : Fin cfg0.N) (i : Fin 128) (q : Fin 14336) :
    iblk m c 0 t (ix2 i q) = m ((c : Thread nD τ).loc main_arg0) (ix2 i q) := by
  blk_ext [iblk, V, idx t]
/-- The same of the packed weights. -/
theorem blk1 (c : Dev nD) (t : Fin cfg0.N) (r : Fin 7168) (l : Fin 512) :
    iblk m c 1 t (ix2 r l) = m ((c : Thread nD τ).loc main_arg1) (ix2 r ⟨512 * t.val + l.val, colbound t l⟩) := by
  blk_ext [iblk, V, idx t]
/-- The same of the weights' scales. -/
theorem blk2 (c : Dev nD) (t : Fin cfg0.N) (r : Fin 112) (l : Fin 512) :
    iblk m c 2 t (ix2 r l) = m ((c : Thread nD τ).loc main_arg2) (ix2 r ⟨512 * t.val + l.val, colbound t l⟩) := by
  blk_ext [iblk, V, idx t]
/-- The same of the zero points. -/
theorem blk3 (c : Dev nD) (t : Fin cfg0.N) (r : Fin 112) (l : Fin 512) :
    iblk m c 3 t (ix2 r l) = m ((c : Thread nD τ).loc main_arg3) (ix2 r ⟨512 * t.val + l.val, colbound t l⟩) := by
  blk_ext [iblk, V, idx t]
/-- The same of the residual. -/
theorem blk4 (c : Dev nD) (t : Fin cfg0.N) (i : Fin 128) (q : Fin 4096) :
    iblk m c 4 t (ix2 i q) = m ((c : Thread nD τ).loc main_arg4) (ix2 i q) := by
  blk_ext [iblk, V, idx t]
/-- The same of the normalization's weights. -/
theorem blk5 (c : Dev nD) (t : Fin cfg0.N) (q : Fin 4096) :
    iblk m c 5 t (ix2 0 q) = m ((c : Thread nD τ).loc main_arg5) (ix1 q) := by
  have e : iblk m c 5 t (ix2 0 q) = V m c main_v0 (ix2 0 q) := by
    blk_ext [iblk, idx t]
  rw [e, V0]

/-- The prepared scales at an index. -/
theorem pay7_apply (v : Vec Ideal S112x512 .bf16) (y : S112x512.Idx) : k0_pay7 v y = v y := by pointwise [k0_pay7]
/-- The prepared zero points at an index. -/
theorem pay8_apply (v : Vec Ideal S112x512 .i8) (y : S112x512.Idx) : k0_pay8 v y = Awq.zp (v y) :=
  Eq.trans (by pointwise [k0_pay8]) (Awq.uitofp_zp (v y))

/-- The hidden states: the residual plus the product. -/
def hidden (x : FVec Ideal S128x14336 .bf16) (w : IVec S7168x4096 8) (s : FVec Ideal S112x4096 .bf16) (z : IVec S112x4096 8)
    (h1 : FVec Ideal S128x4096 .f32) (i : Fin 128) (j : Fin 4096) : EReal :=
  h1 (ix2 i j) + Awq.val (G := 112) rfl rfl x w s z i j

/-- A tile's element is the hidden states' at the column where the tile stands. -/
theorem tile_val (c : Dev nD) (t : Fin cfg0.N) (i : Fin 128) (l : Fin 512) : tileAt m c t (ix2 i l)
    = hidden (m ((c : Thread nD τ).loc main_arg0)) (m ((c : Thread nD τ).loc main_arg1)) (m ((c : Thread nD τ).loc main_arg2))
        (m ((c : Thread nD τ).loc main_arg3)) (m ((c : Thread nD τ).loc main_arg4)) i ⟨512 * t.val + l.val, colbound t l⟩ := by
  have e0 : (grid0.coords t 0).val = t.val := by
    have ht : t.val < 8 := lt_of_lt_of_eq t.isLt (show cfg0.N = 8 from N_0)
    have e : (grid0.coords t 0).val = t.val / 1 % 8 := Pipeline.Grid.coords_val t 0 (by decide) rfl
    omega
  have hoff : k0_off1 (grid0.coords t) = ![0, 512 * t.val] := by rw [k0_off1_eq, e0]
  have hm := Awq.mul_val (N := 4096) (K := 14336) (R := 7168) (G := 112) 56 (by decide) (by decide) (by decide) rfl rfl
    (m ((c : Thread nD τ).loc main_arg0)) (m ((c : Thread nD τ).loc main_arg1)) (m ((c : Thread nD τ).loc main_arg2))
    (m ((c : Thread nD τ).loc main_arg3)) (iblk m c 0 t) (iblk m c 1 t) (k0_pay7 (iblk m c 2 t)) (k0_pay8 (iblk m c 3 t)) 55 (by decide) rfl i l
    ⟨512 * t.val + l.val, colbound t l⟩ (fun q => blk0 m c t i q) (fun r => blk1 m c t r l)
    (fun g => (pay7_apply _ _).trans (blk2 m c t g l)) (fun g => (pay8_apply _ _).trans (congrArg Awq.zp (blk3 m c t g l)))
  have hl : View.ld (Val := Elt Ideal) (e' := .f32) (iblk m c 4 t) (Rect.unit (s := S128x4096) (k0_off1 (grid0.coords t)) S128x512.size (k0_off1_inb (grid0.coords t))) (ix2 i l)
      = m ((c : Thread nD τ).loc main_arg4) (ix2 i ⟨512 * t.val + l.val, colbound t l⟩) := by
    rw [← blk4 m c t]
    refine congrArg (iblk m c 4 t) (funext fun a => Fin.ext ?_)
    match a with
    | ⟨0, _⟩ =>
      show k0_off1 (grid0.coords t) 0 + 1 * i.val = i.val
      rw [hoff]
      show 0 + 1 * i.val = i.val
      omega
    | ⟨1, _⟩ =>
      show k0_off1 (grid0.coords t) 1 + 1 * l.val = 512 * t.val + l.val
      rw [hoff]
      show 512 * t.val + 1 * l.val = 512 * t.val + l.val
      omega
  unfold tileAt tile hidden
  generalize Awq.mul (F := Ideal) 56 _ _ _ _ _ _ _ 55 _ = p at hm ⊢
  generalize View.ld (Val := Elt Ideal) (e' := .f32) (iblk m c 4 t) _ = q at hl ⊢
  rw [← hm, ← hl]
  pointwise

/-- The hidden states of the argument arrays. -/
abbrev hd (c : Dev nD) : Fin 128 → Fin 4096 → EReal :=
  hidden (m ((c : Thread nD τ).loc main_arg0)) (m ((c : Thread nD τ).loc main_arg1)) (m ((c : Thread nD τ).loc main_arg2))
        (m ((c : Thread nD τ).loc main_arg3)) (m ((c : Thread nD τ).loc main_arg4))
/-- The normalization's weights of the argument arrays. -/
abbrev nf (c : Dev nD) : Fin 4096 → EReal := fun j => m ((c : Thread nD τ).loc main_arg5) (ix1 j)

/-- The hidden states at an index. -/
theorem hid_val (c : Dev nD) (i : Fin 128) (j : Fin 4096) : hid m c (ix2 i j) = hd m c i j := by
  refine (tile_val m c (tOf j) i ⟨j.val % 512, Nat.mod_lt _ (by decide)⟩).trans ?_
  refine congrArg (hd m c i) (Fin.ext ?_)
  show 512 * (j.val / 512) + j.val % 512 = j.val
  omega

/-- The last grid point is the eighth. -/
theorem lastLt : 7 < cfg0.N := by decide +kernel

/-- The array of hidden states after the run is what the last point left. -/
theorem final6 (c : Dev nD) : (dats m 0 c).arrAt 6 cfg0.N = G6 (hid m c) := by
  refine (dats m 0 c).arrAt_eq_of_after_last 6 ⟨7, lastLt⟩ (by decide +kernel) _ fun j => ?_
  rw [after0_6]
  rfl
/-- The array of codes after the run is what the last point left. -/
theorem final7 (c : Dev nD) : (dats m 0 c).arrAt 7 cfg0.N = G7 (hid m c) (iblk m c 5 ⟨7, lastLt⟩) := by
  refine (dats m 0 c).arrAt_eq_of_after_last 7 ⟨7, lastLt⟩ (by decide +kernel) _ fun j => ?_
  rw [after0_7]
  rfl
/-- The array of scales after the run is what the last point left. -/
theorem final8 (c : Dev nD) : (dats m 0 c).arrAt 8 cfg0.N = G8 (hid m c) (iblk m c 5 ⟨7, lastLt⟩) := by
  refine (dats m 0 c).arrAt_eq_of_after_last 8 ⟨7, lastLt⟩ (by decide +kernel) _ fun j => ?_
  rw [after0_8]
  generalize G8 (hid m c) (iblk m c 5 ⟨7, lastLt⟩) = z
  rfl

/-- The three arrays after the run, at an index. -/
theorem out6_val (c : Dev nD) (b : Fin 128) (j : Fin 4096) : (dats m 0 c).arrAt 6 cfg0.N (ix2 b j) = hd m c b j :=
  (congrFun (final6 m c) _).trans ((G6_apply _ _ _).trans (hid_val m c b j))
/-- The codes. -/
theorem out7_val (c : Dev nD) (b : Fin 128) (j : Fin 4096) :
    (dats m 0 c).arrAt 7 cfg0.N (ix2 b j) = DownMath.code (DownMath.nrm (hd m c b) (nf m c)) j := by
  have e : row (hid m c) b = hd m c b := funext fun q => hid_val m c b q
  have e' : row (iblk m c 5 ⟨7, lastLt⟩) 0 = nf m c := funext fun q => blk5 m c ⟨7, lastLt⟩ q
  rw [← e, ← e']
  exact (congrFun (final7 m c) _).trans (G7_apply _ _ _ _)
/-- The scales. -/
theorem out8_val (c : Dev nD) (b l : Fin 128) :
    (dats m 0 c).arrAt 8 cfg0.N (ix2 b l) = DownMath.scale (DownMath.nrm (hd m c b) (nf m c)) := by
  have e : row (hid m c) b = hd m c b := funext fun q => hid_val m c b q
  have e' : row (iblk m c 5 ⟨7, lastLt⟩) 0 = nf m c := funext fun q => blk5 m c ⟨7, lastLt⟩ q
  rw [← e, ← e']
  exact (congrFun (final8 m c) _).trans (G8_apply _ _ _ _)

end Cert.DownIdeal.RefValue
end
-- ==== Proof.DownRef.lean ====
/- The down call: the reference's three results at an index. -/
module
public import proofs.«01_k».proof.Proof.Gen.DownRefIdeal.Read
public import proofs.«01_k».proof.Proof.DownValue
@[expose] public section
set_option maxRecDepth 16384
noncomputable section
namespace Cert.DownRefIdeal.RefValue
open Cert.DownRefIdeal Cert.DownRefIdeal.Gen Cert.DownRefIdeal.Read Idealize.ShloMosaic Idealize.ShloMosaic.TcCoe Idealize.SL.Sem
open Cert.DownIdeal.RefValue (hidden)

variable (x0 : FVec Ideal S128x14336 .bf16) (x1 : IVec S7168x4096 8) (x2 : FVec Ideal S112x4096 .bf16) (x3 : IVec S112x4096 8)
  (x4 : FVec Ideal S128x4096 .f32) (x5 : FVec Ideal S4096 .f32)

/-- The normalization's weights. -/
abbrev wt : Fin 4096 → EReal := fun j => x5 (ix1 j)

/-- The hidden states. -/
theorem v28 (i : Fin 128) (j : Fin 4096) : val_main_v28 (F := Ideal) x0 x1 x2 x3 x4 (ix2 i j) = hidden x0 x1 x2 x3 x4 i j := by
  have g : val_main_v27 (F := Ideal) x0 x1 x2 x3 (ix2 i j) = Awq.val (G := 112) rfl rfl x0 x1 x2 x3 i j :=
    Awq.host_apply (G := 112) rfl rfl x0 x1 x2 x3 _ _ _ _ _ _ _ _ i j
  rw [val_main_v28_apply, g]
  rfl

/-- The sum of the squares of a row. -/
theorem v30 (i : Fin 128) : val_main_v30 (F := Ideal) x0 x1 x2 x3 x4 (ix1 i) = ∑ x, hidden x0 x1 x2 x3 x4 i x * hidden x0 x1 x2 x3 x4 i x := by
  have hs : (∑ k : Fin 4096, (val_main_v29 (F := Ideal) x0 x1 x2 x3 x4) (idx_main_v30 (ix1 i) k) : EReal)
      = ∑ x, hidden x0 x1 x2 x3 x4 i x * hidden x0 x1 x2 x3 x4 i x := by
    refine Finset.sum_congr rfl fun k _ => ?_
    have e : idx_main_v30 (ix1 i) k = ix2 i k := by
      funext a; match a with
      | ⟨0, _⟩ => rfl
      | ⟨1, _⟩ => rfl
    rw [e, val_main_v29_apply, v28]
    rfl
  rw [val_main_v30_apply, hs, val_main_cst_apply]
  have z : (FloatOps.ofBits FTy.f32 0x00000000#32 : Ideal .f32) = (0 : EReal) := Ideal.ofBits_zero_f32
  rw [z, zero_add]

/-- The normalized row. -/
theorem v41 (i : Fin 128) (j : Fin 4096) : val_main_v41 (F := Ideal) x0 x1 x2 x3 x4 x5 (ix2 i j) = DownMath.nrm (hidden x0 x1 x2 x3 x4 i) (wt x5) j := by
  have e : idx_main_v31 (idx_main_v37 (ix2 i j)) = ix1 i := by
    funext a; match a with
    | ⟨0, _⟩ => rfl
  have e' : idx_main_v39 (idx_main_v40 (ix2 i j)) = ix1 j := by
    funext a; match a with
    | ⟨0, _⟩ => rfl
  rw [val_main_v41_apply, val_main_v38_apply, v28, val_main_v37_apply, val_main_v36_apply, val_main_v35_apply, val_main_v33_apply, val_main_v31_apply, e, v30,
    val_main_v32_apply, val_main_cst_1_apply, val_main_v34_apply, val_main_cst_2_apply, val_main_v40_apply, val_main_v39_apply, e']
  rfl

/-- The greatest magnitude of the normalized row. -/
theorem v43 (i : Fin 128) : val_main_v43 (F := Ideal) x0 x1 x2 x3 x4 x5 (ix1 i) = DownMath.amax (DownMath.nrm (hidden x0 x1 x2 x3 x4 i) (wt x5)) := by
  have hv : ∀ k, val_main_v42 (F := Ideal) x0 x1 x2 x3 x4 x5 (ix2 i k) = FloatOps.absf (F := Ideal) (φ := .f32) (DownMath.nrm (hidden x0 x1 x2 x3 x4 i) (wt x5) k) := by
    intro k
    rw [val_main_v42_apply, v41]
    rfl
  unfold val_main_v43 DownMath.amax
  generalize val_main_v42 (F := Ideal) x0 x1 x2 x3 x4 x5 = y at hv ⊢
  generalize DownMath.nrm (hidden x0 x1 x2 x3 x4 i) (wt x5) = r at hv ⊢
  pointwise
  simp only [hv]
  rw [val_main_cst_3_apply]
  rfl

/-- The row's scale. -/
theorem v48 (i : Fin 128) : val_main_v48 (F := Ideal) x0 x1 x2 x3 x4 x5 (ix1 i) = DownMath.scale (DownMath.nrm (hidden x0 x1 x2 x3 x4 i) (wt x5)) := by
  rw [val_main_v48_apply, val_main_v45_apply, val_main_v47_apply, v43, val_main_v44_apply, val_main_cst_4_apply, val_main_v46_apply, val_main_cst_5_apply,
    val_main_call0_v1_apply, val_main_call0_v0_apply, val_main_cst_6_apply]
  unfold DownMath.scale
  generalize DownMath.amax _ = a
  pointwise

/-- The reference's hidden states. -/
theorem v56 (i : Fin 128) (j : Fin 4096) : val_main_v56 (F := Ideal) x0 x1 x2 x3 x4 (ix2 i j) = hidden x0 x1 x2 x3 x4 i j := by
  rw [val_main_v56_apply, v28]
  rfl

/-- The reference's codes. -/
theorem v55 (i : Fin 128) (j : Fin 4096) : val_main_v55 (F := Ideal) x0 x1 x2 x3 x4 x5 (ix2 i j) = DownMath.code (DownMath.nrm (hidden x0 x1 x2 x3 x4 i) (wt x5)) j := by
  have e : idx_main_v49 (idx_main_v50 (ix2 i j)) = ix1 i := by
    funext a; match a with
    | ⟨0, _⟩ => rfl
  rw [val_main_v55_apply, val_main_v54_apply, val_main_v53_apply, val_main_call2_v4_apply, val_main_call2_v3_apply, val_main_c_8_apply, val_main_call2_v2_apply,
    val_main_call2_v1_apply, val_main_call2_v0_apply, val_main_c_7_apply, val_main_v52_apply, val_main_v51_apply, v41, val_main_v50_apply, val_main_v49_apply, e, v48]
  exact DownMath.narrow_clip _

/-- The reference's scales. -/
theorem v58 (i l : Fin 128) : val_main_v58 (F := Ideal) x0 x1 x2 x3 x4 x5 (ix2 i l) = DownMath.scale (DownMath.nrm (hidden x0 x1 x2 x3 x4 i) (wt x5)) := by
  have e : idx_main_v57 (idx_main_v58 (ix2 i l)) = ix1 i := by
    funext a; match a with
    | ⟨0, _⟩ => rfl
  rw [val_main_v58_apply, val_main_v57_apply, e, v48]

end Cert.DownRefIdeal.RefValue
end
-- ==== Proof.DownBits.lean ====
/- Down call: the printed kernel has the frame of its idealization, whose bodies are the same. -/
module
public import proofs.«01_k».proof.Defs
public import proofs.«01_k».proof.Proof.DownFrame
public import proofs.«01_k».proof.Proof.Gen.Down.Frame
@[expose] public section
open Idealize.ShloMosaic Idealize.ShloMosaic.TcCoe
namespace Cert.DownProof
set_option maxRecDepth 20000
set_option backward.isDefEq.respectTransparency.types false
/-- The two programs run the same body. -/
theorem body_eq (f : Fin 1) : ∀ a, Cert.Down.defs₀ (F := Bits) .tc f a = Cert.DownIdeal.defs₀ (F := Bits) .tc f a := by
  obtain rfl : f = 0 := Subsingleton.elim _ _
  rintro ⟨t, s⟩
  unfold Cert.Down.defs₀ Cert.DownIdeal.defs₀
  rw [Defs.onTc_tc, Defs.onTc_tc]
  rfl
/-- The two programs have the same calls. -/
theorem defs₀_eq : Cert.Down.defs₀ (F := Bits) = Cert.DownIdeal.defs₀ (F := Bits) := by
  funext κ f a
  cases κ
  · exact body_eq f a
  all_goals rfl
/-- The two programs have the same calls, every one counted. -/
theorem defs_eq : Cert.Down.defs (F := Bits) = Cert.DownIdeal.defs (F := Bits) := by
  unfold Cert.Down.defs Cert.DownIdeal.defs
  rw [defs₀_eq]
  rfl
/-- The printed kernel runs without an error and without a race. -/
theorem frameP : quiescent_Down := fun m ρ _ => by
  rw [defs_eq]
  exact Cert.DownIdeal.Gen.frame (F := Bits) m ρ
end Cert.DownProof
-- ==== Proof.Down.lean ====
/- The down call: the claims about it. -/
module
public import proofs.«01_k».proof.Proof.DownRef
public import proofs.«01_k».proof.Proof.DownBits
public import Idealize.ShloMosaic.Lib.Quiescent
@[expose] public section
noncomputable section
namespace Cert.DownProof
open Idealize.ShloMosaic Idealize.ShloMosaic.TcCoe Idealize.SL.Sem

/-- The reference leaves its arguments and every semaphore as they were. -/
theorem ref_frame : quiescent_DownRefIdeal :=
  fun m ρ _ => (θ_run Cert.DownRefIdeal.defs _ _).mono (fun r h =>
    ⟨fun c => (h c).2.2.2, sem_eq_zero_of_no_sems (by decide) r.2⟩) (Cert.DownRefIdeal.Value.run (F := Ideal) m ρ)

open Cert.DownIdeal Cert.DownIdeal.Gen in
/-- The kernel's run: its three result arrays are what the grid's points wrote, its arguments are as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1_0) = (dats m 0 c).arrAt 6 cfg0.N
      ∧ r.2.mem ((c.tc : Thread nD τ).loc main_v1_1) = (dats m 0 c).arrAt 7 cfg0.N
      ∧ r.2.mem ((c.tc : Thread nD τ).loc main_v1_2) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h.1 c).1 6, (h.1 c).1 7, (h.1 c).1 8, h.2 c⟩) (θ_run_and (run_main m ρ) (unchanged m ρ))

/-- An index of two coordinates is the pair of them. -/
theorem idx2 {a b : ℕ} (i : (⟨2, ![a, b]⟩ : Shape).Idx) : i = ix2 (i 0) (i 1) := funext fun q => by match q with
  | ⟨0, _⟩ => rfl
  | ⟨1, _⟩ => rfl

/-- The kernel and the reference, from the same arguments, end with the same results. -/
theorem algebraic : algebraic_DownIdeal_DownRefIdeal := by
  intro m ρ m' ρ' _ hagree
  refine ⟨fun c => (Cert.DownIdeal.Gen.dats m 0 c).arrAt 6 Cert.DownIdeal.cfg0.N, fun c => (Cert.DownIdeal.Gen.dats m 0 c).arrAt 7 Cert.DownIdeal.cfg0.N,
    fun c => (Cert.DownIdeal.Gen.dats m 0 c).arrAt 8 Cert.DownIdeal.cfg0.N, ?_, ?_⟩
  · exact run m ρ
  · refine (θ_run Cert.DownRefIdeal.defs _ _).mono (fun _ h c => ⟨((h c).1.trans (Cert.DownRefIdeal.Read.val_main_v56_eq _ _ _ _ _)).trans (funext fun i => ?_),
        ((h c).2.1.trans (Cert.DownRefIdeal.Read.val_main_v55_eq m' c)).trans (funext fun i => ?_),
        ((h c).2.2.1.trans (Cert.DownRefIdeal.Read.val_main_v58_eq m' c)).trans (funext fun i => ?_), (h c).2.2.2⟩)
      (Cert.DownRefIdeal.Value.run (F := Ideal) m' ρ')
    · obtain ⟨a0, a1, a2, a3, a4, a5⟩ := hagree c
      rw [a0, a1, a2, a3, a4]
      refine (congrArg _ (idx2 i)).trans ((Cert.DownRefIdeal.RefValue.v56 _ _ _ _ _ (i 0) (i 1)).trans ?_)
      exact ((congrArg _ (idx2 i)).trans (Cert.DownIdeal.RefValue.out6_val m c (i 0) (i 1))).symm
    · obtain ⟨a0, a1, a2, a3, a4, a5⟩ := hagree c
      rw [a0, a1, a2, a3, a4, a5]
      refine (congrArg _ (idx2 i)).trans ((Cert.DownRefIdeal.RefValue.v55 _ _ _ _ _ _ (i 0) (i 1)).trans ?_)
      exact ((congrArg _ (idx2 i)).trans (Cert.DownIdeal.RefValue.out7_val m c (i 0) (i 1))).symm
    · obtain ⟨a0, a1, a2, a3, a4, a5⟩ := hagree c
      rw [a0, a1, a2, a3, a4, a5]
      refine (congrArg _ (idx2 i)).trans ((Cert.DownRefIdeal.RefValue.v58 _ _ _ _ _ _ (i 0) (i 1)).trans ?_)
      exact ((congrArg _ (idx2 i)).trans (Cert.DownIdeal.RefValue.out8_val m c (i 0) (i 1))).symm

end Cert.DownProof

end
-- ==== Proof.QkvMath.lean ====
/- The qkv call: rotating a head by its position's angles and quantizing it, at an index. -/
module
public import proofs.«01_k».proof.Proof.AwqHost
@[expose] public section
noncomputable section
namespace QkvMath
open Idealize.ShloMosaic

/-- A head rotated by the angles of which `a` are the cosines and `b` the sines: the two halves of the head are the two
    coordinates. -/
def rot (y : Fin 128 → EReal) (a b : Fin 64 → EReal) (l : Fin 128) : EReal :=
  if h : l.val < 64 then y l * a ⟨l.val, h⟩ - y ⟨l.val + 64, by omega⟩ * b ⟨l.val, h⟩
  else y l * a ⟨l.val - 64, by omega⟩ + y ⟨l.val - 64, by omega⟩ * b ⟨l.val - 64, by omega⟩

/-- The same with the cosines and the signed sines laid out over the whole head, and the head moved round by half its
    length. -/
def rot' (y c s : Fin 128 → EReal) (l : Fin 128) : EReal :=
  y l * c l + y ⟨(l.val + 64) % 128, Nat.mod_lt _ (by decide)⟩ * s l

/-- The two are equal. -/
theorem rot'_eq (y : Fin 128 → EReal) (a b : Fin 64 → EReal) (c s : Fin 128 → EReal)
    (hc : ∀ l : Fin 128, c l = if h : l.val < 64 then a ⟨l.val, h⟩ else a ⟨l.val - 64, by omega⟩)
    (hs : ∀ l : Fin 128, s l = if h : l.val < 64 then -b ⟨l.val, h⟩ else b ⟨l.val - 64, by omega⟩) (l : Fin 128) :
    rot' y c s l = rot y a b l := by
  unfold rot' rot
  rw [hc, hs]
  by_cases h : l.val < 64
  · have e : (⟨(l.val + 64) % 128, Nat.mod_lt _ (by decide)⟩ : Fin 128) = ⟨l.val + 64, by omega⟩ := Fin.ext (by show (l.val + 64) % 128 = l.val + 64; omega)
    rw [dif_pos h, dif_pos h, dif_pos h, e, mul_neg, sub_eq_add_neg]
  · have e : (⟨(l.val + 64) % 128, Nat.mod_lt _ (by decide)⟩ : Fin 128) = ⟨l.val - 64, by omega⟩ := Fin.ext (by show (l.val + 64) % 128 = l.val - 64; omega)
    rw [dif_neg h, dif_neg h, dif_neg h, e]

/-- A number divided by its scale and clipped to the codes' range. -/
def quant (v s : EReal) : EReal :=
  min (Ideal.ofBits FTy.f32 0x43E00000#32) (max (Ideal.ofBits FTy.f32 0xC3E00000#32) (Ideal.div v s))

/-- A row of 512 columns as four heads, the head `h` at `l`. -/
abbrev head (Y : Fin 512 → EReal) (h : Fin 4) (l : Fin 128) : EReal := Y ⟨128 * h.val + l.val, by omega⟩

/-- The queries of a product `Y`: each head of the first 4096 columns rotated by its row's angles. -/
def fnQ (Y : Fin 128 → Fin 6144 → EReal) (a b : Fin 128 → Fin 64 → EReal) (i : Fin 128) (j : Fin 4096) : EReal :=
  rot (fun l => Y i ⟨128 * (j.val / 128) + l.val, by omega⟩) (a i) (b i) ⟨j.val % 128, Nat.mod_lt _ (by decide)⟩

/-- The codes of a product `Y`: each head of the next 1024 columns rotated by its row's angles and quantized by the head's
    scale, then each head of the last 1024 columns quantized by its own. -/
def fnC (Y : Fin 128 → Fin 6144 → EReal) (a b : Fin 128 → Fin 64 → EReal) (ks vs : Fin 8 → EReal) (i : Fin 128) (j : Fin 2048) : EReal :=
  if h : j.val < 1024 then
    quant (rot (fun l => Y i ⟨4096 + (128 * (j.val / 128) + l.val), by omega⟩) (a i) (b i) ⟨j.val % 128, Nat.mod_lt _ (by decide)⟩)
      (ks ⟨j.val / 128, by omega⟩)
  else quant (Y i ⟨4096 + j.val, by omega⟩) (vs ⟨(j.val - 1024) / 128, by omega⟩)

/-- A function of the head, the row and the head's column, as a function of a block of four heads. -/
def unblock (f : Fin 4 → Fin 128 → Fin 128 → EReal) (y : (⟨2, ![128, 512]⟩ : Shape).Idx) : EReal :=
  f ⟨(y 1).val / 128, by have h : (y 1).val < 512 := (y 1).isLt; omega⟩ ⟨(y 0).val, (y 0).isLt⟩ ⟨(y 1).val % 128, Nat.mod_lt _ (by decide)⟩

/-- In the columns of one head it is that head's function. -/
theorem unblock_emb (f : Fin 4 → Fin 128 → Fin 128 → EReal) (h : Fin 4) (o : ℕ) (ho : o = 128 * h.val) (inb)
    (x : (⟨2, ![128, 128]⟩ : Shape).Idx) :
    unblock f ((Rect.unit (s := ⟨2, ![128, 512]⟩) ![0, o] (⟨2, ![128, 128]⟩ : Shape).size inb).emb x) = f h (x 0) (x 1) := by
  have hx1 : (x 1).val < 128 := (x 1).isLt
  refine congr (congr (congrArg f (Fin.ext ?_)) (Fin.ext ?_)) (Fin.ext ?_)
  · show (o + 1 * (x 1).val) / 128 = h.val
    omega
  · show 0 + 1 * (x 0).val = (x 0).val
    omega
  · show (o + 1 * (x 1).val) % 128 = (x 1).val
    omega

end QkvMath
end
-- ==== Proof.QkvRef.lean ====
/- The qkv call: the reference's two results at an index. -/
module
public import proofs.«01_k».proof.Proof.Gen.QkvRefIdeal.Read
public import proofs.«01_k».proof.Proof.QkvMath
public import Idealize.ShloMosaic.Lib.Pipeline.ValueKit
@[expose] public section
set_option maxRecDepth 16384
noncomputable section
namespace Cert.QkvRefIdeal.RefValue
open Cert.QkvRefIdeal Cert.QkvRefIdeal.Gen Cert.QkvRefIdeal.Read Idealize.ShloMosaic Idealize.ShloMosaic.TcCoe Idealize.SL.Sem

variable (x0 x1 : FVec Ideal S8 .f32) (x2 : FVec Ideal S128x8192 .bf16) (x3 : IVec S4096x6144 8) (x4 : FVec Ideal S64x6144 .bf16)
  (x5 : IVec S64x6144 8) (x6 x7 : FVec Ideal S128x64 .f32)

/-- The product. -/
abbrev prodv : Fin 128 → Fin 6144 → EReal := Awq.val (G := 64) rfl rfl x2 x3 x4 x5
/-- An array of angles by row. -/
abbrev ang (x : FVec Ideal S128x64 .f32) : Fin 128 → Fin 64 → EReal := fun i k => x (ix2 i k)
/-- An array of scales. -/
abbrev scv (x : FVec Ideal S8 .f32) : Fin 8 → EReal := fun k => x (ix1 k)

/-- The product at an index. -/
theorem v27 (i : Fin 128) (j : Fin 6144) : val_main_v27 (F := Ideal) x2 x3 x4 x5 (ix2 i j) = prodv x2 x3 x4 x5 i j :=
  Awq.host_apply (G := 64) rfl rfl x2 x3 x4 x5 _ _ _ _ _ _ _ _ i j

/-- The product of the queries, by head. -/
theorem v29 (i : Fin 128) (h : Fin 32) (l : Fin 128) : val_main_v29 (F := Ideal) x2 x3 x4 x5 (ix3 i h l) = prodv x2 x3 x4 x5 i ⟨128 * h.val + l.val, by omega⟩ := by
  have e : idx_main_v28 (idx_main_v29 (ix3 i h l)) = ix2 i ⟨128 * h.val + l.val, by omega⟩ := by
    funext a; match a with
    | ⟨0, _⟩ => exact Fin.ext (by show ((i.val * 32 + h.val) * 128 + l.val) / 4096 = i.val; omega)
    | ⟨1, _⟩ => exact Fin.ext (by show ((i.val * 32 + h.val) * 128 + l.val) % 4096 = 128 * h.val + l.val; omega)
  rw [val_main_v29_apply, val_main_v28_apply, e, v27]

/-- The first half of a rotated head. -/
theorem v42 (i : Fin 128) (h : Fin 32) (k : Fin 64) : val_main_v42 (F := Ideal) x2 x3 x4 x5 x6 x7 (ix3 i h k)
    = prodv x2 x3 x4 x5 i ⟨128 * h.val + k.val, by omega⟩ * ang x6 i k - prodv x2 x3 x4 x5 i ⟨128 * h.val + (64 + k.val), by omega⟩ * ang x7 i k := by
  have e1 : idx_main_v36 (ix3 i h k) = ix3 i h ⟨k.val, by omega⟩ := by
    funext a; match a with
    | ⟨0, _⟩ => rfl
    | ⟨1, _⟩ => rfl
    | ⟨2, _⟩ => rfl
  have e2 : idx_main_v37 (ix3 i h k) = ix3 i h ⟨64 + k.val, by omega⟩ := by
    funext a; match a with
    | ⟨0, _⟩ => rfl
    | ⟨1, _⟩ => rfl
    | ⟨2, _⟩ => rfl
  have e3 : idx_main_v34 (idx_main_v38 (ix3 i h k)) = ix2 i k := by
    funext a; match a with
    | ⟨0, _⟩ => rfl
    | ⟨1, _⟩ => rfl
  have e4 : idx_main_v35 (idx_main_v40 (ix3 i h k)) = ix2 i k := by
    funext a; match a with
    | ⟨0, _⟩ => rfl
    | ⟨1, _⟩ => rfl
  rw [val_main_v42_apply, val_main_v39_apply, val_main_v41_apply, val_main_v36_apply, val_main_v37_apply, e1, e2, v29, v29, val_main_v38_apply, val_main_v34_apply, e3,
    val_main_v40_apply, val_main_v35_apply, e4]
  rfl

/-- The second half of a rotated head. -/
theorem v47 (i : Fin 128) (h : Fin 32) (k : Fin 64) : val_main_v47 (F := Ideal) x2 x3 x4 x5 x6 x7 (ix3 i h k)
    = prodv x2 x3 x4 x5 i ⟨128 * h.val + (64 + k.val), by omega⟩ * ang x6 i k + prodv x2 x3 x4 x5 i ⟨128 * h.val + k.val, by omega⟩ * ang x7 i k := by
  have e1 : idx_main_v36 (ix3 i h k) = ix3 i h ⟨k.val, by omega⟩ := by
    funext a; match a with
    | ⟨0, _⟩ => rfl
    | ⟨1, _⟩ => rfl
    | ⟨2, _⟩ => rfl
  have e2 : idx_main_v37 (ix3 i h k) = ix3 i h ⟨64 + k.val, by omega⟩ := by
    funext a; match a with
    | ⟨0, _⟩ => rfl
    | ⟨1, _⟩ => rfl
    | ⟨2, _⟩ => rfl
  have e3 : idx_main_v34 (idx_main_v43 (ix3 i h k)) = ix2 i k := by
    funext a; match a with
    | ⟨0, _⟩ => rfl
    | ⟨1, _⟩ => rfl
  have e4 : idx_main_v35 (idx_main_v45 (ix3 i h k)) = ix2 i k := by
    funext a; match a with
    | ⟨0, _⟩ => rfl
    | ⟨1, _⟩ => rfl
  rw [val_main_v47_apply, val_main_v44_apply, val_main_v46_apply, val_main_v36_apply, val_main_v37_apply, e1, e2, v29, v29, val_main_v43_apply, val_main_v34_apply, e3,
    val_main_v45_apply, val_main_v35_apply, e4]
  rfl

/-- A rotated head. -/
theorem v48 (i : Fin 128) (h : Fin 32) (l : Fin 128) : val_main_v48 (F := Ideal) x2 x3 x4 x5 x6 x7 (ix3 i h l)
    = QkvMath.rot (fun l => prodv x2 x3 x4 x5 i ⟨128 * h.val + l.val, by omega⟩) (ang x6 i) (ang x7 i) l := by
  have key : ∀ (p q : FVec Ideal S128x32x64 .f32) (hh), concatenate S128x32x128 2 [⟨S128x32x64, p⟩, ⟨S128x32x64, q⟩] hh (ix3 i h l)
      = if hl : l.val < 64 then p (ix3 i h ⟨l.val, hl⟩) else q (ix3 i h ⟨l.val - 64, by omega⟩) := by
    intro p q hh
    pointwise
  unfold val_main_v48 QkvMath.rot
  rw [key]
  by_cases hl : l.val < 64
  · rw [dif_pos hl, dif_pos hl, v42]
    refine congrArg (fun t => _ - t * _) (congrArg (prodv x2 x3 x4 x5 i) (Fin.ext ?_))
    show (128 * h.val + (64 + l.val)) = (128 * h.val + (l.val + 64))
    omega
  · rw [dif_neg hl, dif_neg hl, v47]
    refine congrArg (fun t => t * _ + _) (congrArg (prodv x2 x3 x4 x5 i) (Fin.ext ?_))
    show (128 * h.val + (64 + (l.val - 64))) = (128 * h.val + l.val)
    omega

/-- The product of the keys, by head. -/
theorem v31 (i : Fin 128) (h : Fin 8) (l : Fin 128) : val_main_v31 (F := Ideal) x2 x3 x4 x5 (ix3 i h l) = prodv x2 x3 x4 x5 i ⟨4096 + (128 * h.val + l.val), by omega⟩ := by
  have e : idx_main_v30 (idx_main_v31 (ix3 i h l)) = ix2 i ⟨4096 + (128 * h.val + l.val), by omega⟩ := by
    funext a; match a with
    | ⟨0, _⟩ => exact Fin.ext (by show ((i.val * 8 + h.val) * 128 + l.val) / 1024 = i.val; omega)
    | ⟨1, _⟩ => exact Fin.ext (by show 4096 + ((i.val * 8 + h.val) * 128 + l.val) % 1024 = 4096 + (128 * h.val + l.val); omega)
  rw [val_main_v31_apply, val_main_v30_apply, e, v27]

/-- The first half of a rotated head. -/
theorem v57 (i : Fin 128) (h : Fin 8) (k : Fin 64) : val_main_v57 (F := Ideal) x2 x3 x4 x5 x6 x7 (ix3 i h k)
    = prodv x2 x3 x4 x5 i ⟨4096 + (128 * h.val + k.val), by omega⟩ * ang x6 i k - prodv x2 x3 x4 x5 i ⟨4096 + (128 * h.val + (64 + k.val)), by omega⟩ * ang x7 i k := by
  have e1 : idx_main_v51 (ix3 i h k) = ix3 i h ⟨k.val, by omega⟩ := by
    funext a; match a with
    | ⟨0, _⟩ => rfl
    | ⟨1, _⟩ => rfl
    | ⟨2, _⟩ => rfl
  have e2 : idx_main_v52 (ix3 i h k) = ix3 i h ⟨64 + k.val, by omega⟩ := by
    funext a; match a with
    | ⟨0, _⟩ => rfl
    | ⟨1, _⟩ => rfl
    | ⟨2, _⟩ => rfl
  have e3 : idx_main_v49 (idx_main_v53 (ix3 i h k)) = ix2 i k := by
    funext a; match a with
    | ⟨0, _⟩ => rfl
    | ⟨1, _⟩ => rfl
  have e4 : idx_main_v50 (idx_main_v55 (ix3 i h k)) = ix2 i k := by
    funext a; match a with
    | ⟨0, _⟩ => rfl
    | ⟨1, _⟩ => rfl
  rw [val_main_v57_apply, val_main_v54_apply, val_main_v56_apply, val_main_v51_apply, val_main_v52_apply, e1, e2, v31, v31, val_main_v53_apply, val_main_v49_apply, e3,
    val_main_v55_apply, val_main_v50_apply, e4]
  rfl

/-- The second half of a rotated head. -/
theorem v62 (i : Fin 128) (h : Fin 8) (k : Fin 64) : val_main_v62 (F := Ideal) x2 x3 x4 x5 x6 x7 (ix3 i h k)
    = prodv x2 x3 x4 x5 i ⟨4096 + (128 * h.val + (64 + k.val)), by omega⟩ * ang x6 i k + prodv x2 x3 x4 x5 i ⟨4096 + (128 * h.val + k.val), by omega⟩ * ang x7 i k := by
  have e1 : idx_main_v51 (ix3 i h k) = ix3 i h ⟨k.val, by omega⟩ := by
    funext a; match a with
    | ⟨0, _⟩ => rfl
    | ⟨1, _⟩ => rfl
    | ⟨2, _⟩ => rfl
  have e2 : idx_main_v52 (ix3 i h k) = ix3 i h ⟨64 + k.val, by omega⟩ := by
    funext a; match a with
    | ⟨0, _⟩ => rfl
    | ⟨1, _⟩ => rfl
    | ⟨2, _⟩ => rfl
  have e3 : idx_main_v49 (idx_main_v58 (ix3 i h k)) = ix2 i k := by
    funext a; match a with
    | ⟨0, _⟩ => rfl
    | ⟨1, _⟩ => rfl
  have e4 : idx_main_v50 (idx_main_v60 (ix3 i h k)) = ix2 i k := by
    funext a; match a with
    | ⟨0, _⟩ => rfl
    | ⟨1, _⟩ => rfl
  rw [val_main_v62_apply, val_main_v59_apply, val_main_v61_apply, val_main_v51_apply, val_main_v52_apply, e1, e2, v31, v31, val_main_v58_apply, val_main_v49_apply, e3,
    val_main_v60_apply, val_main_v50_apply, e4]
  rfl

/-- A rotated head. -/
theorem v63 (i : Fin 128) (h : Fin 8) (l : Fin 128) : val_main_v63 (F := Ideal) x2 x3 x4 x5 x6 x7 (ix3 i h l)
    = QkvMath.rot (fun l => prodv x2 x3 x4 x5 i ⟨4096 + (128 * h.val + l.val), by omega⟩) (ang x6 i) (ang x7 i) l := by
  have key : ∀ (p q : FVec Ideal S128x8x64 .f32) (hh), concatenate S128x8x128 2 [⟨S128x8x64, p⟩, ⟨S128x8x64, q⟩] hh (ix3 i h l)
      = if hl : l.val < 64 then p (ix3 i h ⟨l.val, hl⟩) else q (ix3 i h ⟨l.val - 64, by omega⟩) := by
    intro p q hh
    pointwise
  unfold val_main_v63 QkvMath.rot
  rw [key]
  by_cases hl : l.val < 64
  · rw [dif_pos hl, dif_pos hl, v57]
    refine congrArg (fun t => _ - t * _) (congrArg (prodv x2 x3 x4 x5 i) (Fin.ext ?_))
    show 4096 + (128 * h.val + (64 + l.val)) = 4096 + (128 * h.val + (l.val + 64))
    omega
  · rw [dif_neg hl, dif_neg hl, v62]
    refine congrArg (fun t => t * _ + _) (congrArg (prodv x2 x3 x4 x5 i) (Fin.ext ?_))
    show 4096 + (128 * h.val + (64 + (l.val - 64))) = 4096 + (128 * h.val + l.val)
    omega

/-- The product of the values, by head. -/
theorem v33 (i : Fin 128) (h : Fin 8) (l : Fin 128) : val_main_v33 (F := Ideal) x2 x3 x4 x5 (ix3 i h l) = prodv x2 x3 x4 x5 i ⟨5120 + (128 * h.val + l.val), by omega⟩ := by
  have e : idx_main_v32 (idx_main_v33 (ix3 i h l)) = ix2 i ⟨5120 + (128 * h.val + l.val), by omega⟩ := by
    funext a; match a with
    | ⟨0, _⟩ => exact Fin.ext (by show ((i.val * 8 + h.val) * 128 + l.val) / 1024 = i.val; omega)
    | ⟨1, _⟩ => exact Fin.ext (by show 5120 + ((i.val * 8 + h.val) * 128 + l.val) % 1024 = 5120 + (128 * h.val + l.val); omega)
  rw [val_main_v33_apply, val_main_v32_apply, e, v27]

/-- The keys' codes, by head. -/
theorem v69 (i : Fin 128) (h : Fin 8) (l : Fin 128) : val_main_v69 (F := Ideal) x0 x2 x3 x4 x5 x6 x7 (ix3 i h l) = QkvMath.quant (QkvMath.rot (fun l => prodv x2 x3 x4 x5 i ⟨4096 + (128 * h.val + l.val), by omega⟩) (ang x6 i) (ang x7 i) l) (x0 (ix1 h)) := by
  have e : idx_main_v64 (idx_main_v65 (idx_main_v66 (ix3 i h l))) = ix1 h := by
    funext a; match a with
    | ⟨0, _⟩ => rfl
  rw [val_main_v69_apply, val_main_v68_apply, val_main_call0_v4_apply, val_main_call0_v3_apply, val_main_cst_1_apply, val_main_call0_v2_apply, val_main_call0_v1_apply,
    val_main_call0_v0_apply, val_main_cst_apply, val_main_v67_apply, v63, val_main_v66_apply, val_main_v65_apply, val_main_v64_apply, e]
  rfl

/-- The same in one row. -/
theorem v78 (i : Fin 128) (j : Fin 1024) : val_main_v78 (F := Ideal) x0 x2 x3 x4 x5 x6 x7 (ix2 i j)
    = QkvMath.quant (QkvMath.rot (fun l => prodv x2 x3 x4 x5 i ⟨4096 + (128 * (j.val / 128) + l.val), by omega⟩) (ang x6 i) (ang x7 i) ⟨j.val % 128, Nat.mod_lt _ (by decide)⟩) (x0 (ix1 ⟨j.val / 128, by omega⟩)) := by
  have e : idx_main_v78 (ix2 i j) = ix3 i ⟨j.val / 128, by omega⟩ ⟨j.val % 128, Nat.mod_lt _ (by decide)⟩ := by
    funext a; match a with
    | ⟨0, _⟩ => exact Fin.ext (by show (i.val * 1024 + j.val) / 1024 = i.val; omega)
    | ⟨1, _⟩ => exact Fin.ext (by show (i.val * 1024 + j.val) / 128 % 8 = j.val / 128; omega)
    | ⟨2, _⟩ => exact Fin.ext (by show (i.val * 1024 + j.val) % 128 = j.val % 128; omega)
  rw [val_main_v78_apply, e, v69]

/-- The values' codes, by head. -/
theorem v75 (i : Fin 128) (h : Fin 8) (l : Fin 128) : val_main_v75 (F := Ideal) x1 x2 x3 x4 x5 (ix3 i h l) = QkvMath.quant (prodv x2 x3 x4 x5 i ⟨5120 + (128 * h.val + l.val), by omega⟩) (x1 (ix1 h)) := by
  have e : idx_main_v70 (idx_main_v71 (idx_main_v72 (ix3 i h l))) = ix1 h := by
    funext a; match a with
    | ⟨0, _⟩ => rfl
  rw [val_main_v75_apply, val_main_v74_apply, val_main_call1_v4_apply, val_main_call1_v3_apply, val_main_cst_3_apply, val_main_call1_v2_apply, val_main_call1_v1_apply,
    val_main_call1_v0_apply, val_main_cst_2_apply, val_main_v73_apply, v33, val_main_v72_apply, val_main_v71_apply, val_main_v70_apply, e]
  rfl

/-- The same in one row. -/
theorem v79 (i : Fin 128) (j : Fin 1024) : val_main_v79 (F := Ideal) x1 x2 x3 x4 x5 (ix2 i j)
    = QkvMath.quant (prodv x2 x3 x4 x5 i ⟨5120 + (128 * (j.val / 128) + j.val % 128), by omega⟩) (x1 (ix1 ⟨j.val / 128, by omega⟩)) := by
  have e : idx_main_v79 (ix2 i j) = ix3 i ⟨j.val / 128, by omega⟩ ⟨j.val % 128, Nat.mod_lt _ (by decide)⟩ := by
    funext a; match a with
    | ⟨0, _⟩ => exact Fin.ext (by show (i.val * 1024 + j.val) / 1024 = i.val; omega)
    | ⟨1, _⟩ => exact Fin.ext (by show (i.val * 1024 + j.val) / 128 % 8 = j.val / 128; omega)
    | ⟨2, _⟩ => exact Fin.ext (by show (i.val * 1024 + j.val) % 128 = j.val % 128; omega)
  rw [val_main_v79_apply, e, v75]

/-- The reference's queries. -/
theorem v77 (i : Fin 128) (j : Fin 4096) : val_main_v77 (F := Ideal) x2 x3 x4 x5 x6 x7 (ix2 i j)
    = QkvMath.fnQ (prodv x2 x3 x4 x5) (ang x6) (ang x7) i j := by
  have e : idx_main_v77 (ix2 i j) = ix3 i ⟨j.val / 128, by omega⟩ ⟨j.val % 128, Nat.mod_lt _ (by decide)⟩ := by
    funext a; match a with
    | ⟨0, _⟩ => exact Fin.ext (by show (i.val * 4096 + j.val) / 4096 = i.val; omega)
    | ⟨1, _⟩ => exact Fin.ext (by show (i.val * 4096 + j.val) / 128 % 32 = j.val / 128; omega)
    | ⟨2, _⟩ => exact Fin.ext (by show (i.val * 4096 + j.val) % 128 = j.val % 128; omega)
  rw [val_main_v77_apply, e, val_main_v76_apply, v48]
  rfl

/-- The reference's codes. -/
theorem v80 (i : Fin 128) (j : Fin 2048) : val_main_v80 (F := Ideal) x0 x1 x2 x3 x4 x5 x6 x7 (ix2 i j)
    = QkvMath.fnC (prodv x2 x3 x4 x5) (ang x6) (ang x7) (scv x0) (scv x1) i j := by
  have key : ∀ (p q : FVec Ideal S128x1024 .fp8e4m3) (hh), concatenate S128x2048 1 [⟨S128x1024, p⟩, ⟨S128x1024, q⟩] hh (ix2 i j)
      = if hl : j.val < 1024 then p (ix2 i ⟨j.val, hl⟩) else q (ix2 i ⟨j.val - 1024, by omega⟩) := by
    intro p q hh
    pointwise
  unfold val_main_v80 QkvMath.fnC
  rw [key]
  by_cases hl : j.val < 1024
  · rw [dif_pos hl, dif_pos hl, v78]
  · rw [dif_neg hl, dif_neg hl, v79]
    refine congrArg (fun t => QkvMath.quant t _) (congrArg (prodv x2 x3 x4 x5 i) (Fin.ext ?_))
    show 5120 + (128 * ((j.val - 1024) / 128) + (j.val - 1024) % 128) = 4096 + j.val
    omega

end Cert.QkvRefIdeal.RefValue
end
-- ==== Proof.QkvRun.lean ====
/- Qkv call: what the runs of its kernel body share — the branch conditions over the grid points, where the
   output windows are idle, the staging and scratch memrefs. -/
module

public import proofs.«01_k».proof.Proof.Gen.QkvIdeal.Frame
public import proofs.«01_k».proof.Proof.Gen.QkvIdeal.Launch
public import proofs.«01_k».proof.Proof.Gen.QkvIdeal.Points
public import proofs.«01_k».proof.Proof.Gen.QkvIdeal.Skeleton
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the points before point 8 — decided over the grid. -/
theorem hcond0_0 : ∀ t : Fin cfg0.N, cond0_0 (grid0.coords t) ↔ t.val < 8 :=
  (by decide +kernel : ∀ t : Fin grid0.N, cond0_0 (grid0.coords t) ↔ t.val < 8)

/-- The condition of the body's `scf.if` 1 (`k0_h2`), from the grid coordinates (the skeleton's scalar
    chain substituted). -/
abbrev cond0_1 (i : grid0.Coords) : Prop := k0_cond2 i = 1#1
/-- It holds at the points whose coordinates have 8 ≤ i0 and i0 ≤ 9 — decided over the grid. -/
theorem hcond0_1 : ∀ t : Fin cfg0.N, cond0_1 (grid0.coords t) ↔ (8 ≤ t.val % 12 ∧ t.val % 12 ≤ 9) :=
  (by decide +kernel : ∀ t : Fin grid0.N, cond0_1 (grid0.coords t) ↔ (8 ≤ t.val % 12 ∧ t.val % 12 ≤ 9))

/-- The condition of the body's `scf.if` 2 (`k0_h3`), from the grid coordinates (the skeleton's scalar
    chain substituted). -/
abbrev cond0_2 (i : grid0.Coords) : Prop := k0_cond3 i = 1#1
/-- It holds at the points from point 10 on — decided over the grid. -/
theorem hcond0_2 : ∀ t : Fin cfg0.N, cond0_2 (grid0.coords t) ↔ 10 ≤ t.val :=
  (by decide +kernel : ∀ t : Fin grid0.N, cond0_2 (grid0.coords t) ↔ 10 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- At the points of case A the printed configuration (`Cfg.idle`) calls output 8 live: the case stores into it. -/
theorem liveAt0_8_A : ∀ t : Fin cfg0.N, cond0_0 (grid0.coords t) → ¬cond0_1 (grid0.coords t) → ¬cond0_2 (grid0.coords t) → cfg0.idle 8 (grid0.coords t) = false := by decide +kernel
/-- At the points of case B the printed configuration (`Cfg.idle`) calls output 8 idle: the case stores nothing into it. -/
theorem idleAt0_8_B : ∀ t : Fin cfg0.N, ¬cond0_0 (grid0.coords t) → cond0_1 (grid0.coords t) → ¬cond0_2 (grid0.coords t) → cfg0.idle 8 (grid0.coords t) = true := by decide +kernel
/-- At the points of case B the pipeline does not write output 8's block back. -/
theorem noFlush0_8_B : ∀ t : Fin cfg0.N, ¬cond0_0 (grid0.coords t) → cond0_1 (grid0.coords t) → ¬cond0_2 (grid0.coords t) → (cfg0.win 8).flush t = false := by decide +kernel
/-- At the points of case C the printed configuration (`Cfg.idle`) calls output 8 idle: the case stores nothing into it. -/
theorem idleAt0_8_C : ∀ t : Fin cfg0.N, ¬cond0_0 (grid0.coords t) → ¬cond0_1 (grid0.coords t) → cond0_2 (grid0.coords t) → cfg0.idle 8 (grid0.coords t) = true := by decide +kernel
/-- At the points of case A the printed configuration (`Cfg.idle`) calls output 9 idle: the case stores nothing into it. -/
theorem idleAt0_9_A : ∀ t : Fin cfg0.N, cond0_0 (grid0.coords t) → ¬cond0_1 (grid0.coords t) → ¬cond0_2 (grid0.coords t) → cfg0.idle 9 (grid0.coords t) = true := by decide +kernel
/-- At the points of case A the pipeline does not write output 9's block back. -/
theorem noFlush0_9_A : ∀ t : Fin cfg0.N, cond0_0 (grid0.coords t) → ¬cond0_1 (grid0.coords t) → ¬cond0_2 (grid0.coords t) → (cfg0.win 9).flush t = false := by decide +kernel
/-- At the points of case B the printed configuration (`Cfg.idle`) calls output 9 live: the case stores into it. -/
theorem liveAt0_9_B : ∀ t : Fin cfg0.N, ¬cond0_0 (grid0.coords t) → cond0_1 (grid0.coords t) → ¬cond0_2 (grid0.coords t) → cfg0.idle 9 (grid0.coords t) = false := by decide +kernel
/-- At the points of case C the printed configuration (`Cfg.idle`) calls output 9 live: the case stores into it. -/
theorem liveAt0_9_C : ∀ t : Fin cfg0.N, ¬cond0_0 (grid0.coords t) → ¬cond0_1 (grid0.coords t) → cond0_2 (grid0.coords t) → cfg0.idle 9 (grid0.coords t) = false := by decide +kernel

/-! ## The kernel body on any staging memrefs: a subtype the run finds -/

/-- One staging buffer of output window 8, through which its contents are stated (`View.read_writes_of_cover`: the
    choice does not matter). -/
abbrev VO0_8 : View sig .tc .vmem S128x512 .bf16 := (Memref.whole cc0_stg8_0 : Memref sig .tc .vmem S128x512 .bf16).view
/-- One staging buffer of output window 9, through which its contents are stated (`View.read_writes_of_cover`: the
    choice does not matter). -/
abbrev VO0_9 : View sig .tc .vmem S128x512 .fp8e4m3 := (Memref.whole cc0_stg9_0 : Memref sig .tc .vmem S128x512 .fp8e4m3).view
/-- Each window's current staging memref at point `t`, spelled as the pipeline passes it (`bodyAt0`), and its wholeness. -/
abbrev ms0_0 (t : Fin cfg0.N) : Memref sig .tc .smem S8 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S8 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x8192 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x512 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x512 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x512 .fp8e4m3 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S64x512 .f32 := Memref.whole cc0_scratch0
abbrev scM0_1 : Memref sig .tc .vmem S64x512 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.QkvIdeal.Gen

end
-- ==== Proof.QkvRunA.lean ====
/- Qkv call: the run of the kernel body in case A. -/
module

public import proofs.«01_k».proof.Proof.QkvRun

@[expose] public section

-- membership in a rectangle of production extents (`View.cover_of_tiled`): the elaborator's structural look
-- recurses once per coordinate of the long axes
set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1228000 in
/-- What the body's stores leave in each output's staging memref, as pieces (last first) IN CASE A (`scf.if` 0 taken, `scf.if` 1 not taken, `scf.if` 2 not taken: points 0, 1, … 7: 8 of 12), WITH the
    proof that on whole staging memrefs — the inputs' at their contents, the outputs it leaves idle (9: no store, the window idle at the case's points) at contents `xi·` handed back untouched, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .smem S8 .f32) (harg1 : arg1.IsWhole) (arg2 : Memref sig .tc .smem S8 .f32) (harg2 : arg2.IsWhole) (arg3 : Memref sig .tc .vmem S128x8192 .bf16) (harg3 : arg3.IsWhole) (arg4 : Memref sig .tc .vmem S4096x512 .i8) (harg4 : arg4.IsWhole) (arg5 : Memref sig .tc .vmem S64x512 .bf16) (harg5 : arg5.IsWhole) (arg6 : Memref sig .tc .vmem S64x512 .i8) (harg6 : arg6.IsWhole) (arg7 : Memref sig .tc .vmem S128x128 .f32) (harg7 : arg7.IsWhole) (arg8 : Memref sig .tc .vmem S128x128 .f32) (harg8 : arg8.IsWhole) (arg9 : Memref sig .tc .vmem S128x512 .bf16) (harg9 : arg9.IsWhole) (arg10 : Memref sig .tc .vmem S128x512 .fp8e4m3) (harg10 : arg10.IsWhole) (arg11 : Memref sig .tc .vmem S64x512 .f32) (harg11 : arg11.IsWhole) (arg12 : Memref sig .tc .vmem S64x512 .f32) (harg12 : arg12.IsWhole) (hc0 : cond0_0 i) (hc1 : ¬cond0_1 i) (hc2 : ¬cond0_2 i)
    (x0 : Vec F S8 .f32) (x1 : Vec F S8 .f32) (x2 : Vec F S128x8192 .bf16) (x3 : Vec F S4096x512 .i8) (x4 : Vec F S64x512 .bf16) (x5 : Vec F S64x512 .i8) (x6 : Vec F S128x128 .f32) (x7 : Vec F S128x128 .f32) :
    Σ' (L8 : List (View.Piece (Elt F) S128x512 .bf16)), Σ' (L9 : List (View.Piece (Elt F) S128x512 .fp8e4m3)), Σ' (LT0 : List (View.Piece (Elt F) S64x512 .f32)), { LT1 : List (View.Piece (Elt F) S64x512 .f32) //
      ∀ (xi9 : Vec F S128x512 .fp8e4m3) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xi9 ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ owns (c : Thread nD τ) arg10 fullShare xi9 ∗ (∃ d, owns (c : Thread nD τ) arg11 fullShare d) ∗ (∃ d, owns (c : Thread nD τ) arg12 fullShare d)) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12) K } := by
  refine ⟨?_, [], [], [], fun xi9 E K => ?run⟩
  case run =>
    simp only [cc0_qkv_eq_skeleton]; unfold cc0_qkv_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]
    · iexists _; isplitr; · ipureintro; exact harg10.read_unread _
      iexact H9
    isplitl [HS0]
    · iexists _, _; isplitr; swap; · iexact HS0
      ipureintro; rfl
    iexists _, _; isplitr; swap; · iexact HS1
    ipureintro; rfl

end Cert.QkvIdeal.Gen

end
-- ==== Proof.QkvRunB.lean ====
/- Qkv call: the run of the kernel body in case B. -/
module

public import proofs.«01_k».proof.Proof.QkvRun

@[expose] public section

-- membership in a rectangle of production extents (`View.cover_of_tiled`): the elaborator's structural look
-- recurses once per coordinate of the long axes
set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1320000 in
/-- What the body's stores leave in each output's staging memref, as pieces (last first) IN CASE B (`scf.if` 0 not taken, `scf.if` 1 taken, `scf.if` 2 not taken: points 8, 9), WITH the
    proof that on whole staging memrefs — the inputs' at their contents, the outputs it leaves idle (8: no store, the window idle at the case's points) at contents `xi·` handed back untouched, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .smem S8 .f32) (harg1 : arg1.IsWhole) (arg2 : Memref sig .tc .smem S8 .f32) (harg2 : arg2.IsWhole) (arg3 : Memref sig .tc .vmem S128x8192 .bf16) (harg3 : arg3.IsWhole) (arg4 : Memref sig .tc .vmem S4096x512 .i8) (harg4 : arg4.IsWhole) (arg5 : Memref sig .tc .vmem S64x512 .bf16) (harg5 : arg5.IsWhole) (arg6 : Memref sig .tc .vmem S64x512 .i8) (harg6 : arg6.IsWhole) (arg7 : Memref sig .tc .vmem S128x128 .f32) (harg7 : arg7.IsWhole) (arg8 : Memref sig .tc .vmem S128x128 .f32) (harg8 : arg8.IsWhole) (arg9 : Memref sig .tc .vmem S128x512 .bf16) (harg9 : arg9.IsWhole) (arg10 : Memref sig .tc .vmem S128x512 .fp8e4m3) (harg10 : arg10.IsWhole) (arg11 : Memref sig .tc .vmem S64x512 .f32) (harg11 : arg11.IsWhole) (arg12 : Memref sig .tc .vmem S64x512 .f32) (harg12 : arg12.IsWhole) (hc0 : ¬cond0_0 i) (hc1 : cond0_1 i) (hc2 : ¬cond0_2 i)
    (x0 : Vec F S8 .f32) (x1 : Vec F S8 .f32) (x2 : Vec F S128x8192 .bf16) (x3 : Vec F S4096x512 .i8) (x4 : Vec F S64x512 .bf16) (x5 : Vec F S64x512 .i8) (x6 : Vec F S128x128 .f32) (x7 : Vec F S128x128 .f32) :
    Σ' (L8 : List (View.Piece (Elt F) S128x512 .bf16)), Σ' (L9 : List (View.Piece (Elt F) S128x512 .fp8e4m3)), Σ' (LT0 : List (View.Piece (Elt F) S64x512 .f32)), { LT1 : List (View.Piece (Elt F) S64x512 .f32) //
      ∀ (xi8 : Vec F S128x512 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ (∃ f, arg10.view.loc (c : Thread nD τ) ↦[arg10.view.set]{fullShare} arg10.view.writes (Elt F) f L9) ∗ (∃ d, owns (c : Thread nD τ) arg11 fullShare d) ∗ (∃ d, owns (c : Thread nD τ) arg12 fullShare d)) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12) K } := by
  refine ⟨[], ?_, [], [], fun xi8 E K => ?run⟩
  case run =>
    simp only [cc0_qkv_eq_skeleton]; unfold cc0_qkv_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [HS0]
    · iexists _, _; isplitr; swap; · iexact HS0
      ipureintro; rfl
    iexists _, _; isplitr; swap; · iexact HS1
    ipureintro; rfl

end Cert.QkvIdeal.Gen

end
-- ==== Proof.QkvRunC.lean ====
/- Qkv call: the run of the kernel body in case C. -/
module

public import proofs.«01_k».proof.Proof.QkvRun

@[expose] public section

-- membership in a rectangle of production extents (`View.cover_of_tiled`): the elaborator's structural look
-- recurses once per coordinate of the long axes
set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1320000 in
/-- What the body's stores leave in each output's staging memref, as pieces (last first) IN CASE C (`scf.if` 0 not taken, `scf.if` 1 not taken, `scf.if` 2 taken: points 10, 11), WITH the
    proof that on whole staging memrefs — the inputs' at their contents, the outputs it leaves idle (8: no store, the window idle at the case's points) at contents `xi·` handed back untouched, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .smem S8 .f32) (harg1 : arg1.IsWhole) (arg2 : Memref sig .tc .smem S8 .f32) (harg2 : arg2.IsWhole) (arg3 : Memref sig .tc .vmem S128x8192 .bf16) (harg3 : arg3.IsWhole) (arg4 : Memref sig .tc .vmem S4096x512 .i8) (harg4 : arg4.IsWhole) (arg5 : Memref sig .tc .vmem S64x512 .bf16) (harg5 : arg5.IsWhole) (arg6 : Memref sig .tc .vmem S64x512 .i8) (harg6 : arg6.IsWhole) (arg7 : Memref sig .tc .vmem S128x128 .f32) (harg7 : arg7.IsWhole) (arg8 : Memref sig .tc .vmem S128x128 .f32) (harg8 : arg8.IsWhole) (arg9 : Memref sig .tc .vmem S128x512 .bf16) (harg9 : arg9.IsWhole) (arg10 : Memref sig .tc .vmem S128x512 .fp8e4m3) (harg10 : arg10.IsWhole) (arg11 : Memref sig .tc .vmem S64x512 .f32) (harg11 : arg11.IsWhole) (arg12 : Memref sig .tc .vmem S64x512 .f32) (harg12 : arg12.IsWhole) (hc0 : ¬cond0_0 i) (hc1 : ¬cond0_1 i) (hc2 : cond0_2 i)
    (x0 : Vec F S8 .f32) (x1 : Vec F S8 .f32) (x2 : Vec F S128x8192 .bf16) (x3 : Vec F S4096x512 .i8) (x4 : Vec F S64x512 .bf16) (x5 : Vec F S64x512 .i8) (x6 : Vec F S128x128 .f32) (x7 : Vec F S128x128 .f32) :
    Σ' (L8 : List (View.Piece (Elt F) S128x512 .bf16)), Σ' (L9 : List (View.Piece (Elt F) S128x512 .fp8e4m3)), Σ' (LT0 : List (View.Piece (Elt F) S64x512 .f32)), { LT1 : List (View.Piece (Elt F) S64x512 .f32) //
      ∀ (xi8 : Vec F S128x512 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ (∃ f, arg10.view.loc (c : Thread nD τ) ↦[arg10.view.set]{fullShare} arg10.view.writes (Elt F) f L9) ∗ (∃ d, owns (c : Thread nD τ) arg11 fullShare d) ∗ (∃ d, owns (c : Thread nD τ) arg12 fullShare d)) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12) K } := by
  refine ⟨[], ?_, [], [], fun xi8 E K => ?run⟩
  case run =>
    simp only [cc0_qkv_eq_skeleton]; unfold cc0_qkv_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part2_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [HS0]
    · iexists _, _; isplitr; swap; · iexact HS0
      ipureintro; rfl
    iexists _, _; isplitr; swap; · iexact HS1
    ipureintro; rfl

end Cert.QkvIdeal.Gen

end
-- ==== Proof.QkvFrame.lean ====
/- The qkv call: the proof data of its pipeline, the body's obligation at every point, the run and the frame. The buffer of the
   queries is stored at points 0 to 7, then left alone and written back for the last time at point 11: from point 8 on the
   body finds in it what point 7 left. -/
module

public import proofs.«01_k».proof.Proof.QkvRunA
public import proofs.«01_k».proof.Proof.QkvRunB
public import proofs.«01_k».proof.Proof.QkvRunC
public import Idealize.ShloMosaic.Lib.Claim

@[expose] public section

-- membership in a rectangle of production extents (`View.cover_of_tiled`): the elaborator's structural look
-- recurses once per coordinate of the long axes
set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 8 tile its block (4 stores of `S128x128`, checked by the kernel's evaluation: Lib/Ring.lean `Piece.tiledL`, linear in the pieces, through a loop's `@[irreducible]` trip theorem too), so they cover it. -/
theorem cover0_A_8 (c : Dev nD) (i : grid0.Coords) (arg1 : Memref sig .tc .smem S8 .f32) (harg1 : arg1.IsWhole) (arg2 : Memref sig .tc .smem S8 .f32) (harg2 : arg2.IsWhole) (arg3 : Memref sig .tc .vmem S128x8192 .bf16) (harg3 : arg3.IsWhole) (arg4 : Memref sig .tc .vmem S4096x512 .i8) (harg4 : arg4.IsWhole) (arg5 : Memref sig .tc .vmem S64x512 .bf16) (harg5 : arg5.IsWhole) (arg6 : Memref sig .tc .vmem S64x512 .i8) (harg6 : arg6.IsWhole) (arg7 : Memref sig .tc .vmem S128x128 .f32) (harg7 : arg7.IsWhole) (arg8 : Memref sig .tc .vmem S128x128 .f32) (harg8 : arg8.IsWhole) (arg9 : Memref sig .tc .vmem S128x512 .bf16) (harg9 : arg9.IsWhole) (arg10 : Memref sig .tc .vmem S128x512 .fp8e4m3) (harg10 : arg10.IsWhole) (arg11 : Memref sig .tc .vmem S64x512 .f32) (harg11 : arg11.IsWhole) (arg12 : Memref sig .tc .vmem S64x512 .f32) (harg12 : arg12.IsWhole) (hc0 : cond0_0 i) (hc1 : ¬cond0_1 i) (hc2 : ¬cond0_2 i)
    (x0 : Vec F S8 .f32) (x1 : Vec F S8 .f32) (x2 : Vec F S128x8192 .bf16) (x3 : Vec F S4096x512 .i8) (x4 : Vec F S64x512 .bf16) (x5 : Vec F S64x512 .i8) (x6 : Vec F S128x128 .f32) (x7 : Vec F S128x128 .f32) (y : S128x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7).1 S128x128.size (by sl_kernel_rfl) y

/-- What case A leaves in output 8's staging buffer: its pieces read back over junk. -/
def out0_A_8 (c : Dev nD) (i : grid0.Coords) (arg1 : Memref sig .tc .smem S8 .f32) (harg1 : arg1.IsWhole) (arg2 : Memref sig .tc .smem S8 .f32) (harg2 : arg2.IsWhole) (arg3 : Memref sig .tc .vmem S128x8192 .bf16) (harg3 : arg3.IsWhole) (arg4 : Memref sig .tc .vmem S4096x512 .i8) (harg4 : arg4.IsWhole) (arg5 : Memref sig .tc .vmem S64x512 .bf16) (harg5 : arg5.IsWhole) (arg6 : Memref sig .tc .vmem S64x512 .i8) (harg6 : arg6.IsWhole) (arg7 : Memref sig .tc .vmem S128x128 .f32) (harg7 : arg7.IsWhole) (arg8 : Memref sig .tc .vmem S128x128 .f32) (harg8 : arg8.IsWhole) (arg9 : Memref sig .tc .vmem S128x512 .bf16) (harg9 : arg9.IsWhole) (arg10 : Memref sig .tc .vmem S128x512 .fp8e4m3) (harg10 : arg10.IsWhole) (arg11 : Memref sig .tc .vmem S64x512 .f32) (harg11 : arg11.IsWhole) (arg12 : Memref sig .tc .vmem S64x512 .f32) (harg12 : arg12.IsWhole) (hc0 : cond0_0 i) (hc1 : ¬cond0_1 i) (hc2 : ¬cond0_2 i)
    (x0 : Vec F S8 .f32) (x1 : Vec F S8 .f32) (x2 : Vec F S128x8192 .bf16) (x3 : Vec F S4096x512 .i8) (x4 : Vec F S64x512 .bf16) (x5 : Vec F S64x512 .i8) (x6 : Vec F S128x128 .f32) (x7 : Vec F S128x128 .f32) : Vec F S128x512 .bf16 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7).1)

/-- Case A stores nothing into output 9 (the window is idle at its points and not written back there):
    no pieces — a placeholder (junk read back) that nothing consults, since at these points the window is neither
    written back nor read at the next point (Lib/Pipeline.lean "Idle points"). -/
def out0_A_9 (c : Dev nD) (i : grid0.Coords) (arg1 : Memref sig .tc .smem S8 .f32) (harg1 : arg1.IsWhole) (arg2 : Memref sig .tc .smem S8 .f32) (harg2 : arg2.IsWhole) (arg3 : Memref sig .tc .vmem S128x8192 .bf16) (harg3 : arg3.IsWhole) (arg4 : Memref sig .tc .vmem S4096x512 .i8) (harg4 : arg4.IsWhole) (arg5 : Memref sig .tc .vmem S64x512 .bf16) (harg5 : arg5.IsWhole) (arg6 : Memref sig .tc .vmem S64x512 .i8) (harg6 : arg6.IsWhole) (arg7 : Memref sig .tc .vmem S128x128 .f32) (harg7 : arg7.IsWhole) (arg8 : Memref sig .tc .vmem S128x128 .f32) (harg8 : arg8.IsWhole) (arg9 : Memref sig .tc .vmem S128x512 .bf16) (harg9 : arg9.IsWhole) (arg10 : Memref sig .tc .vmem S128x512 .fp8e4m3) (harg10 : arg10.IsWhole) (arg11 : Memref sig .tc .vmem S64x512 .f32) (harg11 : arg11.IsWhole) (arg12 : Memref sig .tc .vmem S64x512 .f32) (harg12 : arg12.IsWhole) (hc0 : cond0_0 i) (hc1 : ¬cond0_1 i) (hc2 : ¬cond0_2 i)
    (x0 : Vec F S8 .f32) (x1 : Vec F S8 .f32) (x2 : Vec F S128x8192 .bf16) (x3 : Vec F S4096x512 .i8) (x4 : Vec F S64x512 .bf16) (x5 : Vec F S64x512 .i8) (x6 : Vec F S128x128 .f32) (x7 : Vec F S128x128 .f32) : Vec F S128x512 .fp8e4m3 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7).2.1)

/-- Case B stores nothing into output 8 (the window is idle at its points and not written back there):
    no pieces — a placeholder (junk read back) that nothing consults, since at these points the window is neither
    written back nor read at the next point (Lib/Pipeline.lean "Idle points"). -/
def out0_B_8 (c : Dev nD) (i : grid0.Coords) (arg1 : Memref sig .tc .smem S8 .f32) (harg1 : arg1.IsWhole) (arg2 : Memref sig .tc .smem S8 .f32) (harg2 : arg2.IsWhole) (arg3 : Memref sig .tc .vmem S128x8192 .bf16) (harg3 : arg3.IsWhole) (arg4 : Memref sig .tc .vmem S4096x512 .i8) (harg4 : arg4.IsWhole) (arg5 : Memref sig .tc .vmem S64x512 .bf16) (harg5 : arg5.IsWhole) (arg6 : Memref sig .tc .vmem S64x512 .i8) (harg6 : arg6.IsWhole) (arg7 : Memref sig .tc .vmem S128x128 .f32) (harg7 : arg7.IsWhole) (arg8 : Memref sig .tc .vmem S128x128 .f32) (harg8 : arg8.IsWhole) (arg9 : Memref sig .tc .vmem S128x512 .bf16) (harg9 : arg9.IsWhole) (arg10 : Memref sig .tc .vmem S128x512 .fp8e4m3) (harg10 : arg10.IsWhole) (arg11 : Memref sig .tc .vmem S64x512 .f32) (harg11 : arg11.IsWhole) (arg12 : Memref sig .tc .vmem S64x512 .f32) (harg12 : arg12.IsWhole) (hc0 : ¬cond0_0 i) (hc1 : cond0_1 i) (hc2 : ¬cond0_2 i)
    (x0 : Vec F S8 .f32) (x1 : Vec F S8 .f32) (x2 : Vec F S128x8192 .bf16) (x3 : Vec F S4096x512 .i8) (x4 : Vec F S64x512 .bf16) (x5 : Vec F S64x512 .i8) (x6 : Vec F S128x128 .f32) (x7 : Vec F S128x128 .f32) : Vec F S128x512 .bf16 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7).1)

/-- Case B's pieces for output 9 tile its block (4 stores of `S128x128`, checked by the kernel's evaluation: Lib/Ring.lean `Piece.tiledL`, linear in the pieces, through a loop's `@[irreducible]` trip theorem too), so they cover it. -/
theorem cover0_B_9 (c : Dev nD) (i : grid0.Coords) (arg1 : Memref sig .tc .smem S8 .f32) (harg1 : arg1.IsWhole) (arg2 : Memref sig .tc .smem S8 .f32) (harg2 : arg2.IsWhole) (arg3 : Memref sig .tc .vmem S128x8192 .bf16) (harg3 : arg3.IsWhole) (arg4 : Memref sig .tc .vmem S4096x512 .i8) (harg4 : arg4.IsWhole) (arg5 : Memref sig .tc .vmem S64x512 .bf16) (harg5 : arg5.IsWhole) (arg6 : Memref sig .tc .vmem S64x512 .i8) (harg6 : arg6.IsWhole) (arg7 : Memref sig .tc .vmem S128x128 .f32) (harg7 : arg7.IsWhole) (arg8 : Memref sig .tc .vmem S128x128 .f32) (harg8 : arg8.IsWhole) (arg9 : Memref sig .tc .vmem S128x512 .bf16) (harg9 : arg9.IsWhole) (arg10 : Memref sig .tc .vmem S128x512 .fp8e4m3) (harg10 : arg10.IsWhole) (arg11 : Memref sig .tc .vmem S64x512 .f32) (harg11 : arg11.IsWhole) (arg12 : Memref sig .tc .vmem S64x512 .f32) (harg12 : arg12.IsWhole) (hc0 : ¬cond0_0 i) (hc1 : cond0_1 i) (hc2 : ¬cond0_2 i)
    (x0 : Vec F S8 .f32) (x1 : Vec F S8 .f32) (x2 : Vec F S128x8192 .bf16) (x3 : Vec F S4096x512 .i8) (x4 : Vec F S64x512 .bf16) (x5 : Vec F S64x512 .i8) (x6 : Vec F S128x128 .f32) (x7 : Vec F S128x128 .f32) (y : S128x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7).2.1 S128x128.size (by sl_kernel_rfl) y

/-- What case B leaves in output 9's staging buffer: its pieces read back over junk. -/
def out0_B_9 (c : Dev nD) (i : grid0.Coords) (arg1 : Memref sig .tc .smem S8 .f32) (harg1 : arg1.IsWhole) (arg2 : Memref sig .tc .smem S8 .f32) (harg2 : arg2.IsWhole) (arg3 : Memref sig .tc .vmem S128x8192 .bf16) (harg3 : arg3.IsWhole) (arg4 : Memref sig .tc .vmem S4096x512 .i8) (harg4 : arg4.IsWhole) (arg5 : Memref sig .tc .vmem S64x512 .bf16) (harg5 : arg5.IsWhole) (arg6 : Memref sig .tc .vmem S64x512 .i8) (harg6 : arg6.IsWhole) (arg7 : Memref sig .tc .vmem S128x128 .f32) (harg7 : arg7.IsWhole) (arg8 : Memref sig .tc .vmem S128x128 .f32) (harg8 : arg8.IsWhole) (arg9 : Memref sig .tc .vmem S128x512 .bf16) (harg9 : arg9.IsWhole) (arg10 : Memref sig .tc .vmem S128x512 .fp8e4m3) (harg10 : arg10.IsWhole) (arg11 : Memref sig .tc .vmem S64x512 .f32) (harg11 : arg11.IsWhole) (arg12 : Memref sig .tc .vmem S64x512 .f32) (harg12 : arg12.IsWhole) (hc0 : ¬cond0_0 i) (hc1 : cond0_1 i) (hc2 : ¬cond0_2 i)
    (x0 : Vec F S8 .f32) (x1 : Vec F S8 .f32) (x2 : Vec F S128x8192 .bf16) (x3 : Vec F S4096x512 .i8) (x4 : Vec F S64x512 .bf16) (x5 : Vec F S64x512 .i8) (x6 : Vec F S128x128 .f32) (x7 : Vec F S128x128 .f32) : Vec F S128x512 .fp8e4m3 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7).2.1)

/-- Case C stores nothing into output 8: no pieces, a placeholder that nothing consults. -/
def out0_C_8 (c : Dev nD) (i : grid0.Coords) (arg1 : Memref sig .tc .smem S8 .f32) (harg1 : arg1.IsWhole) (arg2 : Memref sig .tc .smem S8 .f32) (harg2 : arg2.IsWhole) (arg3 : Memref sig .tc .vmem S128x8192 .bf16) (harg3 : arg3.IsWhole) (arg4 : Memref sig .tc .vmem S4096x512 .i8) (harg4 : arg4.IsWhole) (arg5 : Memref sig .tc .vmem S64x512 .bf16) (harg5 : arg5.IsWhole) (arg6 : Memref sig .tc .vmem S64x512 .i8) (harg6 : arg6.IsWhole) (arg7 : Memref sig .tc .vmem S128x128 .f32) (harg7 : arg7.IsWhole) (arg8 : Memref sig .tc .vmem S128x128 .f32) (harg8 : arg8.IsWhole) (arg9 : Memref sig .tc .vmem S128x512 .bf16) (harg9 : arg9.IsWhole) (arg10 : Memref sig .tc .vmem S128x512 .fp8e4m3) (harg10 : arg10.IsWhole) (arg11 : Memref sig .tc .vmem S64x512 .f32) (harg11 : arg11.IsWhole) (arg12 : Memref sig .tc .vmem S64x512 .f32) (harg12 : arg12.IsWhole) (hc0 : ¬cond0_0 i) (hc1 : ¬cond0_1 i) (hc2 : cond0_2 i)
    (x0 : Vec F S8 .f32) (x1 : Vec F S8 .f32) (x2 : Vec F S128x8192 .bf16) (x3 : Vec F S4096x512 .i8) (x4 : Vec F S64x512 .bf16) (x5 : Vec F S64x512 .i8) (x6 : Vec F S128x128 .f32) (x7 : Vec F S128x128 .f32) : Vec F S128x512 .bf16 :=
  VO0_8.read (Elt F) (VO0_8.writes (Elt F) VO0_8.junk (kernelRun0_C c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7).1)

/-- Case C's pieces for output 9 tile its block (4 stores of `S128x128`, checked by the kernel's evaluation: Lib/Ring.lean `Piece.tiledL`, linear in the pieces, through a loop's `@[irreducible]` trip theorem too), so they cover it. -/
theorem cover0_C_9 (c : Dev nD) (i : grid0.Coords) (arg1 : Memref sig .tc .smem S8 .f32) (harg1 : arg1.IsWhole) (arg2 : Memref sig .tc .smem S8 .f32) (harg2 : arg2.IsWhole) (arg3 : Memref sig .tc .vmem S128x8192 .bf16) (harg3 : arg3.IsWhole) (arg4 : Memref sig .tc .vmem S4096x512 .i8) (harg4 : arg4.IsWhole) (arg5 : Memref sig .tc .vmem S64x512 .bf16) (harg5 : arg5.IsWhole) (arg6 : Memref sig .tc .vmem S64x512 .i8) (harg6 : arg6.IsWhole) (arg7 : Memref sig .tc .vmem S128x128 .f32) (harg7 : arg7.IsWhole) (arg8 : Memref sig .tc .vmem S128x128 .f32) (harg8 : arg8.IsWhole) (arg9 : Memref sig .tc .vmem S128x512 .bf16) (harg9 : arg9.IsWhole) (arg10 : Memref sig .tc .vmem S128x512 .fp8e4m3) (harg10 : arg10.IsWhole) (arg11 : Memref sig .tc .vmem S64x512 .f32) (harg11 : arg11.IsWhole) (arg12 : Memref sig .tc .vmem S64x512 .f32) (harg12 : arg12.IsWhole) (hc0 : ¬cond0_0 i) (hc1 : ¬cond0_1 i) (hc2 : cond0_2 i)
    (x0 : Vec F S8 .f32) (x1 : Vec F S8 .f32) (x2 : Vec F S128x8192 .bf16) (x3 : Vec F S4096x512 .i8) (x4 : Vec F S64x512 .bf16) (x5 : Vec F S64x512 .i8) (x6 : Vec F S128x128 .f32) (x7 : Vec F S128x128 .f32) (y : S128x512.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7).2.1 S128x128.size (by sl_kernel_rfl) y

/-- What case C leaves in output 9's staging buffer: its pieces read back over junk. -/
def out0_C_9 (c : Dev nD) (i : grid0.Coords) (arg1 : Memref sig .tc .smem S8 .f32) (harg1 : arg1.IsWhole) (arg2 : Memref sig .tc .smem S8 .f32) (harg2 : arg2.IsWhole) (arg3 : Memref sig .tc .vmem S128x8192 .bf16) (harg3 : arg3.IsWhole) (arg4 : Memref sig .tc .vmem S4096x512 .i8) (harg4 : arg4.IsWhole) (arg5 : Memref sig .tc .vmem S64x512 .bf16) (harg5 : arg5.IsWhole) (arg6 : Memref sig .tc .vmem S64x512 .i8) (harg6 : arg6.IsWhole) (arg7 : Memref sig .tc .vmem S128x128 .f32) (harg7 : arg7.IsWhole) (arg8 : Memref sig .tc .vmem S128x128 .f32) (harg8 : arg8.IsWhole) (arg9 : Memref sig .tc .vmem S128x512 .bf16) (harg9 : arg9.IsWhole) (arg10 : Memref sig .tc .vmem S128x512 .fp8e4m3) (harg10 : arg10.IsWhole) (arg11 : Memref sig .tc .vmem S64x512 .f32) (harg11 : arg11.IsWhole) (arg12 : Memref sig .tc .vmem S64x512 .f32) (harg12 : arg12.IsWhole) (hc0 : ¬cond0_0 i) (hc1 : ¬cond0_1 i) (hc2 : cond0_2 i)
    (x0 : Vec F S8 .f32) (x1 : Vec F S8 .f32) (x2 : Vec F S128x8192 .bf16) (x3 : Vec F S4096x512 .i8) (x4 : Vec F S64x512 .bf16) (x5 : Vec F S64x512 .i8) (x6 : Vec F S128x128 .f32) (x7 : Vec F S128x128 .f32) : Vec F S128x512 .fp8e4m3 :=
  VO0_9.read (Elt F) (VO0_9.writes (Elt F) VO0_9.junk (kernelRun0_C c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S128x512 .bf16 × Vec F S128x512 .fp8e4m3
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) ((hcond0_0 ⟨0, hn⟩).mpr (by (try dsimp only); omega)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) ((hcond0_0 ⟨0, hn⟩).mpr (by (try dsimp only); omega)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) < 8 then
      if h1 : (8 ≤ (n + 1) % 12 ∧ (n + 1) % 12 ≤ 9) then
        False.elim (by have hN : n + 1 < 12 := lt_of_lt_of_eq hn (show cfg0.N = 12 from N_0); omega)
      else
        if h2 : 10 ≤ (n + 1) then
          False.elim (by have hN : n + 1 < 12 := lt_of_lt_of_eq hn (show cfg0.N = 12 from N_0); omega)
        else
          (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      if h1 : (8 ≤ (n + 1) % 12 ∧ (n + 1) % 12 ≤ 9) then
        if h2 : 10 ≤ (n + 1) then
          False.elim (by have hN : n + 1 < 12 := lt_of_lt_of_eq hn (show cfg0.N = 12 from N_0); omega)
        else
          (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
      else
        if h2 : 10 ≤ (n + 1) then
          (out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
        else
          False.elim (by have hN : n + 1 < 12 := lt_of_lt_of_eq hn (show cfg0.N = 12 from N_0); omega)

/-- `outsAt0` at a point of case A: that case's contents. -/
theorem outsAt0_A (c : Dev nD) (t : Fin cfg0.N) (h0 : t.val < 8) (h1 : ¬(8 ≤ t.val % 12 ∧ t.val % 12 ≤ 9)) (h2 : ¬10 ≤ t.val) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans ((dif_neg h1).trans ((dif_neg h2).trans rfl))

/-- `outsAt0` at a point of case B: that case's contents. -/
theorem outsAt0_B (c : Dev nD) (t : Fin cfg0.N) (h0 : ¬t.val < 8) (h1 : (8 ≤ t.val % 12 ∧ t.val % 12 ≤ 9)) (h2 : ¬10 ≤ t.val) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t), out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact (by exfalso; (try dsimp only at h0); exact by omega)
  | succ n => exact (dif_neg h0).trans ((dif_pos h1).trans ((dif_neg h2).trans rfl))

/-- `outsAt0` at a point of case C: that case's contents. -/
theorem outsAt0_C (c : Dev nD) (t : Fin cfg0.N) (h0 : ¬t.val < 8) (h1 : ¬(8 ≤ t.val % 12 ∧ t.val % 12 ≤ 9)) (h2 : 10 ≤ t.val) :
    outsAt0 m c t.val t.isLt = (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t), out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact (by exfalso; (try dsimp only at h0); exact by omega)
  | succ n => exact (dif_neg h0).trans ((dif_neg h1).trans ((dif_pos h2).trans rfl))

/-- What the buffer of output 8 holds after point `t`: what point `t` left in it up to point 7, and from there on what point
    7 left in it. -/
def qAt (c : Dev nD) (t : Fin cfg0.N) : Vec F S128x512 .bf16 :=
  (outsAt0 m c (min t.val 7) (lt_of_le_of_lt (Nat.min_le_left _ _) t.isLt)).1

theorem qAt_lt (c : Dev nD) (t : Fin cfg0.N) (h : t.val < 8) : qAt m c t = (outsAt0 m c t.val t.isLt).1 := by
  have e : min t.val 7 = t.val := by omega
  unfold qAt
  simp only [e]

/-- From point 7 on the buffer of output 8 keeps its contents. -/
theorem qAt_ge (c : Dev nD) (t t' : Fin cfg0.N) (h : 7 ≤ t.val) (h' : 7 ≤ t'.val) : qAt m c t = qAt m c t' := by
  have e : min t.val 7 = 7 := by omega
  have e' : min t'.val 7 = 7 := by omega
  unfold qAt
  simp only [e, e']

/-! ## The pipeline's proof data -/

/-- The proof data of the one pipeline on core `c`: the arrays as the region finds them (`V`); after the body at
    point `t` each input's buffer at its block, output 8's at `qAt` and output 9's at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => qAt m c t
    | ⟨9, _⟩ => (outsAt0 m c t.val t.isLt).2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = qAt m c t := by dsimp only [dats]
theorem after0_9 (c : Dev nD) (t : Fin cfg0.N) : (dats m 0 c).after 9 t = (outsAt0 m c t.val t.isLt).2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- The pipeline does not write output 8's block back at points 7 to 10. -/
theorem noFlush0_8 : ∀ t : Fin cfg0.N, 7 ≤ t.val → t.val ≤ 10 → (cfg0.win 8).flush t = false := by decide +kernel
/-- From point 8 on output 8 is idle, before it is live. -/
theorem idle0_8 : ∀ t : Fin cfg0.N, 8 ≤ t.val → cfg0.idle 8 (grid0.coords t) = true := by decide +kernel
theorem live0_8 : ∀ t : Fin cfg0.N, t.val < 8 → cfg0.idle 8 (grid0.coords t) = false := by decide +kernel
theorem noFetch0_8 : ∀ t : Fin cfg0.N, (cfg0.win 8).fetch t = false := by decide +kernel

/-- From point 8 on the body finds output 8's buffer as point 7 left it. -/
theorem before0_8 (c : Dev nD) : ∀ (n : ℕ) (hn : n < cfg0.N) (h : 8 ≤ n) (d), (dats m 0 c).before 8 ⟨n, hn⟩ d = qAt m c ⟨n, hn⟩ := by
  intro n
  induction n with
  | zero => intro hn h; omega
  | succ k ih =>
    intro hn h d
    have hN : k + 1 < 12 := lt_of_lt_of_eq hn (show cfg0.N = 12 from N_0)
    rw [Dat.before_of_pos _ 8 ⟨k + 1, hn⟩ (Nat.succ_ne_zero k) (noFetch0_8 _) d]
    have hk : k < cfg0.N := by omega
    have ef : (cfg0.win 8).flush ⟨k, hk⟩ = false := noFlush0_8 ⟨k, hk⟩ (by show 7 ≤ k; omega) (by show k ≤ 10; omega)
    refine (if_neg (by
      show ¬ ((cfg0.win 8).flush ⟨k, hk⟩ = true)
      rw [ef]; exact Bool.false_ne_true)).trans ?_
    show (dats m 0 c).left 8 ⟨k, hk⟩ d = _
    unfold Dat.left
    by_cases h7 : k = 7
    · rw [show cfg0.idle 8 (cfg0.grid.coords ⟨k, hk⟩) = false from live0_8 ⟨k, hk⟩ (by show k < 8; omega)]
      show (dats m 0 c).after 8 ⟨k, hk⟩ = _
      rw [after0_8]
      exact qAt_ge m c _ _ (by show 7 ≤ k; omega) (by show 7 ≤ k + 1; omega)
    · rw [show cfg0.idle 8 (cfg0.grid.coords ⟨k, hk⟩) = true from idle0_8 ⟨k, hk⟩ (by show 8 ≤ k; omega)]
      show (dats m 0 c).before 8 ⟨k, hk⟩ d = _
      rw [ih hk (by omega) d]
      exact qAt_ge m c _ _ (by show 7 ≤ k; omega) (by show 7 ≤ k + 1; omega)

/-- At a point from 8 on, output 8's buffer as the body found it is what the obligation asks of it there, whether or not the
    point writes it back. -/
theorem leaves0_8 (c : Dev nD) (t : Fin cfg0.N) (h : 8 ≤ t.val) (d) :
    (owns (c : Thread nD τ) (ms0_8 t) fullShare ((dats m 0 c).before 8 t d) : sProp 𝕄) ⊢ (dats m 0 c).leavesExact 8 t := by
  cases hf : (cfg0.win 8).flush t with
  | false =>
    rw [Dat.leavesExact_idle (dats m 0 c) 8 t (idle0_8 t h) hf]
    iintro H
    iexists d
    iexact H
  | true =>
    rw [show (dats m 0 c).leavesExact 8 t = owns (c : Thread nD τ) (ms0_8 t) fullShare ((dats m 0 c).after 8 t) from by
      unfold Dat.leavesExact; rw [idle0_8 t h, hf], after0_8, before0_8 m c t.val t.isLt h d]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 3600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 12 := lt_of_lt_of_eq t.isLt (show cfg0.N = 12 from N_0)
  by_cases h0 : t.val < 8
  · by_cases h1 : (8 ≤ t.val % 12 ∧ t.val % 12 ≤ 9)
    · exfalso; omega
    · by_cases h2 : 10 ≤ t.val
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8_A t ((hcond0_0 t).mpr h0) (fun h => h1 ((hcond0_1 t).mp h)) (fun h => h2 ((hcond0_2 t).mp h))], after0_8]
        rw [Dat.leavesExact_idle (dats m 0 c) 9 t (idleAt0_9_A t ((hcond0_0 t).mpr h0) (fun h => h1 ((hcond0_1 t).mp h)) (fun h => h2 ((hcond0_2 t).mp h))) (noFlush0_9_A t ((hcond0_0 t).mpr h0) (fun h => h1 ((hcond0_1 t).mp h)) (fun h => h2 ((hcond0_2 t).mp h)))]
        rw [qAt_lt m c t h0, outsAt0_A m c t h0 h1 h2]
        unfold out0_A_8; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexact H9
        isplitl [HS0]; · iexact HS0
        isplitl [HS1]; · iexact HS1
        iintro ⟨H0, H1, H2, H3, H4, H5, H6, H7, ⟨%e8, H8⟩, H9, HS0, HS1⟩
        isplitl [HS0 HS1 Hg]
        · isplitl [HS0 HS1]
          · isplitl [HS0]
            · iexact HS0
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_A_8 c _ _ _ _ _ _ _ _ _ _ _ _ _ _ _ _ _ _ _ _ _ _ _ _ _ _ _ _ _ _ _ _ _ _ _ _)
        iexists _; iexact H9
  · by_cases h1 : (8 ≤ t.val % 12 ∧ t.val % 12 ≤ 9)
    · by_cases h2 : 10 ≤ t.val
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [Dat.leavesExact_idle (dats m 0 c) 8 t (idleAt0_8_B t (fun h => h0 ((hcond0_0 t).mp h)) ((hcond0_1 t).mpr h1) (fun h => h2 ((hcond0_2 t).mp h))) (noFlush0_8_B t (fun h => h0 ((hcond0_0 t).mp h)) ((hcond0_1 t).mpr h1) (fun h => h2 ((hcond0_2 t).mp h)))]
        rw [show (dats m 0 c).leavesExact 9 t = owns (c : Thread nD τ) (ms0_9 t) fullShare ((dats m 0 c).after 9 t) from by
      unfold Dat.leavesExact; rw [liveAt0_9_B t (fun h => h0 ((hcond0_0 t).mp h)) ((hcond0_1 t).mpr h1) (fun h => h2 ((hcond0_2 t).mp h))], after0_9]
        rw [outsAt0_B m c t h0 h1 h2]
        unfold out0_B_9; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_B c (grid0.coords t) _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [HS0]; · iexact HS0
        isplitl [HS1]; · iexact HS1
        iintro ⟨H0, H1, H2, H3, H4, H5, H6, H7, H8, ⟨%e9, H9⟩, HS0, HS1⟩
        isplitl [HS0 HS1 Hg]
        · isplitl [HS0 HS1]
          · isplitl [HS0]
            · iexact HS0
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        unfold owns; iexists _; isplitr
        swap; · iexact H9
        ipureintro; exact View.read_writes_of_cover _ _ _ _ _ (cover0_B_9 c _ _ _ _ _ _ _ _ _ _ _ _ _ _ _ _ _ _ _ _ _ _ _ _ _ _ _ _ _ _ _ _ _ _ _ _)
    · by_cases h2 : 10 ≤ t.val
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 9 t = owns (c : Thread nD τ) (ms0_9 t) fullShare ((dats m 0 c).after 9 t) from by
      unfold Dat.leavesExact; rw [liveAt0_9_C t (fun h => h0 ((hcond0_0 t).mp h)) (fun h => h1 ((hcond0_1 t).mp h)) ((hcond0_2 t).mpr h2)], after0_9]
        rw [outsAt0_C m c t h0 h1 h2]
        unfold out0_C_9; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_C c (grid0.coords t) _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [HS0]; · iexact HS0
        isplitl [HS1]; · iexact HS1
        iintro ⟨H0, H1, H2, H3, H4, H5, H6, H7, H8, ⟨%e9, H9⟩, HS0, HS1⟩
        isplitl [HS0 HS1 Hg]
        · isplitl [HS0 HS1]
          · isplitl [HS0]
            · iexact HS0
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · iapply (leaves0_8 m c t (by omega) d8); iexact H8
        unfold owns; iexists _; isplitr
        swap; · iexact H9
        ipureintro; exact View.read_writes_of_cover _ _ _ _ _ (cover0_C_9 c _ _ _ _ _ _ _ _ _ _ _ _ _ _ _ _ _ _ _ _ _ _ _ _ _ _ _ _ _ _ _ _ _ _ _ _)
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- THE FRAME: `Cert.quiescent_QkvIdeal`'s statement (Defs.lean) at any `F` — Proof.lean cites it at `Bits`:
    `theorem Cert.Proof.claim : Cert.Claim := ⟨Cert.QkvIdeal.Gen.facts, fun m ρ _ => Cert.QkvIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.QkvIdeal.Gen

end
-- ==== Proof.QkvPieces.lean ====
/- The qkv call: what one grid point stores, in each case of the body: four heads of 128 columns of the block of the product. -/
module
public import proofs.«01_k».proof.Proof.QkvRunA
public import proofs.«01_k».proof.Proof.QkvRunB
public import proofs.«01_k».proof.Proof.QkvRunC
public import proofs.«01_k».proof.Proof.AwqHost
@[expose] public section
noncomputable section
namespace Cert.QkvIdeal.Gen
open Cert.QkvIdeal Cert.QkvIdeal.Gen Idealize.ShloMosaic Idealize.ShloMosaic.TcCoe Idealize.SL.Sem
variable {F : FTy → Type} [FloatOps F]
/-- The offset at the origin, as a constant function. -/
theorem hz : (![0, 0] : Fin 2 → Nat) = fun _ => 0 := funext fun a => by fin_cases a <;> rfl

/-- The block of the product that one grid point computes. -/
def yAt (x2 : Vec F S128x8192 .bf16) (x3 : Vec F S4096x512 .i8) (x4 : Vec F S64x512 .bf16) (x5 : Vec F S64x512 .i8) : FVec F S128x512 .f32 :=
  Awq.mul 32 (by decide) (by decide) (by decide) x2 x3 (k0_pay20 x4) (k0_pay21 x5) 31 (by decide)

set_option maxHeartbeats 2000000 in
/-- The queries: the four heads of the block, rotated, each stored in its 128 columns. -/
theorem pieces_A (c : Dev nD) (i : grid0.Coords) (arg1 : Memref sig .tc .smem S8 .f32) (harg1 : arg1.IsWhole) (arg2 : Memref sig .tc .smem S8 .f32) (harg2 : arg2.IsWhole) (arg3 : Memref sig .tc .vmem S128x8192 .bf16) (harg3 : arg3.IsWhole) (arg4 : Memref sig .tc .vmem S4096x512 .i8) (harg4 : arg4.IsWhole) (arg5 : Memref sig .tc .vmem S64x512 .bf16) (harg5 : arg5.IsWhole) (arg6 : Memref sig .tc .vmem S64x512 .i8) (harg6 : arg6.IsWhole) (arg7 : Memref sig .tc .vmem S128x128 .f32) (harg7 : arg7.IsWhole) (arg8 : Memref sig .tc .vmem S128x128 .f32) (harg8 : arg8.IsWhole) (arg9 : Memref sig .tc .vmem S128x512 .bf16) (harg9 : arg9.IsWhole) (arg10 : Memref sig .tc .vmem S128x512 .fp8e4m3) (harg10 : arg10.IsWhole) (arg11 : Memref sig .tc .vmem S64x512 .f32) (harg11 : arg11.IsWhole) (arg12 : Memref sig .tc .vmem S64x512 .f32) (harg12 : arg12.IsWhole)
    (hc0 : cond0_0 i) (hc1 : ¬cond0_1 i) (hc2 : ¬cond0_2 i)
    (x0 : Vec F S8 .f32) (x1 : Vec F S8 .f32) (x2 : Vec F S128x8192 .bf16) (x3 : Vec F S4096x512 .i8) (x4 : Vec F S64x512 .bf16) (x5 : Vec F S64x512 .i8) (x6 : Vec F S128x128 .f32) (x7 : Vec F S128x128 .f32) :
    (kernelRun0_A c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7).1 = [⟨Rect.unit (s := S128x512) ![0, 384] S128x128.size inb_S128x512_S128x128_0_384, k0_pay2 (k0_pay9 (yAt x2 x3 x4 x5)) x6 x7⟩, ⟨Rect.unit (s := S128x512) ![0, 256] S128x128.size inb_S128x512_S128x128_0_256, k0_pay8 (yAt x2 x3 x4 x5) x6 x7⟩, ⟨Rect.unit (s := S128x512) ![0, 128] S128x128.size inb_S128x512_S128x128_0_128, k0_pay7 (yAt x2 x3 x4 x5) x6 x7⟩, ⟨Rect.unit (s := S128x512) ![0, 0] S128x128.size inb_S128x512_S128x128_0_0, k0_pay6 (yAt x2 x3 x4 x5) x6 x7⟩] := by
  unfold kernelRun0_A
  dsimp only
  sl_unfold_words
  simp only [View.readAt_eq_ld, harg1.read_unread, harg2.read_unread, harg3.read_unread, harg4.read_unread, harg5.read_unread, harg6.read_unread, harg7.read_unread, harg8.read_unread]
  simp only [Awq.readCov_all (S := S64x512) _ hz, View.ld_unit_zero (S := S64x512) hz, View.ld_unit_zero (S := S128x128) hz]
  unfold yAt Awq.mul
  simp only [Awq.accum, Awq.blockAt]
  rfl

set_option maxHeartbeats 2000000 in
/-- The keys: the four heads of the block, rotated and quantized, each stored in its 128 columns. -/
theorem pieces_B (c : Dev nD) (i : grid0.Coords) (arg1 : Memref sig .tc .smem S8 .f32) (harg1 : arg1.IsWhole) (arg2 : Memref sig .tc .smem S8 .f32) (harg2 : arg2.IsWhole) (arg3 : Memref sig .tc .vmem S128x8192 .bf16) (harg3 : arg3.IsWhole) (arg4 : Memref sig .tc .vmem S4096x512 .i8) (harg4 : arg4.IsWhole) (arg5 : Memref sig .tc .vmem S64x512 .bf16) (harg5 : arg5.IsWhole) (arg6 : Memref sig .tc .vmem S64x512 .i8) (harg6 : arg6.IsWhole) (arg7 : Memref sig .tc .vmem S128x128 .f32) (harg7 : arg7.IsWhole) (arg8 : Memref sig .tc .vmem S128x128 .f32) (harg8 : arg8.IsWhole) (arg9 : Memref sig .tc .vmem S128x512 .bf16) (harg9 : arg9.IsWhole) (arg10 : Memref sig .tc .vmem S128x512 .fp8e4m3) (harg10 : arg10.IsWhole) (arg11 : Memref sig .tc .vmem S64x512 .f32) (harg11 : arg11.IsWhole) (arg12 : Memref sig .tc .vmem S64x512 .f32) (harg12 : arg12.IsWhole)
    (hc0 : ¬cond0_0 i) (hc1 : cond0_1 i) (hc2 : ¬cond0_2 i)
    (x0 : Vec F S8 .f32) (x1 : Vec F S8 .f32) (x2 : Vec F S128x8192 .bf16) (x3 : Vec F S4096x512 .i8) (x4 : Vec F S64x512 .bf16) (x5 : Vec F S64x512 .i8) (x6 : Vec F S128x128 .f32) (x7 : Vec F S128x128 .f32) :
    (kernelRun0_B c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7).2.1 = [⟨Rect.unit (s := S128x512) ![0, 384] S128x128.size inb_S128x512_S128x128_0_384, k0_pay3 (View.ld (Val := Elt F) (e' := .f32) x0 (Rect.unit (s := S8) (k0_off1 i 3#32) S1.size (k0_off1_inb i hc1 3)) (Shape.Idx.first (s := S1) (numel1_S1.symm ▸ Nat.one_pos))) (k0_pay14 (yAt x2 x3 x4 x5)) (k0_pay15 (yAt x2 x3 x4 x5) x6) 64#32 x7⟩, ⟨Rect.unit (s := S128x512) ![0, 256] S128x128.size inb_S128x512_S128x128_0_256, k0_pay13 (yAt x2 x3 x4 x5) (View.ld (Val := Elt F) (e' := .f32) x0 (Rect.unit (s := S8) (k0_off1 i 2#32) S1.size (k0_off1_inb i hc1 2)) (Shape.Idx.first (s := S1) (numel1_S1.symm ▸ Nat.one_pos))) x6 x7⟩, ⟨Rect.unit (s := S128x512) ![0, 128] S128x128.size inb_S128x512_S128x128_0_128, k0_pay12 (k0_pay11 (yAt x2 x3 x4 x5) (View.ld (Val := Elt F) (e' := .f32) x0 (Rect.unit (s := S8) (k0_off1 i 1#32) S1.size (k0_off1_inb i hc1 1)) (Shape.Idx.first (s := S1) (numel1_S1.symm ▸ Nat.one_pos))) x6 x7) (Scalar.ofBits .f32 0xC3E00000#32)⟩, ⟨Rect.unit (s := S128x512) ![0, 0] S128x128.size inb_S128x512_S128x128_0_0, k0_pay10 (yAt x2 x3 x4 x5) (View.ld (Val := Elt F) (e' := .f32) x0 (Rect.unit (s := S8) (k0_off1 i 0#32) S1.size (k0_off1_inb i hc1 0)) (Shape.Idx.first (s := S1) (numel1_S1.symm ▸ Nat.one_pos))) x6 x7⟩] := by
  unfold kernelRun0_B
  dsimp only
  sl_unfold_words
  simp only [View.readAt_eq_ld, harg1.read_unread, harg2.read_unread, harg3.read_unread, harg4.read_unread, harg5.read_unread, harg6.read_unread, harg7.read_unread, harg8.read_unread]
  simp only [Awq.readCov_all (S := S64x512) _ hz, View.ld_unit_zero (S := S64x512) hz, View.ld_unit_zero (S := S128x128) hz]
  unfold yAt Awq.mul
  simp only [Awq.accum, Awq.blockAt]
  rfl

set_option maxHeartbeats 2000000 in
/-- The values: the four heads of the block, quantized, each stored in its 128 columns. -/
theorem pieces_C (c : Dev nD) (i : grid0.Coords) (arg1 : Memref sig .tc .smem S8 .f32) (harg1 : arg1.IsWhole) (arg2 : Memref sig .tc .smem S8 .f32) (harg2 : arg2.IsWhole) (arg3 : Memref sig .tc .vmem S128x8192 .bf16) (harg3 : arg3.IsWhole) (arg4 : Memref sig .tc .vmem S4096x512 .i8) (harg4 : arg4.IsWhole) (arg5 : Memref sig .tc .vmem S64x512 .bf16) (harg5 : arg5.IsWhole) (arg6 : Memref sig .tc .vmem S64x512 .i8) (harg6 : arg6.IsWhole) (arg7 : Memref sig .tc .vmem S128x128 .f32) (harg7 : arg7.IsWhole) (arg8 : Memref sig .tc .vmem S128x128 .f32) (harg8 : arg8.IsWhole) (arg9 : Memref sig .tc .vmem S128x512 .bf16) (harg9 : arg9.IsWhole) (arg10 : Memref sig .tc .vmem S128x512 .fp8e4m3) (harg10 : arg10.IsWhole) (arg11 : Memref sig .tc .vmem S64x512 .f32) (harg11 : arg11.IsWhole) (arg12 : Memref sig .tc .vmem S64x512 .f32) (harg12 : arg12.IsWhole)
    (hc0 : ¬cond0_0 i) (hc1 : ¬cond0_1 i) (hc2 : cond0_2 i)
    (x0 : Vec F S8 .f32) (x1 : Vec F S8 .f32) (x2 : Vec F S128x8192 .bf16) (x3 : Vec F S4096x512 .i8) (x4 : Vec F S64x512 .bf16) (x5 : Vec F S64x512 .i8) (x6 : Vec F S128x128 .f32) (x7 : Vec F S128x128 .f32) :
    ∃ a b, addf a b = (yAt x2 x3 x4 x5) ∧ (kernelRun0_C c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7).2.1 = [⟨Rect.unit (s := S128x512) ![0, 384] S128x128.size inb_S128x512_S128x128_0_384, k0_pay5 a b (View.ld (Val := Elt F) (e' := .f32) x1 (Rect.unit (s := S8) (k0_off2 i 3#32) S1.size (k0_off2_inb i hc2 3)) (Shape.Idx.first (s := S1) (numel1_S1.symm ▸ Nat.one_pos)))⟩, ⟨Rect.unit (s := S128x512) ![0, 256] S128x128.size inb_S128x512_S128x128_0_256, k0_pay4 (k0_pay18 (yAt x2 x3 x4 x5) (View.ld (Val := Elt F) (e' := .f32) x1 (Rect.unit (s := S8) (k0_off2 i 2#32) S1.size (k0_off2_inb i hc2 2)) (Shape.Idx.first (s := S1) (numel1_S1.symm ▸ Nat.one_pos)))) k0_pay19⟩, ⟨Rect.unit (s := S128x512) ![0, 128] S128x128.size inb_S128x512_S128x128_0_128, k0_pay17 (yAt x2 x3 x4 x5) (View.ld (Val := Elt F) (e' := .f32) x1 (Rect.unit (s := S8) (k0_off2 i 1#32) S1.size (k0_off2_inb i hc2 1)) (Shape.Idx.first (s := S1) (numel1_S1.symm ▸ Nat.one_pos)))⟩, ⟨Rect.unit (s := S128x512) ![0, 0] S128x128.size inb_S128x512_S128x128_0_0, k0_pay16 (yAt x2 x3 x4 x5) (View.ld (Val := Elt F) (e' := .f32) x1 (Rect.unit (s := S8) (k0_off2 i 0#32) S1.size (k0_off2_inb i hc2 0)) (Shape.Idx.first (s := S1) (numel1_S1.symm ▸ Nat.one_pos)))⟩] := by
  unfold kernelRun0_C
  dsimp only
  sl_unfold_words
  simp only [View.readAt_eq_ld, harg1.read_unread, harg2.read_unread, harg3.read_unread, harg4.read_unread, harg5.read_unread, harg6.read_unread, harg7.read_unread, harg8.read_unread]
  simp only [Awq.readCov_all (S := S64x512) _ hz, View.ld_unit_zero (S := S64x512) hz, View.ld_unit_zero (S := S128x128) hz]
  unfold yAt Awq.mul
  simp only [Awq.accum, Awq.blockAt]
  exact ⟨_, _, rfl, rfl⟩

end Cert.QkvIdeal.Gen
end
-- ==== Proof.QkvPay.lean ====
/- The qkv call: the kernel's values of one head at an index, as the rotation and the quantization of `QkvMath`. -/
module
public import proofs.«01_k».proof.Proof.Gen.QkvIdeal.Skeleton
public import proofs.«01_k».proof.Proof.QkvMath
@[expose] public section
set_option maxRecDepth 16384
noncomputable section
namespace Cert.QkvIdeal.RefValue
open Cert.QkvIdeal Cert.QkvIdeal.Gen Idealize.ShloMosaic Idealize.ShloMosaic.TcCoe Idealize.SL.Sem

/-- A row of a block of one head. -/
abbrev row (v : (⟨2, ![128, 128]⟩ : Shape).Idx → EReal) (r : Fin 128) : Fin 128 → EReal := fun j => v (ix2 r j)
/-- A row of a block of four heads. -/
abbrev row4 (v : (⟨2, ![128, 512]⟩ : Shape).Idx → EReal) (r : Fin 128) : Fin 512 → EReal := fun j => v (ix2 r j)

/-- Moving a block's columns round by half their number. -/
theorem rotate_apply (z : FVec Ideal S128x128 .f32) (r l : Fin 128) :
    dynamicRotate 1 64#32 none z rotates_S128x128_d1 (ix2 r l) = z (ix2 r ⟨(l.val + 64) % 128, Nat.mod_lt _ (by decide)⟩) := by
  refine congrArg z (funext fun a => ?_)
  match a with
  | ⟨0, _⟩ => rfl
  | ⟨1, _⟩ =>
    refine Fin.ext ?_
    show (l.val + 128 - (64 + 0) % 128) % 128 = (l.val + 64) % 128
    omega

/-- A block of one head rotated, as the kernel computes it. -/
theorem rotv_apply (z c s : FVec Ideal S128x128 .f32) (r l : Fin 128) :
    addf (mulf z (shapeCast S128x128 c shapeCasts_S128x128_S128x128))
      (mulf (dynamicRotate 1 64#32 none z rotates_S128x128_d1) (shapeCast S128x128 s shapeCasts_S128x128_S128x128)) (ix2 r l)
      = QkvMath.rot' (row z r) (row c r) (row s r) l := by
  have h := rotate_apply z r l
  unfold QkvMath.rot'
  show _ = z (ix2 r l) * c (ix2 r l) + z (ix2 r ⟨(l.val + 64) % 128, Nat.mod_lt _ (by decide)⟩) * s (ix2 r l)
  rw [← h]
  generalize dynamicRotate 1 64#32 none z rotates_S128x128_d1 = w
  pointwise

/-- A block quantized, as the kernel computes it. -/
theorem quantv_apply (v : FVec Ideal S128x128 .f32) (k : Ideal .f32) (y : S128x128.Idx) :
    truncf .fp8e4m3 (minimumf (broadcast S128x128 (Scalar.ofBits (F := Ideal) .f32 0x43E00000#32))
      (maximumf (broadcast S128x128 (Scalar.ofBits (F := Ideal) .f32 0xC3E00000#32)) (divf v (broadcast S128x128 k)))) bitsLt_fp8e4m3_f32 y
      = QkvMath.quant (v y) k := rfl

/-- One head of a block of four. -/
theorem slice0 (Y : FVec Ideal S128x512 .f32) (r : Fin 128) :
    row (extractStridedSlice S128x128 ![0, 0] Y slices_S128x512_o0_0_S128x128) r = QkvMath.head (row4 Y r) 0 := by
  funext l; pointwise
  exact congrArg (fun k => Y (ix2 r k)) (Fin.ext (by show l.val = 128 * 0 + l.val; omega))
theorem slice1 (Y : FVec Ideal S128x512 .f32) (r : Fin 128) :
    row (extractStridedSlice S128x128 ![0, 128] Y slices_S128x512_o0_128_S128x128) r = QkvMath.head (row4 Y r) 1 := by
  funext l; pointwise; rfl
theorem slice2 (Y : FVec Ideal S128x512 .f32) (r : Fin 128) :
    row (extractStridedSlice S128x128 ![0, 256] Y slices_S128x512_o0_256_S128x128) r = QkvMath.head (row4 Y r) 2 := by
  funext l; pointwise; rfl
theorem slice3 (Y : FVec Ideal S128x512 .f32) (r : Fin 128) :
    row (extractStridedSlice S128x128 ![0, 384] Y slices_S128x512_o0_384_S128x128) r = QkvMath.head (row4 Y r) 3 := by
  funext l; pointwise; rfl

/-- The queries of the four heads. -/
theorem q0 (Y : FVec Ideal S128x512 .f32) (c s : FVec Ideal S128x128 .f32) (r l : Fin 128) :
    k0_pay6 (F := Ideal) Y c s (ix2 r l) = QkvMath.rot' (QkvMath.head (row4 Y r) 0) (row c r) (row s r) l := by
  rw [← slice0]; exact rotv_apply _ c s r l
theorem q1 (Y : FVec Ideal S128x512 .f32) (c s : FVec Ideal S128x128 .f32) (r l : Fin 128) :
    k0_pay7 (F := Ideal) Y c s (ix2 r l) = QkvMath.rot' (QkvMath.head (row4 Y r) 1) (row c r) (row s r) l := by
  rw [← slice1]; exact rotv_apply _ c s r l
theorem q2 (Y : FVec Ideal S128x512 .f32) (c s : FVec Ideal S128x128 .f32) (r l : Fin 128) :
    k0_pay8 (F := Ideal) Y c s (ix2 r l) = QkvMath.rot' (QkvMath.head (row4 Y r) 2) (row c r) (row s r) l := by
  rw [← slice2]; exact rotv_apply _ c s r l
theorem q3 (Y : FVec Ideal S128x512 .f32) (c s : FVec Ideal S128x128 .f32) (r l : Fin 128) :
    k0_pay2 (F := Ideal) (k0_pay9 Y) c s (ix2 r l) = QkvMath.rot' (QkvMath.head (row4 Y r) 3) (row c r) (row s r) l := by
  rw [← slice3]; exact rotv_apply _ c s r l

/-- The keys of the four heads. -/
theorem k0 (Y : FVec Ideal S128x512 .f32) (k : Ideal .f32) (c s : FVec Ideal S128x128 .f32) (r l : Fin 128) :
    k0_pay10 (F := Ideal) Y k c s (ix2 r l) = QkvMath.quant (QkvMath.rot' (QkvMath.head (row4 Y r) 0) (row c r) (row s r) l) k := by
  rw [← slice0, ← rotv_apply]; exact quantv_apply _ k _
theorem k1 (Y : FVec Ideal S128x512 .f32) (k : Ideal .f32) (c s : FVec Ideal S128x128 .f32) (r l : Fin 128) :
    k0_pay12 (F := Ideal) (k0_pay11 Y k c s) (Scalar.ofBits .f32 0xC3E00000#32) (ix2 r l)
      = QkvMath.quant (QkvMath.rot' (QkvMath.head (row4 Y r) 1) (row c r) (row s r) l) k := by
  rw [← slice1, ← rotv_apply]; exact quantv_apply _ k _
theorem k2 (Y : FVec Ideal S128x512 .f32) (k : Ideal .f32) (c s : FVec Ideal S128x128 .f32) (r l : Fin 128) :
    k0_pay13 (F := Ideal) Y k c s (ix2 r l) = QkvMath.quant (QkvMath.rot' (QkvMath.head (row4 Y r) 2) (row c r) (row s r) l) k := by
  rw [← slice2, ← rotv_apply]; exact quantv_apply _ k _
theorem k3 (Y : FVec Ideal S128x512 .f32) (k : Ideal .f32) (c s : FVec Ideal S128x128 .f32) (r l : Fin 128) :
    k0_pay3 (F := Ideal) k (k0_pay14 Y) (k0_pay15 Y c) 64#32 s (ix2 r l)
      = QkvMath.quant (QkvMath.rot' (QkvMath.head (row4 Y r) 3) (row c r) (row s r) l) k := by
  rw [← slice3, ← rotv_apply]; exact quantv_apply _ k _

/-- The values of the four heads. -/
theorem v0 (Y : FVec Ideal S128x512 .f32) (k : Ideal .f32) (r l : Fin 128) :
    k0_pay16 (F := Ideal) Y k (ix2 r l) = QkvMath.quant (QkvMath.head (row4 Y r) 0 l) k := by
  rw [← slice0]; exact quantv_apply _ k _
theorem v1 (Y : FVec Ideal S128x512 .f32) (k : Ideal .f32) (r l : Fin 128) :
    k0_pay17 (F := Ideal) Y k (ix2 r l) = QkvMath.quant (QkvMath.head (row4 Y r) 1 l) k := by
  rw [← slice1]; exact quantv_apply _ k _
theorem v2 (Y : FVec Ideal S128x512 .f32) (k : Ideal .f32) (r l : Fin 128) :
    k0_pay4 (F := Ideal) (k0_pay18 Y k) k0_pay19 (ix2 r l) = QkvMath.quant (QkvMath.head (row4 Y r) 2 l) k := by
  rw [← slice2]; exact quantv_apply _ k _
theorem v3 (a b : FVec Ideal S128x512 .f32) (k : Ideal .f32) (r l : Fin 128) :
    k0_pay5 (F := Ideal) a b k (ix2 r l) = QkvMath.quant (QkvMath.head (row4 (addf a b) r) 3 l) k := by
  rw [← slice3]; exact quantv_apply _ k _

end Cert.QkvIdeal.RefValue
end
-- ==== Proof.QkvValue.lean ====
/- The qkv call: the queries and the codes, as functions of the argument arrays. -/
module
public import proofs.«01_k».proof.Proof.QkvFrame
public import proofs.«01_k».proof.Proof.QkvPieces
public import proofs.«01_k».proof.Proof.QkvPay
public import Idealize.ShloMosaic.Lib.Pipeline.ValueKit
@[expose] public section
set_option maxRecDepth 16384
noncomputable section
namespace Cert.QkvIdeal.RefValue
open Cert.QkvIdeal Cert.QkvIdeal.Gen Idealize.ShloMosaic Idealize.ShloMosaic.TcCoe Idealize.SL.Sem

variable (m : (ℓ : Loc nD τ sig) → Buf (Elt Ideal) ℓ) (ρ : Dev nD → PrngReg)

/-- The block indices of the windows at every grid point. -/
theorem idx : ∀ t : Fin cfg0.N, win0_0.index t = ![0] ∧ win0_1.index t = ![0] ∧ win0_2.index t = ![0, 0] ∧ win0_3.index t = ![0, t.val]
    ∧ win0_4.index t = ![0, t.val] ∧ win0_5.index t = ![0, t.val] ∧ win0_6.index t = ![0, 0] ∧ win0_7.index t = ![0, 0]
    ∧ win0_8.index t = ![0, min t.val 7] ∧ win0_9.index t = ![0, t.val - 8] := by decide +kernel

/-- There are twelve points. -/
theorem tlt (t : Fin cfg0.N) : t.val < 12 := t.isLt

/-- A column of a block of 512 is a column of the array. -/
theorem colbound (t : Fin cfg0.N) (l : Fin 512) : 512 * t.val + l.val < 6144 := by
  have h := tlt t
  omega

/-- A block's element is the array's element at the place where the block stands: the keys' scales, -/
theorem blk0 (c : Dev nD) (t : Fin cfg0.N) (q : Fin 8) : iblk m c 0 t (ix1 q) = m ((c : Thread nD τ).loc main_arg0) (ix1 q) := by
  blk_ext [iblk, V, idx t]
/-- the values' scales, -/
theorem blk1 (c : Dev nD) (t : Fin cfg0.N) (q : Fin 8) : iblk m c 1 t (ix1 q) = m ((c : Thread nD τ).loc main_arg1) (ix1 q) := by
  blk_ext [iblk, V, idx t]
/-- the left factor, -/
theorem blk2 (c : Dev nD) (t : Fin cfg0.N) (i : Fin 128) (q : Fin 8192) :
    iblk m c 2 t (ix2 i q) = m ((c : Thread nD τ).loc main_arg2) (ix2 i q) := by
  blk_ext [iblk, V, idx t]
/-- the packed weights, -/
theorem blk3 (c : Dev nD) (t : Fin cfg0.N) (r : Fin 4096) (l : Fin 512) :
    iblk m c 3 t (ix2 r l) = m ((c : Thread nD τ).loc main_arg3) (ix2 r ⟨512 * t.val + l.val, colbound t l⟩) := by
  blk_ext [iblk, V, idx t]
/-- the weights' scales, -/
theorem blk4 (c : Dev nD) (t : Fin cfg0.N) (r : Fin 64) (l : Fin 512) :
    iblk m c 4 t (ix2 r l) = m ((c : Thread nD τ).loc main_arg4) (ix2 r ⟨512 * t.val + l.val, colbound t l⟩) := by
  blk_ext [iblk, V, idx t]
/-- and the zero points. -/
theorem blk5 (c : Dev nD) (t : Fin cfg0.N) (r : Fin 64) (l : Fin 512) :
    iblk m c 5 t (ix2 r l) = m ((c : Thread nD τ).loc main_arg5) (ix2 r ⟨512 * t.val + l.val, colbound t l⟩) := by
  blk_ext [iblk, V, idx t]

/-- Two copies of a row of 64, side by side. -/
def twice (p q : Fin 64 → EReal) (l : Fin 128) : EReal := if h : l.val < 64 then p ⟨l.val, h⟩ else q ⟨l.val - 64, by omega⟩

/-- The cosines laid out twice, at an index. -/
theorem V0 (c : Dev nD) (r l : Fin 128) : V m c main_v0 (ix2 r l)
    = twice (fun k => m ((c : Thread nD τ).loc main_arg6) (ix2 r k)) (fun k => m ((c : Thread nD τ).loc main_arg6) (ix2 r k)) l := by
  entry_read
  unfold twice
  show _ = dite _ (fun h => m (c, Proc.tc.devRef main_arg6) (ix2 r ⟨l.val, h⟩)) (fun h => m (c, Proc.tc.devRef main_arg6) (ix2 r ⟨l.val - 64, by omega⟩))
  generalize m (c, Proc.tc.devRef main_arg6) = z
  pointwise
/-- The sines laid out twice, the first time negated, at an index. -/
theorem V2 (c : Dev nD) (r l : Fin 128) : V m c main_v2 (ix2 r l)
    = twice (fun k => Neg.neg (α := EReal) (m ((c : Thread nD τ).loc main_arg7) (ix2 r k))) (fun k => m ((c : Thread nD τ).loc main_arg7) (ix2 r k)) l := by
  have key : ∀ (z : FVec Ideal S128x64 .f32) (hh), concatenate S128x128 1 [⟨S128x64, Host.negf z⟩, ⟨S128x64, z⟩] hh (ix2 r l)
      = twice (fun k => Neg.neg (α := EReal) (z (ix2 r k))) (fun k => z (ix2 r k)) l := by
    intro z hh
    unfold twice
    pointwise
  entry_read
  exact key _ _
/-- The blocks of the two are the whole arrays. -/
theorem blk6 (c : Dev nD) (t : Fin cfg0.N) (r l : Fin 128) : iblk m c 6 t (ix2 r l) = V m c main_v0 (ix2 r l) := by
  blk_ext [iblk, idx t]
/-- The same of the sines. -/
theorem blk7 (c : Dev nD) (t : Fin cfg0.N) (r l : Fin 128) : iblk m c 7 t (ix2 r l) = V m c main_v2 (ix2 r l) := by
  blk_ext [iblk, idx t]

/-- The prepared weights' scales at an index. -/
theorem pay20_apply (v : Vec Ideal S64x512 .bf16) (y : S64x512.Idx) : k0_pay20 v y = v y := by pointwise [k0_pay20]
/-- The prepared zero points at an index. -/
theorem pay21_apply (v : Vec Ideal S64x512 .i8) (y : S64x512.Idx) : k0_pay21 v y = Awq.zp (v y) :=
  Eq.trans (by pointwise [k0_pay21]) (Awq.uitofp_zp (v y))

/-- The product of the argument arrays. -/
abbrev prod (c : Dev nD) : Fin 128 → Fin 6144 → EReal :=
  Awq.val (G := 64) rfl rfl (m ((c : Thread nD τ).loc main_arg2)) (m ((c : Thread nD τ).loc main_arg3)) (m ((c : Thread nD τ).loc main_arg4))
    (m ((c : Thread nD τ).loc main_arg5))
/-- The cosines. -/
abbrev cosv (c : Dev nD) : Fin 128 → Fin 64 → EReal := fun i k => m ((c : Thread nD τ).loc main_arg6) (ix2 i k)
/-- The sines. -/
abbrev sinv (c : Dev nD) : Fin 128 → Fin 64 → EReal := fun i k => m ((c : Thread nD τ).loc main_arg7) (ix2 i k)
/-- The keys' scales. -/
abbrev ksv (c : Dev nD) : Fin 8 → EReal := fun k => m ((c : Thread nD τ).loc main_arg0) (ix1 k)
/-- The values' scales. -/
abbrev vsv (c : Dev nD) : Fin 8 → EReal := fun k => m ((c : Thread nD τ).loc main_arg1) (ix1 k)

/-- The product's block at a grid point. -/
abbrev Yb (c : Dev nD) (t : Fin cfg0.N) : FVec Ideal S128x512 .f32 := yAt (iblk m c 2 t) (iblk m c 3 t) (iblk m c 4 t) (iblk m c 5 t)

/-- The product's block at an index is the product at the column where the block stands. -/
theorem Yb_val (c : Dev nD) (t : Fin cfg0.N) (i : Fin 128) (l : Fin 512) :
    Yb m c t (ix2 i l) = prod m c i ⟨512 * t.val + l.val, colbound t l⟩ :=
  Awq.mul_val (N := 6144) (K := 8192) (R := 4096) (G := 64) 32 (by decide) (by decide) (by decide) rfl rfl
    (m ((c : Thread nD τ).loc main_arg2)) (m ((c : Thread nD τ).loc main_arg3)) (m ((c : Thread nD τ).loc main_arg4))
    (m ((c : Thread nD τ).loc main_arg5)) (iblk m c 2 t) (iblk m c 3 t) (k0_pay20 (iblk m c 4 t)) (k0_pay21 (iblk m c 5 t)) 31 (by decide) rfl i l
    ⟨512 * t.val + l.val, colbound t l⟩ (fun q => blk2 m c t i q) (fun r => blk3 m c t r l)
    (fun g => (pay20_apply _ _).trans (blk4 m c t g l)) (fun g => (pay21_apply _ _).trans (congrArg Awq.zp (blk5 m c t g l)))

/-- A head rotated as the kernel does is the head rotated by the argument angles. -/
theorem rot_val (c : Dev nD) (t : Fin cfg0.N) (y : Fin 128 → EReal) (r l : Fin 128) :
    QkvMath.rot' y (row (iblk m c 6 t) r) (row (iblk m c 7 t) r) l = QkvMath.rot y (cosv m c r) (sinv m c r) l :=
  QkvMath.rot'_eq _ (cosv m c r) (sinv m c r) _ _ (fun k => (blk6 m c t r k).trans (V0 m c r k)) (fun k => (blk7 m c t r k).trans (V2 m c r k)) l

/-- The place of a head's scale. -/
theorem off1 : ∀ (t : Fin cfg0.N) (r : Fin 4), 8 ≤ t.val → t.val ≤ 9 →
    k0_off1 (grid0.coords t) (BitVec.ofNat 32 r.val) 0 = 4 * (t.val - 8) + r.val := by decide +kernel
/-- The same of the values. -/
theorem off2 : ∀ (t : Fin cfg0.N) (r : Fin 4), 10 ≤ t.val →
    k0_off2 (grid0.coords t) (BitVec.ofNat 32 r.val) 0 = 4 * (t.val - 10) + r.val := by decide +kernel

/-- The scale read for a head of keys. -/
theorem ksc_val (c : Dev nD) (t : Fin cfg0.N) (r : Fin 4) (h8 : 8 ≤ t.val) (h9 : t.val ≤ 9) (inb) (hn) :
    View.ld (Val := Elt Ideal) (e' := .f32) (iblk m c 0 t) (Rect.unit (s := S8) (k0_off1 (grid0.coords t) (BitVec.ofNat 32 r.val)) S1.size inb)
      (Shape.Idx.first (s := S1) hn) = ksv m c ⟨4 * (t.val - 8) + r.val, by omega⟩ := by
  refine Eq.trans (congrArg (iblk m c 0 t) (funext fun a => Fin.ext ?_)) (blk0 m c t ⟨4 * (t.val - 8) + r.val, by omega⟩)
  match a with
  | ⟨0, _⟩ =>
    have h := off1 t r h8 h9
    show k0_off1 (grid0.coords t) (BitVec.ofNat 32 r.val) 0 + 1 * 0 = 4 * (t.val - 8) + r.val
    omega
/-- The scale read for a head of values. -/
theorem vsc_val (c : Dev nD) (t : Fin cfg0.N) (r : Fin 4) (h10 : 10 ≤ t.val) (inb) (hn) :
    View.ld (Val := Elt Ideal) (e' := .f32) (iblk m c 1 t) (Rect.unit (s := S8) (k0_off2 (grid0.coords t) (BitVec.ofNat 32 r.val)) S1.size inb)
      (Shape.Idx.first (s := S1) hn) = vsv m c ⟨4 * (t.val - 10) + r.val, by have := tlt t; omega⟩ := by
  have ht := tlt t
  refine Eq.trans (congrArg (iblk m c 1 t) (funext fun a => Fin.ext ?_)) (blk1 m c t ⟨4 * (t.val - 10) + r.val, by omega⟩)
  match a with
  | ⟨0, _⟩ =>
    have h := off2 t r h10
    show k0_off2 (grid0.coords t) (BitVec.ofNat 32 r.val) 0 + 1 * 0 = 4 * (t.val - 10) + r.val
    omega

/-- An index of a block of one head. -/
theorem xeq (x : S128x128.Idx) : x = ix2 (x 0) (x 1) := funext fun a => by match a with
  | ⟨0, _⟩ => rfl
  | ⟨1, _⟩ => rfl

/-- A block's heads, rotated. -/
abbrev fA (c : Dev nD) (t : Fin cfg0.N) (h : Fin 4) (r l : Fin 128) : EReal :=
  QkvMath.rot' (QkvMath.head (row4 (Yb m c t) r) h) (row (iblk m c 6 t) r) (row (iblk m c 7 t) r) l
/-- A block's heads, rotated and quantized by the keys' scales. -/
abbrev fB (c : Dev nD) (t : Fin cfg0.N) (h9 : t.val ≤ 9) (h : Fin 4) (r l : Fin 128) : EReal :=
  QkvMath.quant (QkvMath.rot' (QkvMath.head (row4 (Yb m c t) r) h) (row (iblk m c 6 t) r) (row (iblk m c 7 t) r) l)
    (ksv m c ⟨4 * (t.val - 8) + h.val, by omega⟩)
/-- A block's heads, quantized by the values' scales. -/
abbrev fC (c : Dev nD) (t : Fin cfg0.N) (h : Fin 4) (r l : Fin 128) : EReal :=
  QkvMath.quant (QkvMath.head (row4 (Yb m c t) r) h l) (vsv m c ⟨4 * (t.val - 10) + h.val, by have := tlt t; omega⟩)

/-- The queries' block as a point of the first eight leaves it. -/
theorem out_A (c : Dev nD) (t : Fin cfg0.N) (ht : t.val < 8) (y : S128x512.Idx) : (outsAt0 m c t.val t.isLt).1 y
    = QkvMath.unblock (fA m c t) y := by
  rw [outsAt0_A m c t ht (by omega) (by omega)]
  dsimp only
  unfold out0_A_8
  refine View.read_writes_apply_of_pieces _ _ _ _ ?_ y (cover0_A_8 _ _ _ _ _ _ _ _ _ _ _ _ _ _ _ _ _ _ _ _ _ _ _ _ _ _ _ _ _ _ _ _ _ _ _ _ _ y)
  rw [pieces_A]
  intro p hp x
  simp only [List.mem_cons, List.not_mem_nil, or_false] at hp
  rcases hp with rfl | rfl | rfl | rfl
  · exact ((congrArg _ (xeq x)).trans (q3 _ _ _ (x 0) (x 1))).trans (QkvMath.unblock_emb (fA m c t) 3 384 rfl inb_S128x512_S128x128_0_384 x).symm
  · exact ((congrArg _ (xeq x)).trans (q2 _ _ _ (x 0) (x 1))).trans (QkvMath.unblock_emb (fA m c t) 2 256 rfl inb_S128x512_S128x128_0_256 x).symm
  · exact ((congrArg _ (xeq x)).trans (q1 _ _ _ (x 0) (x 1))).trans (QkvMath.unblock_emb (fA m c t) 1 128 rfl inb_S128x512_S128x128_0_128 x).symm
  · exact ((congrArg _ (xeq x)).trans (q0 _ _ _ (x 0) (x 1))).trans (QkvMath.unblock_emb (fA m c t) 0 0 rfl inb_S128x512_S128x128_0_0 x).symm

/-- The codes' block as a point of the next two leaves it. -/
theorem out_B (c : Dev nD) (t : Fin cfg0.N) (h8 : 8 ≤ t.val) (h9 : t.val ≤ 9) (y : S128x512.Idx) : (outsAt0 m c t.val t.isLt).2 y
    = QkvMath.unblock (fB m c t h9) y := by
  rw [outsAt0_B m c t (by omega) (by omega) (by omega)]
  dsimp only
  unfold out0_B_9
  refine View.read_writes_apply_of_pieces _ _ _ _ ?_ y (cover0_B_9 _ _ _ _ _ _ _ _ _ _ _ _ _ _ _ _ _ _ _ _ _ _ _ _ _ _ _ _ _ _ _ _ _ _ _ _ _ y)
  rw [pieces_B]
  intro p hp x
  simp only [List.mem_cons, List.not_mem_nil, or_false] at hp
  rcases hp with rfl | rfl | rfl | rfl
  · exact ((congrArg _ (xeq x)).trans ((k3 _ _ _ _ (x 0) (x 1)).trans (congrArg _ (ksc_val m c t 3 h8 h9 _ _)))).trans (QkvMath.unblock_emb (fB m c t h9) 3 384 rfl inb_S128x512_S128x128_0_384 x).symm
  · exact ((congrArg _ (xeq x)).trans ((k2 _ _ _ _ (x 0) (x 1)).trans (congrArg _ (ksc_val m c t 2 h8 h9 _ _)))).trans (QkvMath.unblock_emb (fB m c t h9) 2 256 rfl inb_S128x512_S128x128_0_256 x).symm
  · exact ((congrArg _ (xeq x)).trans ((k1 _ _ _ _ (x 0) (x 1)).trans (congrArg _ (ksc_val m c t 1 h8 h9 _ _)))).trans (QkvMath.unblock_emb (fB m c t h9) 1 128 rfl inb_S128x512_S128x128_0_128 x).symm
  · exact ((congrArg _ (xeq x)).trans ((k0 _ _ _ _ (x 0) (x 1)).trans (congrArg _ (ksc_val m c t 0 h8 h9 _ _)))).trans (QkvMath.unblock_emb (fB m c t h9) 0 0 rfl inb_S128x512_S128x128_0_0 x).symm

/-- The codes' block as a point of the last two leaves it. -/
theorem out_C (c : Dev nD) (t : Fin cfg0.N) (h10 : 10 ≤ t.val) (y : S128x512.Idx) : (outsAt0 m c t.val t.isLt).2 y
    = QkvMath.unblock (fC m c t) y := by
  have ht := tlt t
  rw [outsAt0_C m c t (by omega) (by omega) (by omega)]
  dsimp only
  unfold out0_C_9
  refine View.read_writes_apply_of_pieces _ _ _ _ ?_ y (cover0_C_9 _ _ _ _ _ _ _ _ _ _ _ _ _ _ _ _ _ _ _ _ _ _ _ _ _ _ _ _ _ _ _ _ _ _ _ _ _ y)
  obtain ⟨a, b, hab, hL⟩ := pieces_C (F := Ideal) _ _ _ _ _ _ _ _ _ _ _ _ _ _ _ _ _ _ _ _ _ _ _ _ _ _ _ _ _ _ _ _ _ _ _ _ _
  rw [hL]
  intro p hp x
  simp only [List.mem_cons, List.not_mem_nil, or_false] at hp
  rcases hp with rfl | rfl | rfl | rfl
  · refine ((congrArg _ (xeq x)).trans ((v3 a b _ (x 0) (x 1)).trans (congrArg _ (vsc_val m c t 3 h10 _ _)))).trans (Eq.trans ?_ (QkvMath.unblock_emb (fC m c t) 3 384 rfl inb_S128x512_S128x128_0_384 x).symm)
    rw [hab]
  · exact ((congrArg _ (xeq x)).trans ((v2 _ _ (x 0) (x 1)).trans (congrArg _ (vsc_val m c t 2 h10 _ _)))).trans (QkvMath.unblock_emb (fC m c t) 2 256 rfl inb_S128x512_S128x128_0_256 x).symm
  · exact ((congrArg _ (xeq x)).trans ((v1 _ _ (x 0) (x 1)).trans (congrArg _ (vsc_val m c t 1 h10 _ _)))).trans (QkvMath.unblock_emb (fC m c t) 1 128 rfl inb_S128x512_S128x128_0_128 x).symm
  · exact ((congrArg _ (xeq x)).trans ((v0 _ _ (x 0) (x 1)).trans (congrArg _ (vsc_val m c t 0 h10 _ _)))).trans (QkvMath.unblock_emb (fC m c t) 0 0 rfl inb_S128x512_S128x128_0_0 x).symm

/-- The queries of the argument arrays. -/
abbrev Gq (c : Dev nD) : S128x4096.Idx → EReal := fun y => QkvMath.fnQ (prod m c) (cosv m c) (sinv m c) ⟨(y 0).val, (y 0).isLt⟩ ⟨(y 1).val, (y 1).isLt⟩
/-- The codes of the argument arrays. -/
abbrev Gc (c : Dev nD) : S128x2048.Idx → EReal := fun y =>
  QkvMath.fnC (prod m c) (cosv m c) (sinv m c) (ksv m c) (vsv m c) ⟨(y 0).val, (y 0).isLt⟩ ⟨(y 1).val, (y 1).isLt⟩

/-- The queries' block is the queries at the columns where it stands. -/
theorem q_val (c : Dev nD) (t : Fin cfg0.N) (ht : t.val < 8) (r : Fin 128) (l : Fin 512) :
    (outsAt0 m c t.val t.isLt).1 (ix2 r l) = QkvMath.fnQ (prod m c) (cosv m c) (sinv m c) r ⟨512 * t.val + l.val, by omega⟩ := by
  rw [out_A m c t ht]
  unfold QkvMath.unblock QkvMath.fnQ fA
  dsimp only
  rw [rot_val]
  refine congr (congrFun (congrFun (congrArg QkvMath.rot (funext fun k => ?_)) _) _) (Fin.ext ?_)
  · refine (Yb_val m c t r _).trans (congrArg (prod m c r) (Fin.ext ?_))
    show 512 * t.val + (128 * (l.val / 128) + k.val) = 128 * ((512 * t.val + l.val) / 128) + k.val
    omega
  · show l.val % 128 = (512 * t.val + l.val) % 128
    omega

/-- The codes' block is the codes at the columns where it stands. -/
theorem c_val (c : Dev nD) (t : Fin cfg0.N) (h8 : 8 ≤ t.val) (r : Fin 128) (l : Fin 512) :
    (outsAt0 m c t.val t.isLt).2 (ix2 r l)
      = QkvMath.fnC (prod m c) (cosv m c) (sinv m c) (ksv m c) (vsv m c) r ⟨512 * (t.val - 8) + l.val, by have := tlt t; omega⟩ := by
  have ht := tlt t
  by_cases h9 : t.val ≤ 9
  · rw [out_B m c t h8 h9]
    unfold QkvMath.unblock QkvMath.fnC fB
    rw [dif_pos (show 512 * (t.val - 8) + l.val < 1024 by omega)]
    dsimp only
    rw [rot_val]
    refine congr (congrArg QkvMath.quant (congr (congrFun (congrFun (congrArg QkvMath.rot (funext fun k => ?_)) _) _) (Fin.ext ?_)))
      (congrArg (ksv m c) (Fin.ext ?_))
    · refine (Yb_val m c t r _).trans (congrArg (prod m c r) (Fin.ext ?_))
      show 512 * t.val + (128 * (l.val / 128) + k.val) = 4096 + (128 * ((512 * (t.val - 8) + l.val) / 128) + k.val)
      omega
    · show l.val % 128 = (512 * (t.val - 8) + l.val) % 128
      omega
    · show 4 * (t.val - 8) + l.val / 128 = (512 * (t.val - 8) + l.val) / 128
      omega
  · rw [out_C m c t (by omega)]
    unfold QkvMath.unblock QkvMath.fnC fC
    rw [dif_neg (show ¬512 * (t.val - 8) + l.val < 1024 by omega)]
    dsimp only
    refine congr (congrArg QkvMath.quant ?_) (congrArg (vsv m c) (Fin.ext ?_))
    · refine (Yb_val m c t r _).trans (congrArg (prod m c r) (Fin.ext ?_))
      show 512 * t.val + (128 * (l.val / 128) + l.val % 128) = 4096 + (512 * (t.val - 8) + l.val)
      omega
    · show 4 * (t.val - 10) + l.val / 128 = (512 * (t.val - 8) + l.val - 1024) / 128
      omega

/-- The codes are written back from point 8 on. -/
theorem flush9 : ∀ t : Fin cfg0.N, (cfg0.win 9).flush t = true → 8 ≤ t.val := by decide +kernel

/-- The point that stored the queries' block which a point writes back. -/
abbrev src (t : Fin cfg0.N) : Fin cfg0.N := ⟨min t.val 7, lt_of_le_of_lt (Nat.min_le_left _ _) t.isLt⟩

/-- The array of queries after the run. -/
theorem final8 (c : Dev nD) : (dats m 0 c).arrAt 8 cfg0.N = Gq m c := by
  refine (dats m 0 c).arrAt_eq_of_covers 8 _ (by decide +kernel) fun t hf y => ?_
  blk_simp
  rw [after0_8]
  have hy : y = ix2 (y 0) (y 1) := funext fun a => by match a with
    | ⟨0, _⟩ => rfl
    | ⟨1, _⟩ => rfl
  refine ((congrArg _ hy).trans (q_val m c (src t) (by show min t.val 7 < 8; omega) (y 0) (y 1))).trans ?_
  have hb : (y 1).val < 512 := (y 1).isLt
  show Gq m c (ix2 (y 0) ⟨512 * min t.val 7 + (y 1).val, by omega⟩) = _
  refine congrArg (Gq m c) ?_
  blk_ext [iblk, V, idx t]

/-- The array of codes after the run. -/
theorem final9 (c : Dev nD) : (dats m 0 c).arrAt 9 cfg0.N = Gc m c := by
  refine (dats m 0 c).arrAt_eq_of_covers 9 _ (by decide +kernel) fun t hf y => ?_
  have h8 := flush9 t hf
  have ht := tlt t
  blk_simp
  rw [after0_9]
  have hy : y = ix2 (y 0) (y 1) := funext fun a => by match a with
    | ⟨0, _⟩ => rfl
    | ⟨1, _⟩ => rfl
  refine ((congrArg _ hy).trans (c_val m c t h8 (y 0) (y 1))).trans ?_
  have hb : (y 1).val < 512 := (y 1).isLt
  show Gc m c (ix2 (y 0) ⟨512 * (t.val - 8) + (y 1).val, by omega⟩) = _
  refine congrArg (Gc m c) ?_
  blk_ext [iblk, V, idx t]

end Cert.QkvIdeal.RefValue
end
-- ==== Proof.QkvBits.lean ====
/- Qkv call: the printed kernel has the frame of its idealization, whose bodies are the same. -/
module
public import proofs.«01_k».proof.Defs
public import proofs.«01_k».proof.Proof.QkvFrame
public import proofs.«01_k».proof.Proof.Gen.Qkv.Frame
@[expose] public section
open Idealize.ShloMosaic Idealize.ShloMosaic.TcCoe
namespace Cert.QkvProof
set_option maxRecDepth 20000
set_option backward.isDefEq.respectTransparency.types false
/-- The two programs run the same body. -/
theorem body_eq (f : Fin 1) : ∀ a, Cert.Qkv.defs₀ (F := Bits) .tc f a = Cert.QkvIdeal.defs₀ (F := Bits) .tc f a := by
  obtain rfl : f = 0 := Subsingleton.elim _ _
  rintro ⟨t, s⟩
  unfold Cert.Qkv.defs₀ Cert.QkvIdeal.defs₀
  rw [Defs.onTc_tc, Defs.onTc_tc]
  rfl
/-- The two programs have the same calls. -/
theorem defs₀_eq : Cert.Qkv.defs₀ (F := Bits) = Cert.QkvIdeal.defs₀ (F := Bits) := by
  funext κ f a
  cases κ
  · exact body_eq f a
  all_goals rfl
/-- The two programs have the same calls, every one counted. -/
theorem defs_eq : Cert.Qkv.defs (F := Bits) = Cert.QkvIdeal.defs (F := Bits) := by
  unfold Cert.Qkv.defs Cert.QkvIdeal.defs
  rw [defs₀_eq]
  rfl
/-- The printed kernel runs without an error and without a race. -/
theorem frameP : quiescent_Qkv := fun m ρ _ => by
  rw [defs_eq]
  exact Cert.QkvIdeal.Gen.frame (F := Bits) m ρ
end Cert.QkvProof
-- ==== Proof.Qkv.lean ====
/- The qkv call: the claims about it. -/
module
public import proofs.«01_k».proof.Proof.QkvRef
public import proofs.«01_k».proof.Proof.QkvValue
public import proofs.«01_k».proof.Proof.QkvBits
public import Idealize.ShloMosaic.Lib.Quiescent
@[expose] public section
noncomputable section
namespace Cert.QkvProof
open Idealize.ShloMosaic Idealize.ShloMosaic.TcCoe Idealize.SL.Sem

/-- The reference leaves its arguments and every semaphore as they were. -/
theorem ref_frame : quiescent_QkvRefIdeal :=
  fun m ρ _ => (θ_run Cert.QkvRefIdeal.defs _ _).mono (fun r h =>
    ⟨fun c => (h c).2.2, sem_eq_zero_of_no_sems (by decide) r.2⟩) (Cert.QkvRefIdeal.Value.run (F := Ideal) m ρ)

open Cert.QkvIdeal Cert.QkvIdeal.Gen in
/-- The kernel's run: its two result arrays are what the grid's points wrote, its arguments are as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3_0) = (dats m 0 c).arrAt 8 cfg0.N
      ∧ r.2.mem ((c.tc : Thread nD τ).loc main_v3_1) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h.1 c).1 8, (h.1 c).1 9, h.2 c⟩) (θ_run_and (run_main m ρ) (unchanged m ρ))

/-- An index of two coordinates is the pair of them. -/
theorem idx2 {a b : ℕ} (i : (⟨2, ![a, b]⟩ : Shape).Idx) : i = ix2 (i 0) (i 1) := funext fun q => by match q with
  | ⟨0, _⟩ => rfl
  | ⟨1, _⟩ => rfl

/-- The kernel and the reference, from the same arguments, end with the same results. -/
theorem algebraic : algebraic_QkvIdeal_QkvRefIdeal := by
  intro m ρ m' ρ' _ hagree
  refine ⟨fun c => (Cert.QkvIdeal.Gen.dats m 0 c).arrAt 8 Cert.QkvIdeal.cfg0.N, fun c => (Cert.QkvIdeal.Gen.dats m 0 c).arrAt 9 Cert.QkvIdeal.cfg0.N, ?_, ?_⟩
  · exact run m ρ
  · refine (θ_run Cert.QkvRefIdeal.defs _ _).mono (fun _ h c => ⟨((h c).1.trans (Cert.QkvRefIdeal.Read.val_main_v77_eq m' c)).trans (funext fun i => ?_),
        ((h c).2.1.trans (Cert.QkvRefIdeal.Read.val_main_v80_eq m' c)).trans (funext fun i => ?_), (h c).2.2⟩)
      (Cert.QkvRefIdeal.Value.run (F := Ideal) m' ρ')
    · obtain ⟨a0, a1, a2, a3, a4, a5, a6, a7⟩ := hagree c
      rw [a2, a3, a4, a5, a6, a7]
      refine (congrArg _ (idx2 i)).trans ((Cert.QkvRefIdeal.RefValue.v77 _ _ _ _ _ _ (i 0) (i 1)).trans ?_)
      exact (congrFun (Cert.QkvIdeal.RefValue.final8 m c) i).symm
    · obtain ⟨a0, a1, a2, a3, a4, a5, a6, a7⟩ := hagree c
      rw [a0, a1, a2, a3, a4, a5, a6, a7]
      refine (congrArg _ (idx2 i)).trans ((Cert.QkvRefIdeal.RefValue.v80 _ _ _ _ _ _ _ _ (i 0) (i 1)).trans ?_)
      exact (congrFun (Cert.QkvIdeal.RefValue.final9 m c) i).symm

end Cert.QkvProof

end
-- ==== Proof.OprojRun.lean ====
/- Output projection call: what the runs of its kernel body share — the branch condition over the grid points, where the
   output windows are idle, the staging and scratch memrefs. -/
module

public import proofs.«01_k».proof.Proof.Gen.OprojIdeal.Frame
public import proofs.«01_k».proof.Proof.Gen.OprojIdeal.Loops
public import proofs.«01_k».proof.Proof.Gen.OprojIdeal.Points
public import proofs.«01_k».proof.Proof.Gen.OprojIdeal.Skeleton
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.OprojIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the last point only — by arithmetic of the point. -/
theorem hcond0_0 : ∀ t : Fin cfg0.N, cond0_0 (grid0.coords t) ↔ t.val % 8 = 7 :=
  (fun t => by
    have ht : t.val < 8 := Nat.lt_of_lt_of_eq t.isLt N_0
    have e0 : (grid0.coords t 0).val = t.val / 1 % 8 := Pipeline.Grid.coords_val t 0 (by decide) rfl
    simp only [cond0_0, k0_cond1, e0]
    word_cmp
   : ∀ t : Fin grid0.N, cond0_0 (grid0.coords t) ↔ t.val % 8 = 7)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- At the points of case A the printed configuration (`Cfg.idle`) calls output 7 idle: the case stores nothing into it. -/
theorem idleAt0_7_A : ∀ t : Fin cfg0.N, ¬cond0_0 (grid0.coords t) → cfg0.idle 7 (grid0.coords t) = true := by decide +kernel
/-- At the points of case A the pipeline does not write output 7's block back. -/
theorem noFlush0_7_A : ∀ t : Fin cfg0.N, ¬cond0_0 (grid0.coords t) → (cfg0.win 7).flush t = false := by decide +kernel
/-- At the points of case B the printed configuration (`Cfg.idle`) calls output 7 live: the case stores into it. -/
theorem liveAt0_7_B : ∀ t : Fin cfg0.N, cond0_0 (grid0.coords t) → cfg0.idle 7 (grid0.coords t) = false := by decide +kernel
/-- Output 6 is not fetched into its staging buffer. -/
theorem noFetch0_6 : ∀ t : Fin cfg0.N, (cfg0.win 6).fetch t = false := by decide +kernel
/-- At the points of case A the pipeline does not write output 6's block back. -/
theorem noFlush0_6_A : ∀ t : Fin cfg0.N, ¬cond0_0 (grid0.coords t) → (cfg0.win 6).flush t = false := by decide +kernel

/-! ## The kernel body on any staging memrefs -/

/-- Each window's current staging memref at point `t`, spelled as the pipeline passes it (`bodyAt0`), and its wholeness. -/
abbrev ms0_0 (t : Fin cfg0.N) : Memref sig .tc .vmem S128x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x512 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x512 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x4096 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x4096 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x4096 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x4096 .bf16 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S32x512 .f32 := Memref.whole cc0_scratch0
abbrev scM0_1 : Memref sig .tc .vmem S32x512 .f32 := Memref.whole cc0_scratch1

/-- The frame kit's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.OprojIdeal.Gen

end
-- ==== Proof.OprojRunA.lean ====
/- Output projection call: the run of the kernel body in case A. -/
module

public import proofs.«01_k».proof.Proof.OprojRun

@[expose] public section

-- membership in a rectangle of production extents (`View.cover_of_tiled`): the elaborator's structural look
-- recurses once per coordinate of the long axes
set_option maxRecDepth 16384

noncomputable section

namespace Cert.OprojIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- What the body's stores leave, as pieces (last first), before the last point: a tile of the residual stream, added to the buffer that holds the contents `xs` the point before left; the normalized rows are not stored. -/
noncomputable def kernelRun0_A (c : Dev nD) (i : grid0.Coords) (arg1 : Memref sig .tc .vmem S128x4096 .bf16) (harg1 : arg1.IsWhole) (arg2 : Memref sig .tc .vmem S2048x512 .i8) (harg2 : arg2.IsWhole) (arg3 : Memref sig .tc .vmem S32x512 .bf16) (harg3 : arg3.IsWhole) (arg4 : Memref sig .tc .vmem S32x512 .i8) (harg4 : arg4.IsWhole) (arg5 : Memref sig .tc .vmem S128x4096 .bf16) (harg5 : arg5.IsWhole) (arg6 : Memref sig .tc .vmem S1x4096 .f32) (harg6 : arg6.IsWhole) (arg7 : Memref sig .tc .vmem S128x4096 .f32) (harg7 : arg7.IsWhole) (arg8 : Memref sig .tc .vmem S128x4096 .bf16) (harg8 : arg8.IsWhole) (arg9 : Memref sig .tc .vmem S32x512 .f32) (harg9 : arg9.IsWhole) (arg10 : Memref sig .tc .vmem S32x512 .f32) (harg10 : arg10.IsWhole) (hc0 : ¬cond0_0 i)
    (x0 : Vec F S128x4096 .bf16) (x1 : Vec F S2048x512 .i8) (x2 : Vec F S32x512 .bf16) (x3 : Vec F S32x512 .i8) (x4 : Vec F S128x4096 .bf16) (x5 : Vec F S1x4096 .f32) :
    Σ' (LS : List (View.Piece (Elt F) S128x4096 .f32)), Σ' (LT0 : List (View.Piece (Elt F) S32x512 .f32)), { LT1 : List (View.Piece (Elt F) S32x512 .f32) //
      ∀ (xi7 : Vec F S128x4096 .bf16) (xs : Vec F S128x4096 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xs ∗ owns (c : Thread nD τ) arg8 fullShare xi7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (arg7.view.loc (c : Thread nD τ) ↦[arg7.view.set]{fullShare} arg7.view.writes (Elt F) (harg7.unread xs) LS) ∗ owns (c : Thread nD τ) arg8 fullShare xi7 ∗ (∃ f, arg9.view.loc (c : Thread nD τ) ↦[arg9.view.set]{fullShare} arg9.view.writes (Elt F) f LT0) ∗ (∃ f, arg10.view.loc (c : Thread nD τ) ↦[arg10.view.set]{fullShare} arg10.view.writes (Elt F) f LT1)) -∗ K ⟨⟩))
          ⊢ wp frame (wpE (defs₀ (F := F)) Variants.none c none) E (cc0_oproj i arg1 harg1 arg2 harg2 arg3 harg3 arg4 harg4 arg5 harg5 arg6 harg6 arg7 harg7 arg8 harg8 arg9 harg9 arg10 harg10) K } := by
  refine ⟨?_, ?_, ?_, fun xi7 xs E K => ?run⟩
  case run =>
    simp only [cc0_oproj_eq_skeleton]; unfold cc0_oproj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexact H6
    isplitl [H7]
    · iexists _; isplitr; · ipureintro; exact harg8.read_unread _
      iexact H7
    isplitl [HS0]; · iexists _; iexact HS0
    iexists _; iexact HS1

end Cert.OprojIdeal.Gen

end
-- ==== Proof.OprojRunB.lean ====
/- Output projection call: the run of the kernel body in case B. -/
module

public import proofs.«01_k».proof.Proof.OprojRun

@[expose] public section

-- membership in a rectangle of production extents (`View.cover_of_tiled`): the elaborator's structural look
-- recurses once per coordinate of the long axes
set_option maxRecDepth 16384

noncomputable section

namespace Cert.OprojIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- What the body's stores leave, as pieces (last first), at the last point: the last tile of the residual stream, added to the buffer that holds the contents `xs` the point before left, and the normalized rows. -/
noncomputable def kernelRun0_B (c : Dev nD) (i : grid0.Coords) (arg1 : Memref sig .tc .vmem S128x4096 .bf16) (harg1 : arg1.IsWhole) (arg2 : Memref sig .tc .vmem S2048x512 .i8) (harg2 : arg2.IsWhole) (arg3 : Memref sig .tc .vmem S32x512 .bf16) (harg3 : arg3.IsWhole) (arg4 : Memref sig .tc .vmem S32x512 .i8) (harg4 : arg4.IsWhole) (arg5 : Memref sig .tc .vmem S128x4096 .bf16) (harg5 : arg5.IsWhole) (arg6 : Memref sig .tc .vmem S1x4096 .f32) (harg6 : arg6.IsWhole) (arg7 : Memref sig .tc .vmem S128x4096 .f32) (harg7 : arg7.IsWhole) (arg8 : Memref sig .tc .vmem S128x4096 .bf16) (harg8 : arg8.IsWhole) (arg9 : Memref sig .tc .vmem S32x512 .f32) (harg9 : arg9.IsWhole) (arg10 : Memref sig .tc .vmem S32x512 .f32) (harg10 : arg10.IsWhole) (hc0 : cond0_0 i)
    (x0 : Vec F S128x4096 .bf16) (x1 : Vec F S2048x512 .i8) (x2 : Vec F S32x512 .bf16) (x3 : Vec F S32x512 .i8) (x4 : Vec F S128x4096 .bf16) (x5 : Vec F S1x4096 .f32) (xs : Vec F S128x4096 .f32) :
    Σ' (LS : List (View.Piece (Elt F) S128x4096 .f32)), Σ' (L7 : List (View.Piece (Elt F) S128x4096 .bf16)), Σ' (LT0 : List (View.Piece (Elt F) S32x512 .f32)), { LT1 : List (View.Piece (Elt F) S32x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xs ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (arg7.view.loc (c : Thread nD τ) ↦[arg7.view.set]{fullShare} arg7.view.writes (Elt F) (harg7.unread xs) LS) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LT0) ∗ (∃ f, arg10.view.loc (c : Thread nD τ) ↦[arg10.view.set]{fullShare} arg10.view.writes (Elt F) f LT1)) -∗ K ⟨⟩))
          ⊢ wp frame (wpE (defs₀ (F := F)) Variants.none c none) E (cc0_oproj i arg1 harg1 arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0_oproj_eq_skeleton]; unfold cc0_oproj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexact H6
    isplitl [H7]; · iexists _; iexact H7
    isplitl [HS0]; · iexists _; iexact HS0
    iexists _; iexact HS1

end Cert.OprojIdeal.Gen

end
-- ==== Proof.OprojPieces.lean ====
/- The o-projection call: the tile that one grid point writes into its columns of the hidden states, in both cases of the body. -/
module
public import proofs.«01_k».proof.Proof.OprojRunA
public import proofs.«01_k».proof.Proof.OprojRunB
public import proofs.«01_k».proof.Proof.AwqHost
@[expose] public section
noncomputable section
namespace Cert.OprojIdeal.Gen
open Cert.OprojIdeal Cert.OprojIdeal.Gen Idealize.ShloMosaic Idealize.ShloMosaic.TcCoe Idealize.SL.Sem
variable {F : FTy → Type} [FloatOps F]
/-- The offset at the origin, as a constant function. -/
theorem hz : (![0, 0] : Fin 2 → Nat) = fun _ => 0 := funext fun a => by fin_cases a <;> rfl

/-- What one grid point writes into its columns of the hidden states: the residual plus the product. -/
def tile (i : grid0.Coords) (x0 : Vec F S128x4096 .bf16) (x1 : Vec F S2048x512 .i8) (x2 : Vec F S32x512 .bf16) (x3 : Vec F S32x512 .i8) (x4 : Vec F S128x4096 .bf16) : FVec F S128x512 .f32 :=
  addf (k0_pay5 (View.ld (Val := Elt F) (e' := .bf16) x4 (Rect.unit (s := S128x4096) (k0_off1 i) S128x512.size (k0_off1_inb i))))
    (Awq.mul 16 (by decide) (by decide) (by decide) x0 x1 (k0_pay3 x2) (k0_pay4 x3) 15 (by decide))

set_option maxHeartbeats 2000000 in
/-- A point before the last stores its tile of the hidden states, and nothing else, in the output array that carries them. -/
theorem ls_A (c : Dev nD) (i : grid0.Coords) (arg1 : Memref sig .tc .vmem S128x4096 .bf16) (harg1 : arg1.IsWhole) (arg2 : Memref sig .tc .vmem S2048x512 .i8) (harg2 : arg2.IsWhole) (arg3 : Memref sig .tc .vmem S32x512 .bf16) (harg3 : arg3.IsWhole) (arg4 : Memref sig .tc .vmem S32x512 .i8) (harg4 : arg4.IsWhole) (arg5 : Memref sig .tc .vmem S128x4096 .bf16) (harg5 : arg5.IsWhole) (arg6 : Memref sig .tc .vmem S1x4096 .f32) (harg6 : arg6.IsWhole) (arg7 : Memref sig .tc .vmem S128x4096 .f32) (harg7 : arg7.IsWhole) (arg8 : Memref sig .tc .vmem S128x4096 .bf16) (harg8 : arg8.IsWhole) (arg9 : Memref sig .tc .vmem S32x512 .f32) (harg9 : arg9.IsWhole) (arg10 : Memref sig .tc .vmem S32x512 .f32) (harg10 : arg10.IsWhole)
    (hc0 : ¬cond0_0 i)
    (x0 : Vec F S128x4096 .bf16) (x1 : Vec F S2048x512 .i8) (x2 : Vec F S32x512 .bf16) (x3 : Vec F S32x512 .i8) (x4 : Vec F S128x4096 .bf16) (x5 : Vec F S1x4096 .f32) :
    (kernelRun0_A c i arg1 harg1 arg2 harg2 arg3 harg3 arg4 harg4 arg5 harg5 arg6 harg6 arg7 harg7 arg8 harg8 arg9 harg9 arg10 harg10 hc0 x0 x1 x2 x3 x4 x5).1 = [⟨Rect.unit (k0_off1 i) S128x512.size (k0_off1_inb i), tile i x0 x1 x2 x3 x4⟩] := by
  unfold kernelRun0_A
  dsimp only
  sl_unfold_words
  simp only [View.readAt_eq_ld, harg1.read_unread, harg2.read_unread, harg3.read_unread, harg4.read_unread, harg5.read_unread, harg6.read_unread]
  simp only [Awq.readCov_all (S := S32x512) _ hz, View.ld_unit_zero (S := S32x512) hz]
  unfold tile Awq.mul
  simp only [Awq.accum, Awq.blockAt]
  rfl

set_option maxHeartbeats 2000000 in
/-- The last point stores its tile of the hidden states there too. -/
theorem ls_B (c : Dev nD) (i : grid0.Coords) (arg1 : Memref sig .tc .vmem S128x4096 .bf16) (harg1 : arg1.IsWhole) (arg2 : Memref sig .tc .vmem S2048x512 .i8) (harg2 : arg2.IsWhole) (arg3 : Memref sig .tc .vmem S32x512 .bf16) (harg3 : arg3.IsWhole) (arg4 : Memref sig .tc .vmem S32x512 .i8) (harg4 : arg4.IsWhole) (arg5 : Memref sig .tc .vmem S128x4096 .bf16) (harg5 : arg5.IsWhole) (arg6 : Memref sig .tc .vmem S1x4096 .f32) (harg6 : arg6.IsWhole) (arg7 : Memref sig .tc .vmem S128x4096 .f32) (harg7 : arg7.IsWhole) (arg8 : Memref sig .tc .vmem S128x4096 .bf16) (harg8 : arg8.IsWhole) (arg9 : Memref sig .tc .vmem S32x512 .f32) (harg9 : arg9.IsWhole) (arg10 : Memref sig .tc .vmem S32x512 .f32) (harg10 : arg10.IsWhole)
    (hc0 : cond0_0 i)
    (x0 : Vec F S128x4096 .bf16) (x1 : Vec F S2048x512 .i8) (x2 : Vec F S32x512 .bf16) (x3 : Vec F S32x512 .i8) (x4 : Vec F S128x4096 .bf16) (x5 : Vec F S1x4096 .f32) (xs : Vec F S128x4096 .f32) :
    (kernelRun0_B c i arg1 harg1 arg2 harg2 arg3 harg3 arg4 harg4 arg5 harg5 arg6 harg6 arg7 harg7 arg8 harg8 arg9 harg9 arg10 harg10 hc0 x0 x1 x2 x3 x4 x5 xs).1 = [⟨Rect.unit (k0_off1 i) S128x512.size (k0_off1_inb i), tile i x0 x1 x2 x3 x4⟩] := by
  unfold kernelRun0_B
  dsimp only
  sl_unfold_words
  simp only [View.readAt_eq_ld, harg1.read_unread, harg2.read_unread, harg3.read_unread, harg4.read_unread, harg5.read_unread, harg6.read_unread]
  simp only [Awq.readCov_all (S := S32x512) _ hz, View.ld_unit_zero (S := S32x512) hz]
  unfold tile Awq.mul
  simp only [Awq.accum, Awq.blockAt]
  rfl

end Cert.OprojIdeal.Gen
end
-- ==== Proof.OprojRows.lean ====
/- The o-projection call: the pieces that the loop over 16-row blocks leaves in the normalized output, as one function of
   the hidden states and of the weights of the normalization. -/
module
public import proofs.«01_k».proof.Proof.OprojPieces
@[expose] public section
set_option maxRecDepth 16384
noncomputable section
namespace Cert.OprojIdeal.Gen
open Cert.OprojIdeal Cert.OprojIdeal.Gen Idealize.ShloMosaic Idealize.ShloMosaic.TcCoe Idealize.ShloMosaic.Tactic Idealize.SL.Sem
variable {F : FTy → Type} [FloatOps F]

/-- Each block of 16 rows lies in the array. -/
theorem off2_inb (k : Fin k0_t1_loop.trips) : ∀ a, (k0_off2 k) a + S16x4096.size a ≤ S128x4096.size a :=
  k0_off2_inb (grid0.coords ⟨7, by decide⟩) k ((hcond0_0 ⟨7, by decide⟩).mpr rfl)

/-- The `k`-th block of 16 rows of the hidden states. -/
def rowsOf (H : Vec F S128x4096 .f32) (k : Fin k0_t1_loop.trips) : Vec F S16x4096 .f32 :=
  View.ld (Val := Elt F) (e' := .f32) H (Rect.unit (s := S128x4096) (k0_off2 k) S16x4096.size (off2_inb k))

/-- The block that row `b` lies in. -/
def kOf (b : Fin 128) : Fin k0_t1_loop.trips := ⟨b.val / 16, by
  have h : k0_t1_loop.trips = 8 := by decide
  rw [h]; omega⟩

/-- The normalized output as a function of the hidden states `H` and the weights `N`, block by block. -/
def G7 (H : Vec F S128x4096 .f32) (N : Vec F S1x4096 .f32) : Vec F S128x4096 .bf16 := fun y =>
  k0_pay2 (rowsOf H (kOf (y 0))) N (ix2 ⟨(y 0).val % 16, Nat.mod_lt _ (by decide)⟩ (y 1))

/-- A block's value at its own index is the block-wise function's at the place where the block lies. -/
theorem blk_agree {α : Type} {W : ℕ} (k : Fin k0_t1_loop.trips) (off : Fin 2 → ℕ) (hoff : off = ![16 * k.val, 0])
    (inb : ∀ a, off a + (![16, W] : Fin 2 → ℕ) a ≤ (⟨2, ![128, W]⟩ : Shape).size a)
    (P : Fin k0_t1_loop.trips → (⟨2, ![16, W]⟩ : Shape).Idx → α) (x : (⟨2, ![16, W]⟩ : Shape).Idx) (y : (⟨2, ![128, W]⟩ : Shape).Idx)
    (hy : y = (Rect.unit (s := ⟨2, ![128, W]⟩) off ![16, W] inb).emb x) :
    P k x = P (kOf (y 0)) (ix2 ⟨(y 0).val % 16, Nat.mod_lt _ (by decide)⟩ (y 1)) := by
  subst hoff
  have hx : (x 0).val < 16 := (x 0).isLt
  have h0 : (y 0).val = 16 * k.val + (x 0).val := by subst hy; exact congrArg (16 * k.val + ·) (Nat.one_mul _)
  have h1 : (y 1).val = (x 1).val := by subst hy; exact (Nat.zero_add _).trans (Nat.one_mul _)
  have hk : kOf (y 0) = k := Fin.ext (by show (y 0).val / 16 = k.val; omega)
  rw [hk]
  congr 1
  funext a
  match a with
  | ⟨0, _⟩ => exact Fin.ext (by show (x 0).val = (y 0).val % 16; omega)
  | ⟨1, _⟩ => exact Fin.ext h1.symm

/-- The pieces of one trip of the loop. -/
theorem trip_eq (𝒱 : Variants) (c : Dev nD) (bd : Option 𝒱.V) (i : grid0.Coords) (arg1 : Memref sig .tc .vmem S128x4096 .bf16) (harg1 : arg1.IsWhole) (arg2 : Memref sig .tc .vmem S2048x512 .i8) (harg2 : arg2.IsWhole) (arg3 : Memref sig .tc .vmem S32x512 .bf16) (harg3 : arg3.IsWhole) (arg4 : Memref sig .tc .vmem S32x512 .i8) (harg4 : arg4.IsWhole) (arg5 : Memref sig .tc .vmem S128x4096 .bf16) (harg5 : arg5.IsWhole) (arg6 : Memref sig .tc .vmem S1x4096 .f32) (harg6 : arg6.IsWhole) (arg7 : Memref sig .tc .vmem S128x4096 .f32) (harg7 : arg7.IsWhole) (arg8 : Memref sig .tc .vmem S128x4096 .bf16) (harg8 : arg8.IsWhole) (arg9 : Memref sig .tc .vmem S32x512 .f32) (harg9 : arg9.IsWhole) (arg10 : Memref sig .tc .vmem S32x512 .f32) (harg10 : arg10.IsWhole) (h1 : k0_cond1 i = 1#1)
   (X6 : BufTy.Contents (Elt F) arg6.view.ty) (X7 : BufTy.Contents (Elt F) arg7.view.ty) (k : Fin k0_t1_loop.trips) :
   tripL_k0_t1 (F := F) 𝒱 c bd i arg1 harg1 arg2 harg2 arg3 harg3 arg4 harg4 arg5 harg5 arg6 harg6 arg7 harg7 arg8 harg8 arg9 harg9 arg10 harg10 h1 X6 X7 k =
     [⟨Rect.unit (k0_off2 k) S16x4096.size (off2_inb k), k0_pay2 (rowsOf (arg7.view.read (Elt F) X7) k) (arg6.view.read (Elt F) X6)⟩] := by
  unfold tripL_k0_t1 trip_k0_t1
  dsimp only
  sl_unfold_words
  simp only [View.readAt_eq_ld, View.ld_unit_zero (S := S1x4096) hz]
  rfl

/-- Every piece of the trips before `n` agrees with the block-wise function. -/
theorem pb_agree (𝒱 : Variants) (c : Dev nD) (bd : Option 𝒱.V) (i : grid0.Coords) (arg1 : Memref sig .tc .vmem S128x4096 .bf16) (harg1 : arg1.IsWhole) (arg2 : Memref sig .tc .vmem S2048x512 .i8) (harg2 : arg2.IsWhole) (arg3 : Memref sig .tc .vmem S32x512 .bf16) (harg3 : arg3.IsWhole) (arg4 : Memref sig .tc .vmem S32x512 .i8) (harg4 : arg4.IsWhole) (arg5 : Memref sig .tc .vmem S128x4096 .bf16) (harg5 : arg5.IsWhole) (arg6 : Memref sig .tc .vmem S1x4096 .f32) (harg6 : arg6.IsWhole) (arg7 : Memref sig .tc .vmem S128x4096 .f32) (harg7 : arg7.IsWhole) (arg8 : Memref sig .tc .vmem S128x4096 .bf16) (harg8 : arg8.IsWhole) (arg9 : Memref sig .tc .vmem S32x512 .f32) (harg9 : arg9.IsWhole) (arg10 : Memref sig .tc .vmem S32x512 .f32) (harg10 : arg10.IsWhole) (h1 : k0_cond1 i = 1#1)
   (X6 : BufTy.Contents (Elt F) arg6.view.ty) (X7 : BufTy.Contents (Elt F) arg7.view.ty) (n : ℕ) (hn : n ≤ k0_t1_loop.trips) :
   ∀ p ∈ pb_k0_t1 (F := F) 𝒱 c bd i arg1 harg1 arg2 harg2 arg3 harg3 arg4 harg4 arg5 harg5 arg6 harg6 arg7 harg7 arg8 harg8 arg9 harg9 arg10 harg10 h1 X6 X7 n, ∀ x : p.1.shape.Idx, p.2 x = G7 (arg7.view.read (Elt F) X7) (arg6.view.read (Elt F) X6) (p.1.emb x) := by
  induction n with
  | zero => exact fun p hp => absurd hp List.not_mem_nil
  | succ n ih =>
    have i0 := ih (Nat.le_of_succ_le hn)
    have e := pb_k0_t1_succ (F := F) 𝒱 c bd i arg1 harg1 arg2 harg2 arg3 harg3 arg4 harg4 arg5 harg5 arg6 harg6 arg7 harg7 arg8 harg8 arg9 harg9 arg10 harg10 h1 X6 X7 ⟨n, hn⟩
    rw [trip_eq] at e
    dsimp only at e
    rw [e]
    intro p hp
    rcases List.mem_append.mp hp with h | h
    · obtain rfl := List.mem_singleton.mp h
      exact fun x => blk_agree (W := 4096) ⟨n, hn⟩ _ (k0_off2_eq _) (off2_inb _) (fun k => k0_pay2 (rowsOf (arg7.view.read (Elt F) X7) k) (arg6.view.read (Elt F) X6)) x _ rfl
    · exact i0 p h

/-- The pieces of the normalized output at the last point are the loop's, over the hidden states with the last tile stored. -/
theorem l_B (c : Dev nD) (i : grid0.Coords) (arg1 : Memref sig .tc .vmem S128x4096 .bf16) (harg1 : arg1.IsWhole) (arg2 : Memref sig .tc .vmem S2048x512 .i8) (harg2 : arg2.IsWhole) (arg3 : Memref sig .tc .vmem S32x512 .bf16) (harg3 : arg3.IsWhole) (arg4 : Memref sig .tc .vmem S32x512 .i8) (harg4 : arg4.IsWhole) (arg5 : Memref sig .tc .vmem S128x4096 .bf16) (harg5 : arg5.IsWhole) (arg6 : Memref sig .tc .vmem S1x4096 .f32) (harg6 : arg6.IsWhole) (arg7 : Memref sig .tc .vmem S128x4096 .f32) (harg7 : arg7.IsWhole) (arg8 : Memref sig .tc .vmem S128x4096 .bf16) (harg8 : arg8.IsWhole) (arg9 : Memref sig .tc .vmem S32x512 .f32) (harg9 : arg9.IsWhole) (arg10 : Memref sig .tc .vmem S32x512 .f32) (harg10 : arg10.IsWhole)
    (hc0 : cond0_0 i)
    (x0 : Vec F S128x4096 .bf16) (x1 : Vec F S2048x512 .i8) (x2 : Vec F S32x512 .bf16) (x3 : Vec F S32x512 .i8) (x4 : Vec F S128x4096 .bf16) (x5 : Vec F S1x4096 .f32) (xs : Vec F S128x4096 .f32) :
    (kernelRun0_B c i arg1 harg1 arg2 harg2 arg3 harg3 arg4 harg4 arg5 harg5 arg6 harg6 arg7 harg7 arg8 harg8 arg9 harg9 arg10 harg10 hc0 x0 x1 x2 x3 x4 x5 xs).2.1
     = pb_k0_t1 (F := F) Variants.none c none i arg1 harg1 arg2 harg2 arg3 harg3 arg4 harg4 arg5 harg5 arg6 harg6 arg7 harg7 arg8 harg8 arg9 harg9 arg10 harg10 hc0 (harg6.unread x5) (arg7.view.writes (Elt F) (harg7.unread xs) (kernelRun0_B c i arg1 harg1 arg2 harg2 arg3 harg3 arg4 harg4 arg5 harg5 arg6 harg6 arg7 harg7 arg8 harg8 arg9 harg9 arg10 harg10 hc0 x0 x1 x2 x3 x4 x5 xs).1) k0_t1_loop.trips := by
  unfold kernelRun0_B
  dsimp only

end Cert.OprojIdeal.Gen
end
-- ==== Proof.OprojFrame.lean ====
/- The o-projection call: the proof data of its pipeline, the body's obligation at every point, the run and the frame. The
   hidden states are collected in the output array's own buffer, 512 columns a point; after point `n` the columns below
   `512 (n + 1)` are known, whatever the buffer held before the first point. The last point reads all of it. -/
module

public import proofs.«01_k».proof.Proof.OprojRows
public import Idealize.ShloMosaic.Lib.Claim
public import Idealize.ShloMosaic.Lib.Pipeline.DatRel
public import Idealize.ShloMosaic.Lib.Pipeline.ArrRel
public import Idealize.ShloMosaic.Lib.WritesUnit

@[expose] public section

-- membership in a rectangle of production extents (`View.cover_of_tiled`): the elaborator's structural look
-- recurses once per coordinate of the long axes
set_option maxRecDepth 16384

noncomputable section

namespace Cert.OprojIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point that writes column `j` of the hidden states. -/
def tOf (j : Fin 4096) : Fin cfg0.N := ⟨j.val / 512, by rw [show cfg0.N = 8 from N_0]; omega⟩

/-- The tile of the hidden states that point `t` writes. -/
def tileAt (c : Dev nD) (t : Fin cfg0.N) : FVec F S128x512 .f32 :=
  tile (grid0.coords t) (iblk m c 0 t) (iblk m c 1 t) (iblk m c 2 t) (iblk m c 3 t) (iblk m c 4 t)

/-- The hidden states, tile by tile. -/
def hid (c : Dev nD) : Vec F S128x4096 .f32 := fun y =>
  tileAt m c (tOf (y 1)) (ix2 (y 0) ⟨(y 1).val % 512, Nat.mod_lt _ (by decide)⟩)

/-- A store of point `t`'s tile extends the known columns by 512. -/
theorem store_hid (c : Dev nD) (t : Fin cfg0.N) {κ : Kind} {sp : Space} (v : View sig κ sp S128x4096 .f32) (f : v.ty.Contents (Elt F))
    (hf : ∀ y : S128x4096.Idx, (y 1).val < 512 * t.val → v.read (Elt F) f y = hid m c y) (y : S128x4096.Idx) (hy : (y 1).val < 512 * (t.val + 1)) :
    v.read (Elt F) (v.writes (Elt F) f [⟨Rect.unit (k0_off1 (grid0.coords t)) S128x512.size (k0_off1_inb (grid0.coords t)), tileAt m c t⟩]) y = hid m c y := by
  have ht : t.val < 8 := lt_of_lt_of_eq t.isLt (show cfg0.N = 8 from N_0)
  have e0 : (grid0.coords t 0).val = t.val := by
    have e : (grid0.coords t 0).val = t.val / 1 % 8 := Pipeline.Grid.coords_val t 0 (by decide) rfl
    omega
  have hoff : k0_off1 (grid0.coords t) = ![0, 512 * t.val] := by rw [k0_off1_eq, e0]
  by_cases h : (y 1).val < 512 * t.val
  · rw [View.read_writes_cons_unit_of_not_mem v f (k0_off1_inb (grid0.coords t)) (tileAt m c t) [] y hoff 1 (Or.inl h)]
    rw [View.writes_nil]
    exact hf y h
  · have h1 : (y 1).val % 512 = (y 1).val - 512 * t.val := by omega
    rw [View.read_writes_cons_unit_of_mem v f (k0_off1_inb (grid0.coords t)) (tileAt m c t) [] y
      (ix2 (y 0) ⟨(y 1).val % 512, Nat.mod_lt _ (by decide)⟩) hoff (fun a => by
        match a with
        | ⟨0, _⟩ => exact (Nat.zero_add _).symm
        | ⟨1, _⟩ =>
          show (y 1).val = 512 * t.val + (y 1).val % 512
          omega)]
    have ht' : tOf (y 1) = t := Fin.ext (by show (y 1).val / 512 = t.val; omega)
    unfold hid
    rw [ht']

/-- What the last point leaves in the normalized output is the function of the hidden states `H` that the buffer holds
    after that point's store. -/
theorem outs_B (c : Dev nD) (i : grid0.Coords) (arg1 : Memref sig .tc .vmem S128x4096 .bf16) (harg1 : arg1.IsWhole) (arg2 : Memref sig .tc .vmem S2048x512 .i8) (harg2 : arg2.IsWhole) (arg3 : Memref sig .tc .vmem S32x512 .bf16) (harg3 : arg3.IsWhole) (arg4 : Memref sig .tc .vmem S32x512 .i8) (harg4 : arg4.IsWhole) (arg5 : Memref sig .tc .vmem S128x4096 .bf16) (harg5 : arg5.IsWhole) (arg6 : Memref sig .tc .vmem S1x4096 .f32) (harg6 : arg6.IsWhole) (arg7 : Memref sig .tc .vmem S128x4096 .f32) (harg7 : arg7.IsWhole) (arg8 : Memref sig .tc .vmem S128x4096 .bf16) (harg8 : arg8.IsWhole) (arg9 : Memref sig .tc .vmem S32x512 .f32) (harg9 : arg9.IsWhole) (arg10 : Memref sig .tc .vmem S32x512 .f32) (harg10 : arg10.IsWhole) (hc0 : cond0_0 i)
    (x0 : Vec F S128x4096 .bf16) (x1 : Vec F S2048x512 .i8) (x2 : Vec F S32x512 .bf16) (x3 : Vec F S32x512 .i8) (x4 : Vec F S128x4096 .bf16) (x5 : Vec F S1x4096 .f32) (xs : Vec F S128x4096 .f32)
    (H : Vec F S128x4096 .f32) (hH : arg7.view.read (Elt F) (arg7.view.writes (Elt F) (harg7.unread xs) (kernelRun0_B c i arg1 harg1 arg2 harg2 arg3 harg3 arg4 harg4 arg5 harg5 arg6 harg6 arg7 harg7 arg8 harg8 arg9 harg9 arg10 harg10 hc0 x0 x1 x2 x3 x4 x5 xs).1) = H) (f : arg8.view.ty.Contents (Elt F)) :
    arg8.view.read (Elt F) (arg8.view.writes (Elt F) f (kernelRun0_B c i arg1 harg1 arg2 harg2 arg3 harg3 arg4 harg4 arg5 harg5 arg6 harg6 arg7 harg7 arg8 harg8 arg9 harg9 arg10 harg10 hc0 x0 x1 x2 x3 x4 x5 xs).2.1) = G7 H x5 := by
  have c7 := View.cover_of_tiledL (kernelRun0_B c i arg1 harg1 arg2 harg2 arg3 harg3 arg4 harg4 arg5 harg5 arg6 harg6 arg7 harg7 arg8 harg8 arg9 harg9 arg10 harg10 hc0 x0 x1 x2 x3 x4 x5 xs).2.1 S16x4096.size (by sl_kernel_rfl)
  have a7 := pb_agree (F := F) Variants.none c none i arg1 harg1 arg2 harg2 arg3 harg3 arg4 harg4 arg5 harg5 arg6 harg6 arg7 harg7 arg8 harg8 arg9 harg9 arg10 harg10 hc0 (harg6.unread x5) (arg7.view.writes (Elt F) (harg7.unread xs) (kernelRun0_B c i arg1 harg1 arg2 harg2 arg3 harg3 arg4 harg4 arg5 harg5 arg6 harg6 arg7 harg7 arg8 harg8 arg9 harg9 arg10 harg10 hc0 x0 x1 x2 x3 x4 x5 xs).1) k0_t1_loop.trips le_rfl
  have e := l_B c i arg1 harg1 arg2 harg2 arg3 harg3 arg4 harg4 arg5 harg5 arg6 harg6 arg7 harg7 arg8 harg8 arg9 harg9 arg10 harg10 hc0 x0 x1 x2 x3 x4 x5 xs
  rw [← e, hH] at a7
  rw [harg6.read_unread] at a7
  exact funext fun y => View.read_writes_apply_of_pieces _ _ (G7 H x5) _ a7 y (c7 y)

/-! ## The pipeline's proof data -/

/-- The proof data of the one pipeline on core `c`: the arrays as the region finds them (`V`); after the body at
    point `t` each input's buffer at its block, the hidden states and the normalized output (both consulted at the last
    point alone); the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hid m c
    | ⟨7, _⟩ => G7 (hid m c) (iblk m c 5 t)
  Φ _ := Pipeline.ΦA spec0 c
  q _ := fullShare
  owed _ := 0

/-- The window of the hidden states is the one whose buffer the body carries from point to point. -/
def mark (w : Fin cfg0.W) : Bool := match w with
    | ⟨0, _⟩ => false
    | ⟨1, _⟩ => false
    | ⟨2, _⟩ => false
    | ⟨3, _⟩ => false
    | ⟨4, _⟩ => false
    | ⟨5, _⟩ => false
    | ⟨6, _⟩ => true
    | ⟨7, _⟩ => false

/-- What is known of its buffer after point `t`: the columns written so far are the hidden states'. -/
def Known (c : Dev nD) (w : Fin cfg0.W) : Fin cfg0.N → ((cfg0.win w).block.Idx → Elt F (cfg0.win w).elt) → Prop := match w with
    | ⟨0, _⟩ => fun _ _ => True
    | ⟨1, _⟩ => fun _ _ => True
    | ⟨2, _⟩ => fun _ _ => True
    | ⟨3, _⟩ => fun _ _ => True
    | ⟨4, _⟩ => fun _ _ => True
    | ⟨5, _⟩ => fun _ _ => True
    | ⟨6, _⟩ => fun t X => ∀ y : S128x4096.Idx, (y 1).val < 512 * (t.val + 1) → X y = hid m c y
    | ⟨7, _⟩ => fun _ _ => True

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = hid m c := by dsimp only [dats]
theorem after0_7 (c : Dev nD) (t : Fin cfg0.N) : (dats m 0 c).after 7 t = G7 (hid m c) (iblk m c 5 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What point `t` finds in the buffer of the hidden states is right on the columns that the points before it wrote. -/
theorem finds_known (c : Dev nD) (t : Fin cfg0.N) (Y : Vec F S128x4096 .f32) (h : ((dats m 0 c).toRRel mark (Known m c)).Finds 6 t Y)
    (y : S128x4096.Idx) (hy : (y 1).val < 512 * t.val) : Y y = hid m c y := by
  have hN : t.val < 8 := lt_of_lt_of_eq t.isLt (show cfg0.N = 8 from N_0)
  have ht : t.val ≠ 0 := by omega
  rcases (Pipeline.RDat.finds_of_pos _ (noFetch0_6 t) ht Y).mp h with hf | hl
  · have hn := noFlush0_6_A ⟨t.val - 1, Nat.lt_of_le_of_lt (Nat.sub_le _ _) t.isLt⟩ (fun hc => by
      have h7 : (t.val - 1) % 8 = 7 := (hcond0_0 _).mp hc
      omega)
    rw [hn] at hf
    exact absurd hf Bool.false_ne_true
  · have hk : ∀ y : S128x4096.Idx, (y 1).val < 512 * (t.val - 1 + 1) → Y y = hid m c y := (dats m 0 c).toRRel_leaves (w := 6) rfl hl
    exact hk y (by omega)

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ Y : Vec F S128x4096 .f32, ⌜((dats m 0 c).toRRel mark (Known m c)).Finds 6 t Y⌝ ∗ owns (c : Thread nD τ) (ms0_6 t) fullShare Y)
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t
    ∗ (dats m 0 c).leaves 5 t
    ∗ (∃ X : Vec F S128x4096 .f32, ⌜Known m c 6 t X⌝ ∗ owns (c : Thread nD τ) (ms0_6 t) fullShare X)
    ∗ (dats m 0 c).leaves 7 t)

set_option maxHeartbeats 9600000 in
/-- The body at any point: the inputs' memrefs hold their blocks; the closed forms say which case the point is in; the
    store of the point's tile extends the known columns; at the last point they are all of them, so what the loop stores
    is the function of the hidden states. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  have hN : t.val < 8 := lt_of_lt_of_eq t.isLt (show cfg0.N = 8 from N_0)
  rw [show (dats m 0 c).leaves 0 t = owns (c : Thread nD τ) (ms0_0 t) fullShare ((dats m 0 c).after 0 t) from by
    unfold Dat.leaves; rw [liveAt0_0 t], after0_0]
  rw [show (dats m 0 c).leaves 1 t = owns (c : Thread nD τ) (ms0_1 t) fullShare ((dats m 0 c).after 1 t) from by
    unfold Dat.leaves; rw [liveAt0_1 t], after0_1]
  rw [show (dats m 0 c).leaves 2 t = owns (c : Thread nD τ) (ms0_2 t) fullShare ((dats m 0 c).after 2 t) from by
    unfold Dat.leaves; rw [liveAt0_2 t], after0_2]
  rw [show (dats m 0 c).leaves 3 t = owns (c : Thread nD τ) (ms0_3 t) fullShare ((dats m 0 c).after 3 t) from by
    unfold Dat.leaves; rw [liveAt0_3 t], after0_3]
  rw [show (dats m 0 c).leaves 4 t = owns (c : Thread nD τ) (ms0_4 t) fullShare ((dats m 0 c).after 4 t) from by
    unfold Dat.leaves; rw [liveAt0_4 t], after0_4]
  rw [show (dats m 0 c).leaves 5 t = owns (c : Thread nD τ) (ms0_5 t) fullShare ((dats m 0 c).after 5 t) from by
    unfold Dat.leaves; rw [liveAt0_5 t], after0_5]
  by_cases h0 : t.val % 8 = 7
  · rw [show (dats m 0 c).leaves 7 t = owns (c : Thread nD τ) (ms0_7 t) fullShare ((dats m 0 c).after 7 t) from by
      unfold Dat.leaves; rw [liveAt0_7_B t ((hcond0_0 t).mpr h0)], after0_7]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%Y, %hY, H6⟩, ⟨%d7, H7⟩⟩
    have eL := ls_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) Y
    have eX : ∀ y : S128x4096.Idx, (y 1).val < 512 * (t.val + 1) → (ms0_6 t).view.read (Elt F) ((ms0_6 t).view.writes (Elt F) ((hs0_6 t).unread Y) (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) Y).1) y = hid m c y := by
      intro y hy
      rw [eL]
      exact store_hid m c t (ms0_6 t).view _ (fun y hy => by rw [Memref.IsWhole.read_unread]; exact finds_known m c t Y hY y hy) y hy
    have eH : (ms0_6 t).view.read (Elt F) ((ms0_6 t).view.writes (Elt F) ((hs0_6 t).unread Y) (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) Y).1) = hid m c := by
      funext y
      refine eX y ?_
      have hy : (y 1).val < 4096 := (y 1).isLt
      omega
    have o7 := outs_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) Y (hid m c) eH
    iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) Y).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iintro ⟨H0, H1, H2, H3, H4, H5, H6, ⟨%e7, H7⟩, ⟨%fT0, HS0⟩, ⟨%fT1, HS1⟩⟩
    isplitl [HS0 HS1 Hg]
    · isplitl [HS0 HS1]
      · isplitl [HS0]
        · iexists _; unfold owns; iexists _; isplitr
          swap; · iexact HS0
          ipureintro; rfl
        iexists _; unfold owns; iexists _; isplitr
        swap; · iexact HS1
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists _; isplitr
      · ipureintro; exact eX
      unfold owns; iexists _; isplitr
      swap; · iexact H6
      ipureintro; rfl
    unfold owns; iexists _; isplitr
    swap; · iexact H7
    ipureintro; exact o7 _
  · rw [Dat.leaves_idle (dats m 0 c) 7 t (idleAt0_7_A t (fun h => h0 ((hcond0_0 t).mp h))) (noFlush0_7_A t (fun h => h0 ((hcond0_0 t).mp h)))]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%Y, %hY, H6⟩, ⟨%d7, H7⟩⟩
    have eL := ls_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t)
    have eX : ∀ y : S128x4096.Idx, (y 1).val < 512 * (t.val + 1) → (ms0_6 t).view.read (Elt F) ((ms0_6 t).view.writes (Elt F) ((hs0_6 t).unread Y) (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t)).1) y = hid m c y := by
      intro y hy
      rw [eL]
      exact store_hid m c t (ms0_6 t).view _ (fun y hy => by rw [Memref.IsWhole.read_unread]; exact finds_known m c t Y hY y hy) y hy
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t)).2.2.2 _ Y Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    iintro ⟨H0, H1, H2, H3, H4, H5, H6, H7, ⟨%fT0, HS0⟩, ⟨%fT1, HS1⟩⟩
    isplitl [HS0 HS1 Hg]
    · isplitl [HS0 HS1]
      · isplitl [HS0]
        · iexists _; unfold owns; iexists _; isplitr
          swap; · iexact HS0
          ipureintro; rfl
        iexists _; unfold owns; iexists _; isplitr
        swap; · iexact HS1
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists _; isplitr
      · ipureintro; exact eX
      unfold owns; iexists _; isplitr
      swap; · iexact H6
      ipureintro; rfl
    iexists _; iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point, with the buffer of the hidden states at what is known of it. -/
theorem body_obligation (c : Dev nD) : Pipeline.BodyObligationRel (dats (F := F) m 0 c) (defs₀ (F := F)) Variants.none () Set.univ mark (Known m c) := fun t => by
  rw [bigSep_W0, bigSep_W0, defs₀_row]
  exact triple_restated (sound_body m c t) rfl .rfl fun _ => .rfl

/-! ## The run and the frame -/

omit [FloatOps F] in
/-- Where what is known of the marked windows at their write-backs is what the proof data name, the run's final state has
    every array at what the library computes from the proof data. -/
theorem framePost_of_known {Val : EltTy → Type} [∀ e, Nonempty (Val e)] {Λ₀ : Idealize.SL.Sem.Labels} {P : Type} (cfgs : P → Cfg sig Λ₀)
    {U' : Type} [URA U'] (ds : (p : P) → (c : Dev nD) → Dat τ Val Unit ℕ U' ℕ (cfgs p) c) (p : P) (fgt : Fin (cfgs p).W → Bool)
    (Rl : (c : Dev nD) → (w : Fin (cfgs p).W) → Fin (cfgs p).N → (((cfgs p).win w).block.Idx → Val ((cfgs p).win w).elt) → Prop)
    (V : (c : Dev nD) → (b : Ref sig .tc) → Buf Val ((c.tc : Thread nD τ).loc b)) (r : PUnit × MemSt nD τ sig Val)
    (hR : ∀ c w, fgt w = true → ∀ u, ((cfgs p).win w).flush u = true → ∀ X, Rl c w u X → (ds p c).after w u = X)
    (h : Pipeline.RDat.FramePost (cfgs p) (fun c => (ds p c).toRRel fgt (Rl c)) V r) : Pipeline.FramePost cfgs ds p V r := fun c =>
  ⟨fun w => by
    cases hw : fgt w
    · exact (((ds p c).toR.override_arrAt (by simp only [hw]) _ _).trans ((ds p c).toR_arrAt_iff w _ _)).mp ((h c).1 w)
    · obtain ⟨X, hX, hA⟩ := ((h c).1 w).exists_exact
      exact (hA (ds p c).after fun u hu hf => hR c w hw u hf _ ((ds p c).toRRel_leaves hw (hX u hu hf))).trans rfl, (h c).2⟩

/-- The hidden states are written back at the last point, where all their columns are known. -/
theorem known_last (c : Dev nD) (w : Fin cfg0.W) (hw : mark w = true) (u : Fin cfg0.N) (hu : (cfg0.win w).flush u = true)
    (X : (cfg0.win w).block.Idx → Elt F (cfg0.win w).elt) (hX : Known m c w u X) : (dats m 0 c).after w u = X := by
  obtain rfl : w = 6 := (show ∀ w : Fin cfg0.W, mark w = true → w = 6 by decide) w hw
  have hN : u.val < 8 := lt_of_lt_of_eq u.isLt (show cfg0.N = 8 from N_0)
  have h7 : u.val % 8 = 7 := by
    by_contra hne
    have hn : (cfg0.win 6).flush u = false := noFlush0_6_A u (fun h => hne ((hcond0_0 u).mp h))
    exact absurd (hn.symm.trans hu) Bool.false_ne_true
  have hX' : ∀ y : S128x4096.Idx, (y 1).val < 512 * (u.val + 1) → X y = hid m c y := hX
  exact funext fun (y : S128x4096.Idx) => (hX' y (by
    have hy : (y 1).val < 4096 := (y 1).isLt
    omega)).symm

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.RDat.θ_run_frame_track cfgs (0 : Fin 1) launch0 defs₀ Variants.none (fun c => (dats m 0 c).toRRel mark (Known m c)) m ρ main
    (fun c => (body_obligation m c).toRRel) (fun c => (dats m 0 c).share_full fun _ => rfl)
    (fun _ _ => rfl) (V m) (hmain m Variants.none) (A_eq m) (fun _ => .rfl) (fun _ => .rfl)
    (fun r => (Pipeline.FramePost cfgs (dats m) 0 (V m)) r ∧ r.2.sem = fun _ => 0)
    (fun r h => ⟨framePost_of_known cfgs (dats m) 0 mark (Known m) (V m) r (known_last m) h.1, h.2⟩)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: `Cert.quiescent_OprojIdeal`'s statement (Defs.lean) at any `F` — Proof.lean cites it at `Bits`:
    `theorem Cert.Proof.claim : Cert.Claim := ⟨Cert.OprojIdeal.Gen.facts, fun m ρ _ => Cert.OprojIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.OprojIdeal.Gen

end
-- ==== Proof.OprojValue.lean ====
/- The o-projection call: the hidden states and the normalized rows, as functions of the argument arrays. -/
module
public import proofs.«01_k».proof.Proof.OprojFrame
public import proofs.«01_k».proof.Proof.DownMath
@[expose] public section
set_option maxRecDepth 16384
noncomputable section
namespace Cert.OprojIdeal.RefValue
open Cert.OprojIdeal Cert.OprojIdeal.Gen Idealize.ShloMosaic Idealize.ShloMosaic.TcCoe Idealize.SL.Sem

/-- A row of a block. -/
abbrev row {R : ℕ} (v : (⟨2, ![R, 4096]⟩ : Shape).Idx → EReal) (r : Fin R) : Fin 4096 → EReal := fun j => v (ix2 r j)

/-- The normalized block at an index. -/
theorem pay2_apply (v : Vec Ideal S16x4096 .f32) (n : Vec Ideal S1x4096 .f32) (r : Fin 16) (j : Fin 4096) :
    k0_pay2 (F := Ideal) v n (ix2 r j) = DownMath.nrm (row v r) (row n 0) j := by
  have h : k0_pay2 (F := Ideal) v n (ix2 r j) = Ideal.div (v (ix2 r j)) (Ideal.sqrt (Ideal.div (∑ x, v (ix2 r x) * v (ix2 r x)) (Ideal.ofBits FTy.f32 1166016512#32)
      + Ideal.ofBits FTy.f32 925353388#32)) * n (ix2 0 j) := by pointwise [k0_pay2]
  exact h

/-- A row of a block of 16 is a row of the whole. -/
theorem rows_apply (H : Vec Ideal S128x4096 .f32) (b : Fin 128) (j : Fin 4096) :
    rowsOf H (kOf b) (ix2 ⟨b.val % 16, Nat.mod_lt _ (by decide)⟩ j) = H (ix2 b j) := by
  have hk : (kOf b).val = b.val / 16 := rfl
  refine congrArg H (funext fun a => Fin.ext ?_)
  match a with
  | ⟨0, _⟩ =>
    show k0_off2 (kOf b) 0 + 1 * (b.val % 16) = b.val
    rw [k0_off2_eq]
    show 16 * (kOf b).val + 1 * (b.val % 16) = b.val
    omega
  | ⟨1, _⟩ =>
    show k0_off2 (kOf b) 1 + 1 * j.val = j.val
    rw [k0_off2_eq]
    show 0 + 1 * j.val = j.val
    omega

/-- The normalized output of hidden states and weights, at an index. -/
theorem G7_apply (H : Vec Ideal S128x4096 .f32) (N : Vec Ideal S1x4096 .f32) (b : Fin 128) (j : Fin 4096) :
    G7 H N (ix2 b j) = DownMath.nrm (row H b) (row N 0) j := by
  have e : row (rowsOf H (kOf b)) ⟨b.val % 16, Nat.mod_lt _ (by decide)⟩ = row H b := funext fun q => rows_apply H b q
  rw [← e]
  exact pay2_apply _ _ _ _

variable (m : (ℓ : Loc nD τ sig) → Buf (Elt Ideal) ℓ) (ρ : Dev nD → PrngReg)

/-- What the host prepares of the normalization's weights, at an index. -/
theorem V0 (c : Dev nD) (l : Fin 4096) : V m c main_v0 (ix2 0 l) = m ((c : Thread nD τ).loc main_arg5) (ix1 l) := by
  entry_read
  show _ = m (c, Proc.tc.devRef main_arg5) _
  generalize m (c, Proc.tc.devRef main_arg5) = z
  pointwise
/-- The block indices of the windows at every grid point. -/
theorem idx : ∀ t : Fin cfg0.N, win0_0.index t = ![0, 0] ∧ win0_1.index t = ![0, t.val] ∧ win0_2.index t = ![0, t.val]
    ∧ win0_3.index t = ![0, t.val] ∧ win0_4.index t = ![0, 0] ∧ win0_5.index t = ![0, 0] := by decide +kernel

/-- A column of a block of 512 is a column of the array. -/
theorem colbound (t : Fin cfg0.N) (l : Fin 512) : 512 * t.val + l.val < 4096 := by
  have h : t.val < 8 := t.isLt
  omega
/-- A block's element is the array's element at the place where the block stands. -/
theorem blk0 (c : Dev nD) (t : Fin cfg0.N) (i : Fin 128) (q : Fin 4096) :
    iblk m c 0 t (ix2 i q) = m ((c : Thread nD τ).loc main_arg0) (ix2 i q) := by
  blk_ext [iblk, V, idx t]
/-- The same of the packed weights. -/
theorem blk1 (c : Dev nD) (t : Fin cfg0.N) (r : Fin 2048) (l : Fin 512) :
    iblk m c 1 t (ix2 r l) = m ((c : Thread nD τ).loc main_arg1) (ix2 r ⟨512 * t.val + l.val, colbound t l⟩) := by
  blk_ext [iblk, V, idx t]
/-- The same of the weights' scales. -/
theorem blk2 (c : Dev nD) (t : Fin cfg0.N) (r : Fin 32) (l : Fin 512) :
    iblk m c 2 t (ix2 r l) = m ((c : Thread nD τ).loc main_arg2) (ix2 r ⟨512 * t.val + l.val, colbound t l⟩) := by
  blk_ext [iblk, V, idx t]
/-- The same of the zero points. -/
theorem blk3 (c : Dev nD) (t : Fin cfg0.N) (r : Fin 32) (l : Fin 512) :
    iblk m c 3 t (ix2 r l) = m ((c : Thread nD τ).loc main_arg3) (ix2 r ⟨512 * t.val + l.val, colbound t l⟩) := by
  blk_ext [iblk, V, idx t]
/-- The same of the residual. -/
theorem blk4 (c : Dev nD) (t : Fin cfg0.N) (i : Fin 128) (q : Fin 4096) :
    iblk m c 4 t (ix2 i q) = m ((c : Thread nD τ).loc main_arg4) (ix2 i q) := by
  blk_ext [iblk, V, idx t]
/-- The same of the normalization's weights. -/
theorem blk5 (c : Dev nD) (t : Fin cfg0.N) (q : Fin 4096) :
    iblk m c 5 t (ix2 0 q) = m ((c : Thread nD τ).loc main_arg5) (ix1 q) := by
  have e : iblk m c 5 t (ix2 0 q) = V m c main_v0 (ix2 0 q) := by
    blk_ext [iblk, idx t]
  rw [e, V0]

/-- The prepared scales at an index. -/
theorem pay3_apply (v : Vec Ideal S32x512 .bf16) (y : S32x512.Idx) : k0_pay3 v y = v y := by pointwise [k0_pay3]
/-- The prepared zero points at an index. -/
theorem pay4_apply (v : Vec Ideal S32x512 .i8) (y : S32x512.Idx) : k0_pay4 v y = Awq.zp (v y) :=
  Eq.trans (by pointwise [k0_pay4]) (Awq.uitofp_zp (v y))

/-- The hidden states: the residual plus the product. -/
def hidden (x : FVec Ideal S128x4096 .bf16) (w : IVec S2048x4096 8) (s : FVec Ideal S32x4096 .bf16) (z : IVec S32x4096 8)
    (h : FVec Ideal S128x4096 .bf16) (i : Fin 128) (j : Fin 4096) : EReal :=
  h (ix2 i j) + Awq.val (G := 32) rfl rfl x w s z i j

/-- A tile's element is the hidden states' at the column where the tile stands. -/
theorem tile_val (c : Dev nD) (t : Fin cfg0.N) (i : Fin 128) (l : Fin 512) : tileAt m c t (ix2 i l)
    = hidden (m ((c : Thread nD τ).loc main_arg0)) (m ((c : Thread nD τ).loc main_arg1)) (m ((c : Thread nD τ).loc main_arg2))
        (m ((c : Thread nD τ).loc main_arg3)) (m ((c : Thread nD τ).loc main_arg4)) i ⟨512 * t.val + l.val, colbound t l⟩ := by
  have e0 : (grid0.coords t 0).val = t.val := by
    have ht : t.val < 8 := lt_of_lt_of_eq t.isLt (show cfg0.N = 8 from N_0)
    have e : (grid0.coords t 0).val = t.val / 1 % 8 := Pipeline.Grid.coords_val t 0 (by decide) rfl
    omega
  have hoff : k0_off1 (grid0.coords t) = ![0, 512 * t.val] := by rw [k0_off1_eq, e0]
  have hm := Awq.mul_val (N := 4096) (K := 4096) (R := 2048) (G := 32) 16 (by decide) (by decide) (by decide) rfl rfl
    (m ((c : Thread nD τ).loc main_arg0)) (m ((c : Thread nD τ).loc main_arg1)) (m ((c : Thread nD τ).loc main_arg2))
    (m ((c : Thread nD τ).loc main_arg3)) (iblk m c 0 t) (iblk m c 1 t) (k0_pay3 (iblk m c 2 t)) (k0_pay4 (iblk m c 3 t)) 15 (by decide) rfl i l
    ⟨512 * t.val + l.val, colbound t l⟩ (fun q => blk0 m c t i q) (fun r => blk1 m c t r l)
    (fun g => (pay3_apply _ _).trans (blk2 m c t g l)) (fun g => (pay4_apply _ _).trans (congrArg Awq.zp (blk3 m c t g l)))
  have hl : View.ld (Val := Elt Ideal) (e' := .bf16) (iblk m c 4 t) (Rect.unit (s := S128x4096) (k0_off1 (grid0.coords t)) S128x512.size (k0_off1_inb (grid0.coords t))) (ix2 i l)
      = m ((c : Thread nD τ).loc main_arg4) (ix2 i ⟨512 * t.val + l.val, colbound t l⟩) := by
    rw [← blk4 m c t]
    refine congrArg (iblk m c 4 t) (funext fun a => Fin.ext ?_)
    match a with
    | ⟨0, _⟩ =>
      show k0_off1 (grid0.coords t) 0 + 1 * i.val = i.val
      rw [hoff]
      show 0 + 1 * i.val = i.val
      omega
    | ⟨1, _⟩ =>
      show k0_off1 (grid0.coords t) 1 + 1 * l.val = 512 * t.val + l.val
      rw [hoff]
      show 512 * t.val + 1 * l.val = 512 * t.val + l.val
      omega
  unfold tileAt tile hidden
  generalize Awq.mul (F := Ideal) 16 _ _ _ _ _ _ _ 15 _ = p at hm ⊢
  generalize View.ld (Val := Elt Ideal) (e' := .bf16) (iblk m c 4 t) _ = q at hl ⊢
  rw [← hm, ← hl]
  pointwise [k0_pay5]

/-- The hidden states of the argument arrays. -/
abbrev hd (c : Dev nD) : Fin 128 → Fin 4096 → EReal :=
  hidden (m ((c : Thread nD τ).loc main_arg0)) (m ((c : Thread nD τ).loc main_arg1)) (m ((c : Thread nD τ).loc main_arg2))
        (m ((c : Thread nD τ).loc main_arg3)) (m ((c : Thread nD τ).loc main_arg4))
/-- The normalization's weights of the argument arrays. -/
abbrev nf (c : Dev nD) : Fin 4096 → EReal := fun j => m ((c : Thread nD τ).loc main_arg5) (ix1 j)

/-- The hidden states at an index. -/
theorem hid_val (c : Dev nD) (i : Fin 128) (j : Fin 4096) : hid m c (ix2 i j) = hd m c i j := by
  refine (tile_val m c (tOf j) i ⟨j.val % 512, Nat.mod_lt _ (by decide)⟩).trans ?_
  refine congrArg (hd m c i) (Fin.ext ?_)
  show 512 * (j.val / 512) + j.val % 512 = j.val
  omega

/-- The last grid point is the eighth. -/
theorem lastLt : 7 < cfg0.N := by decide +kernel

/-- The array of hidden states after the run is what the last point left. -/
theorem final6 (c : Dev nD) : (dats m 0 c).arrAt 6 cfg0.N = hid m c := by
  refine (dats m 0 c).arrAt_eq_of_after_last 6 ⟨7, lastLt⟩ (by decide +kernel) _ fun j => ?_
  rw [after0_6]
  rfl
/-- The array of normalized rows after the run is what the last point left. -/
theorem final7 (c : Dev nD) : (dats m 0 c).arrAt 7 cfg0.N = G7 (hid m c) (iblk m c 5 ⟨7, lastLt⟩) := by
  refine (dats m 0 c).arrAt_eq_of_after_last 7 ⟨7, lastLt⟩ (by decide +kernel) _ fun j => ?_
  rw [after0_7]
  rfl

/-- The two arrays after the run, at an index. -/
theorem out6_val (c : Dev nD) (b : Fin 128) (j : Fin 4096) : (dats m 0 c).arrAt 6 cfg0.N (ix2 b j) = hd m c b j :=
  (congrFun (final6 m c) _).trans (hid_val m c b j)
/-- The normalized rows. -/
theorem out7_val (c : Dev nD) (b : Fin 128) (j : Fin 4096) :
    (dats m 0 c).arrAt 7 cfg0.N (ix2 b j) = DownMath.nrm (hd m c b) (nf m c) j := by
  have e : row (hid m c) b = hd m c b := funext fun q => hid_val m c b q
  have e' : row (iblk m c 5 ⟨7, lastLt⟩) 0 = nf m c := funext fun q => blk5 m c ⟨7, lastLt⟩ q
  rw [← e, ← e']
  exact (congrFun (final7 m c) _).trans (G7_apply _ _ _ _)

end Cert.OprojIdeal.RefValue
end
-- ==== Proof.OprojRef.lean ====
/- The o-projection call: the reference's two results at an index. -/
module
public import proofs.«01_k».proof.Proof.Gen.OprojRefIdeal.Read
public import proofs.«01_k».proof.Proof.OprojValue
@[expose] public section
set_option maxRecDepth 16384
noncomputable section
namespace Cert.OprojRefIdeal.RefValue
open Cert.OprojRefIdeal Cert.OprojRefIdeal.Gen Cert.OprojRefIdeal.Read Idealize.ShloMosaic Idealize.ShloMosaic.TcCoe Idealize.SL.Sem
open Cert.OprojIdeal.RefValue (hidden)

variable (x0 : FVec Ideal S128x4096 .bf16) (x1 : IVec S2048x4096 8) (x2 : FVec Ideal S32x4096 .bf16) (x3 : IVec S32x4096 8)
  (x4 : FVec Ideal S128x4096 .bf16) (x5 : FVec Ideal S4096 .f32)

/-- The normalization's weights. -/
abbrev wt : Fin 4096 → EReal := fun j => x5 (ix1 j)

/-- The hidden states. -/
theorem v29 (i : Fin 128) (j : Fin 4096) : val_main_v29 (F := Ideal) x0 x1 x2 x3 x4 (ix2 i j) = hidden x0 x1 x2 x3 x4 i j := by
  have g : val_main_v28 (F := Ideal) x0 x1 x2 x3 (ix2 i j) = Awq.val (G := 32) rfl rfl x0 x1 x2 x3 i j :=
    Awq.host_apply (G := 32) rfl rfl x0 x1 x2 x3 _ _ _ _ _ _ _ _ i j
  rw [val_main_v29_apply, val_main_v0_apply, g]
  rfl

/-- The sum of the squares of a row. -/
theorem v31 (i : Fin 128) : val_main_v31 (F := Ideal) x0 x1 x2 x3 x4 (ix1 i) = ∑ x, hidden x0 x1 x2 x3 x4 i x * hidden x0 x1 x2 x3 x4 i x := by
  have hs : (∑ k : Fin 4096, (val_main_v30 (F := Ideal) x0 x1 x2 x3 x4) (idx_main_v31 (ix1 i) k) : EReal)
      = ∑ x, hidden x0 x1 x2 x3 x4 i x * hidden x0 x1 x2 x3 x4 i x := by
    refine Finset.sum_congr rfl fun k _ => ?_
    have e : idx_main_v31 (ix1 i) k = ix2 i k := by
      funext a; match a with
      | ⟨0, _⟩ => rfl
      | ⟨1, _⟩ => rfl
    rw [e, val_main_v30_apply, v29]
    rfl
  rw [val_main_v31_apply, hs, val_main_cst_apply]
  have z : (FloatOps.ofBits FTy.f32 0x00000000#32 : Ideal .f32) = (0 : EReal) := Ideal.ofBits_zero_f32
  rw [z, zero_add]

/-- The normalized row. -/
theorem v42 (i : Fin 128) (j : Fin 4096) : val_main_v42 (F := Ideal) x0 x1 x2 x3 x4 x5 (ix2 i j) = DownMath.nrm (hidden x0 x1 x2 x3 x4 i) (wt x5) j := by
  have e : idx_main_v32 (idx_main_v38 (ix2 i j)) = ix1 i := by
    funext a; match a with
    | ⟨0, _⟩ => rfl
  have e' : idx_main_v40 (idx_main_v41 (ix2 i j)) = ix1 j := by
    funext a; match a with
    | ⟨0, _⟩ => rfl
  rw [val_main_v42_apply, val_main_v39_apply, v29, val_main_v38_apply, val_main_v37_apply, val_main_v36_apply, val_main_v34_apply, val_main_v32_apply, e, v31,
    val_main_v33_apply, val_main_cst_1_apply, val_main_v35_apply, val_main_cst_2_apply, val_main_v41_apply, val_main_v40_apply, e']
  rfl

/-- The reference's normalized rows. -/
theorem v43 (i : Fin 128) (j : Fin 4096) : val_main_v43 (F := Ideal) x0 x1 x2 x3 x4 x5 (ix2 i j) = DownMath.nrm (hidden x0 x1 x2 x3 x4 i) (wt x5) j := by
  rw [val_main_v43_apply, v42]
  rfl

end Cert.OprojRefIdeal.RefValue
end
-- ==== Proof.OprojBits.lean ====
/- Output projection call: the printed kernel has the frame of its idealization, whose bodies are the same. -/
module
public import proofs.«01_k».proof.Defs
public import proofs.«01_k».proof.Proof.OprojFrame
public import proofs.«01_k».proof.Proof.Gen.Oproj.Frame
@[expose] public section
open Idealize.ShloMosaic Idealize.ShloMosaic.TcCoe
namespace Cert.OprojProof
set_option maxRecDepth 20000
set_option backward.isDefEq.respectTransparency.types false
/-- The two programs run the same body. -/
theorem body_eq (f : Fin 1) : ∀ a, Cert.Oproj.defs₀ (F := Bits) .tc f a = Cert.OprojIdeal.defs₀ (F := Bits) .tc f a := by
  obtain rfl : f = 0 := Subsingleton.elim _ _
  rintro ⟨t, s⟩
  unfold Cert.Oproj.defs₀ Cert.OprojIdeal.defs₀
  rw [Defs.onTc_tc, Defs.onTc_tc]
  rfl
/-- The two programs have the same calls. -/
theorem defs₀_eq : Cert.Oproj.defs₀ (F := Bits) = Cert.OprojIdeal.defs₀ (F := Bits) := by
  funext κ f a
  cases κ
  · exact body_eq f a
  all_goals rfl
/-- The two programs have the same calls, every one counted. -/
theorem defs_eq : Cert.Oproj.defs (F := Bits) = Cert.OprojIdeal.defs (F := Bits) := by
  unfold Cert.Oproj.defs Cert.OprojIdeal.defs
  rw [defs₀_eq]
  rfl
/-- The printed kernel runs without an error and without a race. -/
theorem frameP : quiescent_Oproj := fun m ρ _ => by
  rw [defs_eq]
  exact Cert.OprojIdeal.Gen.frame (F := Bits) m ρ
end Cert.OprojProof
-- ==== Proof.Oproj.lean ====
/- The o-projection call: the claims about it. -/
module
public import proofs.«01_k».proof.Proof.OprojRef
public import proofs.«01_k».proof.Proof.OprojBits
public import Idealize.ShloMosaic.Lib.Quiescent
@[expose] public section
noncomputable section
namespace Cert.OprojProof
open Idealize.ShloMosaic Idealize.ShloMosaic.TcCoe Idealize.SL.Sem

/-- The reference leaves its arguments and every semaphore as they were. -/
theorem ref_frame : quiescent_OprojRefIdeal :=
  fun m ρ _ => (θ_run Cert.OprojRefIdeal.defs _ _).mono (fun r h =>
    ⟨fun c => (h c).2.2, sem_eq_zero_of_no_sems (by decide) r.2⟩) (Cert.OprojRefIdeal.Value.run (F := Ideal) m ρ)

open Cert.OprojIdeal Cert.OprojIdeal.Gen in
/-- The kernel's run: its two result arrays are what the grid's points wrote, its arguments are as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1_0) = (dats m 0 c).arrAt 6 cfg0.N
      ∧ r.2.mem ((c.tc : Thread nD τ).loc main_v1_1) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h.1 c).1 6, (h.1 c).1 7, h.2 c⟩) (θ_run_and (run_main m ρ) (unchanged m ρ))

/-- An index of two coordinates is the pair of them. -/
theorem idx2 {a b : ℕ} (i : (⟨2, ![a, b]⟩ : Shape).Idx) : i = ix2 (i 0) (i 1) := funext fun q => by match q with
  | ⟨0, _⟩ => rfl
  | ⟨1, _⟩ => rfl

/-- The kernel and the reference, from the same arguments, end with the same results. -/
theorem algebraic : algebraic_OprojIdeal_OprojRefIdeal := by
  intro m ρ m' ρ' _ hagree
  refine ⟨fun c => (Cert.OprojIdeal.Gen.dats m 0 c).arrAt 6 Cert.OprojIdeal.cfg0.N, fun c => (Cert.OprojIdeal.Gen.dats m 0 c).arrAt 7 Cert.OprojIdeal.cfg0.N, ?_, ?_⟩
  · exact run m ρ
  · refine (θ_run Cert.OprojRefIdeal.defs _ _).mono (fun _ h c => ⟨((h c).1.trans (Cert.OprojRefIdeal.Read.val_main_v29_eq _ _ _ _ _)).trans (funext fun i => ?_),
        ((h c).2.1.trans (Cert.OprojRefIdeal.Read.val_main_v43_eq m' c)).trans (funext fun i => ?_), (h c).2.2⟩)
      (Cert.OprojRefIdeal.Value.run (F := Ideal) m' ρ')
    · obtain ⟨a0, a1, a2, a3, a4, a5⟩ := hagree c
      rw [a0, a1, a2, a3, a4]
      refine (congrArg _ (idx2 i)).trans ((Cert.OprojRefIdeal.RefValue.v29 _ _ _ _ _ (i 0) (i 1)).trans ?_)
      exact ((congrArg _ (idx2 i)).trans (Cert.OprojIdeal.RefValue.out6_val m c (i 0) (i 1))).symm
    · obtain ⟨a0, a1, a2, a3, a4, a5⟩ := hagree c
      rw [a0, a1, a2, a3, a4, a5]
      refine (congrArg _ (idx2 i)).trans ((Cert.OprojRefIdeal.RefValue.v43 _ _ _ _ _ _ (i 0) (i 1)).trans ?_)
      exact ((congrArg _ (idx2 i)).trans (Cert.OprojIdeal.RefValue.out7_val m c (i 0) (i 1))).symm

end Cert.OprojProof

end
-- ==== Proof.lean ====
module

public import proofs.«01_k».proof.Defs
public import proofs.«01_k».proof.Proof.Gateup
public import proofs.«01_k».proof.Proof.Head
public import proofs.«01_k».proof.Proof.Down
public import proofs.«01_k».proof.Proof.Qkv
public import proofs.«01_k».proof.Proof.Oproj

@[expose] public section

noncomputable section

namespace Cert.Proof

/-- Everything claimed. -/
theorem claim : Cert.Claim :=
  ⟨Cert.Gateup.Gen.facts, Cert.GateupIdeal.Gen.facts, Cert.GateupRefIdeal.Gen.facts, Cert.Head.Gen.facts, Cert.HeadIdeal.Gen.facts,
    Cert.HeadRefIdeal.Gen.facts, Cert.Down.Gen.facts, Cert.DownIdeal.Gen.facts, Cert.DownRefIdeal.Gen.facts,
    Cert.Qkv.Gen.facts, Cert.QkvIdeal.Gen.facts, Cert.QkvRefIdeal.Gen.facts,
    Cert.Oproj.Gen.facts, Cert.OprojIdeal.Gen.facts, Cert.OprojRefIdeal.Gen.facts, Cert.HeadProof.maskFacts,
    Cert.GateupProof.all.1, Cert.GateupProof.all.2.1, Cert.GateupProof.all.2.2.1,
    Cert.HeadProof.frameP, fun m ρ _ => Cert.HeadIdeal.Gen.frame m ρ, Cert.HeadProof.ref_frame,
    Cert.DownProof.frameP, fun m ρ _ => Cert.DownIdeal.Gen.frame m ρ, Cert.DownProof.ref_frame,
    Cert.QkvProof.frameP, fun m ρ _ => Cert.QkvIdeal.Gen.frame m ρ, Cert.QkvProof.ref_frame,
    Cert.OprojProof.frameP, fun m ρ _ => Cert.OprojIdeal.Gen.frame m ρ, Cert.OprojProof.ref_frame,
    trivial, Cert.GateupProof.algebraic, trivial, Cert.HeadProof.algebraic, trivial, Cert.DownProof.algebraic,
    trivial, Cert.QkvProof.algebraic, trivial, Cert.OprojProof.algebraic⟩

end Cert.Proof

end
